-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v567) = v0 c
          ∧ r.2.mem ((c.tc : Thread Cert.ReferenceIdeal.nD Cert.ReferenceIdeal.τ).loc Cert.ReferenceIdeal.main_v1134) = v1 c
          ∧ r.2.mem ((c.tc : Thread Cert.ReferenceIdeal.nD Cert.ReferenceIdeal.τ).loc Cert.ReferenceIdeal.main_v1701) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x768x32x32 : Shape := ⟨4, ![8, 768, 32, 32]⟩
abbrev S8x768x16x16 : Shape := ⟨4, ![8, 768, 16, 16]⟩
abbrev S8x768x8x8 : Shape := ⟨4, ![8, 768, 8, 8]⟩
abbrev S8x1x32x32 : Shape := ⟨4, ![8, 1, 32, 32]⟩
abbrev S8x3x224x224 : Shape := ⟨4, ![8, 3, 224, 224]⟩
abbrev S8 : Shape := ⟨1, ![8]⟩
abbrev S_ : Shape := ⟨0, ![]⟩
abbrev S32x1x4x4 : Shape := ⟨4, ![32, 1, 4, 4]⟩
abbrev S32 : Shape := ⟨1, ![32]⟩
abbrev S1x32x4x4 : Shape := ⟨4, ![1, 32, 4, 4]⟩
abbrev S1 : Shape := ⟨1, ![1]⟩

class Facts : Prop where
  bcast_S_S8x768x32x32 : S_.BroadcastsInDim S8x768x32x32 (![] : Fin 0 → Fin S8x768x32x32.rank)
  bcast_S_S8x768x16x16 : S_.BroadcastsInDim S8x768x16x16 (![] : Fin 0 → Fin S8x768x16x16.rank)
  bcast_S_S8x768x8x8 : S_.BroadcastsInDim S8x768x8x8 (![] : Fin 0 → Fin S8x768x8x8.rank)
  bcast_S_S32x1x4x4 : S_.BroadcastsInDim S32x1x4x4 (![] : Fin 0 → Fin S32x1x4x4.rank)
  bcast_S_S1x32x4x4 : S_.BroadcastsInDim S1x32x4x4 (![] : Fin 0 → Fin S1x32x4x4.rank)

variable [Facts]

def fn_part1 {F : FTy → Type} [FloatOps F] (main_arg13 : FVec F S1x32x4x4 .f32) (main_arg15 : FVec F S32x1x4x4 .f32) (main_arg17 : FVec F S1x32x4x4 .f32) (main_v2 : IVec S8x768x32x32 1) (main_v5 : IVec S8x768x16x16 1) (main_v8 : IVec S8x768x8x8 1) (main_v11 : IVec S32x1x4x4 1) (main_v14 : IVec S1x32x4x4 1) (main_v17 : IVec S32x1x4x4 1) : IVec S8x768x32x32 1 × IVec S8x768x16x16 1 × IVec S8x768x8x8 1 × IVec S32x1x4x4 1 × IVec S1x32x4x4 1 × IVec S32x1x4x4 1 × IVec S1x32x4x4 1 × IVec S32x1x4x4 1 × IVec S1x32x4x4 1 :=
  let main_v18 : FVec F S1x32x4x4 .f32 := Host.absf main_arg13
  let main_cst_5 : FVec F S_ .f32 := constant S_ .f32 0x7F800000#32
  let main_v19 : FVec F S1x32x4x4 .f32 := broadcastInDim S1x32x4x4 ![] bcast_S_S1x32x4x4 main_cst_5
  let main_v20 : IVec S1x32x4x4 1 := cmpf .olt main_v18 main_v19
  let main_v21 : FVec F S32x1x4x4 .f32 := Host.absf main_arg15
  let main_cst_6 : FVec F S_ .f32 := constant S_ .f32 0x7F800000#32
  let main_v22 : FVec F S32x1x4x4 .f32 := broadcastInDim S32x1x4x4 ![] bcast_S_S32x1x4x4 main_cst_6
  let main_v23 : IVec S32x1x4x4 1 := cmpf .olt main_v21 main_v22
  let main_v24 : FVec F S1x32x4x4 .f32 := Host.absf main_arg17
  let main_cst_7 : FVec F S_ .f32 := constant S_ .f32 0x7F800000#32
  let main_v25 : FVec F S1x32x4x4 .f32 := broadcastInDim S1x32x4x4 ![] bcast_S_S1x32x4x4 main_cst_7
  let main_v26 : IVec S1x32x4x4 1 := cmpf .olt main_v24 main_v25
  (main_v2, main_v5, main_v8, main_v11, main_v14, main_v17, main_v20, main_v23, main_v26)

def fn {F : FTy → Type} [FloatOps F] (main_arg0 : FVec F S8x768x32x32 .f32) (main_arg1 : FVec F S8x768x16x16 .f32) (main_arg2 : FVec F S8x768x8x8 .f32) (main_arg3 : FVec F S8x1x32x32 .f32) (main_arg4 : FVec F S8x3x224x224 .f32) (main_arg5 : IVec S8 32) (main_arg6 : IVec S_ 32) (main_arg7 : FVec F S32x1x4x4 .f32) (main_arg8 : FVec F S32 .f32) (main_arg9 : FVec F S1x32x4x4 .f32) (main_arg10 : FVec F S1 .f32) (main_arg11 : FVec F S32x1x4x4 .f32) (main_arg12 : FVec F S32 .f32) (main_arg13 : FVec F S1x32x4x4 .f32) (main_arg14 : FVec F S1 .f32) (main_arg15 : FVec F S32x1x4x4 .f32) (main_arg16 : FVec F S32 .f32) (main_arg17 : FVec F S1x32x4x4 .f32) (main_arg18 : FVec F S1 .f32) : IVec S8x768x32x32 1 × IVec S8x768x16x16 1 × IVec S8x768x8x8 1 × IVec S32x1x4x4 1 × IVec S1x32x4x4 1 × IVec S32x1x4x4 1 × IVec S1x32x4x4 1 × IVec S32x1x4x4 1 × IVec S1x32x4x4 1 :=
  let main_v0 : FVec F S8x768x32x32 .f32 := Host.absf main_arg0
  let main_cst : FVec F S_ .f32 := constant S_ .f32 0x7F800000#32
  let main_v1 : FVec F S8x768x32x32 .f32 := broadcastInDim S8x768x32x32 ![] bcast_S_S8x768x32x32 main_cst
  let main_v2 : IVec S8x768x32x32 1 := cmpf .olt main_v0 main_v1
  let main_v3 : FVec F S8x768x16x16 .f32 := Host.absf main_arg1
  let main_cst_0 : FVec F S_ .f32 := constant S_ .f32 0x7F800000#32
  let main_v4 : FVec F S8x768x16x16 .f32 := broadcastInDim S8x768x16x16 ![] bcast_S_S8x768x16x16 main_cst_0
  let main_v5 : IVec S8x768x16x16 1 := cmpf .olt main_v3 main_v4
  let main_v6 : FVec F S8x768x8x8 .f32 := Host.absf main_arg2
  let main_cst_1 : FVec F S_ .f32 := constant S_ .f32 0x7F800000#32
  let main_v7 : FVec F S8x768x8x8 .f32 := broadcastInDim S8x768x8x8 ![] bcast_S_S8x768x8x8 main_cst_1
  let main_v8 : IVec S8x768x8x8 1 := cmpf .olt main_v6 main_v7
  let main_v9 : FVec F S32x1x4x4 .f32 := Host.absf main_arg7
  let main_cst_2 : FVec F S_ .f32 := constant S_ .f32 0x7F800000#32
  let main_v10 : FVec F S32x1x4x4 .f32 := broadcastInDim S32x1x4x4 ![] bcast_S_S32x1x4x4 main_cst_2
  let main_v11 : IVec S32x1x4x4 1 := cmpf .olt main_v9 main_v10
  let main_v12 : FVec F S1x32x4x4 .f32 := Host.absf main_arg9
  let main_cst_3 : FVec F S_ .f32 := constant S_ .f32 0x7F800000#32
  let main_v13 : FVec F S1x32x4x4 .f32 := broadcastInDim S1x32x4x4 ![] bcast_S_S1x32x4x4 main_cst_3
  let main_v14 : IVec S1x32x4x4 1 := cmpf .olt main_v12 main_v13
  let main_v15 : FVec F S32x1x4x4 .f32 := Host.absf main_arg11
  let main_cst_4 : FVec F S_ .f32 := constant S_ .f32 0x7F800000#32
  let main_v16 : FVec F S32x1x4x4 .f32 := broadcastInDim S32x1x4x4 ![] bcast_S_S32x1x4x4 main_cst_4
  let main_v17 : IVec S32x1x4x4 1 := cmpf .olt main_v15 main_v16
  fn_part1 (F := F) main_arg13 main_arg15 main_arg17 main_v2 main_v5 main_v8 main_v11 main_v14 main_v17
-- ==== Kernel.lean ====
abbrev S8x768x32x32 : Shape := ⟨4, ![8, 768, 32, 32]⟩
abbrev S8x768x16x16 : Shape := ⟨4, ![8, 768, 16, 16]⟩
abbrev S8x768x8x8 : Shape := ⟨4, ![8, 768, 8, 8]⟩
abbrev S8x1x32x32 : Shape := ⟨4, ![8, 1, 32, 32]⟩
abbrev S8x3x224x224 : Shape := ⟨4, ![8, 3, 224, 224]⟩
abbrev S8 : Shape := ⟨1, ![8]⟩
abbrev S_ : Shape := ⟨0, ![]⟩
abbrev S32x1x4x4 : Shape := ⟨4, ![32, 1, 4, 4]⟩
abbrev S32 : Shape := ⟨1, ![32]⟩
abbrev S1x32x4x4 : Shape := ⟨4, ![1, 32, 4, 4]⟩
abbrev S1 : Shape := ⟨1, ![1]⟩
abbrev S64x32 : Shape := ⟨2, ![64, 32]⟩
abbrev S4x16 : Shape := ⟨2, ![4, 16]⟩
abbrev S32x16 : Shape := ⟨2, ![32, 16]⟩
abbrev S4x8 : Shape := ⟨2, ![4, 8]⟩
abbrev S16x8 : Shape := ⟨2, ![16, 8]⟩
abbrev S4x4 : Shape := ⟨2, ![4, 4]⟩
abbrev S8x1x1 : Shape := ⟨3, ![8, 1, 1]⟩
abbrev S8x768x1024 : Shape := ⟨3, ![8, 768, 1024]⟩
abbrev S8x1x1024 : Shape := ⟨3, ![8, 1, 1024]⟩
abbrev S1x768x1024 : Shape := ⟨3, ![1, 768, 1024]⟩
abbrev S1x1x1024 : Shape := ⟨3, ![1, 1, 1024]⟩
abbrev S768x1024 : Shape := ⟨2, ![768, 1024]⟩
abbrev S1x1024 : Shape := ⟨2, ![1, 1024]⟩
abbrev S1024 : Shape := ⟨1, ![1024]⟩
abbrev S768 : Shape := ⟨1, ![768]⟩
abbrev S768x1 : Shape := ⟨2, ![768, 1]⟩
abbrev S1x768x1 : Shape := ⟨3, ![1, 768, 1]⟩
abbrev S1x1x1 : Shape := ⟨3, ![1, 1, 1]⟩
abbrev S8x32x32 : Shape := ⟨3, ![8, 32, 32]⟩
abbrev S32x1 : Shape := ⟨2, ![32, 1]⟩
abbrev S1x1 : Shape := ⟨2, ![1, 1]⟩
abbrev S1x32x32 : Shape := ⟨3, ![1, 32, 32]⟩
abbrev S32x32 : Shape := ⟨2, ![32, 32]⟩
abbrev S16x32 : Shape := ⟨2, ![16, 32]⟩
abbrev S1x16 : Shape := ⟨2, ![1, 16]⟩
abbrev S32x16x16 : Shape := ⟨3, ![32, 16, 16]⟩
abbrev S16x16 : Shape := ⟨2, ![16, 16]⟩
abbrev S1x16x16 : Shape := ⟨3, ![1, 16, 16]⟩
abbrev S32x1x1 : Shape := ⟨3, ![32, 1, 1]⟩
abbrev S1x16x1 : Shape := ⟨3, ![1, 16, 1]⟩
abbrev S1x32x1 : Shape := ⟨3, ![1, 32, 1]⟩
abbrev S8x768x256 : Shape := ⟨3, ![8, 768, 256]⟩
abbrev S8x1x256 : Shape := ⟨3, ![8, 1, 256]⟩
abbrev S1x768x256 : Shape := ⟨3, ![1, 768, 256]⟩
abbrev S1x1x256 : Shape := ⟨3, ![1, 1, 256]⟩
abbrev S768x256 : Shape := ⟨2, ![768, 256]⟩
abbrev S1x256 : Shape := ⟨2, ![1, 256]⟩
abbrev S256 : Shape := ⟨1, ![256]⟩
abbrev S8x16x16 : Shape := ⟨3, ![8, 16, 16]⟩
abbrev S8x16 : Shape := ⟨2, ![8, 16]⟩
abbrev S1x8 : Shape := ⟨2, ![1, 8]⟩
abbrev S32x8x8 : Shape := ⟨3, ![32, 8, 8]⟩
abbrev S8x8 : Shape := ⟨2, ![8, 8]⟩
abbrev S1x8x8 : Shape := ⟨3, ![1, 8, 8]⟩
abbrev S1x8x1 : Shape := ⟨3, ![1, 8, 1]⟩
abbrev S32x8 : Shape := ⟨2, ![32, 8]⟩
abbrev S8x768x64 : Shape := ⟨3, ![8, 768, 64]⟩
abbrev S8x1x64 : Shape := ⟨3, ![8, 1, 64]⟩
abbrev S1x768x64 : Shape := ⟨3, ![1, 768, 64]⟩
abbrev S1x1x64 : Shape := ⟨3, ![1, 1, 64]⟩
abbrev S768x64 : Shape := ⟨2, ![768, 64]⟩
abbrev S1x64 : Shape := ⟨2, ![1, 64]⟩
abbrev S64 : Shape := ⟨1, ![64]⟩
abbrev S8x8x8 : Shape := ⟨3, ![8, 8, 8]⟩
abbrev S1x4 : Shape := ⟨2, ![1, 4]⟩
abbrev S32x4x4 : Shape := ⟨3, ![32, 4, 4]⟩
abbrev S8x4 : Shape := ⟨2, ![8, 4]⟩
abbrev S1x4x4 : Shape := ⟨3, ![1, 4, 4]⟩
abbrev S1x4x1 : Shape := ⟨3, ![1, 4, 1]⟩
abbrev S32x4 : Shape := ⟨2, ![32, 4]⟩

abbrev nBuf : Space → Nat
  | .hbm => 54
  | .vmem => 45
  | .smem => 0
  | _ => 0

abbrev bufTy : (tb : Table) → Fin (tcTables nBuf tb) → BufTy
  | .hbm, ⟨0, _⟩ => ⟨S8x768x32x32, .f32⟩
  | .hbm, ⟨1, _⟩ => ⟨S8x768x16x16, .f32⟩
  | .hbm, ⟨2, _⟩ => ⟨S8x768x8x8, .f32⟩
  | .hbm, ⟨3, _⟩ => ⟨S8x1x32x32, .f32⟩
  | .hbm, ⟨4, _⟩ => ⟨S8x3x224x224, .f32⟩
  | .hbm, ⟨5, _⟩ => ⟨S8, .i32⟩
  | .hbm, ⟨6, _⟩ => ⟨S_, .i32⟩
  | .hbm, ⟨7, _⟩ => ⟨S32x1x4x4, .f32⟩
  | .hbm, ⟨8, _⟩ => ⟨S32, .f32⟩
  | .hbm, ⟨9, _⟩ => ⟨S1x32x4x4, .f32⟩
  | .hbm, ⟨10, _⟩ => ⟨S1, .f32⟩
  | .hbm, ⟨11, _⟩ => ⟨S32x1x4x4, .f32⟩
  | .hbm, ⟨12, _⟩ => ⟨S32, .f32⟩
  | .hbm, ⟨13, _⟩ => ⟨S1x32x4x4, .f32⟩
  | .hbm, ⟨14, _⟩ => ⟨S1, .f32⟩
  | .hbm, ⟨15, _⟩ => ⟨S32x1x4x4, .f32⟩
  | .hbm, ⟨16, _⟩ => ⟨S32, .f32⟩
  | .hbm, ⟨17, _⟩ => ⟨S1x32x4x4, .f32⟩
  | .hbm, ⟨18, _⟩ => ⟨S1, .f32⟩
  | .hbm, ⟨19, _⟩ => ⟨S64x32, .f32⟩
  | .hbm, ⟨20, _⟩ => ⟨S4x16, .f32⟩
  | .hbm, ⟨21, _⟩ => ⟨S32x16, .f32⟩
  | .hbm, ⟨22, _⟩ => ⟨S4x8, .f32⟩
  | .hbm, ⟨23, _⟩ => ⟨S16x8, .f32⟩
  | .hbm, ⟨24, _⟩ => ⟨S4x4, .f32⟩
  | .hbm, ⟨25, _⟩ => ⟨S8, .f32⟩
  | .hbm, ⟨26, _⟩ => ⟨S8x1x1, .f32⟩
  | .hbm, ⟨27, _⟩ => ⟨S8x768x1024, .f32⟩
  | .hbm, ⟨28, _⟩ => ⟨S8x1x1024, .f32⟩
  | .hbm, ⟨29, _⟩ => ⟨S8x32x32, .f32⟩
  | .hbm, ⟨30, _⟩ => ⟨S32x16, .f32⟩
  | .hbm, ⟨31, _⟩ => ⟨S32x1, .f32⟩
  | .hbm, ⟨32, _⟩ => ⟨S32x16, .f32⟩
  | .hbm, ⟨33, _⟩ => ⟨S1x1, .f32⟩
  | .hbm, ⟨34, _⟩ => ⟨S1x1, .f32⟩
  | .hbm, ⟨35, _⟩ => ⟨S_, .f32⟩
  | .hbm, ⟨36, _⟩ => ⟨S8x768x256, .f32⟩
  | .hbm, ⟨37, _⟩ => ⟨S8x1x256, .f32⟩
  | .hbm, ⟨38, _⟩ => ⟨S8x16x16, .f32⟩
  | .hbm, ⟨39, _⟩ => ⟨S32x16, .f32⟩
  | .hbm, ⟨40, _⟩ => ⟨S32x1, .f32⟩
  | .hbm, ⟨41, _⟩ => ⟨S32x16, .f32⟩
  | .hbm, ⟨42, _⟩ => ⟨S1x1, .f32⟩
  | .hbm, ⟨43, _⟩ => ⟨S1x1, .f32⟩
  | .hbm, ⟨44, _⟩ => ⟨S_, .f32⟩
  | .hbm, ⟨45, _⟩ => ⟨S8x768x64, .f32⟩
  | .hbm, ⟨46, _⟩ => ⟨S8x1x64, .f32⟩
  | .hbm, ⟨47, _⟩ => ⟨S8x8x8, .f32⟩
  | .hbm, ⟨48, _⟩ => ⟨S32x16, .f32⟩
  | .hbm, ⟨49, _⟩ => ⟨S32x1, .f32⟩
  | .hbm, ⟨50, _⟩ => ⟨S32x16, .f32⟩
  | .hbm, ⟨51, _⟩ => ⟨S1x1, .f32⟩
  | .hbm, ⟨52, _⟩ => ⟨S1x1, .f32⟩
  | .hbm, ⟨53, _⟩ => ⟨S_, .f32⟩
  | .local _ .vmem, ⟨0, _⟩ => ⟨S1x768x1024, .f32⟩
  | .local _ .vmem, ⟨1, _⟩ => ⟨S1x768x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x32x32, .f32⟩
  | .local _ .vmem, ⟨5, _⟩ => ⟨S1x32x32, .f32⟩
  | .local _ .vmem, ⟨6, _⟩ => ⟨S32x16, .f32⟩
  | .local _ .vmem, ⟨7, _⟩ => ⟨S32x1, .f32⟩
  | .local _ .vmem, ⟨8, _⟩ => ⟨S32x16, .f32⟩
  | .local _ .vmem, ⟨9, _⟩ => ⟨S1x1, .f32⟩
  | .local _ .vmem, ⟨10, _⟩ => ⟨S1x1x1, .f32⟩
  | .local _ .vmem, ⟨11, _⟩ => ⟨S1x1x1, .f32⟩
  | .local _ .vmem, ⟨12, _⟩ => ⟨S64x32, .f32⟩
  | .local _ .vmem, ⟨13, _⟩ => ⟨S4x16, .f32⟩
  | .local _ .vmem, ⟨14, _⟩ => ⟨S1x1, .f32⟩
  | .local _ .vmem, ⟨15, _⟩ => ⟨S1x768x256, .f32⟩
  | .local _ .vmem, ⟨16, _⟩ => ⟨S1x768x256, .f32⟩
  | .local _ .vmem, ⟨17, _⟩ => ⟨S1x1x256, .f32⟩
  | .local _ .vmem, ⟨18, _⟩ => ⟨S1x1x256, .f32⟩
  | .local _ .vmem, ⟨19, _⟩ => ⟨S1x16x16, .f32⟩
  | .local _ .vmem, ⟨20, _⟩ => ⟨S1x16x16, .f32⟩
  | .local _ .vmem, ⟨21, _⟩ => ⟨S32x16, .f32⟩
  | .local _ .vmem, ⟨22, _⟩ => ⟨S32x1, .f32⟩
  | .local _ .vmem, ⟨23, _⟩ => ⟨S32x16, .f32⟩
  | .local _ .vmem, ⟨24, _⟩ => ⟨S1x1, .f32⟩
  | .local _ .vmem, ⟨25, _⟩ => ⟨S1x1x1, .f32⟩
  | .local _ .vmem, ⟨26, _⟩ => ⟨S1x1x1, .f32⟩
  | .local _ .vmem, ⟨27, _⟩ => ⟨S32x16, .f32⟩
  | .local _ .vmem, ⟨28, _⟩ => ⟨S4x8, .f32⟩
  | .local _ .vmem, ⟨29, _⟩ => ⟨S1x1, .f32⟩
  | .local _ .vmem, ⟨30, _⟩ => ⟨S1x768x64, .f32⟩
  | .local _ .vmem, ⟨31, _⟩ => ⟨S1x768x64, .f32⟩
  | .local _ .vmem, ⟨32, _⟩ => ⟨S1x1x64, .f32⟩
  | .local _ .vmem, ⟨33, _⟩ => ⟨S1x1x64, .f32⟩
  | .local _ .vmem, ⟨34, _⟩ => ⟨S1x8x8, .f32⟩
  | .local _ .vmem, ⟨35, _⟩ => ⟨S1x8x8, .f32⟩
  | .local _ .vmem, ⟨36, _⟩ => ⟨S32x16, .f32⟩
  | .local _ .vmem, ⟨37, _⟩ => ⟨S32x1, .f32⟩
  | .local _ .vmem, ⟨38, _⟩ => ⟨S32x16, .f32⟩
  | .local _ .vmem, ⟨39, _⟩ => ⟨S1x1, .f32⟩
  | .local _ .vmem, ⟨40, _⟩ => ⟨S1x1x1, .f32⟩
  | .local _ .vmem, ⟨41, _⟩ => ⟨S1x1x1, .f32⟩
  | .local _ .vmem, ⟨42, _⟩ => ⟨S16x8, .f32⟩
  | .local _ .vmem, ⟨43, _⟩ => ⟨S4x4, .f32⟩
  | .local _ .vmem, ⟨44, _⟩ => ⟨S1x1, .f32⟩
  | _, _ => ⟨S8x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_cst_1 : Ref sig .tc := ⟨.hbm, 21, rfl⟩
abbrev main_cst_2 : Ref sig .tc := ⟨.hbm, 22, rfl⟩
abbrev main_cst_3 : Ref sig .tc := ⟨.hbm, 23, rfl⟩
abbrev main_cst_4 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg8_0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc5_stg6_0 : Ref sig .tc := ⟨.vmem, 42, rfl⟩
abbrev cc5_stg7_0 : Ref sig .tc := ⟨.vmem, 43, rfl⟩
abbrev cc5_stg8_0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem7_0 : DmaSem sig := 13
abbrev cc1_sem8_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem5_1 : DmaSem sig := 26
abbrev cc3_sem6_0 : DmaSem sig := 27
abbrev cc3_sem7_0 : DmaSem sig := 28
abbrev cc3_sem8_0 : DmaSem sig := 29
abbrev cc4_sem0_0 : DmaSem sig := 30
abbrev cc4_sem0_1 : DmaSem sig := 31
abbrev cc4_sem1_0 : DmaSem sig := 32
abbrev cc4_sem1_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc5_sem6_0 : DmaSem sig := 42
abbrev cc5_sem7_0 : DmaSem sig := 43
abbrev cc5_sem8_0 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v381 : BitVec 1 := Scalar.cmpi .eq arg0 c0_i32
  let v382 : BitVec 32 := Scalar.extui v381
  let c0_i32_86 : BitVec 32 := 0#32
  let v383 : BitVec 1 := Scalar.cmpi .ne v382 c0_i32_86
  v383

def k1_cond2 (i : grid1.Coords) : BitVec 1 :=
  let arg0 : BitVec 32 := BitVec.ofNat 32 (i 0).val
  let c0_i32_87 : BitVec 32 := 0#32
  let v384 : BitVec 1 := Scalar.cmpi .sgt arg0 c0_i32_87
  let v385 : BitVec 32 := Scalar.extui v384
  let c0_i32_88 : BitVec 32 := 0#32
  let v386 : BitVec 1 := Scalar.cmpi .ne v385 c0_i32_88
  v386

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S64x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x768x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![8], ![false]⟩

def k3_cond1 (i : grid3.Coords) : BitVec 1 :=
  let arg0 : BitVec 32 := BitVec.ofNat 32 (i 0).val
  let c0_i32 : BitVec 32 := 0#32
  let v381 : BitVec 1 := Scalar.cmpi .eq arg0 c0_i32
  let v382 : BitVec 32 := Scalar.extui v381
  let c0_i32_86 : BitVec 32 := 0#32
  let v383 : BitVec 1 := Scalar.cmpi .ne v382 c0_i32_86
  v383

def k3_cond2 (i : grid3.Coords) : BitVec 1 :=
  let arg0 : BitVec 32 := BitVec.ofNat 32 (i 0).val
  let c0_i32_87 : BitVec 32 := 0#32
  let v384 : BitVec 1 := Scalar.cmpi .sgt arg0 c0_i32_87
  let v385 : BitVec 32 := Scalar.extui v384
  let c0_i32_88 : BitVec 32 := 0#32
  let v386 : BitVec 1 := Scalar.cmpi .ne v385 c0_i32_88
  v386

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x16x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x1x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S32x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S4x8 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x768x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![8], ![false]⟩

def k5_cond1 (i : grid5.Coords) : BitVec 1 :=
  let arg0 : BitVec 32 := BitVec.ofNat 32 (i 0).val
  let c0_i32 : BitVec 32 := 0#32
  let v381 : BitVec 1 := Scalar.cmpi .eq arg0 c0_i32
  let v382 : BitVec 32 := Scalar.extui v381
  let c0_i32_86 : BitVec 32 := 0#32
  let v383 : BitVec 1 := Scalar.cmpi .ne v382 c0_i32_86
  v383

def k5_cond2 (i : grid5.Coords) : BitVec 1 :=
  let arg0 : BitVec 32 := BitVec.ofNat 32 (i 0).val
  let c0_i32_87 : BitVec 32 := 0#32
  let v384 : BitVec 1 := Scalar.cmpi .sgt arg0 c0_i32_87
  let v385 : BitVec 32 := Scalar.extui v384
  let c0_i32_88 : BitVec 32 := 0#32
  let v386 : BitVec 1 := Scalar.cmpi .ne v385 c0_i32_88
  v386

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1x8x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S32x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1x1x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S16x8 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S4x4 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]
-- ==== ReferenceIdeal.lean ====
abbrev S8x768x32x32 : Shape := ⟨4, ![8, 768, 32, 32]⟩
abbrev S8x768x16x16 : Shape := ⟨4, ![8, 768, 16, 16]⟩
abbrev S8x768x8x8 : Shape := ⟨4, ![8, 768, 8, 8]⟩
abbrev S8x1x32x32 : Shape := ⟨4, ![8, 1, 32, 32]⟩
abbrev S8x3x224x224 : Shape := ⟨4, ![8, 3, 224, 224]⟩
abbrev S8 : Shape := ⟨1, ![8]⟩
abbrev S_ : Shape := ⟨0, ![]⟩
abbrev S32x1x4x4 : Shape := ⟨4, ![32, 1, 4, 4]⟩
abbrev S32 : Shape := ⟨1, ![32]⟩
abbrev S1x32x4x4 : Shape := ⟨4, ![1, 32, 4, 4]⟩
abbrev S1 : Shape := ⟨1, ![1]⟩
abbrev S8x768x1024 : Shape := ⟨3, ![8, 768, 1024]⟩
abbrev S8x2x1024 : Shape := ⟨3, ![8, 2, 1024]⟩
abbrev S8x768x1x1024 : Shape := ⟨4, ![8, 768, 1, 1024]⟩
abbrev S8x1x2x1024 : Shape := ⟨4, ![8, 1, 2, 1024]⟩
abbrev S8x768x2x1024 : Shape := ⟨4, ![8, 768, 2, 1024]⟩
abbrev S8x768x2 : Shape := ⟨3, ![8, 768, 2]⟩
abbrev S8x768x1 : Shape := ⟨3, ![8, 768, 1]⟩
abbrev S8x768 : Shape := ⟨2, ![8, 768]⟩
abbrev S768 : Shape := ⟨1, ![768]⟩
abbrev S1x2 : Shape := ⟨2, ![1, 2]⟩
abbrev S1x1x2 : Shape := ⟨3, ![1, 1, 2]⟩
abbrev S8x2 : Shape := ⟨2, ![8, 2]⟩
abbrev S8x2x768 : Shape := ⟨3, ![8, 2, 768]⟩
abbrev S8x2x1 : Shape := ⟨3, ![8, 2, 1]⟩
abbrev S8x1 : Shape := ⟨2, ![8, 1]⟩
abbrev S8x1x1024 : Shape := ⟨3, ![8, 1, 1024]⟩
abbrev S8x1024 : Shape := ⟨2, ![8, 1024]⟩
abbrev S8x1x34x34 : Shape := ⟨4, ![8, 1, 34, 34]⟩
abbrev S8x1x16x16 : Shape := ⟨4, ![8, 1, 16, 16]⟩
abbrev S8x1x1x16x16 : Shape := ⟨5, ![8, 1, 1, 16, 16]⟩
abbrev S32x1x1x1 : Shape := ⟨4, ![32, 1, 1, 1]⟩
abbrev S32x1 : Shape := ⟨2, ![32, 1]⟩
abbrev S1x32x1x1x1 : Shape := ⟨5, ![1, 32, 1, 1, 1]⟩
abbrev S8x32x1x16x16 : Shape := ⟨5, ![8, 32, 1, 16, 16]⟩
abbrev S8x32x16x16 : Shape := ⟨4, ![8, 32, 16, 16]⟩
abbrev S1x32x1x1 : Shape := ⟨4, ![1, 32, 1, 1]⟩
abbrev S8x32x18x18 : Shape := ⟨4, ![8, 32, 18, 18]⟩
abbrev S8x32x8x8 : Shape := ⟨4, ![8, 32, 8, 8]⟩
abbrev S8x1x32x8x8 : Shape := ⟨5, ![8, 1, 32, 8, 8]⟩
abbrev S1x32 : Shape := ⟨2, ![1, 32]⟩
abbrev S1x1x32x1x1 : Shape := ⟨5, ![1, 1, 32, 1, 1]⟩
abbrev S8x1x8x8 : Shape := ⟨4, ![8, 1, 8, 8]⟩
abbrev S1x1x1x1 : Shape := ⟨4, ![1, 1, 1, 1]⟩
abbrev S8x768x256 : Shape := ⟨3, ![8, 768, 256]⟩
abbrev S8x2x256 : Shape := ⟨3, ![8, 2, 256]⟩
abbrev S8x768x1x256 : Shape := ⟨4, ![8, 768, 1, 256]⟩
abbrev S8x1x2x256 : Shape := ⟨4, ![8, 1, 2, 256]⟩
abbrev S8x768x2x256 : Shape := ⟨4, ![8, 768, 2, 256]⟩
abbrev S8x1x256 : Shape := ⟨3, ![8, 1, 256]⟩
abbrev S8x256 : Shape := ⟨2, ![8, 256]⟩
abbrev S8x1x18x18 : Shape := ⟨4, ![8, 1, 18, 18]⟩
abbrev S8x1x1x8x8 : Shape := ⟨5, ![8, 1, 1, 8, 8]⟩
abbrev S8x32x1x8x8 : Shape := ⟨5, ![8, 32, 1, 8, 8]⟩
abbrev S8x32x10x10 : Shape := ⟨4, ![8, 32, 10, 10]⟩
abbrev S8x32x4x4 : Shape := ⟨4, ![8, 32, 4, 4]⟩
abbrev S8x1x32x4x4 : Shape := ⟨5, ![8, 1, 32, 4, 4]⟩
abbrev S8x1x4x4 : Shape := ⟨4, ![8, 1, 4, 4]⟩
abbrev S8x768x64 : Shape := ⟨3, ![8, 768, 64]⟩
abbrev S8x2x64 : Shape := ⟨3, ![8, 2, 64]⟩
abbrev S8x768x1x64 : Shape := ⟨4, ![8, 768, 1, 64]⟩
abbrev S8x1x2x64 : Shape := ⟨4, ![8, 1, 2, 64]⟩
abbrev S8x768x2x64 : Shape := ⟨4, ![8, 768, 2, 64]⟩
abbrev S8x1x64 : Shape := ⟨3, ![8, 1, 64]⟩
abbrev S8x64 : Shape := ⟨2, ![8, 64]⟩
abbrev S8x1x10x10 : Shape := ⟨4, ![8, 1, 10, 10]⟩
abbrev S8x1x1x4x4 : Shape := ⟨5, ![8, 1, 1, 4, 4]⟩
abbrev S8x32x1x4x4 : Shape := ⟨5, ![8, 32, 1, 4, 4]⟩
abbrev S8x32x6x6 : Shape := ⟨4, ![8, 32, 6, 6]⟩
abbrev S8x32x2x2 : Shape := ⟨4, ![8, 32, 2, 2]⟩
abbrev S8x1x32x2x2 : Shape := ⟨5, ![8, 1, 32, 2, 2]⟩
abbrev S8x1x2x2 : Shape := ⟨4, ![8, 1, 2, 2]⟩

abbrev nBuf : Space → Nat
  | .hbm => 2393
  | .vmem => 0
  | .smem => 0
  | _ => 0

abbrev hbmTy0_0 (i : Nat) : BufTy := match i % 128 with
  | 0 => ⟨S8x768x32x32, .f32⟩
  | 1 => ⟨S8x768x16x16, .f32⟩
  | 2 => ⟨S8x768x8x8, .f32⟩
  | 3 => ⟨S8x1x32x32, .f32⟩
  | 4 => ⟨S8x3x224x224, .f32⟩
  | 5 => ⟨S8, .i32⟩
  | 6 => ⟨S_, .i32⟩
  | 7 => ⟨S32x1x4x4, .f32⟩
  | 8 => ⟨S32, .f32⟩
  | 9 => ⟨S1x32x4x4, .f32⟩
  | 10 => ⟨S1, .f32⟩
  | 11 => ⟨S32x1x4x4, .f32⟩
  | 12 => ⟨S32, .f32⟩
  | 13 => ⟨S1x32x4x4, .f32⟩
  | 14 => ⟨S1, .f32⟩
  | 15 => ⟨S32x1x4x4, .f32⟩
  | 16 => ⟨S32, .f32⟩
  | 17 => ⟨S1x32x4x4, .f32⟩
  | 18 => ⟨S1, .f32⟩
  | 19 => ⟨S8, .f32⟩
  | 20 => ⟨S8x768x1024, .f32⟩
  | 21 => ⟨S8x2x1024, .f32⟩
  | 22 => ⟨S8x768x1x1024, .f32⟩
  | 23 => ⟨S8x1x2x1024, .f32⟩
  | 24 => ⟨S8x768x2x1024, .f32⟩
  | 25 => ⟨S8x768x2x1024, .f32⟩
  | 26 => ⟨S8x768x2x1024, .f32⟩
  | 27 => ⟨S8x768x2x1024, .f32⟩
  | 28 => ⟨S_, .f32⟩
  | 29 => ⟨S8x768x2, .f32⟩
  | 30 => ⟨S8x768x1, .f32⟩
  | 31 => ⟨S8x768, .f32⟩
  | 32 => ⟨S8x768x1, .f32⟩
  | 33 => ⟨S8x768, .f32⟩
  | 34 => ⟨S8x768, .i1⟩
  | 35 => ⟨S_, .i32⟩
  | 36 => ⟨S_, .i32⟩
  | 37 => ⟨S768, .i32⟩
  | 38 => ⟨S768, .i32⟩
  | 39 => ⟨S8x768, .i32⟩
  | 40 => ⟨S8x768, .i32⟩
  | 41 => ⟨S8x768, .i32⟩
  | 42 => ⟨S8x768x1, .i32⟩
  | 43 => ⟨S1x2, .i32⟩
  | 44 => ⟨S8x768x1, .i32⟩
  | 45 => ⟨S1x1x2, .i32⟩
  | 46 => ⟨S8x768x2, .i32⟩
  | 47 => ⟨S8x768x2, .i32⟩
  | 48 => ⟨S8x768x2, .i1⟩
  | 49 => ⟨S8x768x2, .f32⟩
  | 50 => ⟨S_, .f32⟩
  | 51 => ⟨S8x2, .f32⟩
  | 52 => ⟨S8x2x768, .f32⟩
  | 53 => ⟨S8x2x1024, .f32⟩
  | 54 => ⟨S8x2x1, .f32⟩
  | 55 => ⟨S_, .f32⟩
  | 56 => ⟨S8x2x1, .f32⟩
  | 57 => ⟨S8x2x1, .f32⟩
  | 58 => ⟨S8x2x1024, .f32⟩
  | 59 => ⟨S8x2x1024, .f32⟩
  | 60 => ⟨S8x768x1x1024, .f32⟩
  | 61 => ⟨S8x1x2x1024, .f32⟩
  | 62 => ⟨S8x768x2x1024, .f32⟩
  | 63 => ⟨S8x768x2x1024, .f32⟩
  | 64 => ⟨S8x768x2x1024, .f32⟩
  | 65 => ⟨S8x768x2x1024, .f32⟩
  | 66 => ⟨S_, .f32⟩
  | 67 => ⟨S8x768x2, .f32⟩
  | 68 => ⟨S8x768x1, .f32⟩
  | 69 => ⟨S8x768, .f32⟩
  | 70 => ⟨S8x768x1, .f32⟩
  | 71 => ⟨S8x768, .f32⟩
  | 72 => ⟨S8x768, .i1⟩
  | 73 => ⟨S_, .i32⟩
  | 74 => ⟨S_, .i32⟩
  | 75 => ⟨S768, .i32⟩
  | 76 => ⟨S768, .i32⟩
  | 77 => ⟨S8x768, .i32⟩
  | 78 => ⟨S8x768, .i32⟩
  | 79 => ⟨S8x768, .i32⟩
  | 80 => ⟨S8x768x1, .i32⟩
  | 81 => ⟨S1x2, .i32⟩
  | 82 => ⟨S8x768x1, .i32⟩
  | 83 => ⟨S1x1x2, .i32⟩
  | 84 => ⟨S8x768x2, .i32⟩
  | 85 => ⟨S8x768x2, .i32⟩
  | 86 => ⟨S8x768x2, .i1⟩
  | 87 => ⟨S8x768x2, .f32⟩
  | 88 => ⟨S_, .f32⟩
  | 89 => ⟨S8x2, .f32⟩
  | 90 => ⟨S8x2x768, .f32⟩
  | 91 => ⟨S8x2x1024, .f32⟩
  | 92 => ⟨S8x2x1, .f32⟩
  | 93 => ⟨S_, .f32⟩
  | 94 => ⟨S8x2x1, .f32⟩
  | 95 => ⟨S8x2x1, .f32⟩
  | 96 => ⟨S8x2x1024, .f32⟩
  | 97 => ⟨S8x2x1024, .f32⟩
  | 98 => ⟨S8x768x1x1024, .f32⟩
  | 99 => ⟨S8x1x2x1024, .f32⟩
  | 100 => ⟨S8x768x2x1024, .f32⟩
  | 101 => ⟨S8x768x2x1024, .f32⟩
  | 102 => ⟨S8x768x2x1024, .f32⟩
  | 103 => ⟨S8x768x2x1024, .f32⟩
  | 104 => ⟨S_, .f32⟩
  | 105 => ⟨S8x768x2, .f32⟩
  | 106 => ⟨S8x768x1, .f32⟩
  | 107 => ⟨S8x768, .f32⟩
  | 108 => ⟨S8x768x1, .f32⟩
  | 109 => ⟨S8x768, .f32⟩
  | 110 => ⟨S8x768, .i1⟩
  | 111 => ⟨S_, .i32⟩
  | 112 => ⟨S_, .i32⟩
  | 113 => ⟨S768, .i32⟩
  | 114 => ⟨S768, .i32⟩
  | 115 => ⟨S8x768, .i32⟩
  | 116 => ⟨S8x768, .i32⟩
  | 117 => ⟨S8x768, .i32⟩
  | 118 => ⟨S8x768x1, .i32⟩
  | 119 => ⟨S1x2, .i32⟩
  | 120 => ⟨S8x768x1, .i32⟩
  | 121 => ⟨S1x1x2, .i32⟩
  | 122 => ⟨S8x768x2, .i32⟩
  | 123 => ⟨S8x768x2, .i32⟩
  | 124 => ⟨S8x768x2, .i1⟩
  | 125 => ⟨S8x768x2, .f32⟩
  | 126 => ⟨S_, .f32⟩
  | 127 => ⟨S8x2, .f32⟩
  | _ => ⟨S8x768x32x32, .f32⟩

abbrev hbmTy0_1 (i : Nat) : BufTy := match i % 128 with
  | 0 => ⟨S8x2x768, .f32⟩
  | 1 => ⟨S8x2x1024, .f32⟩
  | 2 => ⟨S8x2x1, .f32⟩
  | 3 => ⟨S_, .f32⟩
  | 4 => ⟨S8x2x1, .f32⟩
  | 5 => ⟨S8x2x1, .f32⟩
  | 6 => ⟨S8x2x1024, .f32⟩
  | 7 => ⟨S8x2x1024, .f32⟩
  | 8 => ⟨S8x768x1x1024, .f32⟩
  | 9 => ⟨S8x1x2x1024, .f32⟩
  | 10 => ⟨S8x768x2x1024, .f32⟩
  | 11 => ⟨S8x768x2x1024, .f32⟩
  | 12 => ⟨S8x768x2x1024, .f32⟩
  | 13 => ⟨S8x768x2x1024, .f32⟩
  | 14 => ⟨S_, .f32⟩
  | 15 => ⟨S8x768x2, .f32⟩
  | 16 => ⟨S8x768x1, .f32⟩
  | 17 => ⟨S8x768, .f32⟩
  | 18 => ⟨S8x768x1, .f32⟩
  | 19 => ⟨S8x768, .f32⟩
  | 20 => ⟨S8x768, .i1⟩
  | 21 => ⟨S_, .i32⟩
  | 22 => ⟨S_, .i32⟩
  | 23 => ⟨S768, .i32⟩
  | 24 => ⟨S768, .i32⟩
  | 25 => ⟨S8x768, .i32⟩
  | 26 => ⟨S8x768, .i32⟩
  | 27 => ⟨S8x768, .i32⟩
  | 28 => ⟨S8x768x1, .i32⟩
  | 29 => ⟨S1x2, .i32⟩
  | 30 => ⟨S8x768x1, .i32⟩
  | 31 => ⟨S1x1x2, .i32⟩
  | 32 => ⟨S8x768x2, .i32⟩
  | 33 => ⟨S8x768x2, .i32⟩
  | 34 => ⟨S8x768x2, .i1⟩
  | 35 => ⟨S8x768x2, .f32⟩
  | 36 => ⟨S_, .f32⟩
  | 37 => ⟨S8x2, .f32⟩
  | 38 => ⟨S8x2x768, .f32⟩
  | 39 => ⟨S8x2x1024, .f32⟩
  | 40 => ⟨S8x2x1, .f32⟩
  | 41 => ⟨S_, .f32⟩
  | 42 => ⟨S8x2x1, .f32⟩
  | 43 => ⟨S8x2x1, .f32⟩
  | 44 => ⟨S8x2x1024, .f32⟩
  | 45 => ⟨S8x2x1024, .f32⟩
  | 46 => ⟨S8x768x1x1024, .f32⟩
  | 47 => ⟨S8x1x2x1024, .f32⟩
  | 48 => ⟨S8x768x2x1024, .f32⟩
  | 49 => ⟨S8x768x2x1024, .f32⟩
  | 50 => ⟨S8x768x2x1024, .f32⟩
  | 51 => ⟨S8x768x2x1024, .f32⟩
  | 52 => ⟨S_, .f32⟩
  | 53 => ⟨S8x768x2, .f32⟩
  | 54 => ⟨S8x768x1, .f32⟩
  | 55 => ⟨S8x768, .f32⟩
  | 56 => ⟨S8x768x1, .f32⟩
  | 57 => ⟨S8x768, .f32⟩
  | 58 => ⟨S8x768, .i1⟩
  | 59 => ⟨S_, .i32⟩
  | 60 => ⟨S_, .i32⟩
  | 61 => ⟨S768, .i32⟩
  | 62 => ⟨S768, .i32⟩
  | 63 => ⟨S8x768, .i32⟩
  | 64 => ⟨S8x768, .i32⟩
  | 65 => ⟨S8x768, .i32⟩
  | 66 => ⟨S8x768x1, .i32⟩
  | 67 => ⟨S1x2, .i32⟩
  | 68 => ⟨S8x768x1, .i32⟩
  | 69 => ⟨S1x1x2, .i32⟩
  | 70 => ⟨S8x768x2, .i32⟩
  | 71 => ⟨S8x768x2, .i32⟩
  | 72 => ⟨S8x768x2, .i1⟩
  | 73 => ⟨S8x768x2, .f32⟩
  | 74 => ⟨S_, .f32⟩
  | 75 => ⟨S8x2, .f32⟩
  | 76 => ⟨S8x2x768, .f32⟩
  | 77 => ⟨S8x2x1024, .f32⟩
  | 78 => ⟨S8x2x1, .f32⟩
  | 79 => ⟨S_, .f32⟩
  | 80 => ⟨S8x2x1, .f32⟩
  | 81 => ⟨S8x2x1, .f32⟩
  | 82 => ⟨S8x2x1024, .f32⟩
  | 83 => ⟨S8x2x1024, .f32⟩
  | 84 => ⟨S8x768x1x1024, .f32⟩
  | 85 => ⟨S8x1x2x1024, .f32⟩
  | 86 => ⟨S8x768x2x1024, .f32⟩
  | 87 => ⟨S8x768x2x1024, .f32⟩
  | 88 => ⟨S8x768x2x1024, .f32⟩
  | 89 => ⟨S8x768x2x1024, .f32⟩
  | 90 => ⟨S_, .f32⟩
  | 91 => ⟨S8x768x2, .f32⟩
  | 92 => ⟨S8x768x1, .f32⟩
  | 93 => ⟨S8x768, .f32⟩
  | 94 => ⟨S8x768x1, .f32⟩
  | 95 => ⟨S8x768, .f32⟩
  | 96 => ⟨S8x768, .i1⟩
  | 97 => ⟨S_, .i32⟩
  | 98 => ⟨S_, .i32⟩
  | 99 => ⟨S768, .i32⟩
  | 100 => ⟨S768, .i32⟩
  | 101 => ⟨S8x768, .i32⟩
  | 102 => ⟨S8x768, .i32⟩
  | 103 => ⟨S8x768, .i32⟩
  | 104 => ⟨S8x768x1, .i32⟩
  | 105 => ⟨S1x2, .i32⟩
  | 106 => ⟨S8x768x1, .i32⟩
  | 107 => ⟨S1x1x2, .i32⟩
  | 108 => ⟨S8x768x2, .i32⟩
  | 109 => ⟨S8x768x2, .i32⟩
  | 110 => ⟨S8x768x2, .i1⟩
  | 111 => ⟨S8x768x2, .f32⟩
  | 112 => ⟨S_, .f32⟩
  | 113 => ⟨S8x2, .f32⟩
  | 114 => ⟨S8x2x768, .f32⟩
  | 115 => ⟨S8x2x1024, .f32⟩
  | 116 => ⟨S8x2x1, .f32⟩
  | 117 => ⟨S_, .f32⟩
  | 118 => ⟨S8x2x1, .f32⟩
  | 119 => ⟨S8x2x1, .f32⟩
  | 120 => ⟨S8x2x1024, .f32⟩
  | 121 => ⟨S8x2x1024, .f32⟩
  | 122 => ⟨S8x768x1x1024, .f32⟩
  | 123 => ⟨S8x1x2x1024, .f32⟩
  | 124 => ⟨S8x768x2x1024, .f32⟩
  | 125 => ⟨S8x768x2x1024, .f32⟩
  | 126 => ⟨S8x768x2x1024, .f32⟩
  | 127 => ⟨S8x768x2x1024, .f32⟩
  | _ => ⟨S8x768x32x32, .f32⟩

abbrev hbmTy0_2 (i : Nat) : BufTy := match i % 128 with
  | 0 => ⟨S_, .f32⟩
  | 1 => ⟨S8x768x2, .f32⟩
  | 2 => ⟨S8x768x1, .f32⟩
  | 3 => ⟨S8x768, .f32⟩
  | 4 => ⟨S8x768x1, .f32⟩
  | 5 => ⟨S8x768, .f32⟩
  | 6 => ⟨S8x768, .i1⟩
  | 7 => ⟨S_, .i32⟩
  | 8 => ⟨S_, .i32⟩
  | 9 => ⟨S768, .i32⟩
  | 10 => ⟨S768, .i32⟩
  | 11 => ⟨S8x768, .i32⟩
  | 12 => ⟨S8x768, .i32⟩
  | 13 => ⟨S8x768, .i32⟩
  | 14 => ⟨S8x768x1, .i32⟩
  | 15 => ⟨S1x2, .i32⟩
  | 16 => ⟨S8x768x1, .i32⟩
  | 17 => ⟨S1x1x2, .i32⟩
  | 18 => ⟨S8x768x2, .i32⟩
  | 19 => ⟨S8x768x2, .i32⟩
  | 20 => ⟨S8x768x2, .i1⟩
  | 21 => ⟨S8x768x2, .f32⟩
  | 22 => ⟨S_, .f32⟩
  | 23 => ⟨S8x2, .f32⟩
  | 24 => ⟨S8x2x768, .f32⟩
  | 25 => ⟨S8x2x1024, .f32⟩
  | 26 => ⟨S8x2x1, .f32⟩
  | 27 => ⟨S_, .f32⟩
  | 28 => ⟨S8x2x1, .f32⟩
  | 29 => ⟨S8x2x1, .f32⟩
  | 30 => ⟨S8x2x1024, .f32⟩
  | 31 => ⟨S8x2x1024, .f32⟩
  | 32 => ⟨S8x768x1x1024, .f32⟩
  | 33 => ⟨S8x1x2x1024, .f32⟩
  | 34 => ⟨S8x768x2x1024, .f32⟩
  | 35 => ⟨S8x768x2x1024, .f32⟩
  | 36 => ⟨S8x768x2x1024, .f32⟩
  | 37 => ⟨S8x768x2x1024, .f32⟩
  | 38 => ⟨S_, .f32⟩
  | 39 => ⟨S8x768x2, .f32⟩
  | 40 => ⟨S8x768x1, .f32⟩
  | 41 => ⟨S8x768, .f32⟩
  | 42 => ⟨S8x768x1, .f32⟩
  | 43 => ⟨S8x768, .f32⟩
  | 44 => ⟨S8x768, .i1⟩
  | 45 => ⟨S_, .i32⟩
  | 46 => ⟨S_, .i32⟩
  | 47 => ⟨S768, .i32⟩
  | 48 => ⟨S768, .i32⟩
  | 49 => ⟨S8x768, .i32⟩
  | 50 => ⟨S8x768, .i32⟩
  | 51 => ⟨S8x768, .i32⟩
  | 52 => ⟨S8x768x1, .i32⟩
  | 53 => ⟨S1x2, .i32⟩
  | 54 => ⟨S8x768x1, .i32⟩
  | 55 => ⟨S1x1x2, .i32⟩
  | 56 => ⟨S8x768x2, .i32⟩
  | 57 => ⟨S8x768x2, .i32⟩
  | 58 => ⟨S8x768x2, .i1⟩
  | 59 => ⟨S8x768x2, .f32⟩
  | 60 => ⟨S_, .f32⟩
  | 61 => ⟨S8x2, .f32⟩
  | 62 => ⟨S8x2x768, .f32⟩
  | 63 => ⟨S8x2x1024, .f32⟩
  | 64 => ⟨S8x2x1, .f32⟩
  | 65 => ⟨S_, .f32⟩
  | 66 => ⟨S8x2x1, .f32⟩
  | 67 => ⟨S8x2x1, .f32⟩
  | 68 => ⟨S8x2x1024, .f32⟩
  | 69 => ⟨S8x2x1024, .f32⟩
  | 70 => ⟨S8x768x1x1024, .f32⟩
  | 71 => ⟨S8x1x2x1024, .f32⟩
  | 72 => ⟨S8x768x2x1024, .f32⟩
  | 73 => ⟨S8x768x2x1024, .f32⟩
  | 74 => ⟨S8x768x2x1024, .f32⟩
  | 75 => ⟨S8x768x2x1024, .f32⟩
  | 76 => ⟨S_, .f32⟩
  | 77 => ⟨S8x768x2, .f32⟩
  | 78 => ⟨S8x768x1, .f32⟩
  | 79 => ⟨S8x768, .f32⟩
  | 80 => ⟨S8x768x1, .f32⟩
  | 81 => ⟨S8x768, .f32⟩
  | 82 => ⟨S8x768, .i1⟩
  | 83 => ⟨S_, .i32⟩
  | 84 => ⟨S_, .i32⟩
  | 85 => ⟨S768, .i32⟩
  | 86 => ⟨S768, .i32⟩
  | 87 => ⟨S8x768, .i32⟩
  | 88 => ⟨S8x768, .i32⟩
  | 89 => ⟨S8x768, .i32⟩
  | 90 => ⟨S8x768x1, .i32⟩
  | 91 => ⟨S1x2, .i32⟩
  | 92 => ⟨S8x768x1, .i32⟩
  | 93 => ⟨S1x1x2, .i32⟩
  | 94 => ⟨S8x768x2, .i32⟩
  | 95 => ⟨S8x768x2, .i32⟩
  | 96 => ⟨S8x768x2, .i1⟩
  | 97 => ⟨S8x768x2, .f32⟩
  | 98 => ⟨S_, .f32⟩
  | 99 => ⟨S8x2, .f32⟩
  | 100 => ⟨S8x2x768, .f32⟩
  | 101 => ⟨S8x2x1024, .f32⟩
  | 102 => ⟨S8x2x1, .f32⟩
  | 103 => ⟨S_, .f32⟩
  | 104 => ⟨S8x2x1, .f32⟩
  | 105 => ⟨S8x2x1, .f32⟩
  | 106 => ⟨S8x2x1024, .f32⟩
  | 107 => ⟨S8x2x1024, .f32⟩
  | 108 => ⟨S8x768x1x1024, .f32⟩
  | 109 => ⟨S8x1x2x1024, .f32⟩
  | 110 => ⟨S8x768x2x1024, .f32⟩
  | 111 => ⟨S8x768x2x1024, .f32⟩
  | 112 => ⟨S8x768x2x1024, .f32⟩
  | 113 => ⟨S8x768x2x1024, .f32⟩
  | 114 => ⟨S_, .f32⟩
  | 115 => ⟨S8x768x2, .f32⟩
  | 116 => ⟨S8x768x1, .f32⟩
  | 117 => ⟨S8x768, .f32⟩
  | 118 => ⟨S8x768x1, .f32⟩
  | 119 => ⟨S8x768, .f32⟩
  | 120 => ⟨S8x768, .i1⟩
  | 121 => ⟨S_, .i32⟩
  | 122 => ⟨S_, .i32⟩
  | 123 => ⟨S768, .i32⟩
  | 124 => ⟨S768, .i32⟩
  | 125 => ⟨S8x768, .i32⟩
  | 126 => ⟨S8x768, .i32⟩
  | 127 => ⟨S8x768, .i32⟩
  | _ => ⟨S8x768x32x32, .f32⟩

abbrev hbmTy0_3 (i : Nat) : BufTy := match i % 128 with
  | 0 => ⟨S8x768x1, .i32⟩
  | 1 => ⟨S1x2, .i32⟩
  | 2 => ⟨S8x768x1, .i32⟩
  | 3 => ⟨S1x1x2, .i32⟩
  | 4 => ⟨S8x768x2, .i32⟩
  | 5 => ⟨S8x768x2, .i32⟩
  | 6 => ⟨S8x768x2, .i1⟩
  | 7 => ⟨S8x768x2, .f32⟩
  | 8 => ⟨S_, .f32⟩
  | 9 => ⟨S8x2, .f32⟩
  | 10 => ⟨S8x2x768, .f32⟩
  | 11 => ⟨S8x2x1024, .f32⟩
  | 12 => ⟨S8x2x1, .f32⟩
  | 13 => ⟨S_, .f32⟩
  | 14 => ⟨S8x2x1, .f32⟩
  | 15 => ⟨S8x2x1, .f32⟩
  | 16 => ⟨S8x2x1024, .f32⟩
  | 17 => ⟨S8x2x1024, .f32⟩
  | 18 => ⟨S8x768x1, .i32⟩
  | 19 => ⟨S1x2, .i32⟩
  | 20 => ⟨S8x768x1, .i32⟩
  | 21 => ⟨S1x1x2, .i32⟩
  | 22 => ⟨S8x768x2, .i32⟩
  | 23 => ⟨S8x768x2, .i32⟩
  | 24 => ⟨S8x768x2, .i1⟩
  | 25 => ⟨S8x768x2, .i32⟩
  | 26 => ⟨S_, .i32⟩
  | 27 => ⟨S8x2, .i32⟩
  | 28 => ⟨S8x1, .i32⟩
  | 29 => ⟨S8, .i32⟩
  | 30 => ⟨S8x1, .i32⟩
  | 31 => ⟨S8, .i32⟩
  | 32 => ⟨S8, .i1⟩
  | 33 => ⟨S_, .i32⟩
  | 34 => ⟨S_, .i32⟩
  | 35 => ⟨S8, .i32⟩
  | 36 => ⟨S8, .i32⟩
  | 37 => ⟨S8, .i32⟩
  | 38 => ⟨S_, .i32⟩
  | 39 => ⟨S8, .i32⟩
  | 40 => ⟨S8, .i1⟩
  | 41 => ⟨S8x1x1024, .f32⟩
  | 42 => ⟨S8x1024, .f32⟩
  | 43 => ⟨S8x1x1024, .f32⟩
  | 44 => ⟨S8x1024, .f32⟩
  | 45 => ⟨S8x1024, .i1⟩
  | 46 => ⟨S8x1024, .f32⟩
  | 47 => ⟨S8x1x32x32, .f32⟩
  | 48 => ⟨S_, .i32⟩
  | 49 => ⟨S_, .f32⟩
  | 50 => ⟨S8x1x34x34, .f32⟩
  | 51 => ⟨S8x1x16x16, .f32⟩
  | 52 => ⟨S8x1x1x16x16, .f32⟩
  | 53 => ⟨S32x1x1x1, .f32⟩
  | 54 => ⟨S32x1, .f32⟩
  | 55 => ⟨S1x32x1x1x1, .f32⟩
  | 56 => ⟨S8x32x1x16x16, .f32⟩
  | 57 => ⟨S8x32x1x16x16, .f32⟩
  | 58 => ⟨S8x32x1x16x16, .f32⟩
  | 59 => ⟨S_, .f32⟩
  | 60 => ⟨S8x32x16x16, .f32⟩
  | 61 => ⟨S_, .f32⟩
  | 62 => ⟨S8x32x16x16, .f32⟩
  | 63 => ⟨S8x32x16x16, .f32⟩
  | 64 => ⟨S8x1x16x16, .f32⟩
  | 65 => ⟨S8x1x1x16x16, .f32⟩
  | 66 => ⟨S32x1x1x1, .f32⟩
  | 67 => ⟨S32x1, .f32⟩
  | 68 => ⟨S1x32x1x1x1, .f32⟩
  | 69 => ⟨S8x32x1x16x16, .f32⟩
  | 70 => ⟨S8x32x1x16x16, .f32⟩
  | 71 => ⟨S8x32x1x16x16, .f32⟩
  | 72 => ⟨S_, .f32⟩
  | 73 => ⟨S8x32x16x16, .f32⟩
  | 74 => ⟨S8x32x16x16, .f32⟩
  | 75 => ⟨S8x1x16x16, .f32⟩
  | 76 => ⟨S8x1x1x16x16, .f32⟩
  | 77 => ⟨S32x1x1x1, .f32⟩
  | 78 => ⟨S32x1, .f32⟩
  | 79 => ⟨S1x32x1x1x1, .f32⟩
  | 80 => ⟨S8x32x1x16x16, .f32⟩
  | 81 => ⟨S8x32x1x16x16, .f32⟩
  | 82 => ⟨S8x32x1x16x16, .f32⟩
  | 83 => ⟨S_, .f32⟩
  | 84 => ⟨S8x32x16x16, .f32⟩
  | 85 => ⟨S8x32x16x16, .f32⟩
  | 86 => ⟨S8x1x16x16, .f32⟩
  | 87 => ⟨S8x1x1x16x16, .f32⟩
  | 88 => ⟨S32x1x1x1, .f32⟩
  | 89 => ⟨S32x1, .f32⟩
  | 90 => ⟨S1x32x1x1x1, .f32⟩
  | 91 => ⟨S8x32x1x16x16, .f32⟩
  | 92 => ⟨S8x32x1x16x16, .f32⟩
  | 93 => ⟨S8x32x1x16x16, .f32⟩
  | 94 => ⟨S_, .f32⟩
  | 95 => ⟨S8x32x16x16, .f32⟩
  | 96 => ⟨S8x32x16x16, .f32⟩
  | 97 => ⟨S8x1x16x16, .f32⟩
  | 98 => ⟨S8x1x1x16x16, .f32⟩
  | 99 => ⟨S32x1x1x1, .f32⟩
  | 100 => ⟨S32x1, .f32⟩
  | 101 => ⟨S1x32x1x1x1, .f32⟩
  | 102 => ⟨S8x32x1x16x16, .f32⟩
  | 103 => ⟨S8x32x1x16x16, .f32⟩
  | 104 => ⟨S8x32x1x16x16, .f32⟩
  | 105 => ⟨S_, .f32⟩
  | 106 => ⟨S8x32x16x16, .f32⟩
  | 107 => ⟨S8x32x16x16, .f32⟩
  | 108 => ⟨S8x1x16x16, .f32⟩
  | 109 => ⟨S8x1x1x16x16, .f32⟩
  | 110 => ⟨S32x1x1x1, .f32⟩
  | 111 => ⟨S32x1, .f32⟩
  | 112 => ⟨S1x32x1x1x1, .f32⟩
  | 113 => ⟨S8x32x1x16x16, .f32⟩
  | 114 => ⟨S8x32x1x16x16, .f32⟩
  | 115 => ⟨S8x32x1x16x16, .f32⟩
  | 116 => ⟨S_, .f32⟩
  | 117 => ⟨S8x32x16x16, .f32⟩
  | 118 => ⟨S8x32x16x16, .f32⟩
  | 119 => ⟨S8x1x16x16, .f32⟩
  | 120 => ⟨S8x1x1x16x16, .f32⟩
  | 121 => ⟨S32x1x1x1, .f32⟩
  | 122 => ⟨S32x1, .f32⟩
  | 123 => ⟨S1x32x1x1x1, .f32⟩
  | 124 => ⟨S8x32x1x16x16, .f32⟩
  | 125 => ⟨S8x32x1x16x16, .f32⟩
  | 126 => ⟨S8x32x1x16x16, .f32⟩
  | 127 => ⟨S_, .f32⟩
  | _ => ⟨S8x768x32x32, .f32⟩

abbrev hbmTy0_4 (i : Nat) : BufTy := match i % 128 with
  | 0 => ⟨S8x32x16x16, .f32⟩
  | 1 => ⟨S8x32x16x16, .f32⟩
  | 2 => ⟨S8x1x16x16, .f32⟩
  | 3 => ⟨S8x1x1x16x16, .f32⟩
  | 4 => ⟨S32x1x1x1, .f32⟩
  | 5 => ⟨S32x1, .f32⟩
  | 6 => ⟨S1x32x1x1x1, .f32⟩
  | 7 => ⟨S8x32x1x16x16, .f32⟩
  | 8 => ⟨S8x32x1x16x16, .f32⟩
  | 9 => ⟨S8x32x1x16x16, .f32⟩
  | 10 => ⟨S_, .f32⟩
  | 11 => ⟨S8x32x16x16, .f32⟩
  | 12 => ⟨S8x32x16x16, .f32⟩
  | 13 => ⟨S8x1x16x16, .f32⟩
  | 14 => ⟨S8x1x1x16x16, .f32⟩
  | 15 => ⟨S32x1x1x1, .f32⟩
  | 16 => ⟨S32x1, .f32⟩
  | 17 => ⟨S1x32x1x1x1, .f32⟩
  | 18 => ⟨S8x32x1x16x16, .f32⟩
  | 19 => ⟨S8x32x1x16x16, .f32⟩
  | 20 => ⟨S8x32x1x16x16, .f32⟩
  | 21 => ⟨S_, .f32⟩
  | 22 => ⟨S8x32x16x16, .f32⟩
  | 23 => ⟨S8x32x16x16, .f32⟩
  | 24 => ⟨S8x1x16x16, .f32⟩
  | 25 => ⟨S8x1x1x16x16, .f32⟩
  | 26 => ⟨S32x1x1x1, .f32⟩
  | 27 => ⟨S32x1, .f32⟩
  | 28 => ⟨S1x32x1x1x1, .f32⟩
  | 29 => ⟨S8x32x1x16x16, .f32⟩
  | 30 => ⟨S8x32x1x16x16, .f32⟩
  | 31 => ⟨S8x32x1x16x16, .f32⟩
  | 32 => ⟨S_, .f32⟩
  | 33 => ⟨S8x32x16x16, .f32⟩
  | 34 => ⟨S8x32x16x16, .f32⟩
  | 35 => ⟨S8x1x16x16, .f32⟩
  | 36 => ⟨S8x1x1x16x16, .f32⟩
  | 37 => ⟨S32x1x1x1, .f32⟩
  | 38 => ⟨S32x1, .f32⟩
  | 39 => ⟨S1x32x1x1x1, .f32⟩
  | 40 => ⟨S8x32x1x16x16, .f32⟩
  | 41 => ⟨S8x32x1x16x16, .f32⟩
  | 42 => ⟨S8x32x1x16x16, .f32⟩
  | 43 => ⟨S_, .f32⟩
  | 44 => ⟨S8x32x16x16, .f32⟩
  | 45 => ⟨S8x32x16x16, .f32⟩
  | 46 => ⟨S8x1x16x16, .f32⟩
  | 47 => ⟨S8x1x1x16x16, .f32⟩
  | 48 => ⟨S32x1x1x1, .f32⟩
  | 49 => ⟨S32x1, .f32⟩
  | 50 => ⟨S1x32x1x1x1, .f32⟩
  | 51 => ⟨S8x32x1x16x16, .f32⟩
  | 52 => ⟨S8x32x1x16x16, .f32⟩
  | 53 => ⟨S8x32x1x16x16, .f32⟩
  | 54 => ⟨S_, .f32⟩
  | 55 => ⟨S8x32x16x16, .f32⟩
  | 56 => ⟨S8x32x16x16, .f32⟩
  | 57 => ⟨S8x1x16x16, .f32⟩
  | 58 => ⟨S8x1x1x16x16, .f32⟩
  | 59 => ⟨S32x1x1x1, .f32⟩
  | 60 => ⟨S32x1, .f32⟩
  | 61 => ⟨S1x32x1x1x1, .f32⟩
  | 62 => ⟨S8x32x1x16x16, .f32⟩
  | 63 => ⟨S8x32x1x16x16, .f32⟩
  | 64 => ⟨S8x32x1x16x16, .f32⟩
  | 65 => ⟨S_, .f32⟩
  | 66 => ⟨S8x32x16x16, .f32⟩
  | 67 => ⟨S8x32x16x16, .f32⟩
  | 68 => ⟨S8x1x16x16, .f32⟩
  | 69 => ⟨S8x1x1x16x16, .f32⟩
  | 70 => ⟨S32x1x1x1, .f32⟩
  | 71 => ⟨S32x1, .f32⟩
  | 72 => ⟨S1x32x1x1x1, .f32⟩
  | 73 => ⟨S8x32x1x16x16, .f32⟩
  | 74 => ⟨S8x32x1x16x16, .f32⟩
  | 75 => ⟨S8x32x1x16x16, .f32⟩
  | 76 => ⟨S_, .f32⟩
  | 77 => ⟨S8x32x16x16, .f32⟩
  | 78 => ⟨S8x32x16x16, .f32⟩
  | 79 => ⟨S8x1x16x16, .f32⟩
  | 80 => ⟨S8x1x1x16x16, .f32⟩
  | 81 => ⟨S32x1x1x1, .f32⟩
  | 82 => ⟨S32x1, .f32⟩
  | 83 => ⟨S1x32x1x1x1, .f32⟩
  | 84 => ⟨S8x32x1x16x16, .f32⟩
  | 85 => ⟨S8x32x1x16x16, .f32⟩
  | 86 => ⟨S8x32x1x16x16, .f32⟩
  | 87 => ⟨S_, .f32⟩
  | 88 => ⟨S8x32x16x16, .f32⟩
  | 89 => ⟨S8x32x16x16, .f32⟩
  | 90 => ⟨S8x1x16x16, .f32⟩
  | 91 => ⟨S8x1x1x16x16, .f32⟩
  | 92 => ⟨S32x1x1x1, .f32⟩
  | 93 => ⟨S32x1, .f32⟩
  | 94 => ⟨S1x32x1x1x1, .f32⟩
  | 95 => ⟨S8x32x1x16x16, .f32⟩
  | 96 => ⟨S8x32x1x16x16, .f32⟩
  | 97 => ⟨S8x32x1x16x16, .f32⟩
  | 98 => ⟨S_, .f32⟩
  | 99 => ⟨S8x32x16x16, .f32⟩
  | 100 => ⟨S8x32x16x16, .f32⟩
  | 101 => ⟨S1x32x1x1, .f32⟩
  | 102 => ⟨S8x32x16x16, .f32⟩
  | 103 => ⟨S8x32x16x16, .f32⟩
  | 104 => ⟨S_, .f32⟩
  | 105 => ⟨S_, .f32⟩
  | 106 => ⟨S8x32x16x16, .f32⟩
  | 107 => ⟨S8x32x16x16, .i1⟩
  | 108 => ⟨S_, .f32⟩
  | 109 => ⟨S8x32x16x16, .f32⟩
  | 110 => ⟨S8x32x16x16, .f32⟩
  | 111 => ⟨S8x32x16x16, .f32⟩
  | 112 => ⟨S_, .i32⟩
  | 113 => ⟨S_, .f32⟩
  | 114 => ⟨S8x32x18x18, .f32⟩
  | 115 => ⟨S8x32x8x8, .f32⟩
  | 116 => ⟨S8x1x32x8x8, .f32⟩
  | 117 => ⟨S1x32x1x1, .f32⟩
  | 118 => ⟨S1x32, .f32⟩
  | 119 => ⟨S1x1x32x1x1, .f32⟩
  | 120 => ⟨S8x1x32x8x8, .f32⟩
  | 121 => ⟨S8x1x32x8x8, .f32⟩
  | 122 => ⟨S_, .f32⟩
  | 123 => ⟨S8x1x8x8, .f32⟩
  | 124 => ⟨S_, .f32⟩
  | 125 => ⟨S8x1x8x8, .f32⟩
  | 126 => ⟨S8x1x8x8, .f32⟩
  | 127 => ⟨S8x32x8x8, .f32⟩
  | _ => ⟨S8x768x32x32, .f32⟩

abbrev hbmTy0_5 (i : Nat) : BufTy := match i % 128 with
  | 0 => ⟨S8x1x32x8x8, .f32⟩
  | 1 => ⟨S1x32x1x1, .f32⟩
  | 2 => ⟨S1x32, .f32⟩
  | 3 => ⟨S1x1x32x1x1, .f32⟩
  | 4 => ⟨S8x1x32x8x8, .f32⟩
  | 5 => ⟨S8x1x32x8x8, .f32⟩
  | 6 => ⟨S_, .f32⟩
  | 7 => ⟨S8x1x8x8, .f32⟩
  | 8 => ⟨S8x1x8x8, .f32⟩
  | 9 => ⟨S8x32x8x8, .f32⟩
  | 10 => ⟨S8x1x32x8x8, .f32⟩
  | 11 => ⟨S1x32x1x1, .f32⟩
  | 12 => ⟨S1x32, .f32⟩
  | 13 => ⟨S1x1x32x1x1, .f32⟩
  | 14 => ⟨S8x1x32x8x8, .f32⟩
  | 15 => ⟨S8x1x32x8x8, .f32⟩
  | 16 => ⟨S_, .f32⟩
  | 17 => ⟨S8x1x8x8, .f32⟩
  | 18 => ⟨S8x1x8x8, .f32⟩
  | 19 => ⟨S8x32x8x8, .f32⟩
  | 20 => ⟨S8x1x32x8x8, .f32⟩
  | 21 => ⟨S1x32x1x1, .f32⟩
  | 22 => ⟨S1x32, .f32⟩
  | 23 => ⟨S1x1x32x1x1, .f32⟩
  | 24 => ⟨S8x1x32x8x8, .f32⟩
  | 25 => ⟨S8x1x32x8x8, .f32⟩
  | 26 => ⟨S_, .f32⟩
  | 27 => ⟨S8x1x8x8, .f32⟩
  | 28 => ⟨S8x1x8x8, .f32⟩
  | 29 => ⟨S8x32x8x8, .f32⟩
  | 30 => ⟨S8x1x32x8x8, .f32⟩
  | 31 => ⟨S1x32x1x1, .f32⟩
  | 32 => ⟨S1x32, .f32⟩
  | 33 => ⟨S1x1x32x1x1, .f32⟩
  | 34 => ⟨S8x1x32x8x8, .f32⟩
  | 35 => ⟨S8x1x32x8x8, .f32⟩
  | 36 => ⟨S_, .f32⟩
  | 37 => ⟨S8x1x8x8, .f32⟩
  | 38 => ⟨S8x1x8x8, .f32⟩
  | 39 => ⟨S8x32x8x8, .f32⟩
  | 40 => ⟨S8x1x32x8x8, .f32⟩
  | 41 => ⟨S1x32x1x1, .f32⟩
  | 42 => ⟨S1x32, .f32⟩
  | 43 => ⟨S1x1x32x1x1, .f32⟩
  | 44 => ⟨S8x1x32x8x8, .f32⟩
  | 45 => ⟨S8x1x32x8x8, .f32⟩
  | 46 => ⟨S_, .f32⟩
  | 47 => ⟨S8x1x8x8, .f32⟩
  | 48 => ⟨S8x1x8x8, .f32⟩
  | 49 => ⟨S8x32x8x8, .f32⟩
  | 50 => ⟨S8x1x32x8x8, .f32⟩
  | 51 => ⟨S1x32x1x1, .f32⟩
  | 52 => ⟨S1x32, .f32⟩
  | 53 => ⟨S1x1x32x1x1, .f32⟩
  | 54 => ⟨S8x1x32x8x8, .f32⟩
  | 55 => ⟨S8x1x32x8x8, .f32⟩
  | 56 => ⟨S_, .f32⟩
  | 57 => ⟨S8x1x8x8, .f32⟩
  | 58 => ⟨S8x1x8x8, .f32⟩
  | 59 => ⟨S8x32x8x8, .f32⟩
  | 60 => ⟨S8x1x32x8x8, .f32⟩
  | 61 => ⟨S1x32x1x1, .f32⟩
  | 62 => ⟨S1x32, .f32⟩
  | 63 => ⟨S1x1x32x1x1, .f32⟩
  | 64 => ⟨S8x1x32x8x8, .f32⟩
  | 65 => ⟨S8x1x32x8x8, .f32⟩
  | 66 => ⟨S_, .f32⟩
  | 67 => ⟨S8x1x8x8, .f32⟩
  | 68 => ⟨S8x1x8x8, .f32⟩
  | 69 => ⟨S8x32x8x8, .f32⟩
  | 70 => ⟨S8x1x32x8x8, .f32⟩
  | 71 => ⟨S1x32x1x1, .f32⟩
  | 72 => ⟨S1x32, .f32⟩
  | 73 => ⟨S1x1x32x1x1, .f32⟩
  | 74 => ⟨S8x1x32x8x8, .f32⟩
  | 75 => ⟨S8x1x32x8x8, .f32⟩
  | 76 => ⟨S_, .f32⟩
  | 77 => ⟨S8x1x8x8, .f32⟩
  | 78 => ⟨S8x1x8x8, .f32⟩
  | 79 => ⟨S8x32x8x8, .f32⟩
  | 80 => ⟨S8x1x32x8x8, .f32⟩
  | 81 => ⟨S1x32x1x1, .f32⟩
  | 82 => ⟨S1x32, .f32⟩
  | 83 => ⟨S1x1x32x1x1, .f32⟩
  | 84 => ⟨S8x1x32x8x8, .f32⟩
  | 85 => ⟨S8x1x32x8x8, .f32⟩
  | 86 => ⟨S_, .f32⟩
  | 87 => ⟨S8x1x8x8, .f32⟩
  | 88 => ⟨S8x1x8x8, .f32⟩
  | 89 => ⟨S8x32x8x8, .f32⟩
  | 90 => ⟨S8x1x32x8x8, .f32⟩
  | 91 => ⟨S1x32x1x1, .f32⟩
  | 92 => ⟨S1x32, .f32⟩
  | 93 => ⟨S1x1x32x1x1, .f32⟩
  | 94 => ⟨S8x1x32x8x8, .f32⟩
  | 95 => ⟨S8x1x32x8x8, .f32⟩
  | 96 => ⟨S_, .f32⟩
  | 97 => ⟨S8x1x8x8, .f32⟩
  | 98 => ⟨S8x1x8x8, .f32⟩
  | 99 => ⟨S8x32x8x8, .f32⟩
  | 100 => ⟨S8x1x32x8x8, .f32⟩
  | 101 => ⟨S1x32x1x1, .f32⟩
  | 102 => ⟨S1x32, .f32⟩
  | 103 => ⟨S1x1x32x1x1, .f32⟩
  | 104 => ⟨S8x1x32x8x8, .f32⟩
  | 105 => ⟨S8x1x32x8x8, .f32⟩
  | 106 => ⟨S_, .f32⟩
  | 107 => ⟨S8x1x8x8, .f32⟩
  | 108 => ⟨S8x1x8x8, .f32⟩
  | 109 => ⟨S8x32x8x8, .f32⟩
  | 110 => ⟨S8x1x32x8x8, .f32⟩
  | 111 => ⟨S1x32x1x1, .f32⟩
  | 112 => ⟨S1x32, .f32⟩
  | 113 => ⟨S1x1x32x1x1, .f32⟩
  | 114 => ⟨S8x1x32x8x8, .f32⟩
  | 115 => ⟨S8x1x32x8x8, .f32⟩
  | 116 => ⟨S_, .f32⟩
  | 117 => ⟨S8x1x8x8, .f32⟩
  | 118 => ⟨S8x1x8x8, .f32⟩
  | 119 => ⟨S8x32x8x8, .f32⟩
  | 120 => ⟨S8x1x32x8x8, .f32⟩
  | 121 => ⟨S1x32x1x1, .f32⟩
  | 122 => ⟨S1x32, .f32⟩
  | 123 => ⟨S1x1x32x1x1, .f32⟩
  | 124 => ⟨S8x1x32x8x8, .f32⟩
  | 125 => ⟨S8x1x32x8x8, .f32⟩
  | 126 => ⟨S_, .f32⟩
  | 127 => ⟨S8x1x8x8, .f32⟩
  | _ => ⟨S8x768x32x32, .f32⟩

abbrev hbmTy0_6 (i : Nat) : BufTy := match i % 128 with
  | 0 => ⟨S8x1x8x8, .f32⟩
  | 1 => ⟨S8x32x8x8, .f32⟩
  | 2 => ⟨S8x1x32x8x8, .f32⟩
  | 3 => ⟨S1x32x1x1, .f32⟩
  | 4 => ⟨S1x32, .f32⟩
  | 5 => ⟨S1x1x32x1x1, .f32⟩
  | 6 => ⟨S8x1x32x8x8, .f32⟩
  | 7 => ⟨S8x1x32x8x8, .f32⟩
  | 8 => ⟨S_, .f32⟩
  | 9 => ⟨S8x1x8x8, .f32⟩
  | 10 => ⟨S8x1x8x8, .f32⟩
  | 11 => ⟨S8x32x8x8, .f32⟩
  | 12 => ⟨S8x1x32x8x8, .f32⟩
  | 13 => ⟨S1x32x1x1, .f32⟩
  | 14 => ⟨S1x32, .f32⟩
  | 15 => ⟨S1x1x32x1x1, .f32⟩
  | 16 => ⟨S8x1x32x8x8, .f32⟩
  | 17 => ⟨S8x1x32x8x8, .f32⟩
  | 18 => ⟨S_, .f32⟩
  | 19 => ⟨S8x1x8x8, .f32⟩
  | 20 => ⟨S8x1x8x8, .f32⟩
  | 21 => ⟨S1x1x1x1, .f32⟩
  | 22 => ⟨S8x1x8x8, .f32⟩
  | 23 => ⟨S8x1x8x8, .f32⟩
  | 24 => ⟨S_, .f32⟩
  | 25 => ⟨S8, .f32⟩
  | 26 => ⟨S_, .f32⟩
  | 27 => ⟨S8, .f32⟩
  | 28 => ⟨S8, .f32⟩
  | 29 => ⟨S_, .f32⟩
  | 30 => ⟨S8, .f32⟩
  | 31 => ⟨S8, .f32⟩
  | 32 => ⟨S8, .f32⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S_, .f32⟩
  | 40 => ⟨S_, .f32⟩
  | 41 => ⟨S_, .f32⟩
  | 42 => ⟨S_, .f32⟩
  | 43 => ⟨S8x768x256, .f32⟩
  | 44 => ⟨S8x2x256, .f32⟩
  | 45 => ⟨S8x768x1x256, .f32⟩
  | 46 => ⟨S8x1x2x256, .f32⟩
  | 47 => ⟨S8x768x2x256, .f32⟩
  | 48 => ⟨S8x768x2x256, .f32⟩
  | 49 => ⟨S8x768x2x256, .f32⟩
  | 50 => ⟨S8x768x2x256, .f32⟩
  | 51 => ⟨S_, .f32⟩
  | 52 => ⟨S8x768x2, .f32⟩
  | 53 => ⟨S8x768x1, .f32⟩
  | 54 => ⟨S8x768, .f32⟩
  | 55 => ⟨S8x768x1, .f32⟩
  | 56 => ⟨S8x768, .f32⟩
  | 57 => ⟨S8x768, .i1⟩
  | 58 => ⟨S_, .i32⟩
  | 59 => ⟨S_, .i32⟩
  | 60 => ⟨S768, .i32⟩
  | 61 => ⟨S768, .i32⟩
  | 62 => ⟨S8x768, .i32⟩
  | 63 => ⟨S8x768, .i32⟩
  | 64 => ⟨S8x768, .i32⟩
  | 65 => ⟨S8x768x1, .i32⟩
  | 66 => ⟨S1x2, .i32⟩
  | 67 => ⟨S8x768x1, .i32⟩
  | 68 => ⟨S1x1x2, .i32⟩
  | 69 => ⟨S8x768x2, .i32⟩
  | 70 => ⟨S8x768x2, .i32⟩
  | 71 => ⟨S8x768x2, .i1⟩
  | 72 => ⟨S8x768x2, .f32⟩
  | 73 => ⟨S_, .f32⟩
  | 74 => ⟨S8x2, .f32⟩
  | 75 => ⟨S8x2x768, .f32⟩
  | 76 => ⟨S8x2x256, .f32⟩
  | 77 => ⟨S8x2x1, .f32⟩
  | 78 => ⟨S_, .f32⟩
  | 79 => ⟨S8x2x1, .f32⟩
  | 80 => ⟨S8x2x1, .f32⟩
  | 81 => ⟨S8x2x256, .f32⟩
  | 82 => ⟨S8x2x256, .f32⟩
  | 83 => ⟨S8x768x1x256, .f32⟩
  | 84 => ⟨S8x1x2x256, .f32⟩
  | 85 => ⟨S8x768x2x256, .f32⟩
  | 86 => ⟨S8x768x2x256, .f32⟩
  | 87 => ⟨S8x768x2x256, .f32⟩
  | 88 => ⟨S8x768x2x256, .f32⟩
  | 89 => ⟨S_, .f32⟩
  | 90 => ⟨S8x768x2, .f32⟩
  | 91 => ⟨S8x768x1, .f32⟩
  | 92 => ⟨S8x768, .f32⟩
  | 93 => ⟨S8x768x1, .f32⟩
  | 94 => ⟨S8x768, .f32⟩
  | 95 => ⟨S8x768, .i1⟩
  | 96 => ⟨S_, .i32⟩
  | 97 => ⟨S_, .i32⟩
  | 98 => ⟨S768, .i32⟩
  | 99 => ⟨S768, .i32⟩
  | 100 => ⟨S8x768, .i32⟩
  | 101 => ⟨S8x768, .i32⟩
  | 102 => ⟨S8x768, .i32⟩
  | 103 => ⟨S8x768x1, .i32⟩
  | 104 => ⟨S1x2, .i32⟩
  | 105 => ⟨S8x768x1, .i32⟩
  | 106 => ⟨S1x1x2, .i32⟩
  | 107 => ⟨S8x768x2, .i32⟩
  | 108 => ⟨S8x768x2, .i32⟩
  | 109 => ⟨S8x768x2, .i1⟩
  | 110 => ⟨S8x768x2, .f32⟩
  | 111 => ⟨S_, .f32⟩
  | 112 => ⟨S8x2, .f32⟩
  | 113 => ⟨S8x2x768, .f32⟩
  | 114 => ⟨S8x2x256, .f32⟩
  | 115 => ⟨S8x2x1, .f32⟩
  | 116 => ⟨S_, .f32⟩
  | 117 => ⟨S8x2x1, .f32⟩
  | 118 => ⟨S8x2x1, .f32⟩
  | 119 => ⟨S8x2x256, .f32⟩
  | 120 => ⟨S8x2x256, .f32⟩
  | 121 => ⟨S8x768x1x256, .f32⟩
  | 122 => ⟨S8x1x2x256, .f32⟩
  | 123 => ⟨S8x768x2x256, .f32⟩
  | 124 => ⟨S8x768x2x256, .f32⟩
  | 125 => ⟨S8x768x2x256, .f32⟩
  | 126 => ⟨S8x768x2x256, .f32⟩
  | 127 => ⟨S_, .f32⟩
  | _ => ⟨S8x768x32x32, .f32⟩

abbrev hbmTy0_7 (i : Nat) : BufTy := match i % 128 with
  | 0 => ⟨S8x768x2, .f32⟩
  | 1 => ⟨S8x768x1, .f32⟩
  | 2 => ⟨S8x768, .f32⟩
  | 3 => ⟨S8x768x1, .f32⟩
  | 4 => ⟨S8x768, .f32⟩
  | 5 => ⟨S8x768, .i1⟩
  | 6 => ⟨S_, .i32⟩
  | 7 => ⟨S_, .i32⟩
  | 8 => ⟨S768, .i32⟩
  | 9 => ⟨S768, .i32⟩
  | 10 => ⟨S8x768, .i32⟩
  | 11 => ⟨S8x768, .i32⟩
  | 12 => ⟨S8x768, .i32⟩
  | 13 => ⟨S8x768x1, .i32⟩
  | 14 => ⟨S1x2, .i32⟩
  | 15 => ⟨S8x768x1, .i32⟩
  | 16 => ⟨S1x1x2, .i32⟩
  | 17 => ⟨S8x768x2, .i32⟩
  | 18 => ⟨S8x768x2, .i32⟩
  | 19 => ⟨S8x768x2, .i1⟩
  | 20 => ⟨S8x768x2, .f32⟩
  | 21 => ⟨S_, .f32⟩
  | 22 => ⟨S8x2, .f32⟩
  | 23 => ⟨S8x2x768, .f32⟩
  | 24 => ⟨S8x2x256, .f32⟩
  | 25 => ⟨S8x2x1, .f32⟩
  | 26 => ⟨S_, .f32⟩
  | 27 => ⟨S8x2x1, .f32⟩
  | 28 => ⟨S8x2x1, .f32⟩
  | 29 => ⟨S8x2x256, .f32⟩
  | 30 => ⟨S8x2x256, .f32⟩
  | 31 => ⟨S8x768x1x256, .f32⟩
  | 32 => ⟨S8x1x2x256, .f32⟩
  | 33 => ⟨S8x768x2x256, .f32⟩
  | 34 => ⟨S8x768x2x256, .f32⟩
  | 35 => ⟨S8x768x2x256, .f32⟩
  | 36 => ⟨S8x768x2x256, .f32⟩
  | 37 => ⟨S_, .f32⟩
  | 38 => ⟨S8x768x2, .f32⟩
  | 39 => ⟨S8x768x1, .f32⟩
  | 40 => ⟨S8x768, .f32⟩
  | 41 => ⟨S8x768x1, .f32⟩
  | 42 => ⟨S8x768, .f32⟩
  | 43 => ⟨S8x768, .i1⟩
  | 44 => ⟨S_, .i32⟩
  | 45 => ⟨S_, .i32⟩
  | 46 => ⟨S768, .i32⟩
  | 47 => ⟨S768, .i32⟩
  | 48 => ⟨S8x768, .i32⟩
  | 49 => ⟨S8x768, .i32⟩
  | 50 => ⟨S8x768, .i32⟩
  | 51 => ⟨S8x768x1, .i32⟩
  | 52 => ⟨S1x2, .i32⟩
  | 53 => ⟨S8x768x1, .i32⟩
  | 54 => ⟨S1x1x2, .i32⟩
  | 55 => ⟨S8x768x2, .i32⟩
  | 56 => ⟨S8x768x2, .i32⟩
  | 57 => ⟨S8x768x2, .i1⟩
  | 58 => ⟨S8x768x2, .f32⟩
  | 59 => ⟨S_, .f32⟩
  | 60 => ⟨S8x2, .f32⟩
  | 61 => ⟨S8x2x768, .f32⟩
  | 62 => ⟨S8x2x256, .f32⟩
  | 63 => ⟨S8x2x1, .f32⟩
  | 64 => ⟨S_, .f32⟩
  | 65 => ⟨S8x2x1, .f32⟩
  | 66 => ⟨S8x2x1, .f32⟩
  | 67 => ⟨S8x2x256, .f32⟩
  | 68 => ⟨S8x2x256, .f32⟩
  | 69 => ⟨S8x768x1x256, .f32⟩
  | 70 => ⟨S8x1x2x256, .f32⟩
  | 71 => ⟨S8x768x2x256, .f32⟩
  | 72 => ⟨S8x768x2x256, .f32⟩
  | 73 => ⟨S8x768x2x256, .f32⟩
  | 74 => ⟨S8x768x2x256, .f32⟩
  | 75 => ⟨S_, .f32⟩
  | 76 => ⟨S8x768x2, .f32⟩
  | 77 => ⟨S8x768x1, .f32⟩
  | 78 => ⟨S8x768, .f32⟩
  | 79 => ⟨S8x768x1, .f32⟩
  | 80 => ⟨S8x768, .f32⟩
  | 81 => ⟨S8x768, .i1⟩
  | 82 => ⟨S_, .i32⟩
  | 83 => ⟨S_, .i32⟩
  | 84 => ⟨S768, .i32⟩
  | 85 => ⟨S768, .i32⟩
  | 86 => ⟨S8x768, .i32⟩
  | 87 => ⟨S8x768, .i32⟩
  | 88 => ⟨S8x768, .i32⟩
  | 89 => ⟨S8x768x1, .i32⟩
  | 90 => ⟨S1x2, .i32⟩
  | 91 => ⟨S8x768x1, .i32⟩
  | 92 => ⟨S1x1x2, .i32⟩
  | 93 => ⟨S8x768x2, .i32⟩
  | 94 => ⟨S8x768x2, .i32⟩
  | 95 => ⟨S8x768x2, .i1⟩
  | 96 => ⟨S8x768x2, .f32⟩
  | 97 => ⟨S_, .f32⟩
  | 98 => ⟨S8x2, .f32⟩
  | 99 => ⟨S8x2x768, .f32⟩
  | 100 => ⟨S8x2x256, .f32⟩
  | 101 => ⟨S8x2x1, .f32⟩
  | 102 => ⟨S_, .f32⟩
  | 103 => ⟨S8x2x1, .f32⟩
  | 104 => ⟨S8x2x1, .f32⟩
  | 105 => ⟨S8x2x256, .f32⟩
  | 106 => ⟨S8x2x256, .f32⟩
  | 107 => ⟨S8x768x1x256, .f32⟩
  | 108 => ⟨S8x1x2x256, .f32⟩
  | 109 => ⟨S8x768x2x256, .f32⟩
  | 110 => ⟨S8x768x2x256, .f32⟩
  | 111 => ⟨S8x768x2x256, .f32⟩
  | 112 => ⟨S8x768x2x256, .f32⟩
  | 113 => ⟨S_, .f32⟩
  | 114 => ⟨S8x768x2, .f32⟩
  | 115 => ⟨S8x768x1, .f32⟩
  | 116 => ⟨S8x768, .f32⟩
  | 117 => ⟨S8x768x1, .f32⟩
  | 118 => ⟨S8x768, .f32⟩
  | 119 => ⟨S8x768, .i1⟩
  | 120 => ⟨S_, .i32⟩
  | 121 => ⟨S_, .i32⟩
  | 122 => ⟨S768, .i32⟩
  | 123 => ⟨S768, .i32⟩
  | 124 => ⟨S8x768, .i32⟩
  | 125 => ⟨S8x768, .i32⟩
  | 126 => ⟨S8x768, .i32⟩
  | 127 => ⟨S8x768x1, .i32⟩
  | _ => ⟨S8x768x32x32, .f32⟩

abbrev hbmTy0_8 (i : Nat) : BufTy := match i % 128 with
  | 0 => ⟨S1x2, .i32⟩
  | 1 => ⟨S8x768x1, .i32⟩
  | 2 => ⟨S1x1x2, .i32⟩
  | 3 => ⟨S8x768x2, .i32⟩
  | 4 => ⟨S8x768x2, .i32⟩
  | 5 => ⟨S8x768x2, .i1⟩
  | 6 => ⟨S8x768x2, .f32⟩
  | 7 => ⟨S_, .f32⟩
  | 8 => ⟨S8x2, .f32⟩
  | 9 => ⟨S8x2x768, .f32⟩
  | 10 => ⟨S8x2x256, .f32⟩
  | 11 => ⟨S8x2x1, .f32⟩
  | 12 => ⟨S_, .f32⟩
  | 13 => ⟨S8x2x1, .f32⟩
  | 14 => ⟨S8x2x1, .f32⟩
  | 15 => ⟨S8x2x256, .f32⟩
  | 16 => ⟨S8x2x256, .f32⟩
  | 17 => ⟨S8x768x1x256, .f32⟩
  | 18 => ⟨S8x1x2x256, .f32⟩
  | 19 => ⟨S8x768x2x256, .f32⟩
  | 20 => ⟨S8x768x2x256, .f32⟩
  | 21 => ⟨S8x768x2x256, .f32⟩
  | 22 => ⟨S8x768x2x256, .f32⟩
  | 23 => ⟨S_, .f32⟩
  | 24 => ⟨S8x768x2, .f32⟩
  | 25 => ⟨S8x768x1, .f32⟩
  | 26 => ⟨S8x768, .f32⟩
  | 27 => ⟨S8x768x1, .f32⟩
  | 28 => ⟨S8x768, .f32⟩
  | 29 => ⟨S8x768, .i1⟩
  | 30 => ⟨S_, .i32⟩
  | 31 => ⟨S_, .i32⟩
  | 32 => ⟨S768, .i32⟩
  | 33 => ⟨S768, .i32⟩
  | 34 => ⟨S8x768, .i32⟩
  | 35 => ⟨S8x768, .i32⟩
  | 36 => ⟨S8x768, .i32⟩
  | 37 => ⟨S8x768x1, .i32⟩
  | 38 => ⟨S1x2, .i32⟩
  | 39 => ⟨S8x768x1, .i32⟩
  | 40 => ⟨S1x1x2, .i32⟩
  | 41 => ⟨S8x768x2, .i32⟩
  | 42 => ⟨S8x768x2, .i32⟩
  | 43 => ⟨S8x768x2, .i1⟩
  | 44 => ⟨S8x768x2, .f32⟩
  | 45 => ⟨S_, .f32⟩
  | 46 => ⟨S8x2, .f32⟩
  | 47 => ⟨S8x2x768, .f32⟩
  | 48 => ⟨S8x2x256, .f32⟩
  | 49 => ⟨S8x2x1, .f32⟩
  | 50 => ⟨S_, .f32⟩
  | 51 => ⟨S8x2x1, .f32⟩
  | 52 => ⟨S8x2x1, .f32⟩
  | 53 => ⟨S8x2x256, .f32⟩
  | 54 => ⟨S8x2x256, .f32⟩
  | 55 => ⟨S8x768x1x256, .f32⟩
  | 56 => ⟨S8x1x2x256, .f32⟩
  | 57 => ⟨S8x768x2x256, .f32⟩
  | 58 => ⟨S8x768x2x256, .f32⟩
  | 59 => ⟨S8x768x2x256, .f32⟩
  | 60 => ⟨S8x768x2x256, .f32⟩
  | 61 => ⟨S_, .f32⟩
  | 62 => ⟨S8x768x2, .f32⟩
  | 63 => ⟨S8x768x1, .f32⟩
  | 64 => ⟨S8x768, .f32⟩
  | 65 => ⟨S8x768x1, .f32⟩
  | 66 => ⟨S8x768, .f32⟩
  | 67 => ⟨S8x768, .i1⟩
  | 68 => ⟨S_, .i32⟩
  | 69 => ⟨S_, .i32⟩
  | 70 => ⟨S768, .i32⟩
  | 71 => ⟨S768, .i32⟩
  | 72 => ⟨S8x768, .i32⟩
  | 73 => ⟨S8x768, .i32⟩
  | 74 => ⟨S8x768, .i32⟩
  | 75 => ⟨S8x768x1, .i32⟩
  | 76 => ⟨S1x2, .i32⟩
  | 77 => ⟨S8x768x1, .i32⟩
  | 78 => ⟨S1x1x2, .i32⟩
  | 79 => ⟨S8x768x2, .i32⟩
  | 80 => ⟨S8x768x2, .i32⟩
  | 81 => ⟨S8x768x2, .i1⟩
  | 82 => ⟨S8x768x2, .f32⟩
  | 83 => ⟨S_, .f32⟩
  | 84 => ⟨S8x2, .f32⟩
  | 85 => ⟨S8x2x768, .f32⟩
  | 86 => ⟨S8x2x256, .f32⟩
  | 87 => ⟨S8x2x1, .f32⟩
  | 88 => ⟨S_, .f32⟩
  | 89 => ⟨S8x2x1, .f32⟩
  | 90 => ⟨S8x2x1, .f32⟩
  | 91 => ⟨S8x2x256, .f32⟩
  | 92 => ⟨S8x2x256, .f32⟩
  | 93 => ⟨S8x768x1x256, .f32⟩
  | 94 => ⟨S8x1x2x256, .f32⟩
  | 95 => ⟨S8x768x2x256, .f32⟩
  | 96 => ⟨S8x768x2x256, .f32⟩
  | 97 => ⟨S8x768x2x256, .f32⟩
  | 98 => ⟨S8x768x2x256, .f32⟩
  | 99 => ⟨S_, .f32⟩
  | 100 => ⟨S8x768x2, .f32⟩
  | 101 => ⟨S8x768x1, .f32⟩
  | 102 => ⟨S8x768, .f32⟩
  | 103 => ⟨S8x768x1, .f32⟩
  | 104 => ⟨S8x768, .f32⟩
  | 105 => ⟨S8x768, .i1⟩
  | 106 => ⟨S_, .i32⟩
  | 107 => ⟨S_, .i32⟩
  | 108 => ⟨S768, .i32⟩
  | 109 => ⟨S768, .i32⟩
  | 110 => ⟨S8x768, .i32⟩
  | 111 => ⟨S8x768, .i32⟩
  | 112 => ⟨S8x768, .i32⟩
  | 113 => ⟨S8x768x1, .i32⟩
  | 114 => ⟨S1x2, .i32⟩
  | 115 => ⟨S8x768x1, .i32⟩
  | 116 => ⟨S1x1x2, .i32⟩
  | 117 => ⟨S8x768x2, .i32⟩
  | 118 => ⟨S8x768x2, .i32⟩
  | 119 => ⟨S8x768x2, .i1⟩
  | 120 => ⟨S8x768x2, .f32⟩
  | 121 => ⟨S_, .f32⟩
  | 122 => ⟨S8x2, .f32⟩
  | 123 => ⟨S8x2x768, .f32⟩
  | 124 => ⟨S8x2x256, .f32⟩
  | 125 => ⟨S8x2x1, .f32⟩
  | 126 => ⟨S_, .f32⟩
  | 127 => ⟨S8x2x1, .f32⟩
  | _ => ⟨S8x768x32x32, .f32⟩

abbrev hbmTy0_9 (i : Nat) : BufTy := match i % 128 with
  | 0 => ⟨S8x2x1, .f32⟩
  | 1 => ⟨S8x2x256, .f32⟩
  | 2 => ⟨S8x2x256, .f32⟩
  | 3 => ⟨S8x768x1x256, .f32⟩
  | 4 => ⟨S8x1x2x256, .f32⟩
  | 5 => ⟨S8x768x2x256, .f32⟩
  | 6 => ⟨S8x768x2x256, .f32⟩
  | 7 => ⟨S8x768x2x256, .f32⟩
  | 8 => ⟨S8x768x2x256, .f32⟩
  | 9 => ⟨S_, .f32⟩
  | 10 => ⟨S8x768x2, .f32⟩
  | 11 => ⟨S8x768x1, .f32⟩
  | 12 => ⟨S8x768, .f32⟩
  | 13 => ⟨S8x768x1, .f32⟩
  | 14 => ⟨S8x768, .f32⟩
  | 15 => ⟨S8x768, .i1⟩
  | 16 => ⟨S_, .i32⟩
  | 17 => ⟨S_, .i32⟩
  | 18 => ⟨S768, .i32⟩
  | 19 => ⟨S768, .i32⟩
  | 20 => ⟨S8x768, .i32⟩
  | 21 => ⟨S8x768, .i32⟩
  | 22 => ⟨S8x768, .i32⟩
  | 23 => ⟨S8x768x1, .i32⟩
  | 24 => ⟨S1x2, .i32⟩
  | 25 => ⟨S8x768x1, .i32⟩
  | 26 => ⟨S1x1x2, .i32⟩
  | 27 => ⟨S8x768x2, .i32⟩
  | 28 => ⟨S8x768x2, .i32⟩
  | 29 => ⟨S8x768x2, .i1⟩
  | 30 => ⟨S8x768x2, .f32⟩
  | 31 => ⟨S_, .f32⟩
  | 32 => ⟨S8x2, .f32⟩
  | 33 => ⟨S8x2x768, .f32⟩
  | 34 => ⟨S8x2x256, .f32⟩
  | 35 => ⟨S8x2x1, .f32⟩
  | 36 => ⟨S_, .f32⟩
  | 37 => ⟨S8x2x1, .f32⟩
  | 38 => ⟨S8x2x1, .f32⟩
  | 39 => ⟨S8x2x256, .f32⟩
  | 40 => ⟨S8x2x256, .f32⟩
  | 41 => ⟨S8x768x1, .i32⟩
  | 42 => ⟨S1x2, .i32⟩
  | 43 => ⟨S8x768x1, .i32⟩
  | 44 => ⟨S1x1x2, .i32⟩
  | 45 => ⟨S8x768x2, .i32⟩
  | 46 => ⟨S8x768x2, .i32⟩
  | 47 => ⟨S8x768x2, .i1⟩
  | 48 => ⟨S8x768x2, .i32⟩
  | 49 => ⟨S_, .i32⟩
  | 50 => ⟨S8x2, .i32⟩
  | 51 => ⟨S8x1, .i32⟩
  | 52 => ⟨S8, .i32⟩
  | 53 => ⟨S8x1, .i32⟩
  | 54 => ⟨S8, .i32⟩
  | 55 => ⟨S8, .i1⟩
  | 56 => ⟨S_, .i32⟩
  | 57 => ⟨S_, .i32⟩
  | 58 => ⟨S8, .i32⟩
  | 59 => ⟨S8, .i32⟩
  | 60 => ⟨S8, .i32⟩
  | 61 => ⟨S_, .i32⟩
  | 62 => ⟨S8, .i32⟩
  | 63 => ⟨S8, .i1⟩
  | 64 => ⟨S8x1x256, .f32⟩
  | 65 => ⟨S8x256, .f32⟩
  | 66 => ⟨S8x1x256, .f32⟩
  | 67 => ⟨S8x256, .f32⟩
  | 68 => ⟨S8x256, .i1⟩
  | 69 => ⟨S8x256, .f32⟩
  | 70 => ⟨S8x1x16x16, .f32⟩
  | 71 => ⟨S_, .i32⟩
  | 72 => ⟨S_, .f32⟩
  | 73 => ⟨S8x1x18x18, .f32⟩
  | 74 => ⟨S8x1x8x8, .f32⟩
  | 75 => ⟨S8x1x1x8x8, .f32⟩
  | 76 => ⟨S32x1x1x1, .f32⟩
  | 77 => ⟨S32x1, .f32⟩
  | 78 => ⟨S1x32x1x1x1, .f32⟩
  | 79 => ⟨S8x32x1x8x8, .f32⟩
  | 80 => ⟨S8x32x1x8x8, .f32⟩
  | 81 => ⟨S8x32x1x8x8, .f32⟩
  | 82 => ⟨S_, .f32⟩
  | 83 => ⟨S8x32x8x8, .f32⟩
  | 84 => ⟨S_, .f32⟩
  | 85 => ⟨S8x32x8x8, .f32⟩
  | 86 => ⟨S8x32x8x8, .f32⟩
  | 87 => ⟨S8x1x8x8, .f32⟩
  | 88 => ⟨S8x1x1x8x8, .f32⟩
  | 89 => ⟨S32x1x1x1, .f32⟩
  | 90 => ⟨S32x1, .f32⟩
  | 91 => ⟨S1x32x1x1x1, .f32⟩
  | 92 => ⟨S8x32x1x8x8, .f32⟩
  | 93 => ⟨S8x32x1x8x8, .f32⟩
  | 94 => ⟨S8x32x1x8x8, .f32⟩
  | 95 => ⟨S_, .f32⟩
  | 96 => ⟨S8x32x8x8, .f32⟩
  | 97 => ⟨S8x32x8x8, .f32⟩
  | 98 => ⟨S8x1x8x8, .f32⟩
  | 99 => ⟨S8x1x1x8x8, .f32⟩
  | 100 => ⟨S32x1x1x1, .f32⟩
  | 101 => ⟨S32x1, .f32⟩
  | 102 => ⟨S1x32x1x1x1, .f32⟩
  | 103 => ⟨S8x32x1x8x8, .f32⟩
  | 104 => ⟨S8x32x1x8x8, .f32⟩
  | 105 => ⟨S8x32x1x8x8, .f32⟩
  | 106 => ⟨S_, .f32⟩
  | 107 => ⟨S8x32x8x8, .f32⟩
  | 108 => ⟨S8x32x8x8, .f32⟩
  | 109 => ⟨S8x1x8x8, .f32⟩
  | 110 => ⟨S8x1x1x8x8, .f32⟩
  | 111 => ⟨S32x1x1x1, .f32⟩
  | 112 => ⟨S32x1, .f32⟩
  | 113 => ⟨S1x32x1x1x1, .f32⟩
  | 114 => ⟨S8x32x1x8x8, .f32⟩
  | 115 => ⟨S8x32x1x8x8, .f32⟩
  | 116 => ⟨S8x32x1x8x8, .f32⟩
  | 117 => ⟨S_, .f32⟩
  | 118 => ⟨S8x32x8x8, .f32⟩
  | 119 => ⟨S8x32x8x8, .f32⟩
  | 120 => ⟨S8x1x8x8, .f32⟩
  | 121 => ⟨S8x1x1x8x8, .f32⟩
  | 122 => ⟨S32x1x1x1, .f32⟩
  | 123 => ⟨S32x1, .f32⟩
  | 124 => ⟨S1x32x1x1x1, .f32⟩
  | 125 => ⟨S8x32x1x8x8, .f32⟩
  | 126 => ⟨S8x32x1x8x8, .f32⟩
  | 127 => ⟨S8x32x1x8x8, .f32⟩
  | _ => ⟨S8x768x32x32, .f32⟩

abbrev hbmTy0_10 (i : Nat) : BufTy := match i % 128 with
  | 0 => ⟨S_, .f32⟩
  | 1 => ⟨S8x32x8x8, .f32⟩
  | 2 => ⟨S8x32x8x8, .f32⟩
  | 3 => ⟨S8x1x8x8, .f32⟩
  | 4 => ⟨S8x1x1x8x8, .f32⟩
  | 5 => ⟨S32x1x1x1, .f32⟩
  | 6 => ⟨S32x1, .f32⟩
  | 7 => ⟨S1x32x1x1x1, .f32⟩
  | 8 => ⟨S8x32x1x8x8, .f32⟩
  | 9 => ⟨S8x32x1x8x8, .f32⟩
  | 10 => ⟨S8x32x1x8x8, .f32⟩
  | 11 => ⟨S_, .f32⟩
  | 12 => ⟨S8x32x8x8, .f32⟩
  | 13 => ⟨S8x32x8x8, .f32⟩
  | 14 => ⟨S8x1x8x8, .f32⟩
  | 15 => ⟨S8x1x1x8x8, .f32⟩
  | 16 => ⟨S32x1x1x1, .f32⟩
  | 17 => ⟨S32x1, .f32⟩
  | 18 => ⟨S1x32x1x1x1, .f32⟩
  | 19 => ⟨S8x32x1x8x8, .f32⟩
  | 20 => ⟨S8x32x1x8x8, .f32⟩
  | 21 => ⟨S8x32x1x8x8, .f32⟩
  | 22 => ⟨S_, .f32⟩
  | 23 => ⟨S8x32x8x8, .f32⟩
  | 24 => ⟨S8x32x8x8, .f32⟩
  | 25 => ⟨S8x1x8x8, .f32⟩
  | 26 => ⟨S8x1x1x8x8, .f32⟩
  | 27 => ⟨S32x1x1x1, .f32⟩
  | 28 => ⟨S32x1, .f32⟩
  | 29 => ⟨S1x32x1x1x1, .f32⟩
  | 30 => ⟨S8x32x1x8x8, .f32⟩
  | 31 => ⟨S8x32x1x8x8, .f32⟩
  | 32 => ⟨S8x32x1x8x8, .f32⟩
  | 33 => ⟨S_, .f32⟩
  | 34 => ⟨S8x32x8x8, .f32⟩
  | 35 => ⟨S8x32x8x8, .f32⟩
  | 36 => ⟨S8x1x8x8, .f32⟩
  | 37 => ⟨S8x1x1x8x8, .f32⟩
  | 38 => ⟨S32x1x1x1, .f32⟩
  | 39 => ⟨S32x1, .f32⟩
  | 40 => ⟨S1x32x1x1x1, .f32⟩
  | 41 => ⟨S8x32x1x8x8, .f32⟩
  | 42 => ⟨S8x32x1x8x8, .f32⟩
  | 43 => ⟨S8x32x1x8x8, .f32⟩
  | 44 => ⟨S_, .f32⟩
  | 45 => ⟨S8x32x8x8, .f32⟩
  | 46 => ⟨S8x32x8x8, .f32⟩
  | 47 => ⟨S8x1x8x8, .f32⟩
  | 48 => ⟨S8x1x1x8x8, .f32⟩
  | 49 => ⟨S32x1x1x1, .f32⟩
  | 50 => ⟨S32x1, .f32⟩
  | 51 => ⟨S1x32x1x1x1, .f32⟩
  | 52 => ⟨S8x32x1x8x8, .f32⟩
  | 53 => ⟨S8x32x1x8x8, .f32⟩
  | 54 => ⟨S8x32x1x8x8, .f32⟩
  | 55 => ⟨S_, .f32⟩
  | 56 => ⟨S8x32x8x8, .f32⟩
  | 57 => ⟨S8x32x8x8, .f32⟩
  | 58 => ⟨S8x1x8x8, .f32⟩
  | 59 => ⟨S8x1x1x8x8, .f32⟩
  | 60 => ⟨S32x1x1x1, .f32⟩
  | 61 => ⟨S32x1, .f32⟩
  | 62 => ⟨S1x32x1x1x1, .f32⟩
  | 63 => ⟨S8x32x1x8x8, .f32⟩
  | 64 => ⟨S8x32x1x8x8, .f32⟩
  | 65 => ⟨S8x32x1x8x8, .f32⟩
  | 66 => ⟨S_, .f32⟩
  | 67 => ⟨S8x32x8x8, .f32⟩
  | 68 => ⟨S8x32x8x8, .f32⟩
  | 69 => ⟨S8x1x8x8, .f32⟩
  | 70 => ⟨S8x1x1x8x8, .f32⟩
  | 71 => ⟨S32x1x1x1, .f32⟩
  | 72 => ⟨S32x1, .f32⟩
  | 73 => ⟨S1x32x1x1x1, .f32⟩
  | 74 => ⟨S8x32x1x8x8, .f32⟩
  | 75 => ⟨S8x32x1x8x8, .f32⟩
  | 76 => ⟨S8x32x1x8x8, .f32⟩
  | 77 => ⟨S_, .f32⟩
  | 78 => ⟨S8x32x8x8, .f32⟩
  | 79 => ⟨S8x32x8x8, .f32⟩
  | 80 => ⟨S8x1x8x8, .f32⟩
  | 81 => ⟨S8x1x1x8x8, .f32⟩
  | 82 => ⟨S32x1x1x1, .f32⟩
  | 83 => ⟨S32x1, .f32⟩
  | 84 => ⟨S1x32x1x1x1, .f32⟩
  | 85 => ⟨S8x32x1x8x8, .f32⟩
  | 86 => ⟨S8x32x1x8x8, .f32⟩
  | 87 => ⟨S8x32x1x8x8, .f32⟩
  | 88 => ⟨S_, .f32⟩
  | 89 => ⟨S8x32x8x8, .f32⟩
  | 90 => ⟨S8x32x8x8, .f32⟩
  | 91 => ⟨S8x1x8x8, .f32⟩
  | 92 => ⟨S8x1x1x8x8, .f32⟩
  | 93 => ⟨S32x1x1x1, .f32⟩
  | 94 => ⟨S32x1, .f32⟩
  | 95 => ⟨S1x32x1x1x1, .f32⟩
  | 96 => ⟨S8x32x1x8x8, .f32⟩
  | 97 => ⟨S8x32x1x8x8, .f32⟩
  | 98 => ⟨S8x32x1x8x8, .f32⟩
  | 99 => ⟨S_, .f32⟩
  | 100 => ⟨S8x32x8x8, .f32⟩
  | 101 => ⟨S8x32x8x8, .f32⟩
  | 102 => ⟨S8x1x8x8, .f32⟩
  | 103 => ⟨S8x1x1x8x8, .f32⟩
  | 104 => ⟨S32x1x1x1, .f32⟩
  | 105 => ⟨S32x1, .f32⟩
  | 106 => ⟨S1x32x1x1x1, .f32⟩
  | 107 => ⟨S8x32x1x8x8, .f32⟩
  | 108 => ⟨S8x32x1x8x8, .f32⟩
  | 109 => ⟨S8x32x1x8x8, .f32⟩
  | 110 => ⟨S_, .f32⟩
  | 111 => ⟨S8x32x8x8, .f32⟩
  | 112 => ⟨S8x32x8x8, .f32⟩
  | 113 => ⟨S8x1x8x8, .f32⟩
  | 114 => ⟨S8x1x1x8x8, .f32⟩
  | 115 => ⟨S32x1x1x1, .f32⟩
  | 116 => ⟨S32x1, .f32⟩
  | 117 => ⟨S1x32x1x1x1, .f32⟩
  | 118 => ⟨S8x32x1x8x8, .f32⟩
  | 119 => ⟨S8x32x1x8x8, .f32⟩
  | 120 => ⟨S8x32x1x8x8, .f32⟩
  | 121 => ⟨S_, .f32⟩
  | 122 => ⟨S8x32x8x8, .f32⟩
  | 123 => ⟨S8x32x8x8, .f32⟩
  | 124 => ⟨S1x32x1x1, .f32⟩
  | 125 => ⟨S8x32x8x8, .f32⟩
  | 126 => ⟨S8x32x8x8, .f32⟩
  | 127 => ⟨S_, .f32⟩
  | _ => ⟨S8x768x32x32, .f32⟩

abbrev hbmTy0_11 (i : Nat) : BufTy := match i % 128 with
  | 0 => ⟨S_, .f32⟩
  | 1 => ⟨S8x32x8x8, .f32⟩
  | 2 => ⟨S8x32x8x8, .i1⟩
  | 3 => ⟨S_, .f32⟩
  | 4 => ⟨S8x32x8x8, .f32⟩
  | 5 => ⟨S8x32x8x8, .f32⟩
  | 6 => ⟨S8x32x8x8, .f32⟩
  | 7 => ⟨S_, .i32⟩
  | 8 => ⟨S_, .f32⟩
  | 9 => ⟨S8x32x10x10, .f32⟩
  | 10 => ⟨S8x32x4x4, .f32⟩
  | 11 => ⟨S8x1x32x4x4, .f32⟩
  | 12 => ⟨S1x32x1x1, .f32⟩
  | 13 => ⟨S1x32, .f32⟩
  | 14 => ⟨S1x1x32x1x1, .f32⟩
  | 15 => ⟨S8x1x32x4x4, .f32⟩
  | 16 => ⟨S8x1x32x4x4, .f32⟩
  | 17 => ⟨S_, .f32⟩
  | 18 => ⟨S8x1x4x4, .f32⟩
  | 19 => ⟨S_, .f32⟩
  | 20 => ⟨S8x1x4x4, .f32⟩
  | 21 => ⟨S8x1x4x4, .f32⟩
  | 22 => ⟨S8x32x4x4, .f32⟩
  | 23 => ⟨S8x1x32x4x4, .f32⟩
  | 24 => ⟨S1x32x1x1, .f32⟩
  | 25 => ⟨S1x32, .f32⟩
  | 26 => ⟨S1x1x32x1x1, .f32⟩
  | 27 => ⟨S8x1x32x4x4, .f32⟩
  | 28 => ⟨S8x1x32x4x4, .f32⟩
  | 29 => ⟨S_, .f32⟩
  | 30 => ⟨S8x1x4x4, .f32⟩
  | 31 => ⟨S8x1x4x4, .f32⟩
  | 32 => ⟨S8x32x4x4, .f32⟩
  | 33 => ⟨S8x1x32x4x4, .f32⟩
  | 34 => ⟨S1x32x1x1, .f32⟩
  | 35 => ⟨S1x32, .f32⟩
  | 36 => ⟨S1x1x32x1x1, .f32⟩
  | 37 => ⟨S8x1x32x4x4, .f32⟩
  | 38 => ⟨S8x1x32x4x4, .f32⟩
  | 39 => ⟨S_, .f32⟩
  | 40 => ⟨S8x1x4x4, .f32⟩
  | 41 => ⟨S8x1x4x4, .f32⟩
  | 42 => ⟨S8x32x4x4, .f32⟩
  | 43 => ⟨S8x1x32x4x4, .f32⟩
  | 44 => ⟨S1x32x1x1, .f32⟩
  | 45 => ⟨S1x32, .f32⟩
  | 46 => ⟨S1x1x32x1x1, .f32⟩
  | 47 => ⟨S8x1x32x4x4, .f32⟩
  | 48 => ⟨S8x1x32x4x4, .f32⟩
  | 49 => ⟨S_, .f32⟩
  | 50 => ⟨S8x1x4x4, .f32⟩
  | 51 => ⟨S8x1x4x4, .f32⟩
  | 52 => ⟨S8x32x4x4, .f32⟩
  | 53 => ⟨S8x1x32x4x4, .f32⟩
  | 54 => ⟨S1x32x1x1, .f32⟩
  | 55 => ⟨S1x32, .f32⟩
  | 56 => ⟨S1x1x32x1x1, .f32⟩
  | 57 => ⟨S8x1x32x4x4, .f32⟩
  | 58 => ⟨S8x1x32x4x4, .f32⟩
  | 59 => ⟨S_, .f32⟩
  | 60 => ⟨S8x1x4x4, .f32⟩
  | 61 => ⟨S8x1x4x4, .f32⟩
  | 62 => ⟨S8x32x4x4, .f32⟩
  | 63 => ⟨S8x1x32x4x4, .f32⟩
  | 64 => ⟨S1x32x1x1, .f32⟩
  | 65 => ⟨S1x32, .f32⟩
  | 66 => ⟨S1x1x32x1x1, .f32⟩
  | 67 => ⟨S8x1x32x4x4, .f32⟩
  | 68 => ⟨S8x1x32x4x4, .f32⟩
  | 69 => ⟨S_, .f32⟩
  | 70 => ⟨S8x1x4x4, .f32⟩
  | 71 => ⟨S8x1x4x4, .f32⟩
  | 72 => ⟨S8x32x4x4, .f32⟩
  | 73 => ⟨S8x1x32x4x4, .f32⟩
  | 74 => ⟨S1x32x1x1, .f32⟩
  | 75 => ⟨S1x32, .f32⟩
  | 76 => ⟨S1x1x32x1x1, .f32⟩
  | 77 => ⟨S8x1x32x4x4, .f32⟩
  | 78 => ⟨S8x1x32x4x4, .f32⟩
  | 79 => ⟨S_, .f32⟩
  | 80 => ⟨S8x1x4x4, .f32⟩
  | 81 => ⟨S8x1x4x4, .f32⟩
  | 82 => ⟨S8x32x4x4, .f32⟩
  | 83 => ⟨S8x1x32x4x4, .f32⟩
  | 84 => ⟨S1x32x1x1, .f32⟩
  | 85 => ⟨S1x32, .f32⟩
  | 86 => ⟨S1x1x32x1x1, .f32⟩
  | 87 => ⟨S8x1x32x4x4, .f32⟩
  | 88 => ⟨S8x1x32x4x4, .f32⟩
  | 89 => ⟨S_, .f32⟩
  | 90 => ⟨S8x1x4x4, .f32⟩
  | 91 => ⟨S8x1x4x4, .f32⟩
  | 92 => ⟨S8x32x4x4, .f32⟩
  | 93 => ⟨S8x1x32x4x4, .f32⟩
  | 94 => ⟨S1x32x1x1, .f32⟩
  | 95 => ⟨S1x32, .f32⟩
  | 96 => ⟨S1x1x32x1x1, .f32⟩
  | 97 => ⟨S8x1x32x4x4, .f32⟩
  | 98 => ⟨S8x1x32x4x4, .f32⟩
  | 99 => ⟨S_, .f32⟩
  | 100 => ⟨S8x1x4x4, .f32⟩
  | 101 => ⟨S8x1x4x4, .f32⟩
  | 102 => ⟨S8x32x4x4, .f32⟩
  | 103 => ⟨S8x1x32x4x4, .f32⟩
  | 104 => ⟨S1x32x1x1, .f32⟩
  | 105 => ⟨S1x32, .f32⟩
  | 106 => ⟨S1x1x32x1x1, .f32⟩
  | 107 => ⟨S8x1x32x4x4, .f32⟩
  | 108 => ⟨S8x1x32x4x4, .f32⟩
  | 109 => ⟨S_, .f32⟩
  | 110 => ⟨S8x1x4x4, .f32⟩
  | 111 => ⟨S8x1x4x4, .f32⟩
  | 112 => ⟨S8x32x4x4, .f32⟩
  | 113 => ⟨S8x1x32x4x4, .f32⟩
  | 114 => ⟨S1x32x1x1, .f32⟩
  | 115 => ⟨S1x32, .f32⟩
  | 116 => ⟨S1x1x32x1x1, .f32⟩
  | 117 => ⟨S8x1x32x4x4, .f32⟩
  | 118 => ⟨S8x1x32x4x4, .f32⟩
  | 119 => ⟨S_, .f32⟩
  | 120 => ⟨S8x1x4x4, .f32⟩
  | 121 => ⟨S8x1x4x4, .f32⟩
  | 122 => ⟨S8x32x4x4, .f32⟩
  | 123 => ⟨S8x1x32x4x4, .f32⟩
  | 124 => ⟨S1x32x1x1, .f32⟩
  | 125 => ⟨S1x32, .f32⟩
  | 126 => ⟨S1x1x32x1x1, .f32⟩
  | 127 => ⟨S8x1x32x4x4, .f32⟩
  | _ => ⟨S8x768x32x32, .f32⟩

abbrev hbmTy0_12 (i : Nat) : BufTy := match i % 128 with
  | 0 => ⟨S8x1x32x4x4, .f32⟩
  | 1 => ⟨S_, .f32⟩
  | 2 => ⟨S8x1x4x4, .f32⟩
  | 3 => ⟨S8x1x4x4, .f32⟩
  | 4 => ⟨S8x32x4x4, .f32⟩
  | 5 => ⟨S8x1x32x4x4, .f32⟩
  | 6 => ⟨S1x32x1x1, .f32⟩
  | 7 => ⟨S1x32, .f32⟩
  | 8 => ⟨S1x1x32x1x1, .f32⟩
  | 9 => ⟨S8x1x32x4x4, .f32⟩
  | 10 => ⟨S8x1x32x4x4, .f32⟩
  | 11 => ⟨S_, .f32⟩
  | 12 => ⟨S8x1x4x4, .f32⟩
  | 13 => ⟨S8x1x4x4, .f32⟩
  | 14 => ⟨S8x32x4x4, .f32⟩
  | 15 => ⟨S8x1x32x4x4, .f32⟩
  | 16 => ⟨S1x32x1x1, .f32⟩
  | 17 => ⟨S1x32, .f32⟩
  | 18 => ⟨S1x1x32x1x1, .f32⟩
  | 19 => ⟨S8x1x32x4x4, .f32⟩
  | 20 => ⟨S8x1x32x4x4, .f32⟩
  | 21 => ⟨S_, .f32⟩
  | 22 => ⟨S8x1x4x4, .f32⟩
  | 23 => ⟨S8x1x4x4, .f32⟩
  | 24 => ⟨S8x32x4x4, .f32⟩
  | 25 => ⟨S8x1x32x4x4, .f32⟩
  | 26 => ⟨S1x32x1x1, .f32⟩
  | 27 => ⟨S1x32, .f32⟩
  | 28 => ⟨S1x1x32x1x1, .f32⟩
  | 29 => ⟨S8x1x32x4x4, .f32⟩
  | 30 => ⟨S8x1x32x4x4, .f32⟩
  | 31 => ⟨S_, .f32⟩
  | 32 => ⟨S8x1x4x4, .f32⟩
  | 33 => ⟨S8x1x4x4, .f32⟩
  | 34 => ⟨S8x32x4x4, .f32⟩
  | 35 => ⟨S8x1x32x4x4, .f32⟩
  | 36 => ⟨S1x32x1x1, .f32⟩
  | 37 => ⟨S1x32, .f32⟩
  | 38 => ⟨S1x1x32x1x1, .f32⟩
  | 39 => ⟨S8x1x32x4x4, .f32⟩
  | 40 => ⟨S8x1x32x4x4, .f32⟩
  | 41 => ⟨S_, .f32⟩
  | 42 => ⟨S8x1x4x4, .f32⟩
  | 43 => ⟨S8x1x4x4, .f32⟩
  | 44 => ⟨S1x1x1x1, .f32⟩
  | 45 => ⟨S8x1x4x4, .f32⟩
  | 46 => ⟨S8x1x4x4, .f32⟩
  | 47 => ⟨S_, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S8, .f32⟩
  | 62 => ⟨S_, .f32⟩
  | 63 => ⟨S_, .f32⟩
  | 64 => ⟨S_, .f32⟩
  | 65 => ⟨S_, .f32⟩
  | 66 => ⟨S8x768x64, .f32⟩
  | 67 => ⟨S8x2x64, .f32⟩
  | 68 => ⟨S8x768x1x64, .f32⟩
  | 69 => ⟨S8x1x2x64, .f32⟩
  | 70 => ⟨S8x768x2x64, .f32⟩
  | 71 => ⟨S8x768x2x64, .f32⟩
  | 72 => ⟨S8x768x2x64, .f32⟩
  | 73 => ⟨S8x768x2x64, .f32⟩
  | 74 => ⟨S_, .f32⟩
  | 75 => ⟨S8x768x2, .f32⟩
  | 76 => ⟨S8x768x1, .f32⟩
  | 77 => ⟨S8x768, .f32⟩
  | 78 => ⟨S8x768x1, .f32⟩
  | 79 => ⟨S8x768, .f32⟩
  | 80 => ⟨S8x768, .i1⟩
  | 81 => ⟨S_, .i32⟩
  | 82 => ⟨S_, .i32⟩
  | 83 => ⟨S768, .i32⟩
  | 84 => ⟨S768, .i32⟩
  | 85 => ⟨S8x768, .i32⟩
  | 86 => ⟨S8x768, .i32⟩
  | 87 => ⟨S8x768, .i32⟩
  | 88 => ⟨S8x768x1, .i32⟩
  | 89 => ⟨S1x2, .i32⟩
  | 90 => ⟨S8x768x1, .i32⟩
  | 91 => ⟨S1x1x2, .i32⟩
  | 92 => ⟨S8x768x2, .i32⟩
  | 93 => ⟨S8x768x2, .i32⟩
  | 94 => ⟨S8x768x2, .i1⟩
  | 95 => ⟨S8x768x2, .f32⟩
  | 96 => ⟨S_, .f32⟩
  | 97 => ⟨S8x2, .f32⟩
  | 98 => ⟨S8x2x768, .f32⟩
  | 99 => ⟨S8x2x64, .f32⟩
  | 100 => ⟨S8x2x1, .f32⟩
  | 101 => ⟨S_, .f32⟩
  | 102 => ⟨S8x2x1, .f32⟩
  | 103 => ⟨S8x2x1, .f32⟩
  | 104 => ⟨S8x2x64, .f32⟩
  | 105 => ⟨S8x2x64, .f32⟩
  | 106 => ⟨S8x768x1x64, .f32⟩
  | 107 => ⟨S8x1x2x64, .f32⟩
  | 108 => ⟨S8x768x2x64, .f32⟩
  | 109 => ⟨S8x768x2x64, .f32⟩
  | 110 => ⟨S8x768x2x64, .f32⟩
  | 111 => ⟨S8x768x2x64, .f32⟩
  | 112 => ⟨S_, .f32⟩
  | 113 => ⟨S8x768x2, .f32⟩
  | 114 => ⟨S8x768x1, .f32⟩
  | 115 => ⟨S8x768, .f32⟩
  | 116 => ⟨S8x768x1, .f32⟩
  | 117 => ⟨S8x768, .f32⟩
  | 118 => ⟨S8x768, .i1⟩
  | 119 => ⟨S_, .i32⟩
  | 120 => ⟨S_, .i32⟩
  | 121 => ⟨S768, .i32⟩
  | 122 => ⟨S768, .i32⟩
  | 123 => ⟨S8x768, .i32⟩
  | 124 => ⟨S8x768, .i32⟩
  | 125 => ⟨S8x768, .i32⟩
  | 126 => ⟨S8x768x1, .i32⟩
  | 127 => ⟨S1x2, .i32⟩
  | _ => ⟨S8x768x32x32, .f32⟩

abbrev hbmTy0_13 (i : Nat) : BufTy := match i % 128 with
  | 0 => ⟨S8x768x1, .i32⟩
  | 1 => ⟨S1x1x2, .i32⟩
  | 2 => ⟨S8x768x2, .i32⟩
  | 3 => ⟨S8x768x2, .i32⟩
  | 4 => ⟨S8x768x2, .i1⟩
  | 5 => ⟨S8x768x2, .f32⟩
  | 6 => ⟨S_, .f32⟩
  | 7 => ⟨S8x2, .f32⟩
  | 8 => ⟨S8x2x768, .f32⟩
  | 9 => ⟨S8x2x64, .f32⟩
  | 10 => ⟨S8x2x1, .f32⟩
  | 11 => ⟨S_, .f32⟩
  | 12 => ⟨S8x2x1, .f32⟩
  | 13 => ⟨S8x2x1, .f32⟩
  | 14 => ⟨S8x2x64, .f32⟩
  | 15 => ⟨S8x2x64, .f32⟩
  | 16 => ⟨S8x768x1x64, .f32⟩
  | 17 => ⟨S8x1x2x64, .f32⟩
  | 18 => ⟨S8x768x2x64, .f32⟩
  | 19 => ⟨S8x768x2x64, .f32⟩
  | 20 => ⟨S8x768x2x64, .f32⟩
  | 21 => ⟨S8x768x2x64, .f32⟩
  | 22 => ⟨S_, .f32⟩
  | 23 => ⟨S8x768x2, .f32⟩
  | 24 => ⟨S8x768x1, .f32⟩
  | 25 => ⟨S8x768, .f32⟩
  | 26 => ⟨S8x768x1, .f32⟩
  | 27 => ⟨S8x768, .f32⟩
  | 28 => ⟨S8x768, .i1⟩
  | 29 => ⟨S_, .i32⟩
  | 30 => ⟨S_, .i32⟩
  | 31 => ⟨S768, .i32⟩
  | 32 => ⟨S768, .i32⟩
  | 33 => ⟨S8x768, .i32⟩
  | 34 => ⟨S8x768, .i32⟩
  | 35 => ⟨S8x768, .i32⟩
  | 36 => ⟨S8x768x1, .i32⟩
  | 37 => ⟨S1x2, .i32⟩
  | 38 => ⟨S8x768x1, .i32⟩
  | 39 => ⟨S1x1x2, .i32⟩
  | 40 => ⟨S8x768x2, .i32⟩
  | 41 => ⟨S8x768x2, .i32⟩
  | 42 => ⟨S8x768x2, .i1⟩
  | 43 => ⟨S8x768x2, .f32⟩
  | 44 => ⟨S_, .f32⟩
  | 45 => ⟨S8x2, .f32⟩
  | 46 => ⟨S8x2x768, .f32⟩
  | 47 => ⟨S8x2x64, .f32⟩
  | 48 => ⟨S8x2x1, .f32⟩
  | 49 => ⟨S_, .f32⟩
  | 50 => ⟨S8x2x1, .f32⟩
  | 51 => ⟨S8x2x1, .f32⟩
  | 52 => ⟨S8x2x64, .f32⟩
  | 53 => ⟨S8x2x64, .f32⟩
  | 54 => ⟨S8x768x1x64, .f32⟩
  | 55 => ⟨S8x1x2x64, .f32⟩
  | 56 => ⟨S8x768x2x64, .f32⟩
  | 57 => ⟨S8x768x2x64, .f32⟩
  | 58 => ⟨S8x768x2x64, .f32⟩
  | 59 => ⟨S8x768x2x64, .f32⟩
  | 60 => ⟨S_, .f32⟩
  | 61 => ⟨S8x768x2, .f32⟩
  | 62 => ⟨S8x768x1, .f32⟩
  | 63 => ⟨S8x768, .f32⟩
  | 64 => ⟨S8x768x1, .f32⟩
  | 65 => ⟨S8x768, .f32⟩
  | 66 => ⟨S8x768, .i1⟩
  | 67 => ⟨S_, .i32⟩
  | 68 => ⟨S_, .i32⟩
  | 69 => ⟨S768, .i32⟩
  | 70 => ⟨S768, .i32⟩
  | 71 => ⟨S8x768, .i32⟩
  | 72 => ⟨S8x768, .i32⟩
  | 73 => ⟨S8x768, .i32⟩
  | 74 => ⟨S8x768x1, .i32⟩
  | 75 => ⟨S1x2, .i32⟩
  | 76 => ⟨S8x768x1, .i32⟩
  | 77 => ⟨S1x1x2, .i32⟩
  | 78 => ⟨S8x768x2, .i32⟩
  | 79 => ⟨S8x768x2, .i32⟩
  | 80 => ⟨S8x768x2, .i1⟩
  | 81 => ⟨S8x768x2, .f32⟩
  | 82 => ⟨S_, .f32⟩
  | 83 => ⟨S8x2, .f32⟩
  | 84 => ⟨S8x2x768, .f32⟩
  | 85 => ⟨S8x2x64, .f32⟩
  | 86 => ⟨S8x2x1, .f32⟩
  | 87 => ⟨S_, .f32⟩
  | 88 => ⟨S8x2x1, .f32⟩
  | 89 => ⟨S8x2x1, .f32⟩
  | 90 => ⟨S8x2x64, .f32⟩
  | 91 => ⟨S8x2x64, .f32⟩
  | 92 => ⟨S8x768x1x64, .f32⟩
  | 93 => ⟨S8x1x2x64, .f32⟩
  | 94 => ⟨S8x768x2x64, .f32⟩
  | 95 => ⟨S8x768x2x64, .f32⟩
  | 96 => ⟨S8x768x2x64, .f32⟩
  | 97 => ⟨S8x768x2x64, .f32⟩
  | 98 => ⟨S_, .f32⟩
  | 99 => ⟨S8x768x2, .f32⟩
  | 100 => ⟨S8x768x1, .f32⟩
  | 101 => ⟨S8x768, .f32⟩
  | 102 => ⟨S8x768x1, .f32⟩
  | 103 => ⟨S8x768, .f32⟩
  | 104 => ⟨S8x768, .i1⟩
  | 105 => ⟨S_, .i32⟩
  | 106 => ⟨S_, .i32⟩
  | 107 => ⟨S768, .i32⟩
  | 108 => ⟨S768, .i32⟩
  | 109 => ⟨S8x768, .i32⟩
  | 110 => ⟨S8x768, .i32⟩
  | 111 => ⟨S8x768, .i32⟩
  | 112 => ⟨S8x768x1, .i32⟩
  | 113 => ⟨S1x2, .i32⟩
  | 114 => ⟨S8x768x1, .i32⟩
  | 115 => ⟨S1x1x2, .i32⟩
  | 116 => ⟨S8x768x2, .i32⟩
  | 117 => ⟨S8x768x2, .i32⟩
  | 118 => ⟨S8x768x2, .i1⟩
  | 119 => ⟨S8x768x2, .f32⟩
  | 120 => ⟨S_, .f32⟩
  | 121 => ⟨S8x2, .f32⟩
  | 122 => ⟨S8x2x768, .f32⟩
  | 123 => ⟨S8x2x64, .f32⟩
  | 124 => ⟨S8x2x1, .f32⟩
  | 125 => ⟨S_, .f32⟩
  | 126 => ⟨S8x2x1, .f32⟩
  | 127 => ⟨S8x2x1, .f32⟩
  | _ => ⟨S8x768x32x32, .f32⟩

abbrev hbmTy0_14 (i : Nat) : BufTy := match i % 128 with
  | 0 => ⟨S8x2x64, .f32⟩
  | 1 => ⟨S8x2x64, .f32⟩
  | 2 => ⟨S8x768x1x64, .f32⟩
  | 3 => ⟨S8x1x2x64, .f32⟩
  | 4 => ⟨S8x768x2x64, .f32⟩
  | 5 => ⟨S8x768x2x64, .f32⟩
  | 6 => ⟨S8x768x2x64, .f32⟩
  | 7 => ⟨S8x768x2x64, .f32⟩
  | 8 => ⟨S_, .f32⟩
  | 9 => ⟨S8x768x2, .f32⟩
  | 10 => ⟨S8x768x1, .f32⟩
  | 11 => ⟨S8x768, .f32⟩
  | 12 => ⟨S8x768x1, .f32⟩
  | 13 => ⟨S8x768, .f32⟩
  | 14 => ⟨S8x768, .i1⟩
  | 15 => ⟨S_, .i32⟩
  | 16 => ⟨S_, .i32⟩
  | 17 => ⟨S768, .i32⟩
  | 18 => ⟨S768, .i32⟩
  | 19 => ⟨S8x768, .i32⟩
  | 20 => ⟨S8x768, .i32⟩
  | 21 => ⟨S8x768, .i32⟩
  | 22 => ⟨S8x768x1, .i32⟩
  | 23 => ⟨S1x2, .i32⟩
  | 24 => ⟨S8x768x1, .i32⟩
  | 25 => ⟨S1x1x2, .i32⟩
  | 26 => ⟨S8x768x2, .i32⟩
  | 27 => ⟨S8x768x2, .i32⟩
  | 28 => ⟨S8x768x2, .i1⟩
  | 29 => ⟨S8x768x2, .f32⟩
  | 30 => ⟨S_, .f32⟩
  | 31 => ⟨S8x2, .f32⟩
  | 32 => ⟨S8x2x768, .f32⟩
  | 33 => ⟨S8x2x64, .f32⟩
  | 34 => ⟨S8x2x1, .f32⟩
  | 35 => ⟨S_, .f32⟩
  | 36 => ⟨S8x2x1, .f32⟩
  | 37 => ⟨S8x2x1, .f32⟩
  | 38 => ⟨S8x2x64, .f32⟩
  | 39 => ⟨S8x2x64, .f32⟩
  | 40 => ⟨S8x768x1x64, .f32⟩
  | 41 => ⟨S8x1x2x64, .f32⟩
  | 42 => ⟨S8x768x2x64, .f32⟩
  | 43 => ⟨S8x768x2x64, .f32⟩
  | 44 => ⟨S8x768x2x64, .f32⟩
  | 45 => ⟨S8x768x2x64, .f32⟩
  | 46 => ⟨S_, .f32⟩
  | 47 => ⟨S8x768x2, .f32⟩
  | 48 => ⟨S8x768x1, .f32⟩
  | 49 => ⟨S8x768, .f32⟩
  | 50 => ⟨S8x768x1, .f32⟩
  | 51 => ⟨S8x768, .f32⟩
  | 52 => ⟨S8x768, .i1⟩
  | 53 => ⟨S_, .i32⟩
  | 54 => ⟨S_, .i32⟩
  | 55 => ⟨S768, .i32⟩
  | 56 => ⟨S768, .i32⟩
  | 57 => ⟨S8x768, .i32⟩
  | 58 => ⟨S8x768, .i32⟩
  | 59 => ⟨S8x768, .i32⟩
  | 60 => ⟨S8x768x1, .i32⟩
  | 61 => ⟨S1x2, .i32⟩
  | 62 => ⟨S8x768x1, .i32⟩
  | 63 => ⟨S1x1x2, .i32⟩
  | 64 => ⟨S8x768x2, .i32⟩
  | 65 => ⟨S8x768x2, .i32⟩
  | 66 => ⟨S8x768x2, .i1⟩
  | 67 => ⟨S8x768x2, .f32⟩
  | 68 => ⟨S_, .f32⟩
  | 69 => ⟨S8x2, .f32⟩
  | 70 => ⟨S8x2x768, .f32⟩
  | 71 => ⟨S8x2x64, .f32⟩
  | 72 => ⟨S8x2x1, .f32⟩
  | 73 => ⟨S_, .f32⟩
  | 74 => ⟨S8x2x1, .f32⟩
  | 75 => ⟨S8x2x1, .f32⟩
  | 76 => ⟨S8x2x64, .f32⟩
  | 77 => ⟨S8x2x64, .f32⟩
  | 78 => ⟨S8x768x1x64, .f32⟩
  | 79 => ⟨S8x1x2x64, .f32⟩
  | 80 => ⟨S8x768x2x64, .f32⟩
  | 81 => ⟨S8x768x2x64, .f32⟩
  | 82 => ⟨S8x768x2x64, .f32⟩
  | 83 => ⟨S8x768x2x64, .f32⟩
  | 84 => ⟨S_, .f32⟩
  | 85 => ⟨S8x768x2, .f32⟩
  | 86 => ⟨S8x768x1, .f32⟩
  | 87 => ⟨S8x768, .f32⟩
  | 88 => ⟨S8x768x1, .f32⟩
  | 89 => ⟨S8x768, .f32⟩
  | 90 => ⟨S8x768, .i1⟩
  | 91 => ⟨S_, .i32⟩
  | 92 => ⟨S_, .i32⟩
  | 93 => ⟨S768, .i32⟩
  | 94 => ⟨S768, .i32⟩
  | 95 => ⟨S8x768, .i32⟩
  | 96 => ⟨S8x768, .i32⟩
  | 97 => ⟨S8x768, .i32⟩
  | 98 => ⟨S8x768x1, .i32⟩
  | 99 => ⟨S1x2, .i32⟩
  | 100 => ⟨S8x768x1, .i32⟩
  | 101 => ⟨S1x1x2, .i32⟩
  | 102 => ⟨S8x768x2, .i32⟩
  | 103 => ⟨S8x768x2, .i32⟩
  | 104 => ⟨S8x768x2, .i1⟩
  | 105 => ⟨S8x768x2, .f32⟩
  | 106 => ⟨S_, .f32⟩
  | 107 => ⟨S8x2, .f32⟩
  | 108 => ⟨S8x2x768, .f32⟩
  | 109 => ⟨S8x2x64, .f32⟩
  | 110 => ⟨S8x2x1, .f32⟩
  | 111 => ⟨S_, .f32⟩
  | 112 => ⟨S8x2x1, .f32⟩
  | 113 => ⟨S8x2x1, .f32⟩
  | 114 => ⟨S8x2x64, .f32⟩
  | 115 => ⟨S8x2x64, .f32⟩
  | 116 => ⟨S8x768x1x64, .f32⟩
  | 117 => ⟨S8x1x2x64, .f32⟩
  | 118 => ⟨S8x768x2x64, .f32⟩
  | 119 => ⟨S8x768x2x64, .f32⟩
  | 120 => ⟨S8x768x2x64, .f32⟩
  | 121 => ⟨S8x768x2x64, .f32⟩
  | 122 => ⟨S_, .f32⟩
  | 123 => ⟨S8x768x2, .f32⟩
  | 124 => ⟨S8x768x1, .f32⟩
  | 125 => ⟨S8x768, .f32⟩
  | 126 => ⟨S8x768x1, .f32⟩
  | 127 => ⟨S8x768, .f32⟩
  | _ => ⟨S8x768x32x32, .f32⟩

abbrev hbmTy0_15 (i : Nat) : BufTy := match i % 128 with
  | 0 => ⟨S8x768, .i1⟩
  | 1 => ⟨S_, .i32⟩
  | 2 => ⟨S_, .i32⟩
  | 3 => ⟨S768, .i32⟩
  | 4 => ⟨S768, .i32⟩
  | 5 => ⟨S8x768, .i32⟩
  | 6 => ⟨S8x768, .i32⟩
  | 7 => ⟨S8x768, .i32⟩
  | 8 => ⟨S8x768x1, .i32⟩
  | 9 => ⟨S1x2, .i32⟩
  | 10 => ⟨S8x768x1, .i32⟩
  | 11 => ⟨S1x1x2, .i32⟩
  | 12 => ⟨S8x768x2, .i32⟩
  | 13 => ⟨S8x768x2, .i32⟩
  | 14 => ⟨S8x768x2, .i1⟩
  | 15 => ⟨S8x768x2, .f32⟩
  | 16 => ⟨S_, .f32⟩
  | 17 => ⟨S8x2, .f32⟩
  | 18 => ⟨S8x2x768, .f32⟩
  | 19 => ⟨S8x2x64, .f32⟩
  | 20 => ⟨S8x2x1, .f32⟩
  | 21 => ⟨S_, .f32⟩
  | 22 => ⟨S8x2x1, .f32⟩
  | 23 => ⟨S8x2x1, .f32⟩
  | 24 => ⟨S8x2x64, .f32⟩
  | 25 => ⟨S8x2x64, .f32⟩
  | 26 => ⟨S8x768x1x64, .f32⟩
  | 27 => ⟨S8x1x2x64, .f32⟩
  | 28 => ⟨S8x768x2x64, .f32⟩
  | 29 => ⟨S8x768x2x64, .f32⟩
  | 30 => ⟨S8x768x2x64, .f32⟩
  | 31 => ⟨S8x768x2x64, .f32⟩
  | 32 => ⟨S_, .f32⟩
  | 33 => ⟨S8x768x2, .f32⟩
  | 34 => ⟨S8x768x1, .f32⟩
  | 35 => ⟨S8x768, .f32⟩
  | 36 => ⟨S8x768x1, .f32⟩
  | 37 => ⟨S8x768, .f32⟩
  | 38 => ⟨S8x768, .i1⟩
  | 39 => ⟨S_, .i32⟩
  | 40 => ⟨S_, .i32⟩
  | 41 => ⟨S768, .i32⟩
  | 42 => ⟨S768, .i32⟩
  | 43 => ⟨S8x768, .i32⟩
  | 44 => ⟨S8x768, .i32⟩
  | 45 => ⟨S8x768, .i32⟩
  | 46 => ⟨S8x768x1, .i32⟩
  | 47 => ⟨S1x2, .i32⟩
  | 48 => ⟨S8x768x1, .i32⟩
  | 49 => ⟨S1x1x2, .i32⟩
  | 50 => ⟨S8x768x2, .i32⟩
  | 51 => ⟨S8x768x2, .i32⟩
  | 52 => ⟨S8x768x2, .i1⟩
  | 53 => ⟨S8x768x2, .f32⟩
  | 54 => ⟨S_, .f32⟩
  | 55 => ⟨S8x2, .f32⟩
  | 56 => ⟨S8x2x768, .f32⟩
  | 57 => ⟨S8x2x64, .f32⟩
  | 58 => ⟨S8x2x1, .f32⟩
  | 59 => ⟨S_, .f32⟩
  | 60 => ⟨S8x2x1, .f32⟩
  | 61 => ⟨S8x2x1, .f32⟩
  | 62 => ⟨S8x2x64, .f32⟩
  | 63 => ⟨S8x2x64, .f32⟩
  | 64 => ⟨S8x768x1, .i32⟩
  | 65 => ⟨S1x2, .i32⟩
  | 66 => ⟨S8x768x1, .i32⟩
  | 67 => ⟨S1x1x2, .i32⟩
  | 68 => ⟨S8x768x2, .i32⟩
  | 69 => ⟨S8x768x2, .i32⟩
  | 70 => ⟨S8x768x2, .i1⟩
  | 71 => ⟨S8x768x2, .i32⟩
  | 72 => ⟨S_, .i32⟩
  | 73 => ⟨S8x2, .i32⟩
  | 74 => ⟨S8x1, .i32⟩
  | 75 => ⟨S8, .i32⟩
  | 76 => ⟨S8x1, .i32⟩
  | 77 => ⟨S8, .i32⟩
  | 78 => ⟨S8, .i1⟩
  | 79 => ⟨S_, .i32⟩
  | 80 => ⟨S_, .i32⟩
  | 81 => ⟨S8, .i32⟩
  | 82 => ⟨S8, .i32⟩
  | 83 => ⟨S8, .i32⟩
  | 84 => ⟨S_, .i32⟩
  | 85 => ⟨S8, .i32⟩
  | 86 => ⟨S8, .i1⟩
  | 87 => ⟨S8x1x64, .f32⟩
  | 88 => ⟨S8x64, .f32⟩
  | 89 => ⟨S8x1x64, .f32⟩
  | 90 => ⟨S8x64, .f32⟩
  | 91 => ⟨S8x64, .i1⟩
  | 92 => ⟨S8x64, .f32⟩
  | 93 => ⟨S8x1x8x8, .f32⟩
  | 94 => ⟨S_, .i32⟩
  | 95 => ⟨S_, .f32⟩
  | 96 => ⟨S8x1x10x10, .f32⟩
  | 97 => ⟨S8x1x4x4, .f32⟩
  | 98 => ⟨S8x1x1x4x4, .f32⟩
  | 99 => ⟨S32x1x1x1, .f32⟩
  | 100 => ⟨S32x1, .f32⟩
  | 101 => ⟨S1x32x1x1x1, .f32⟩
  | 102 => ⟨S8x32x1x4x4, .f32⟩
  | 103 => ⟨S8x32x1x4x4, .f32⟩
  | 104 => ⟨S8x32x1x4x4, .f32⟩
  | 105 => ⟨S_, .f32⟩
  | 106 => ⟨S8x32x4x4, .f32⟩
  | 107 => ⟨S_, .f32⟩
  | 108 => ⟨S8x32x4x4, .f32⟩
  | 109 => ⟨S8x32x4x4, .f32⟩
  | 110 => ⟨S8x1x4x4, .f32⟩
  | 111 => ⟨S8x1x1x4x4, .f32⟩
  | 112 => ⟨S32x1x1x1, .f32⟩
  | 113 => ⟨S32x1, .f32⟩
  | 114 => ⟨S1x32x1x1x1, .f32⟩
  | 115 => ⟨S8x32x1x4x4, .f32⟩
  | 116 => ⟨S8x32x1x4x4, .f32⟩
  | 117 => ⟨S8x32x1x4x4, .f32⟩
  | 118 => ⟨S_, .f32⟩
  | 119 => ⟨S8x32x4x4, .f32⟩
  | 120 => ⟨S8x32x4x4, .f32⟩
  | 121 => ⟨S8x1x4x4, .f32⟩
  | 122 => ⟨S8x1x1x4x4, .f32⟩
  | 123 => ⟨S32x1x1x1, .f32⟩
  | 124 => ⟨S32x1, .f32⟩
  | 125 => ⟨S1x32x1x1x1, .f32⟩
  | 126 => ⟨S8x32x1x4x4, .f32⟩
  | 127 => ⟨S8x32x1x4x4, .f32⟩
  | _ => ⟨S8x768x32x32, .f32⟩

abbrev hbmTy0_16 (i : Nat) : BufTy := match i % 128 with
  | 0 => ⟨S8x32x1x4x4, .f32⟩
  | 1 => ⟨S_, .f32⟩
  | 2 => ⟨S8x32x4x4, .f32⟩
  | 3 => ⟨S8x32x4x4, .f32⟩
  | 4 => ⟨S8x1x4x4, .f32⟩
  | 5 => ⟨S8x1x1x4x4, .f32⟩
  | 6 => ⟨S32x1x1x1, .f32⟩
  | 7 => ⟨S32x1, .f32⟩
  | 8 => ⟨S1x32x1x1x1, .f32⟩
  | 9 => ⟨S8x32x1x4x4, .f32⟩
  | 10 => ⟨S8x32x1x4x4, .f32⟩
  | 11 => ⟨S8x32x1x4x4, .f32⟩
  | 12 => ⟨S_, .f32⟩
  | 13 => ⟨S8x32x4x4, .f32⟩
  | 14 => ⟨S8x32x4x4, .f32⟩
  | 15 => ⟨S8x1x4x4, .f32⟩
  | 16 => ⟨S8x1x1x4x4, .f32⟩
  | 17 => ⟨S32x1x1x1, .f32⟩
  | 18 => ⟨S32x1, .f32⟩
  | 19 => ⟨S1x32x1x1x1, .f32⟩
  | 20 => ⟨S8x32x1x4x4, .f32⟩
  | 21 => ⟨S8x32x1x4x4, .f32⟩
  | 22 => ⟨S8x32x1x4x4, .f32⟩
  | 23 => ⟨S_, .f32⟩
  | 24 => ⟨S8x32x4x4, .f32⟩
  | 25 => ⟨S8x32x4x4, .f32⟩
  | 26 => ⟨S8x1x4x4, .f32⟩
  | 27 => ⟨S8x1x1x4x4, .f32⟩
  | 28 => ⟨S32x1x1x1, .f32⟩
  | 29 => ⟨S32x1, .f32⟩
  | 30 => ⟨S1x32x1x1x1, .f32⟩
  | 31 => ⟨S8x32x1x4x4, .f32⟩
  | 32 => ⟨S8x32x1x4x4, .f32⟩
  | 33 => ⟨S8x32x1x4x4, .f32⟩
  | 34 => ⟨S_, .f32⟩
  | 35 => ⟨S8x32x4x4, .f32⟩
  | 36 => ⟨S8x32x4x4, .f32⟩
  | 37 => ⟨S8x1x4x4, .f32⟩
  | 38 => ⟨S8x1x1x4x4, .f32⟩
  | 39 => ⟨S32x1x1x1, .f32⟩
  | 40 => ⟨S32x1, .f32⟩
  | 41 => ⟨S1x32x1x1x1, .f32⟩
  | 42 => ⟨S8x32x1x4x4, .f32⟩
  | 43 => ⟨S8x32x1x4x4, .f32⟩
  | 44 => ⟨S8x32x1x4x4, .f32⟩
  | 45 => ⟨S_, .f32⟩
  | 46 => ⟨S8x32x4x4, .f32⟩
  | 47 => ⟨S8x32x4x4, .f32⟩
  | 48 => ⟨S8x1x4x4, .f32⟩
  | 49 => ⟨S8x1x1x4x4, .f32⟩
  | 50 => ⟨S32x1x1x1, .f32⟩
  | 51 => ⟨S32x1, .f32⟩
  | 52 => ⟨S1x32x1x1x1, .f32⟩
  | 53 => ⟨S8x32x1x4x4, .f32⟩
  | 54 => ⟨S8x32x1x4x4, .f32⟩
  | 55 => ⟨S8x32x1x4x4, .f32⟩
  | 56 => ⟨S_, .f32⟩
  | 57 => ⟨S8x32x4x4, .f32⟩
  | 58 => ⟨S8x32x4x4, .f32⟩
  | 59 => ⟨S8x1x4x4, .f32⟩
  | 60 => ⟨S8x1x1x4x4, .f32⟩
  | 61 => ⟨S32x1x1x1, .f32⟩
  | 62 => ⟨S32x1, .f32⟩
  | 63 => ⟨S1x32x1x1x1, .f32⟩
  | 64 => ⟨S8x32x1x4x4, .f32⟩
  | 65 => ⟨S8x32x1x4x4, .f32⟩
  | 66 => ⟨S8x32x1x4x4, .f32⟩
  | 67 => ⟨S_, .f32⟩
  | 68 => ⟨S8x32x4x4, .f32⟩
  | 69 => ⟨S8x32x4x4, .f32⟩
  | 70 => ⟨S8x1x4x4, .f32⟩
  | 71 => ⟨S8x1x1x4x4, .f32⟩
  | 72 => ⟨S32x1x1x1, .f32⟩
  | 73 => ⟨S32x1, .f32⟩
  | 74 => ⟨S1x32x1x1x1, .f32⟩
  | 75 => ⟨S8x32x1x4x4, .f32⟩
  | 76 => ⟨S8x32x1x4x4, .f32⟩
  | 77 => ⟨S8x32x1x4x4, .f32⟩
  | 78 => ⟨S_, .f32⟩
  | 79 => ⟨S8x32x4x4, .f32⟩
  | 80 => ⟨S8x32x4x4, .f32⟩
  | 81 => ⟨S8x1x4x4, .f32⟩
  | 82 => ⟨S8x1x1x4x4, .f32⟩
  | 83 => ⟨S32x1x1x1, .f32⟩
  | 84 => ⟨S32x1, .f32⟩
  | 85 => ⟨S1x32x1x1x1, .f32⟩
  | 86 => ⟨S8x32x1x4x4, .f32⟩
  | 87 => ⟨S8x32x1x4x4, .f32⟩
  | 88 => ⟨S8x32x1x4x4, .f32⟩
  | 89 => ⟨S_, .f32⟩
  | 90 => ⟨S8x32x4x4, .f32⟩
  | 91 => ⟨S8x32x4x4, .f32⟩
  | 92 => ⟨S8x1x4x4, .f32⟩
  | 93 => ⟨S8x1x1x4x4, .f32⟩
  | 94 => ⟨S32x1x1x1, .f32⟩
  | 95 => ⟨S32x1, .f32⟩
  | 96 => ⟨S1x32x1x1x1, .f32⟩
  | 97 => ⟨S8x32x1x4x4, .f32⟩
  | 98 => ⟨S8x32x1x4x4, .f32⟩
  | 99 => ⟨S8x32x1x4x4, .f32⟩
  | 100 => ⟨S_, .f32⟩
  | 101 => ⟨S8x32x4x4, .f32⟩
  | 102 => ⟨S8x32x4x4, .f32⟩
  | 103 => ⟨S8x1x4x4, .f32⟩
  | 104 => ⟨S8x1x1x4x4, .f32⟩
  | 105 => ⟨S32x1x1x1, .f32⟩
  | 106 => ⟨S32x1, .f32⟩
  | 107 => ⟨S1x32x1x1x1, .f32⟩
  | 108 => ⟨S8x32x1x4x4, .f32⟩
  | 109 => ⟨S8x32x1x4x4, .f32⟩
  | 110 => ⟨S8x32x1x4x4, .f32⟩
  | 111 => ⟨S_, .f32⟩
  | 112 => ⟨S8x32x4x4, .f32⟩
  | 113 => ⟨S8x32x4x4, .f32⟩
  | 114 => ⟨S8x1x4x4, .f32⟩
  | 115 => ⟨S8x1x1x4x4, .f32⟩
  | 116 => ⟨S32x1x1x1, .f32⟩
  | 117 => ⟨S32x1, .f32⟩
  | 118 => ⟨S1x32x1x1x1, .f32⟩
  | 119 => ⟨S8x32x1x4x4, .f32⟩
  | 120 => ⟨S8x32x1x4x4, .f32⟩
  | 121 => ⟨S8x32x1x4x4, .f32⟩
  | 122 => ⟨S_, .f32⟩
  | 123 => ⟨S8x32x4x4, .f32⟩
  | 124 => ⟨S8x32x4x4, .f32⟩
  | 125 => ⟨S8x1x4x4, .f32⟩
  | 126 => ⟨S8x1x1x4x4, .f32⟩
  | 127 => ⟨S32x1x1x1, .f32⟩
  | _ => ⟨S8x768x32x32, .f32⟩

abbrev hbmTy0_17 (i : Nat) : BufTy := match i % 128 with
  | 0 => ⟨S32x1, .f32⟩
  | 1 => ⟨S1x32x1x1x1, .f32⟩
  | 2 => ⟨S8x32x1x4x4, .f32⟩
  | 3 => ⟨S8x32x1x4x4, .f32⟩
  | 4 => ⟨S8x32x1x4x4, .f32⟩
  | 5 => ⟨S_, .f32⟩
  | 6 => ⟨S8x32x4x4, .f32⟩
  | 7 => ⟨S8x32x4x4, .f32⟩
  | 8 => ⟨S8x1x4x4, .f32⟩
  | 9 => ⟨S8x1x1x4x4, .f32⟩
  | 10 => ⟨S32x1x1x1, .f32⟩
  | 11 => ⟨S32x1, .f32⟩
  | 12 => ⟨S1x32x1x1x1, .f32⟩
  | 13 => ⟨S8x32x1x4x4, .f32⟩
  | 14 => ⟨S8x32x1x4x4, .f32⟩
  | 15 => ⟨S8x32x1x4x4, .f32⟩
  | 16 => ⟨S_, .f32⟩
  | 17 => ⟨S8x32x4x4, .f32⟩
  | 18 => ⟨S8x32x4x4, .f32⟩
  | 19 => ⟨S1x32x1x1, .f32⟩
  | 20 => ⟨S8x32x4x4, .f32⟩
  | 21 => ⟨S8x32x4x4, .f32⟩
  | 22 => ⟨S_, .f32⟩
  | 23 => ⟨S_, .f32⟩
  | 24 => ⟨S8x32x4x4, .f32⟩
  | 25 => ⟨S8x32x4x4, .i1⟩
  | 26 => ⟨S_, .f32⟩
  | 27 => ⟨S8x32x4x4, .f32⟩
  | 28 => ⟨S8x32x4x4, .f32⟩
  | 29 => ⟨S8x32x4x4, .f32⟩
  | 30 => ⟨S_, .i32⟩
  | 31 => ⟨S_, .f32⟩
  | 32 => ⟨S8x32x6x6, .f32⟩
  | 33 => ⟨S8x32x2x2, .f32⟩
  | 34 => ⟨S8x1x32x2x2, .f32⟩
  | 35 => ⟨S1x32x1x1, .f32⟩
  | 36 => ⟨S1x32, .f32⟩
  | 37 => ⟨S1x1x32x1x1, .f32⟩
  | 38 => ⟨S8x1x32x2x2, .f32⟩
  | 39 => ⟨S8x1x32x2x2, .f32⟩
  | 40 => ⟨S_, .f32⟩
  | 41 => ⟨S8x1x2x2, .f32⟩
  | 42 => ⟨S_, .f32⟩
  | 43 => ⟨S8x1x2x2, .f32⟩
  | 44 => ⟨S8x1x2x2, .f32⟩
  | 45 => ⟨S8x32x2x2, .f32⟩
  | 46 => ⟨S8x1x32x2x2, .f32⟩
  | 47 => ⟨S1x32x1x1, .f32⟩
  | 48 => ⟨S1x32, .f32⟩
  | 49 => ⟨S1x1x32x1x1, .f32⟩
  | 50 => ⟨S8x1x32x2x2, .f32⟩
  | 51 => ⟨S8x1x32x2x2, .f32⟩
  | 52 => ⟨S_, .f32⟩
  | 53 => ⟨S8x1x2x2, .f32⟩
  | 54 => ⟨S8x1x2x2, .f32⟩
  | 55 => ⟨S8x32x2x2, .f32⟩
  | 56 => ⟨S8x1x32x2x2, .f32⟩
  | 57 => ⟨S1x32x1x1, .f32⟩
  | 58 => ⟨S1x32, .f32⟩
  | 59 => ⟨S1x1x32x1x1, .f32⟩
  | 60 => ⟨S8x1x32x2x2, .f32⟩
  | 61 => ⟨S8x1x32x2x2, .f32⟩
  | 62 => ⟨S_, .f32⟩
  | 63 => ⟨S8x1x2x2, .f32⟩
  | 64 => ⟨S8x1x2x2, .f32⟩
  | 65 => ⟨S8x32x2x2, .f32⟩
  | 66 => ⟨S8x1x32x2x2, .f32⟩
  | 67 => ⟨S1x32x1x1, .f32⟩
  | 68 => ⟨S1x32, .f32⟩
  | 69 => ⟨S1x1x32x1x1, .f32⟩
  | 70 => ⟨S8x1x32x2x2, .f32⟩
  | 71 => ⟨S8x1x32x2x2, .f32⟩
  | 72 => ⟨S_, .f32⟩
  | 73 => ⟨S8x1x2x2, .f32⟩
  | 74 => ⟨S8x1x2x2, .f32⟩
  | 75 => ⟨S8x32x2x2, .f32⟩
  | 76 => ⟨S8x1x32x2x2, .f32⟩
  | 77 => ⟨S1x32x1x1, .f32⟩
  | 78 => ⟨S1x32, .f32⟩
  | 79 => ⟨S1x1x32x1x1, .f32⟩
  | 80 => ⟨S8x1x32x2x2, .f32⟩
  | 81 => ⟨S8x1x32x2x2, .f32⟩
  | 82 => ⟨S_, .f32⟩
  | 83 => ⟨S8x1x2x2, .f32⟩
  | 84 => ⟨S8x1x2x2, .f32⟩
  | 85 => ⟨S8x32x2x2, .f32⟩
  | 86 => ⟨S8x1x32x2x2, .f32⟩
  | 87 => ⟨S1x32x1x1, .f32⟩
  | 88 => ⟨S1x32, .f32⟩
  | 89 => ⟨S1x1x32x1x1, .f32⟩
  | 90 => ⟨S8x1x32x2x2, .f32⟩
  | 91 => ⟨S8x1x32x2x2, .f32⟩
  | 92 => ⟨S_, .f32⟩
  | 93 => ⟨S8x1x2x2, .f32⟩
  | 94 => ⟨S8x1x2x2, .f32⟩
  | 95 => ⟨S8x32x2x2, .f32⟩
  | 96 => ⟨S8x1x32x2x2, .f32⟩
  | 97 => ⟨S1x32x1x1, .f32⟩
  | 98 => ⟨S1x32, .f32⟩
  | 99 => ⟨S1x1x32x1x1, .f32⟩
  | 100 => ⟨S8x1x32x2x2, .f32⟩
  | 101 => ⟨S8x1x32x2x2, .f32⟩
  | 102 => ⟨S_, .f32⟩
  | 103 => ⟨S8x1x2x2, .f32⟩
  | 104 => ⟨S8x1x2x2, .f32⟩
  | 105 => ⟨S8x32x2x2, .f32⟩
  | 106 => ⟨S8x1x32x2x2, .f32⟩
  | 107 => ⟨S1x32x1x1, .f32⟩
  | 108 => ⟨S1x32, .f32⟩
  | 109 => ⟨S1x1x32x1x1, .f32⟩
  | 110 => ⟨S8x1x32x2x2, .f32⟩
  | 111 => ⟨S8x1x32x2x2, .f32⟩
  | 112 => ⟨S_, .f32⟩
  | 113 => ⟨S8x1x2x2, .f32⟩
  | 114 => ⟨S8x1x2x2, .f32⟩
  | 115 => ⟨S8x32x2x2, .f32⟩
  | 116 => ⟨S8x1x32x2x2, .f32⟩
  | 117 => ⟨S1x32x1x1, .f32⟩
  | 118 => ⟨S1x32, .f32⟩
  | 119 => ⟨S1x1x32x1x1, .f32⟩
  | 120 => ⟨S8x1x32x2x2, .f32⟩
  | 121 => ⟨S8x1x32x2x2, .f32⟩
  | 122 => ⟨S_, .f32⟩
  | 123 => ⟨S8x1x2x2, .f32⟩
  | 124 => ⟨S8x1x2x2, .f32⟩
  | 125 => ⟨S8x32x2x2, .f32⟩
  | 126 => ⟨S8x1x32x2x2, .f32⟩
  | 127 => ⟨S1x32x1x1, .f32⟩
  | _ => ⟨S8x768x32x32, .f32⟩

abbrev hbmTy0_18 (i : Nat) : BufTy := match i % 128 with
  | 0 => ⟨S1x32, .f32⟩
  | 1 => ⟨S1x1x32x1x1, .f32⟩
  | 2 => ⟨S8x1x32x2x2, .f32⟩
  | 3 => ⟨S8x1x32x2x2, .f32⟩
  | 4 => ⟨S_, .f32⟩
  | 5 => ⟨S8x1x2x2, .f32⟩
  | 6 => ⟨S8x1x2x2, .f32⟩
  | 7 => ⟨S8x32x2x2, .f32⟩
  | 8 => ⟨S8x1x32x2x2, .f32⟩
  | 9 => ⟨S1x32x1x1, .f32⟩
  | 10 => ⟨S1x32, .f32⟩
  | 11 => ⟨S1x1x32x1x1, .f32⟩
  | 12 => ⟨S8x1x32x2x2, .f32⟩
  | 13 => ⟨S8x1x32x2x2, .f32⟩
  | 14 => ⟨S_, .f32⟩
  | 15 => ⟨S8x1x2x2, .f32⟩
  | 16 => ⟨S8x1x2x2, .f32⟩
  | 17 => ⟨S8x32x2x2, .f32⟩
  | 18 => ⟨S8x1x32x2x2, .f32⟩
  | 19 => ⟨S1x32x1x1, .f32⟩
  | 20 => ⟨S1x32, .f32⟩
  | 21 => ⟨S1x1x32x1x1, .f32⟩
  | 22 => ⟨S8x1x32x2x2, .f32⟩
  | 23 => ⟨S8x1x32x2x2, .f32⟩
  | 24 => ⟨S_, .f32⟩
  | 25 => ⟨S8x1x2x2, .f32⟩
  | 26 => ⟨S8x1x2x2, .f32⟩
  | 27 => ⟨S8x32x2x2, .f32⟩
  | 28 => ⟨S8x1x32x2x2, .f32⟩
  | 29 => ⟨S1x32x1x1, .f32⟩
  | 30 => ⟨S1x32, .f32⟩
  | 31 => ⟨S1x1x32x1x1, .f32⟩
  | 32 => ⟨S8x1x32x2x2, .f32⟩
  | 33 => ⟨S8x1x32x2x2, .f32⟩
  | 34 => ⟨S_, .f32⟩
  | 35 => ⟨S8x1x2x2, .f32⟩
  | 36 => ⟨S8x1x2x2, .f32⟩
  | 37 => ⟨S8x32x2x2, .f32⟩
  | 38 => ⟨S8x1x32x2x2, .f32⟩
  | 39 => ⟨S1x32x1x1, .f32⟩
  | 40 => ⟨S1x32, .f32⟩
  | 41 => ⟨S1x1x32x1x1, .f32⟩
  | 42 => ⟨S8x1x32x2x2, .f32⟩
  | 43 => ⟨S8x1x32x2x2, .f32⟩
  | 44 => ⟨S_, .f32⟩
  | 45 => ⟨S8x1x2x2, .f32⟩
  | 46 => ⟨S8x1x2x2, .f32⟩
  | 47 => ⟨S8x32x2x2, .f32⟩
  | 48 => ⟨S8x1x32x2x2, .f32⟩
  | 49 => ⟨S1x32x1x1, .f32⟩
  | 50 => ⟨S1x32, .f32⟩
  | 51 => ⟨S1x1x32x1x1, .f32⟩
  | 52 => ⟨S8x1x32x2x2, .f32⟩
  | 53 => ⟨S8x1x32x2x2, .f32⟩
  | 54 => ⟨S_, .f32⟩
  | 55 => ⟨S8x1x2x2, .f32⟩
  | 56 => ⟨S8x1x2x2, .f32⟩
  | 57 => ⟨S8x32x2x2, .f32⟩
  | 58 => ⟨S8x1x32x2x2, .f32⟩
  | 59 => ⟨S1x32x1x1, .f32⟩
  | 60 => ⟨S1x32, .f32⟩
  | 61 => ⟨S1x1x32x1x1, .f32⟩
  | 62 => ⟨S8x1x32x2x2, .f32⟩
  | 63 => ⟨S8x1x32x2x2, .f32⟩
  | 64 => ⟨S_, .f32⟩
  | 65 => ⟨S8x1x2x2, .f32⟩
  | 66 => ⟨S8x1x2x2, .f32⟩
  | 67 => ⟨S1x1x1x1, .f32⟩
  | 68 => ⟨S8x1x2x2, .f32⟩
  | 69 => ⟨S8x1x2x2, .f32⟩
  | 70 => ⟨S_, .f32⟩
  | 71 => ⟨S8, .f32⟩
  | 72 => ⟨S_, .f32⟩
  | 73 => ⟨S8, .f32⟩
  | 74 => ⟨S8, .f32⟩
  | 75 => ⟨S_, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S_, .f32⟩
  | 86 => ⟨S_, .f32⟩
  | 87 => ⟨S_, .f32⟩
  | 88 => ⟨S_, .f32⟩
  | _ => ⟨S8x768x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | _ => ⟨S8x768x32x32, .f32⟩

abbrev bufTy : (tb : Table) → Fin (tcTables nBuf tb) → BufTy
  | .hbm, ⟨i, _⟩ => hbmTy i
  | _, _ => ⟨S8x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_c_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_v15 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_v16 : Ref sig .tc := ⟨.hbm, 49, rfl⟩
abbrev main_cst_1 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_2 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_3 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_4 : Ref sig .tc := ⟨.hbm, 73, rfl⟩
abbrev main_c_5 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_v37 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_v38 : Ref sig .tc := ⟨.hbm, 87, rfl⟩
abbrev main_cst_6 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_7 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_8 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_c_9 : Ref sig .tc := ⟨.hbm, 111, rfl⟩
abbrev main_c_10 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_v59 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_v5 : Ref sig .tc := ⟨.hbm, 123, rfl⟩
abbrev main_call5_v6 : Ref sig .tc := ⟨.hbm, 124, rfl⟩
abbrev main_v60 : Ref sig .tc := ⟨.hbm, 125, rfl⟩
abbrev main_cst_11 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_cst_12 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_cst_13 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_c_14 : Ref sig .tc := ⟨.hbm, 149, rfl⟩
abbrev main_c_15 : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_call6_v3 : Ref sig .tc := ⟨.hbm, 154, rfl⟩
abbrev main_v81 : Ref sig .tc := ⟨.hbm, 155, rfl⟩
abbrev main_call7_v0 : Ref sig .tc := ⟨.hbm, 156, rfl⟩
abbrev main_call7_v1 : Ref sig .tc := ⟨.hbm, 157, rfl⟩
abbrev main_call7_v2 : Ref sig .tc := ⟨.hbm, 158, rfl⟩
abbrev main_call7_v3 : Ref sig .tc := ⟨.hbm, 159, rfl⟩
abbrev main_call7_v4 : Ref sig .tc := ⟨.hbm, 160, rfl⟩
abbrev main_call7_v5 : Ref sig .tc := ⟨.hbm, 161, rfl⟩
abbrev main_call7_v6 : Ref sig .tc := ⟨.hbm, 162, rfl⟩
abbrev main_v82 : Ref sig .tc := ⟨.hbm, 163, rfl⟩
abbrev main_cst_16 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_cst_17 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_cst_18 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_c_19 : Ref sig .tc := ⟨.hbm, 187, rfl⟩
abbrev main_c_20 : Ref sig .tc := ⟨.hbm, 188, rfl⟩
abbrev main_call8_v0 : Ref sig .tc := ⟨.hbm, 189, rfl⟩
abbrev main_call8_v1 : Ref sig .tc := ⟨.hbm, 190, rfl⟩
abbrev main_call8_v2 : Ref sig .tc := ⟨.hbm, 191, rfl⟩
abbrev main_call8_v3 : Ref sig .tc := ⟨.hbm, 192, rfl⟩
abbrev main_v103 : Ref sig .tc := ⟨.hbm, 193, rfl⟩
abbrev main_call9_v0 : Ref sig .tc := ⟨.hbm, 194, rfl⟩
abbrev main_call9_v1 : Ref sig .tc := ⟨.hbm, 195, rfl⟩
abbrev main_call9_v2 : Ref sig .tc := ⟨.hbm, 196, rfl⟩
abbrev main_call9_v3 : Ref sig .tc := ⟨.hbm, 197, rfl⟩
abbrev main_call9_v4 : Ref sig .tc := ⟨.hbm, 198, rfl⟩
abbrev main_call9_v5 : Ref sig .tc := ⟨.hbm, 199, rfl⟩
abbrev main_call9_v6 : Ref sig .tc := ⟨.hbm, 200, rfl⟩
abbrev main_v104 : Ref sig .tc := ⟨.hbm, 201, rfl⟩
abbrev main_cst_21 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_cst_22 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_cst_23 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_c_24 : Ref sig .tc := ⟨.hbm, 225, rfl⟩
abbrev main_c_25 : Ref sig .tc := ⟨.hbm, 226, rfl⟩
abbrev main_call10_v0 : Ref sig .tc := ⟨.hbm, 227, rfl⟩
abbrev main_call10_v1 : Ref sig .tc := ⟨.hbm, 228, rfl⟩
abbrev main_call10_v2 : Ref sig .tc := ⟨.hbm, 229, rfl⟩
abbrev main_call10_v3 : Ref sig .tc := ⟨.hbm, 230, rfl⟩
abbrev main_v125 : Ref sig .tc := ⟨.hbm, 231, rfl⟩
abbrev main_call11_v0 : Ref sig .tc := ⟨.hbm, 232, rfl⟩
abbrev main_call11_v1 : Ref sig .tc := ⟨.hbm, 233, rfl⟩
abbrev main_call11_v2 : Ref sig .tc := ⟨.hbm, 234, rfl⟩
abbrev main_call11_v3 : Ref sig .tc := ⟨.hbm, 235, rfl⟩
abbrev main_call11_v4 : Ref sig .tc := ⟨.hbm, 236, rfl⟩
abbrev main_call11_v5 : Ref sig .tc := ⟨.hbm, 237, rfl⟩
abbrev main_call11_v6 : Ref sig .tc := ⟨.hbm, 238, rfl⟩
abbrev main_v126 : Ref sig .tc := ⟨.hbm, 239, rfl⟩
abbrev main_cst_26 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_cst_27 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_cst_28 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_c_29 : Ref sig .tc := ⟨.hbm, 263, rfl⟩
abbrev main_c_30 : Ref sig .tc := ⟨.hbm, 264, rfl⟩
abbrev main_call12_v0 : Ref sig .tc := ⟨.hbm, 265, rfl⟩
abbrev main_call12_v1 : Ref sig .tc := ⟨.hbm, 266, rfl⟩
abbrev main_call12_v2 : Ref sig .tc := ⟨.hbm, 267, rfl⟩
abbrev main_call12_v3 : Ref sig .tc := ⟨.hbm, 268, rfl⟩
abbrev main_v147 : Ref sig .tc := ⟨.hbm, 269, rfl⟩
abbrev main_call13_v0 : Ref sig .tc := ⟨.hbm, 270, rfl⟩
abbrev main_call13_v1 : Ref sig .tc := ⟨.hbm, 271, rfl⟩
abbrev main_call13_v2 : Ref sig .tc := ⟨.hbm, 272, rfl⟩
abbrev main_call13_v3 : Ref sig .tc := ⟨.hbm, 273, rfl⟩
abbrev main_call13_v4 : Ref sig .tc := ⟨.hbm, 274, rfl⟩
abbrev main_call13_v5 : Ref sig .tc := ⟨.hbm, 275, rfl⟩
abbrev main_call13_v6 : Ref sig .tc := ⟨.hbm, 276, rfl⟩
abbrev main_v148 : Ref sig .tc := ⟨.hbm, 277, rfl⟩
abbrev main_cst_31 : Ref sig .tc := ⟨.hbm, 278, rfl⟩
abbrev main_v149 : Ref sig .tc := ⟨.hbm, 279, rfl⟩
abbrev main_v150 : Ref sig .tc := ⟨.hbm, 280, rfl⟩
abbrev main_v151 : Ref sig .tc := ⟨.hbm, 281, rfl⟩
abbrev main_v152 : Ref sig .tc := ⟨.hbm, 282, rfl⟩
abbrev main_cst_32 : Ref sig .tc := ⟨.hbm, 283, rfl⟩
abbrev main_v153 : Ref sig .tc := ⟨.hbm, 284, rfl⟩
abbrev main_v154 : Ref sig .tc := ⟨.hbm, 285, rfl⟩
abbrev main_v155 : Ref sig .tc := ⟨.hbm, 286, rfl⟩
abbrev main_v156 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_cst_33 : Ref sig .tc := ⟨.hbm, 294, rfl⟩
abbrev main_v163 : Ref sig .tc := ⟨.hbm, 295, rfl⟩
abbrev main_v164 : Ref sig .tc := ⟨.hbm, 296, rfl⟩
abbrev main_v165 : Ref sig .tc := ⟨.hbm, 297, rfl⟩
abbrev main_v166 : Ref sig .tc := ⟨.hbm, 298, rfl⟩
abbrev main_v167 : Ref sig .tc := ⟨.hbm, 299, rfl⟩
abbrev main_v168 : Ref sig .tc := ⟨.hbm, 300, rfl⟩
abbrev main_c_34 : Ref sig .tc := ⟨.hbm, 301, rfl⟩
abbrev main_c_35 : Ref sig .tc := ⟨.hbm, 302, rfl⟩
abbrev main_call14_v0 : Ref sig .tc := ⟨.hbm, 303, rfl⟩
abbrev main_call14_v1 : Ref sig .tc := ⟨.hbm, 304, rfl⟩
abbrev main_call14_v2 : Ref sig .tc := ⟨.hbm, 305, rfl⟩
abbrev main_call14_v3 : Ref sig .tc := ⟨.hbm, 306, rfl⟩
abbrev main_v169 : Ref sig .tc := ⟨.hbm, 307, rfl⟩
abbrev main_call15_v0 : Ref sig .tc := ⟨.hbm, 308, rfl⟩
abbrev main_call15_v1 : Ref sig .tc := ⟨.hbm, 309, rfl⟩
abbrev main_call15_v2 : Ref sig .tc := ⟨.hbm, 310, rfl⟩
abbrev main_call15_v3 : Ref sig .tc := ⟨.hbm, 311, rfl⟩
abbrev main_call15_v4 : Ref sig .tc := ⟨.hbm, 312, rfl⟩
abbrev main_call15_v5 : Ref sig .tc := ⟨.hbm, 313, rfl⟩
abbrev main_call15_v6 : Ref sig .tc := ⟨.hbm, 314, rfl⟩
abbrev main_v170 : Ref sig .tc := ⟨.hbm, 315, rfl⟩
abbrev main_cst_36 : Ref sig .tc := ⟨.hbm, 316, rfl⟩
abbrev main_v171 : Ref sig .tc := ⟨.hbm, 317, rfl⟩
abbrev main_v172 : Ref sig .tc := ⟨.hbm, 318, rfl⟩
abbrev main_v173 : Ref sig .tc := ⟨.hbm, 319, rfl⟩
abbrev main_v174 : Ref sig .tc := ⟨.hbm, 320, rfl⟩
abbrev main_cst_37 : Ref sig .tc := ⟨.hbm, 321, rfl⟩
abbrev main_v175 : Ref sig .tc := ⟨.hbm, 322, rfl⟩
abbrev main_v176 : Ref sig .tc := ⟨.hbm, 323, rfl⟩
abbrev main_v177 : Ref sig .tc := ⟨.hbm, 324, rfl⟩
abbrev main_v178 : Ref sig .tc := ⟨.hbm, 325, rfl⟩
abbrev main_v179 : Ref sig .tc := ⟨.hbm, 326, rfl⟩
abbrev main_v180 : Ref sig .tc := ⟨.hbm, 327, rfl⟩
abbrev main_v181 : Ref sig .tc := ⟨.hbm, 328, rfl⟩
abbrev main_v182 : Ref sig .tc := ⟨.hbm, 329, rfl⟩
abbrev main_v183 : Ref sig .tc := ⟨.hbm, 330, rfl⟩
abbrev main_v184 : Ref sig .tc := ⟨.hbm, 331, rfl⟩
abbrev main_cst_38 : Ref sig .tc := ⟨.hbm, 332, rfl⟩
abbrev main_v185 : Ref sig .tc := ⟨.hbm, 333, rfl⟩
abbrev main_v186 : Ref sig .tc := ⟨.hbm, 334, rfl⟩
abbrev main_v187 : Ref sig .tc := ⟨.hbm, 335, rfl⟩
abbrev main_v188 : Ref sig .tc := ⟨.hbm, 336, rfl⟩
abbrev main_v189 : Ref sig .tc := ⟨.hbm, 337, rfl⟩
abbrev main_v190 : Ref sig .tc := ⟨.hbm, 338, rfl⟩
abbrev main_c_39 : Ref sig .tc := ⟨.hbm, 339, rfl⟩
abbrev main_c_40 : Ref sig .tc := ⟨.hbm, 340, rfl⟩
abbrev main_call16_v0 : Ref sig .tc := ⟨.hbm, 341, rfl⟩
abbrev main_call16_v1 : Ref sig .tc := ⟨.hbm, 342, rfl⟩
abbrev main_call16_v2 : Ref sig .tc := ⟨.hbm, 343, rfl⟩
abbrev main_call16_v3 : Ref sig .tc := ⟨.hbm, 344, rfl⟩
abbrev main_v191 : Ref sig .tc := ⟨.hbm, 345, rfl⟩
abbrev main_call17_v0 : Ref sig .tc := ⟨.hbm, 346, rfl⟩
abbrev main_call17_v1 : Ref sig .tc := ⟨.hbm, 347, rfl⟩
abbrev main_call17_v2 : Ref sig .tc := ⟨.hbm, 348, rfl⟩
abbrev main_call17_v3 : Ref sig .tc := ⟨.hbm, 349, rfl⟩
abbrev main_call17_v4 : Ref sig .tc := ⟨.hbm, 350, rfl⟩
abbrev main_call17_v5 : Ref sig .tc := ⟨.hbm, 351, rfl⟩
abbrev main_call17_v6 : Ref sig .tc := ⟨.hbm, 352, rfl⟩
abbrev main_v192 : Ref sig .tc := ⟨.hbm, 353, rfl⟩
abbrev main_cst_41 : Ref sig .tc := ⟨.hbm, 354, rfl⟩
abbrev main_v193 : Ref sig .tc := ⟨.hbm, 355, rfl⟩
abbrev main_v194 : Ref sig .tc := ⟨.hbm, 356, rfl⟩
abbrev main_v195 : Ref sig .tc := ⟨.hbm, 357, rfl⟩
abbrev main_v196 : Ref sig .tc := ⟨.hbm, 358, rfl⟩
abbrev main_cst_42 : Ref sig .tc := ⟨.hbm, 359, rfl⟩
abbrev main_v197 : Ref sig .tc := ⟨.hbm, 360, rfl⟩
abbrev main_v198 : Ref sig .tc := ⟨.hbm, 361, rfl⟩
abbrev main_v199 : Ref sig .tc := ⟨.hbm, 362, rfl⟩
abbrev main_v200 : Ref sig .tc := ⟨.hbm, 363, rfl⟩
abbrev main_v201 : Ref sig .tc := ⟨.hbm, 364, rfl⟩
abbrev main_v202 : Ref sig .tc := ⟨.hbm, 365, rfl⟩
abbrev main_v203 : Ref sig .tc := ⟨.hbm, 366, rfl⟩
abbrev main_v204 : Ref sig .tc := ⟨.hbm, 367, rfl⟩
abbrev main_v205 : Ref sig .tc := ⟨.hbm, 368, rfl⟩
abbrev main_v206 : Ref sig .tc := ⟨.hbm, 369, rfl⟩
abbrev main_cst_43 : Ref sig .tc := ⟨.hbm, 370, rfl⟩
abbrev main_v207 : Ref sig .tc := ⟨.hbm, 371, rfl⟩
abbrev main_v208 : Ref sig .tc := ⟨.hbm, 372, rfl⟩
abbrev main_v209 : Ref sig .tc := ⟨.hbm, 373, rfl⟩
abbrev main_v210 : Ref sig .tc := ⟨.hbm, 374, rfl⟩
abbrev main_v211 : Ref sig .tc := ⟨.hbm, 375, rfl⟩
abbrev main_v212 : Ref sig .tc := ⟨.hbm, 376, rfl⟩
abbrev main_c_44 : Ref sig .tc := ⟨.hbm, 377, rfl⟩
abbrev main_c_45 : Ref sig .tc := ⟨.hbm, 378, rfl⟩
abbrev main_call18_v0 : Ref sig .tc := ⟨.hbm, 379, rfl⟩
abbrev main_call18_v1 : Ref sig .tc := ⟨.hbm, 380, rfl⟩
abbrev main_call18_v2 : Ref sig .tc := ⟨.hbm, 381, rfl⟩
abbrev main_call18_v3 : Ref sig .tc := ⟨.hbm, 382, rfl⟩
abbrev main_v213 : Ref sig .tc := ⟨.hbm, 383, rfl⟩
abbrev main_call19_v0 : Ref sig .tc := ⟨.hbm, 384, rfl⟩
abbrev main_call19_v1 : Ref sig .tc := ⟨.hbm, 385, rfl⟩
abbrev main_call19_v2 : Ref sig .tc := ⟨.hbm, 386, rfl⟩
abbrev main_call19_v3 : Ref sig .tc := ⟨.hbm, 387, rfl⟩
abbrev main_call19_v4 : Ref sig .tc := ⟨.hbm, 388, rfl⟩
abbrev main_call19_v5 : Ref sig .tc := ⟨.hbm, 389, rfl⟩
abbrev main_call19_v6 : Ref sig .tc := ⟨.hbm, 390, rfl⟩
abbrev main_v214 : Ref sig .tc := ⟨.hbm, 391, rfl⟩
abbrev main_cst_46 : Ref sig .tc := ⟨.hbm, 392, rfl⟩
abbrev main_v215 : Ref sig .tc := ⟨.hbm, 393, rfl⟩
abbrev main_v216 : Ref sig .tc := ⟨.hbm, 394, rfl⟩
abbrev main_v217 : Ref sig .tc := ⟨.hbm, 395, rfl⟩
abbrev main_v218 : Ref sig .tc := ⟨.hbm, 396, rfl⟩
abbrev main_cst_47 : Ref sig .tc := ⟨.hbm, 397, rfl⟩
abbrev main_v219 : Ref sig .tc := ⟨.hbm, 398, rfl⟩
abbrev main_v220 : Ref sig .tc := ⟨.hbm, 399, rfl⟩
abbrev main_v221 : Ref sig .tc := ⟨.hbm, 400, rfl⟩
abbrev main_v222 : Ref sig .tc := ⟨.hbm, 401, rfl⟩
abbrev main_call20_v0 : Ref sig .tc := ⟨.hbm, 402, rfl⟩
abbrev main_call20_v1 : Ref sig .tc := ⟨.hbm, 403, rfl⟩
abbrev main_call20_v2 : Ref sig .tc := ⟨.hbm, 404, rfl⟩
abbrev main_call20_v3 : Ref sig .tc := ⟨.hbm, 405, rfl⟩
abbrev main_call20_v4 : Ref sig .tc := ⟨.hbm, 406, rfl⟩
abbrev main_call20_v5 : Ref sig .tc := ⟨.hbm, 407, rfl⟩
abbrev main_call20_v6 : Ref sig .tc := ⟨.hbm, 408, rfl⟩
abbrev main_v223 : Ref sig .tc := ⟨.hbm, 409, rfl⟩
abbrev main_c_48 : Ref sig .tc := ⟨.hbm, 410, rfl⟩
abbrev main_v224 : Ref sig .tc := ⟨.hbm, 411, rfl⟩
abbrev main_v225 : Ref sig .tc := ⟨.hbm, 412, rfl⟩
abbrev main_v226 : Ref sig .tc := ⟨.hbm, 413, rfl⟩
abbrev main_v227 : Ref sig .tc := ⟨.hbm, 414, rfl⟩
abbrev main_v228 : Ref sig .tc := ⟨.hbm, 415, rfl⟩
abbrev main_v229 : Ref sig .tc := ⟨.hbm, 416, rfl⟩
abbrev main_c_49 : Ref sig .tc := ⟨.hbm, 417, rfl⟩
abbrev main_c_50 : Ref sig .tc := ⟨.hbm, 418, rfl⟩
abbrev main_call21_v0 : Ref sig .tc := ⟨.hbm, 419, rfl⟩
abbrev main_call21_v1 : Ref sig .tc := ⟨.hbm, 420, rfl⟩
abbrev main_v230 : Ref sig .tc := ⟨.hbm, 421, rfl⟩
abbrev main_c_51 : Ref sig .tc := ⟨.hbm, 422, rfl⟩
abbrev main_v231 : Ref sig .tc := ⟨.hbm, 423, rfl⟩
abbrev main_v232 : Ref sig .tc := ⟨.hbm, 424, rfl⟩
abbrev main_v233 : Ref sig .tc := ⟨.hbm, 425, rfl⟩
abbrev main_v234 : Ref sig .tc := ⟨.hbm, 426, rfl⟩
abbrev main_v235 : Ref sig .tc := ⟨.hbm, 427, rfl⟩
abbrev main_v236 : Ref sig .tc := ⟨.hbm, 428, rfl⟩
abbrev main_call22_v0 : Ref sig .tc := ⟨.hbm, 429, rfl⟩
abbrev main_v237 : Ref sig .tc := ⟨.hbm, 430, rfl⟩
abbrev main_v238 : Ref sig .tc := ⟨.hbm, 431, rfl⟩
abbrev main_c_52 : Ref sig .tc := ⟨.hbm, 432, rfl⟩
abbrev main_call23_v0 : Ref sig .tc := ⟨.hbm, 433, rfl⟩
abbrev main_v239 : Ref sig .tc := ⟨.hbm, 434, rfl⟩
abbrev main_v240 : Ref sig .tc := ⟨.hbm, 435, rfl⟩
abbrev main_v241 : Ref sig .tc := ⟨.hbm, 436, rfl⟩
abbrev main_v242 : Ref sig .tc := ⟨.hbm, 437, rfl⟩
abbrev main_v243 : Ref sig .tc := ⟨.hbm, 438, rfl⟩
abbrev main_v244 : Ref sig .tc := ⟨.hbm, 439, rfl⟩
abbrev main_v245 : Ref sig .tc := ⟨.hbm, 440, rfl⟩
abbrev main_v246 : Ref sig .tc := ⟨.hbm, 441, rfl⟩
abbrev main_v247 : Ref sig .tc := ⟨.hbm, 442, rfl⟩
abbrev main_cst_53 : Ref sig .tc := ⟨.hbm, 443, rfl⟩
abbrev main_v248 : Ref sig .tc := ⟨.hbm, 444, rfl⟩
abbrev main_cst_54 : Ref sig .tc := ⟨.hbm, 445, rfl⟩
abbrev main_v249 : Ref sig .tc := ⟨.hbm, 446, rfl⟩
abbrev main_v250 : Ref sig .tc := ⟨.hbm, 447, rfl⟩
abbrev main_v251 : Ref sig .tc := ⟨.hbm, 448, rfl⟩
abbrev main_v252 : Ref sig .tc := ⟨.hbm, 449, rfl⟩
abbrev main_v253 : Ref sig .tc := ⟨.hbm, 450, rfl⟩
abbrev main_v254 : Ref sig .tc := ⟨.hbm, 451, rfl⟩
abbrev main_v255 : Ref sig .tc := ⟨.hbm, 452, rfl⟩
abbrev main_v256 : Ref sig .tc := ⟨.hbm, 453, rfl⟩
abbrev main_v257 : Ref sig .tc := ⟨.hbm, 454, rfl⟩
abbrev main_v258 : Ref sig .tc := ⟨.hbm, 455, rfl⟩
abbrev main_cst_55 : Ref sig .tc := ⟨.hbm, 456, rfl⟩
abbrev main_v259 : Ref sig .tc := ⟨.hbm, 457, rfl⟩
abbrev main_v260 : Ref sig .tc := ⟨.hbm, 458, rfl⟩
abbrev main_v261 : Ref sig .tc := ⟨.hbm, 459, rfl⟩
abbrev main_v262 : Ref sig .tc := ⟨.hbm, 460, rfl⟩
abbrev main_v263 : Ref sig .tc := ⟨.hbm, 461, rfl⟩
abbrev main_v264 : Ref sig .tc := ⟨.hbm, 462, rfl⟩
abbrev main_v265 : Ref sig .tc := ⟨.hbm, 463, rfl⟩
abbrev main_v266 : Ref sig .tc := ⟨.hbm, 464, rfl⟩
abbrev main_v267 : Ref sig .tc := ⟨.hbm, 465, rfl⟩
abbrev main_v268 : Ref sig .tc := ⟨.hbm, 466, rfl⟩
abbrev main_cst_56 : Ref sig .tc := ⟨.hbm, 467, rfl⟩
abbrev main_v269 : Ref sig .tc := ⟨.hbm, 468, rfl⟩
abbrev main_v270 : Ref sig .tc := ⟨.hbm, 469, rfl⟩
abbrev main_v271 : Ref sig .tc := ⟨.hbm, 470, rfl⟩
abbrev main_v272 : Ref sig .tc := ⟨.hbm, 471, rfl⟩
abbrev main_v273 : Ref sig .tc := ⟨.hbm, 472, rfl⟩
abbrev main_v274 : Ref sig .tc := ⟨.hbm, 473, rfl⟩
abbrev main_v275 : Ref sig .tc := ⟨.hbm, 474, rfl⟩
abbrev main_v276 : Ref sig .tc := ⟨.hbm, 475, rfl⟩
abbrev main_v277 : Ref sig .tc := ⟨.hbm, 476, rfl⟩
abbrev main_v278 : Ref sig .tc := ⟨.hbm, 477, rfl⟩
abbrev main_cst_57 : Ref sig .tc := ⟨.hbm, 478, rfl⟩
abbrev main_v279 : Ref sig .tc := ⟨.hbm, 479, rfl⟩
abbrev main_v280 : Ref sig .tc := ⟨.hbm, 480, rfl⟩
abbrev main_v281 : Ref sig .tc := ⟨.hbm, 481, rfl⟩
abbrev main_v282 : Ref sig .tc := ⟨.hbm, 482, rfl⟩
abbrev main_v283 : Ref sig .tc := ⟨.hbm, 483, rfl⟩
abbrev main_v284 : Ref sig .tc := ⟨.hbm, 484, rfl⟩
abbrev main_v285 : Ref sig .tc := ⟨.hbm, 485, rfl⟩
abbrev main_v286 : Ref sig .tc := ⟨.hbm, 486, rfl⟩
abbrev main_v287 : Ref sig .tc := ⟨.hbm, 487, rfl⟩
abbrev main_v288 : Ref sig .tc := ⟨.hbm, 488, rfl⟩
abbrev main_cst_58 : Ref sig .tc := ⟨.hbm, 489, rfl⟩
abbrev main_v289 : Ref sig .tc := ⟨.hbm, 490, rfl⟩
abbrev main_v290 : Ref sig .tc := ⟨.hbm, 491, rfl⟩
abbrev main_v291 : Ref sig .tc := ⟨.hbm, 492, rfl⟩
abbrev main_v292 : Ref sig .tc := ⟨.hbm, 493, rfl⟩
abbrev main_v293 : Ref sig .tc := ⟨.hbm, 494, rfl⟩
abbrev main_v294 : Ref sig .tc := ⟨.hbm, 495, rfl⟩
abbrev main_v295 : Ref sig .tc := ⟨.hbm, 496, rfl⟩
abbrev main_v296 : Ref sig .tc := ⟨.hbm, 497, rfl⟩
abbrev main_v297 : Ref sig .tc := ⟨.hbm, 498, rfl⟩
abbrev main_v298 : Ref sig .tc := ⟨.hbm, 499, rfl⟩
abbrev main_cst_59 : Ref sig .tc := ⟨.hbm, 500, rfl⟩
abbrev main_v299 : Ref sig .tc := ⟨.hbm, 501, rfl⟩
abbrev main_v300 : Ref sig .tc := ⟨.hbm, 502, rfl⟩
abbrev main_v301 : Ref sig .tc := ⟨.hbm, 503, rfl⟩
abbrev main_v302 : Ref sig .tc := ⟨.hbm, 504, rfl⟩
abbrev main_v303 : Ref sig .tc := ⟨.hbm, 505, rfl⟩
abbrev main_v304 : Ref sig .tc := ⟨.hbm, 506, rfl⟩
abbrev main_v305 : Ref sig .tc := ⟨.hbm, 507, rfl⟩
abbrev main_v306 : Ref sig .tc := ⟨.hbm, 508, rfl⟩
abbrev main_v307 : Ref sig .tc := ⟨.hbm, 509, rfl⟩
abbrev main_v308 : Ref sig .tc := ⟨.hbm, 510, rfl⟩
abbrev main_cst_60 : Ref sig .tc := ⟨.hbm, 511, rfl⟩
abbrev main_v309 : Ref sig .tc := ⟨.hbm, 512, rfl⟩
abbrev main_v310 : Ref sig .tc := ⟨.hbm, 513, rfl⟩
abbrev main_v311 : Ref sig .tc := ⟨.hbm, 514, rfl⟩
abbrev main_v312 : Ref sig .tc := ⟨.hbm, 515, rfl⟩
abbrev main_v313 : Ref sig .tc := ⟨.hbm, 516, rfl⟩
abbrev main_v314 : Ref sig .tc := ⟨.hbm, 517, rfl⟩
abbrev main_v315 : Ref sig .tc := ⟨.hbm, 518, rfl⟩
abbrev main_v316 : Ref sig .tc := ⟨.hbm, 519, rfl⟩
abbrev main_v317 : Ref sig .tc := ⟨.hbm, 520, rfl⟩
abbrev main_v318 : Ref sig .tc := ⟨.hbm, 521, rfl⟩
abbrev main_cst_61 : Ref sig .tc := ⟨.hbm, 522, rfl⟩
abbrev main_v319 : Ref sig .tc := ⟨.hbm, 523, rfl⟩
abbrev main_v320 : Ref sig .tc := ⟨.hbm, 524, rfl⟩
abbrev main_v321 : Ref sig .tc := ⟨.hbm, 525, rfl⟩
abbrev main_v322 : Ref sig .tc := ⟨.hbm, 526, rfl⟩
abbrev main_v323 : Ref sig .tc := ⟨.hbm, 527, rfl⟩
abbrev main_v324 : Ref sig .tc := ⟨.hbm, 528, rfl⟩
abbrev main_v325 : Ref sig .tc := ⟨.hbm, 529, rfl⟩
abbrev main_v326 : Ref sig .tc := ⟨.hbm, 530, rfl⟩
abbrev main_v327 : Ref sig .tc := ⟨.hbm, 531, rfl⟩
abbrev main_v328 : Ref sig .tc := ⟨.hbm, 532, rfl⟩
abbrev main_cst_62 : Ref sig .tc := ⟨.hbm, 533, rfl⟩
abbrev main_v329 : Ref sig .tc := ⟨.hbm, 534, rfl⟩
abbrev main_v330 : Ref sig .tc := ⟨.hbm, 535, rfl⟩
abbrev main_v331 : Ref sig .tc := ⟨.hbm, 536, rfl⟩
abbrev main_v332 : Ref sig .tc := ⟨.hbm, 537, rfl⟩
abbrev main_v333 : Ref sig .tc := ⟨.hbm, 538, rfl⟩
abbrev main_v334 : Ref sig .tc := ⟨.hbm, 539, rfl⟩
abbrev main_v335 : Ref sig .tc := ⟨.hbm, 540, rfl⟩
abbrev main_v336 : Ref sig .tc := ⟨.hbm, 541, rfl⟩
abbrev main_v337 : Ref sig .tc := ⟨.hbm, 542, rfl⟩
abbrev main_v338 : Ref sig .tc := ⟨.hbm, 543, rfl⟩
abbrev main_cst_63 : Ref sig .tc := ⟨.hbm, 544, rfl⟩
abbrev main_v339 : Ref sig .tc := ⟨.hbm, 545, rfl⟩
abbrev main_v340 : Ref sig .tc := ⟨.hbm, 546, rfl⟩
abbrev main_v341 : Ref sig .tc := ⟨.hbm, 547, rfl⟩
abbrev main_v342 : Ref sig .tc := ⟨.hbm, 548, rfl⟩
abbrev main_v343 : Ref sig .tc := ⟨.hbm, 549, rfl⟩
abbrev main_v344 : Ref sig .tc := ⟨.hbm, 550, rfl⟩
abbrev main_v345 : Ref sig .tc := ⟨.hbm, 551, rfl⟩
abbrev main_v346 : Ref sig .tc := ⟨.hbm, 552, rfl⟩
abbrev main_v347 : Ref sig .tc := ⟨.hbm, 553, rfl⟩
abbrev main_v348 : Ref sig .tc := ⟨.hbm, 554, rfl⟩
abbrev main_cst_64 : Ref sig .tc := ⟨.hbm, 555, rfl⟩
abbrev main_v349 : Ref sig .tc := ⟨.hbm, 556, rfl⟩
abbrev main_v350 : Ref sig .tc := ⟨.hbm, 557, rfl⟩
abbrev main_v351 : Ref sig .tc := ⟨.hbm, 558, rfl⟩
abbrev main_v352 : Ref sig .tc := ⟨.hbm, 559, rfl⟩
abbrev main_v353 : Ref sig .tc := ⟨.hbm, 560, rfl⟩
abbrev main_v354 : Ref sig .tc := ⟨.hbm, 561, rfl⟩
abbrev main_v355 : Ref sig .tc := ⟨.hbm, 562, rfl⟩
abbrev main_v356 : Ref sig .tc := ⟨.hbm, 563, rfl⟩
abbrev main_v357 : Ref sig .tc := ⟨.hbm, 564, rfl⟩
abbrev main_v358 : Ref sig .tc := ⟨.hbm, 565, rfl⟩
abbrev main_cst_65 : Ref sig .tc := ⟨.hbm, 566, rfl⟩
abbrev main_v359 : Ref sig .tc := ⟨.hbm, 567, rfl⟩
abbrev main_v360 : Ref sig .tc := ⟨.hbm, 568, rfl⟩
abbrev main_v361 : Ref sig .tc := ⟨.hbm, 569, rfl⟩
abbrev main_v362 : Ref sig .tc := ⟨.hbm, 570, rfl⟩
abbrev main_v363 : Ref sig .tc := ⟨.hbm, 571, rfl⟩
abbrev main_v364 : Ref sig .tc := ⟨.hbm, 572, rfl⟩
abbrev main_v365 : Ref sig .tc := ⟨.hbm, 573, rfl⟩
abbrev main_v366 : Ref sig .tc := ⟨.hbm, 574, rfl⟩
abbrev main_v367 : Ref sig .tc := ⟨.hbm, 575, rfl⟩
abbrev main_v368 : Ref sig .tc := ⟨.hbm, 576, rfl⟩
abbrev main_cst_66 : Ref sig .tc := ⟨.hbm, 577, rfl⟩
abbrev main_v369 : Ref sig .tc := ⟨.hbm, 578, rfl⟩
abbrev main_v370 : Ref sig .tc := ⟨.hbm, 579, rfl⟩
abbrev main_v371 : Ref sig .tc := ⟨.hbm, 580, rfl⟩
abbrev main_v372 : Ref sig .tc := ⟨.hbm, 581, rfl⟩
abbrev main_v373 : Ref sig .tc := ⟨.hbm, 582, rfl⟩
abbrev main_v374 : Ref sig .tc := ⟨.hbm, 583, rfl⟩
abbrev main_v375 : Ref sig .tc := ⟨.hbm, 584, rfl⟩
abbrev main_v376 : Ref sig .tc := ⟨.hbm, 585, rfl⟩
abbrev main_v377 : Ref sig .tc := ⟨.hbm, 586, rfl⟩
abbrev main_v378 : Ref sig .tc := ⟨.hbm, 587, rfl⟩
abbrev main_cst_67 : Ref sig .tc := ⟨.hbm, 588, rfl⟩
abbrev main_v379 : Ref sig .tc := ⟨.hbm, 589, rfl⟩
abbrev main_v380 : Ref sig .tc := ⟨.hbm, 590, rfl⟩
abbrev main_v381 : Ref sig .tc := ⟨.hbm, 591, rfl⟩
abbrev main_v382 : Ref sig .tc := ⟨.hbm, 592, rfl⟩
abbrev main_v383 : Ref sig .tc := ⟨.hbm, 593, rfl⟩
abbrev main_v384 : Ref sig .tc := ⟨.hbm, 594, rfl⟩
abbrev main_v385 : Ref sig .tc := ⟨.hbm, 595, rfl⟩
abbrev main_v386 : Ref sig .tc := ⟨.hbm, 596, rfl⟩
abbrev main_v387 : Ref sig .tc := ⟨.hbm, 597, rfl⟩
abbrev main_v388 : Ref sig .tc := ⟨.hbm, 598, rfl⟩
abbrev main_cst_68 : Ref sig .tc := ⟨.hbm, 599, rfl⟩
abbrev main_v389 : Ref sig .tc := ⟨.hbm, 600, rfl⟩
abbrev main_v390 : Ref sig .tc := ⟨.hbm, 601, rfl⟩
abbrev main_v391 : Ref sig .tc := ⟨.hbm, 602, rfl⟩
abbrev main_v392 : Ref sig .tc := ⟨.hbm, 603, rfl⟩
abbrev main_v393 : Ref sig .tc := ⟨.hbm, 604, rfl⟩
abbrev main_v394 : Ref sig .tc := ⟨.hbm, 605, rfl⟩
abbrev main_v395 : Ref sig .tc := ⟨.hbm, 606, rfl⟩
abbrev main_v396 : Ref sig .tc := ⟨.hbm, 607, rfl⟩
abbrev main_v397 : Ref sig .tc := ⟨.hbm, 608, rfl⟩
abbrev main_v398 : Ref sig .tc := ⟨.hbm, 609, rfl⟩
abbrev main_cst_69 : Ref sig .tc := ⟨.hbm, 610, rfl⟩
abbrev main_v399 : Ref sig .tc := ⟨.hbm, 611, rfl⟩
abbrev main_v400 : Ref sig .tc := ⟨.hbm, 612, rfl⟩
abbrev main_v401 : Ref sig .tc := ⟨.hbm, 613, rfl⟩
abbrev main_v402 : Ref sig .tc := ⟨.hbm, 614, rfl⟩
abbrev main_v403 : Ref sig .tc := ⟨.hbm, 615, rfl⟩
abbrev main_cst_70 : Ref sig .tc := ⟨.hbm, 616, rfl⟩
abbrev main_call24_cst : Ref sig .tc := ⟨.hbm, 617, rfl⟩
abbrev main_call24_v0 : Ref sig .tc := ⟨.hbm, 618, rfl⟩
abbrev main_call24_v1 : Ref sig .tc := ⟨.hbm, 619, rfl⟩
abbrev main_call24_v2 : Ref sig .tc := ⟨.hbm, 620, rfl⟩
abbrev main_call24_v3 : Ref sig .tc := ⟨.hbm, 621, rfl⟩
abbrev main_call24_v4 : Ref sig .tc := ⟨.hbm, 622, rfl⟩
abbrev main_v404 : Ref sig .tc := ⟨.hbm, 623, rfl⟩
abbrev main_c_71 : Ref sig .tc := ⟨.hbm, 624, rfl⟩
abbrev main_call25_v0 : Ref sig .tc := ⟨.hbm, 625, rfl⟩
abbrev main_v405 : Ref sig .tc := ⟨.hbm, 626, rfl⟩
abbrev main_v406 : Ref sig .tc := ⟨.hbm, 627, rfl⟩
abbrev main_v407 : Ref sig .tc := ⟨.hbm, 628, rfl⟩
abbrev main_v408 : Ref sig .tc := ⟨.hbm, 629, rfl⟩
abbrev main_v409 : Ref sig .tc := ⟨.hbm, 630, rfl⟩
abbrev main_v410 : Ref sig .tc := ⟨.hbm, 631, rfl⟩
abbrev main_v411 : Ref sig .tc := ⟨.hbm, 632, rfl⟩
abbrev main_v412 : Ref sig .tc := ⟨.hbm, 633, rfl⟩
abbrev main_cst_72 : Ref sig .tc := ⟨.hbm, 634, rfl⟩
abbrev main_v413 : Ref sig .tc := ⟨.hbm, 635, rfl⟩
abbrev main_cst_73 : Ref sig .tc := ⟨.hbm, 636, rfl⟩
abbrev main_v414 : Ref sig .tc := ⟨.hbm, 637, rfl⟩
abbrev main_v415 : Ref sig .tc := ⟨.hbm, 638, rfl⟩
abbrev main_v416 : Ref sig .tc := ⟨.hbm, 639, rfl⟩
abbrev main_v417 : Ref sig .tc := ⟨.hbm, 640, rfl⟩
abbrev main_v418 : Ref sig .tc := ⟨.hbm, 641, rfl⟩
abbrev main_v419 : Ref sig .tc := ⟨.hbm, 642, rfl⟩
abbrev main_v420 : Ref sig .tc := ⟨.hbm, 643, rfl⟩
abbrev main_v421 : Ref sig .tc := ⟨.hbm, 644, rfl⟩
abbrev main_v422 : Ref sig .tc := ⟨.hbm, 645, rfl⟩
abbrev main_cst_74 : Ref sig .tc := ⟨.hbm, 646, rfl⟩
abbrev main_v423 : Ref sig .tc := ⟨.hbm, 647, rfl⟩
abbrev main_v424 : Ref sig .tc := ⟨.hbm, 648, rfl⟩
abbrev main_v425 : Ref sig .tc := ⟨.hbm, 649, rfl⟩
abbrev main_v426 : Ref sig .tc := ⟨.hbm, 650, rfl⟩
abbrev main_v427 : Ref sig .tc := ⟨.hbm, 651, rfl⟩
abbrev main_v428 : Ref sig .tc := ⟨.hbm, 652, rfl⟩
abbrev main_v429 : Ref sig .tc := ⟨.hbm, 653, rfl⟩
abbrev main_v430 : Ref sig .tc := ⟨.hbm, 654, rfl⟩
abbrev main_v431 : Ref sig .tc := ⟨.hbm, 655, rfl⟩
abbrev main_cst_75 : Ref sig .tc := ⟨.hbm, 656, rfl⟩
abbrev main_v432 : Ref sig .tc := ⟨.hbm, 657, rfl⟩
abbrev main_v433 : Ref sig .tc := ⟨.hbm, 658, rfl⟩
abbrev main_v434 : Ref sig .tc := ⟨.hbm, 659, rfl⟩
abbrev main_v435 : Ref sig .tc := ⟨.hbm, 660, rfl⟩
abbrev main_v436 : Ref sig .tc := ⟨.hbm, 661, rfl⟩
abbrev main_v437 : Ref sig .tc := ⟨.hbm, 662, rfl⟩
abbrev main_v438 : Ref sig .tc := ⟨.hbm, 663, rfl⟩
abbrev main_v439 : Ref sig .tc := ⟨.hbm, 664, rfl⟩
abbrev main_v440 : Ref sig .tc := ⟨.hbm, 665, rfl⟩
abbrev main_cst_76 : Ref sig .tc := ⟨.hbm, 666, rfl⟩
abbrev main_v441 : Ref sig .tc := ⟨.hbm, 667, rfl⟩
abbrev main_v442 : Ref sig .tc := ⟨.hbm, 668, rfl⟩
abbrev main_v443 : Ref sig .tc := ⟨.hbm, 669, rfl⟩
abbrev main_v444 : Ref sig .tc := ⟨.hbm, 670, rfl⟩
abbrev main_v445 : Ref sig .tc := ⟨.hbm, 671, rfl⟩
abbrev main_v446 : Ref sig .tc := ⟨.hbm, 672, rfl⟩
abbrev main_v447 : Ref sig .tc := ⟨.hbm, 673, rfl⟩
abbrev main_v448 : Ref sig .tc := ⟨.hbm, 674, rfl⟩
abbrev main_v449 : Ref sig .tc := ⟨.hbm, 675, rfl⟩
abbrev main_cst_77 : Ref sig .tc := ⟨.hbm, 676, rfl⟩
abbrev main_v450 : Ref sig .tc := ⟨.hbm, 677, rfl⟩
abbrev main_v451 : Ref sig .tc := ⟨.hbm, 678, rfl⟩
abbrev main_v452 : Ref sig .tc := ⟨.hbm, 679, rfl⟩
abbrev main_v453 : Ref sig .tc := ⟨.hbm, 680, rfl⟩
abbrev main_v454 : Ref sig .tc := ⟨.hbm, 681, rfl⟩
abbrev main_v455 : Ref sig .tc := ⟨.hbm, 682, rfl⟩
abbrev main_v456 : Ref sig .tc := ⟨.hbm, 683, rfl⟩
abbrev main_v457 : Ref sig .tc := ⟨.hbm, 684, rfl⟩
abbrev main_v458 : Ref sig .tc := ⟨.hbm, 685, rfl⟩
abbrev main_cst_78 : Ref sig .tc := ⟨.hbm, 686, rfl⟩
abbrev main_v459 : Ref sig .tc := ⟨.hbm, 687, rfl⟩
abbrev main_v460 : Ref sig .tc := ⟨.hbm, 688, rfl⟩
abbrev main_v461 : Ref sig .tc := ⟨.hbm, 689, rfl⟩
abbrev main_v462 : Ref sig .tc := ⟨.hbm, 690, rfl⟩
abbrev main_v463 : Ref sig .tc := ⟨.hbm, 691, rfl⟩
abbrev main_v464 : Ref sig .tc := ⟨.hbm, 692, rfl⟩
abbrev main_v465 : Ref sig .tc := ⟨.hbm, 693, rfl⟩
abbrev main_v466 : Ref sig .tc := ⟨.hbm, 694, rfl⟩
abbrev main_v467 : Ref sig .tc := ⟨.hbm, 695, rfl⟩
abbrev main_cst_79 : Ref sig .tc := ⟨.hbm, 696, rfl⟩
abbrev main_v468 : Ref sig .tc := ⟨.hbm, 697, rfl⟩
abbrev main_v469 : Ref sig .tc := ⟨.hbm, 698, rfl⟩
abbrev main_v470 : Ref sig .tc := ⟨.hbm, 699, rfl⟩
abbrev main_v471 : Ref sig .tc := ⟨.hbm, 700, rfl⟩
abbrev main_v472 : Ref sig .tc := ⟨.hbm, 701, rfl⟩
abbrev main_v473 : Ref sig .tc := ⟨.hbm, 702, rfl⟩
abbrev main_v474 : Ref sig .tc := ⟨.hbm, 703, rfl⟩
abbrev main_v475 : Ref sig .tc := ⟨.hbm, 704, rfl⟩
abbrev main_v476 : Ref sig .tc := ⟨.hbm, 705, rfl⟩
abbrev main_cst_80 : Ref sig .tc := ⟨.hbm, 706, rfl⟩
abbrev main_v477 : Ref sig .tc := ⟨.hbm, 707, rfl⟩
abbrev main_v478 : Ref sig .tc := ⟨.hbm, 708, rfl⟩
abbrev main_v479 : Ref sig .tc := ⟨.hbm, 709, rfl⟩
abbrev main_v480 : Ref sig .tc := ⟨.hbm, 710, rfl⟩
abbrev main_v481 : Ref sig .tc := ⟨.hbm, 711, rfl⟩
abbrev main_v482 : Ref sig .tc := ⟨.hbm, 712, rfl⟩
abbrev main_v483 : Ref sig .tc := ⟨.hbm, 713, rfl⟩
abbrev main_v484 : Ref sig .tc := ⟨.hbm, 714, rfl⟩
abbrev main_v485 : Ref sig .tc := ⟨.hbm, 715, rfl⟩
abbrev main_cst_81 : Ref sig .tc := ⟨.hbm, 716, rfl⟩
abbrev main_v486 : Ref sig .tc := ⟨.hbm, 717, rfl⟩
abbrev main_v487 : Ref sig .tc := ⟨.hbm, 718, rfl⟩
abbrev main_v488 : Ref sig .tc := ⟨.hbm, 719, rfl⟩
abbrev main_v489 : Ref sig .tc := ⟨.hbm, 720, rfl⟩
abbrev main_v490 : Ref sig .tc := ⟨.hbm, 721, rfl⟩
abbrev main_v491 : Ref sig .tc := ⟨.hbm, 722, rfl⟩
abbrev main_v492 : Ref sig .tc := ⟨.hbm, 723, rfl⟩
abbrev main_v493 : Ref sig .tc := ⟨.hbm, 724, rfl⟩
abbrev main_v494 : Ref sig .tc := ⟨.hbm, 725, rfl⟩
abbrev main_cst_82 : Ref sig .tc := ⟨.hbm, 726, rfl⟩
abbrev main_v495 : Ref sig .tc := ⟨.hbm, 727, rfl⟩
abbrev main_v496 : Ref sig .tc := ⟨.hbm, 728, rfl⟩
abbrev main_v497 : Ref sig .tc := ⟨.hbm, 729, rfl⟩
abbrev main_v498 : Ref sig .tc := ⟨.hbm, 730, rfl⟩
abbrev main_v499 : Ref sig .tc := ⟨.hbm, 731, rfl⟩
abbrev main_v500 : Ref sig .tc := ⟨.hbm, 732, rfl⟩
abbrev main_v501 : Ref sig .tc := ⟨.hbm, 733, rfl⟩
abbrev main_v502 : Ref sig .tc := ⟨.hbm, 734, rfl⟩
abbrev main_v503 : Ref sig .tc := ⟨.hbm, 735, rfl⟩
abbrev main_cst_83 : Ref sig .tc := ⟨.hbm, 736, rfl⟩
abbrev main_v504 : Ref sig .tc := ⟨.hbm, 737, rfl⟩
abbrev main_v505 : Ref sig .tc := ⟨.hbm, 738, rfl⟩
abbrev main_v506 : Ref sig .tc := ⟨.hbm, 739, rfl⟩
abbrev main_v507 : Ref sig .tc := ⟨.hbm, 740, rfl⟩
abbrev main_v508 : Ref sig .tc := ⟨.hbm, 741, rfl⟩
abbrev main_v509 : Ref sig .tc := ⟨.hbm, 742, rfl⟩
abbrev main_v510 : Ref sig .tc := ⟨.hbm, 743, rfl⟩
abbrev main_v511 : Ref sig .tc := ⟨.hbm, 744, rfl⟩
abbrev main_v512 : Ref sig .tc := ⟨.hbm, 745, rfl⟩
abbrev main_cst_84 : Ref sig .tc := ⟨.hbm, 746, rfl⟩
abbrev main_v513 : Ref sig .tc := ⟨.hbm, 747, rfl⟩
abbrev main_v514 : Ref sig .tc := ⟨.hbm, 748, rfl⟩
abbrev main_v515 : Ref sig .tc := ⟨.hbm, 749, rfl⟩
abbrev main_v516 : Ref sig .tc := ⟨.hbm, 750, rfl⟩
abbrev main_v517 : Ref sig .tc := ⟨.hbm, 751, rfl⟩
abbrev main_v518 : Ref sig .tc := ⟨.hbm, 752, rfl⟩
abbrev main_v519 : Ref sig .tc := ⟨.hbm, 753, rfl⟩
abbrev main_v520 : Ref sig .tc := ⟨.hbm, 754, rfl⟩
abbrev main_v521 : Ref sig .tc := ⟨.hbm, 755, rfl⟩
abbrev main_cst_85 : Ref sig .tc := ⟨.hbm, 756, rfl⟩
abbrev main_v522 : Ref sig .tc := ⟨.hbm, 757, rfl⟩
abbrev main_v523 : Ref sig .tc := ⟨.hbm, 758, rfl⟩
abbrev main_v524 : Ref sig .tc := ⟨.hbm, 759, rfl⟩
abbrev main_v525 : Ref sig .tc := ⟨.hbm, 760, rfl⟩
abbrev main_v526 : Ref sig .tc := ⟨.hbm, 761, rfl⟩
abbrev main_v527 : Ref sig .tc := ⟨.hbm, 762, rfl⟩
abbrev main_v528 : Ref sig .tc := ⟨.hbm, 763, rfl⟩
abbrev main_v529 : Ref sig .tc := ⟨.hbm, 764, rfl⟩
abbrev main_v530 : Ref sig .tc := ⟨.hbm, 765, rfl⟩
abbrev main_cst_86 : Ref sig .tc := ⟨.hbm, 766, rfl⟩
abbrev main_v531 : Ref sig .tc := ⟨.hbm, 767, rfl⟩
abbrev main_v532 : Ref sig .tc := ⟨.hbm, 768, rfl⟩
abbrev main_v533 : Ref sig .tc := ⟨.hbm, 769, rfl⟩
abbrev main_v534 : Ref sig .tc := ⟨.hbm, 770, rfl⟩
abbrev main_v535 : Ref sig .tc := ⟨.hbm, 771, rfl⟩
abbrev main_v536 : Ref sig .tc := ⟨.hbm, 772, rfl⟩
abbrev main_v537 : Ref sig .tc := ⟨.hbm, 773, rfl⟩
abbrev main_v538 : Ref sig .tc := ⟨.hbm, 774, rfl⟩
abbrev main_v539 : Ref sig .tc := ⟨.hbm, 775, rfl⟩
abbrev main_cst_87 : Ref sig .tc := ⟨.hbm, 776, rfl⟩
abbrev main_v540 : Ref sig .tc := ⟨.hbm, 777, rfl⟩
abbrev main_v541 : Ref sig .tc := ⟨.hbm, 778, rfl⟩
abbrev main_v542 : Ref sig .tc := ⟨.hbm, 779, rfl⟩
abbrev main_v543 : Ref sig .tc := ⟨.hbm, 780, rfl⟩
abbrev main_v544 : Ref sig .tc := ⟨.hbm, 781, rfl⟩
abbrev main_v545 : Ref sig .tc := ⟨.hbm, 782, rfl⟩
abbrev main_v546 : Ref sig .tc := ⟨.hbm, 783, rfl⟩
abbrev main_v547 : Ref sig .tc := ⟨.hbm, 784, rfl⟩
abbrev main_v548 : Ref sig .tc := ⟨.hbm, 785, rfl⟩
abbrev main_cst_88 : Ref sig .tc := ⟨.hbm, 786, rfl⟩
abbrev main_v549 : Ref sig .tc := ⟨.hbm, 787, rfl⟩
abbrev main_v550 : Ref sig .tc := ⟨.hbm, 788, rfl⟩
abbrev main_v551 : Ref sig .tc := ⟨.hbm, 789, rfl⟩
abbrev main_v552 : Ref sig .tc := ⟨.hbm, 790, rfl⟩
abbrev main_v553 : Ref sig .tc := ⟨.hbm, 791, rfl⟩
abbrev main_cst_89 : Ref sig .tc := ⟨.hbm, 792, rfl⟩
abbrev main_v554 : Ref sig .tc := ⟨.hbm, 793, rfl⟩
abbrev main_cst_90 : Ref sig .tc := ⟨.hbm, 794, rfl⟩
abbrev main_v555 : Ref sig .tc := ⟨.hbm, 795, rfl⟩
abbrev main_v556 : Ref sig .tc := ⟨.hbm, 796, rfl⟩
abbrev main_cst_91 : Ref sig .tc := ⟨.hbm, 797, rfl⟩
abbrev main_v557 : Ref sig .tc := ⟨.hbm, 798, rfl⟩
abbrev main_v558 : Ref sig .tc := ⟨.hbm, 799, rfl⟩
abbrev main_v559 : Ref sig .tc := ⟨.hbm, 800, rfl⟩
abbrev main_v560 : Ref sig .tc := ⟨.hbm, 801, rfl⟩
abbrev main_v561 : Ref sig .tc := ⟨.hbm, 802, rfl⟩
abbrev main_v562 : Ref sig .tc := ⟨.hbm, 803, rfl⟩
abbrev main_v563 : Ref sig .tc := ⟨.hbm, 804, rfl⟩
abbrev main_v564 : Ref sig .tc := ⟨.hbm, 805, rfl⟩
abbrev main_v565 : Ref sig .tc := ⟨.hbm, 806, rfl⟩
abbrev main_cst_92 : Ref sig .tc := ⟨.hbm, 807, rfl⟩
abbrev main_v566 : Ref sig .tc := ⟨.hbm, 808, rfl⟩
abbrev main_cst_93 : Ref sig .tc := ⟨.hbm, 809, rfl⟩
abbrev main_v567 : Ref sig .tc := ⟨.hbm, 810, rfl⟩
abbrev main_v568 : Ref sig .tc := ⟨.hbm, 811, rfl⟩
abbrev main_v569 : Ref sig .tc := ⟨.hbm, 812, rfl⟩
abbrev main_v570 : Ref sig .tc := ⟨.hbm, 813, rfl⟩
abbrev main_v571 : Ref sig .tc := ⟨.hbm, 814, rfl⟩
abbrev main_v572 : Ref sig .tc := ⟨.hbm, 815, rfl⟩
abbrev main_v573 : Ref sig .tc := ⟨.hbm, 816, rfl⟩
abbrev main_v574 : Ref sig .tc := ⟨.hbm, 817, rfl⟩
abbrev main_v575 : Ref sig .tc := ⟨.hbm, 818, rfl⟩
abbrev main_cst_94 : Ref sig .tc := ⟨.hbm, 819, rfl⟩
abbrev main_v576 : Ref sig .tc := ⟨.hbm, 820, rfl⟩
abbrev main_v577 : Ref sig .tc := ⟨.hbm, 821, rfl⟩
abbrev main_v578 : Ref sig .tc := ⟨.hbm, 822, rfl⟩
abbrev main_v579 : Ref sig .tc := ⟨.hbm, 823, rfl⟩
abbrev main_v580 : Ref sig .tc := ⟨.hbm, 824, rfl⟩
abbrev main_v581 : Ref sig .tc := ⟨.hbm, 825, rfl⟩
abbrev main_c_95 : Ref sig .tc := ⟨.hbm, 826, rfl⟩
abbrev main_c_96 : Ref sig .tc := ⟨.hbm, 827, rfl⟩
abbrev main_call26_v0 : Ref sig .tc := ⟨.hbm, 828, rfl⟩
abbrev main_call26_v1 : Ref sig .tc := ⟨.hbm, 829, rfl⟩
abbrev main_call26_v2 : Ref sig .tc := ⟨.hbm, 830, rfl⟩
abbrev main_call26_v3 : Ref sig .tc := ⟨.hbm, 831, rfl⟩
abbrev main_v582 : Ref sig .tc := ⟨.hbm, 832, rfl⟩
abbrev main_call27_v0 : Ref sig .tc := ⟨.hbm, 833, rfl⟩
abbrev main_call27_v1 : Ref sig .tc := ⟨.hbm, 834, rfl⟩
abbrev main_call27_v2 : Ref sig .tc := ⟨.hbm, 835, rfl⟩
abbrev main_call27_v3 : Ref sig .tc := ⟨.hbm, 836, rfl⟩
abbrev main_call27_v4 : Ref sig .tc := ⟨.hbm, 837, rfl⟩
abbrev main_call27_v5 : Ref sig .tc := ⟨.hbm, 838, rfl⟩
abbrev main_call27_v6 : Ref sig .tc := ⟨.hbm, 839, rfl⟩
abbrev main_v583 : Ref sig .tc := ⟨.hbm, 840, rfl⟩
abbrev main_cst_97 : Ref sig .tc := ⟨.hbm, 841, rfl⟩
abbrev main_v584 : Ref sig .tc := ⟨.hbm, 842, rfl⟩
abbrev main_v585 : Ref sig .tc := ⟨.hbm, 843, rfl⟩
abbrev main_v586 : Ref sig .tc := ⟨.hbm, 844, rfl⟩
abbrev main_v587 : Ref sig .tc := ⟨.hbm, 845, rfl⟩
abbrev main_cst_98 : Ref sig .tc := ⟨.hbm, 846, rfl⟩
abbrev main_v588 : Ref sig .tc := ⟨.hbm, 847, rfl⟩
abbrev main_v589 : Ref sig .tc := ⟨.hbm, 848, rfl⟩
abbrev main_v590 : Ref sig .tc := ⟨.hbm, 849, rfl⟩
abbrev main_v591 : Ref sig .tc := ⟨.hbm, 850, rfl⟩
abbrev main_v592 : Ref sig .tc := ⟨.hbm, 851, rfl⟩
abbrev main_v593 : Ref sig .tc := ⟨.hbm, 852, rfl⟩
abbrev main_v594 : Ref sig .tc := ⟨.hbm, 853, rfl⟩
abbrev main_v595 : Ref sig .tc := ⟨.hbm, 854, rfl⟩
abbrev main_v596 : Ref sig .tc := ⟨.hbm, 855, rfl⟩
abbrev main_v597 : Ref sig .tc := ⟨.hbm, 856, rfl⟩
abbrev main_cst_99 : Ref sig .tc := ⟨.hbm, 857, rfl⟩
abbrev main_v598 : Ref sig .tc := ⟨.hbm, 858, rfl⟩
abbrev main_v599 : Ref sig .tc := ⟨.hbm, 859, rfl⟩
abbrev main_v600 : Ref sig .tc := ⟨.hbm, 860, rfl⟩
abbrev main_v601 : Ref sig .tc := ⟨.hbm, 861, rfl⟩
abbrev main_v602 : Ref sig .tc := ⟨.hbm, 862, rfl⟩
abbrev main_v603 : Ref sig .tc := ⟨.hbm, 863, rfl⟩
abbrev main_c_100 : Ref sig .tc := ⟨.hbm, 864, rfl⟩
abbrev main_c_101 : Ref sig .tc := ⟨.hbm, 865, rfl⟩
abbrev main_call28_v0 : Ref sig .tc := ⟨.hbm, 866, rfl⟩
abbrev main_call28_v1 : Ref sig .tc := ⟨.hbm, 867, rfl⟩
abbrev main_call28_v2 : Ref sig .tc := ⟨.hbm, 868, rfl⟩
abbrev main_call28_v3 : Ref sig .tc := ⟨.hbm, 869, rfl⟩
abbrev main_v604 : Ref sig .tc := ⟨.hbm, 870, rfl⟩
abbrev main_call29_v0 : Ref sig .tc := ⟨.hbm, 871, rfl⟩
abbrev main_call29_v1 : Ref sig .tc := ⟨.hbm, 872, rfl⟩
abbrev main_call29_v2 : Ref sig .tc := ⟨.hbm, 873, rfl⟩
abbrev main_call29_v3 : Ref sig .tc := ⟨.hbm, 874, rfl⟩
abbrev main_call29_v4 : Ref sig .tc := ⟨.hbm, 875, rfl⟩
abbrev main_call29_v5 : Ref sig .tc := ⟨.hbm, 876, rfl⟩
abbrev main_call29_v6 : Ref sig .tc := ⟨.hbm, 877, rfl⟩
abbrev main_v605 : Ref sig .tc := ⟨.hbm, 878, rfl⟩
abbrev main_cst_102 : Ref sig .tc := ⟨.hbm, 879, rfl⟩
abbrev main_v606 : Ref sig .tc := ⟨.hbm, 880, rfl⟩
abbrev main_v607 : Ref sig .tc := ⟨.hbm, 881, rfl⟩
abbrev main_v608 : Ref sig .tc := ⟨.hbm, 882, rfl⟩
abbrev main_v609 : Ref sig .tc := ⟨.hbm, 883, rfl⟩
abbrev main_cst_103 : Ref sig .tc := ⟨.hbm, 884, rfl⟩
abbrev main_v610 : Ref sig .tc := ⟨.hbm, 885, rfl⟩
abbrev main_v611 : Ref sig .tc := ⟨.hbm, 886, rfl⟩
abbrev main_v612 : Ref sig .tc := ⟨.hbm, 887, rfl⟩
abbrev main_v613 : Ref sig .tc := ⟨.hbm, 888, rfl⟩
abbrev main_v614 : Ref sig .tc := ⟨.hbm, 889, rfl⟩
abbrev main_v615 : Ref sig .tc := ⟨.hbm, 890, rfl⟩
abbrev main_v616 : Ref sig .tc := ⟨.hbm, 891, rfl⟩
abbrev main_v617 : Ref sig .tc := ⟨.hbm, 892, rfl⟩
abbrev main_v618 : Ref sig .tc := ⟨.hbm, 893, rfl⟩
abbrev main_v619 : Ref sig .tc := ⟨.hbm, 894, rfl⟩
abbrev main_cst_104 : Ref sig .tc := ⟨.hbm, 895, rfl⟩
abbrev main_v620 : Ref sig .tc := ⟨.hbm, 896, rfl⟩
abbrev main_v621 : Ref sig .tc := ⟨.hbm, 897, rfl⟩
abbrev main_v622 : Ref sig .tc := ⟨.hbm, 898, rfl⟩
abbrev main_v623 : Ref sig .tc := ⟨.hbm, 899, rfl⟩
abbrev main_v624 : Ref sig .tc := ⟨.hbm, 900, rfl⟩
abbrev main_v625 : Ref sig .tc := ⟨.hbm, 901, rfl⟩
abbrev main_c_105 : Ref sig .tc := ⟨.hbm, 902, rfl⟩
abbrev main_c_106 : Ref sig .tc := ⟨.hbm, 903, rfl⟩
abbrev main_call30_v0 : Ref sig .tc := ⟨.hbm, 904, rfl⟩
abbrev main_call30_v1 : Ref sig .tc := ⟨.hbm, 905, rfl⟩
abbrev main_call30_v2 : Ref sig .tc := ⟨.hbm, 906, rfl⟩
abbrev main_call30_v3 : Ref sig .tc := ⟨.hbm, 907, rfl⟩
abbrev main_v626 : Ref sig .tc := ⟨.hbm, 908, rfl⟩
abbrev main_call31_v0 : Ref sig .tc := ⟨.hbm, 909, rfl⟩
abbrev main_call31_v1 : Ref sig .tc := ⟨.hbm, 910, rfl⟩
abbrev main_call31_v2 : Ref sig .tc := ⟨.hbm, 911, rfl⟩
abbrev main_call31_v3 : Ref sig .tc := ⟨.hbm, 912, rfl⟩
abbrev main_call31_v4 : Ref sig .tc := ⟨.hbm, 913, rfl⟩
abbrev main_call31_v5 : Ref sig .tc := ⟨.hbm, 914, rfl⟩
abbrev main_call31_v6 : Ref sig .tc := ⟨.hbm, 915, rfl⟩
abbrev main_v627 : Ref sig .tc := ⟨.hbm, 916, rfl⟩
abbrev main_cst_107 : Ref sig .tc := ⟨.hbm, 917, rfl⟩
abbrev main_v628 : Ref sig .tc := ⟨.hbm, 918, rfl⟩
abbrev main_v629 : Ref sig .tc := ⟨.hbm, 919, rfl⟩
abbrev main_v630 : Ref sig .tc := ⟨.hbm, 920, rfl⟩
abbrev main_v631 : Ref sig .tc := ⟨.hbm, 921, rfl⟩
abbrev main_cst_108 : Ref sig .tc := ⟨.hbm, 922, rfl⟩
abbrev main_v632 : Ref sig .tc := ⟨.hbm, 923, rfl⟩
abbrev main_v633 : Ref sig .tc := ⟨.hbm, 924, rfl⟩
abbrev main_v634 : Ref sig .tc := ⟨.hbm, 925, rfl⟩
abbrev main_v635 : Ref sig .tc := ⟨.hbm, 926, rfl⟩
abbrev main_v636 : Ref sig .tc := ⟨.hbm, 927, rfl⟩
abbrev main_v637 : Ref sig .tc := ⟨.hbm, 928, rfl⟩
abbrev main_v638 : Ref sig .tc := ⟨.hbm, 929, rfl⟩
abbrev main_v639 : Ref sig .tc := ⟨.hbm, 930, rfl⟩
abbrev main_v640 : Ref sig .tc := ⟨.hbm, 931, rfl⟩
abbrev main_v641 : Ref sig .tc := ⟨.hbm, 932, rfl⟩
abbrev main_cst_109 : Ref sig .tc := ⟨.hbm, 933, rfl⟩
abbrev main_v642 : Ref sig .tc := ⟨.hbm, 934, rfl⟩
abbrev main_v643 : Ref sig .tc := ⟨.hbm, 935, rfl⟩
abbrev main_v644 : Ref sig .tc := ⟨.hbm, 936, rfl⟩
abbrev main_v645 : Ref sig .tc := ⟨.hbm, 937, rfl⟩
abbrev main_v646 : Ref sig .tc := ⟨.hbm, 938, rfl⟩
abbrev main_v647 : Ref sig .tc := ⟨.hbm, 939, rfl⟩
abbrev main_c_110 : Ref sig .tc := ⟨.hbm, 940, rfl⟩
abbrev main_c_111 : Ref sig .tc := ⟨.hbm, 941, rfl⟩
abbrev main_call32_v0 : Ref sig .tc := ⟨.hbm, 942, rfl⟩
abbrev main_call32_v1 : Ref sig .tc := ⟨.hbm, 943, rfl⟩
abbrev main_call32_v2 : Ref sig .tc := ⟨.hbm, 944, rfl⟩
abbrev main_call32_v3 : Ref sig .tc := ⟨.hbm, 945, rfl⟩
abbrev main_v648 : Ref sig .tc := ⟨.hbm, 946, rfl⟩
abbrev main_call33_v0 : Ref sig .tc := ⟨.hbm, 947, rfl⟩
abbrev main_call33_v1 : Ref sig .tc := ⟨.hbm, 948, rfl⟩
abbrev main_call33_v2 : Ref sig .tc := ⟨.hbm, 949, rfl⟩
abbrev main_call33_v3 : Ref sig .tc := ⟨.hbm, 950, rfl⟩
abbrev main_call33_v4 : Ref sig .tc := ⟨.hbm, 951, rfl⟩
abbrev main_call33_v5 : Ref sig .tc := ⟨.hbm, 952, rfl⟩
abbrev main_call33_v6 : Ref sig .tc := ⟨.hbm, 953, rfl⟩
abbrev main_v649 : Ref sig .tc := ⟨.hbm, 954, rfl⟩
abbrev main_cst_112 : Ref sig .tc := ⟨.hbm, 955, rfl⟩
abbrev main_v650 : Ref sig .tc := ⟨.hbm, 956, rfl⟩
abbrev main_v651 : Ref sig .tc := ⟨.hbm, 957, rfl⟩
abbrev main_v652 : Ref sig .tc := ⟨.hbm, 958, rfl⟩
abbrev main_v653 : Ref sig .tc := ⟨.hbm, 959, rfl⟩
abbrev main_cst_113 : Ref sig .tc := ⟨.hbm, 960, rfl⟩
abbrev main_v654 : Ref sig .tc := ⟨.hbm, 961, rfl⟩
abbrev main_v655 : Ref sig .tc := ⟨.hbm, 962, rfl⟩
abbrev main_v656 : Ref sig .tc := ⟨.hbm, 963, rfl⟩
abbrev main_v657 : Ref sig .tc := ⟨.hbm, 964, rfl⟩
abbrev main_v658 : Ref sig .tc := ⟨.hbm, 965, rfl⟩
abbrev main_v659 : Ref sig .tc := ⟨.hbm, 966, rfl⟩
abbrev main_v660 : Ref sig .tc := ⟨.hbm, 967, rfl⟩
abbrev main_v661 : Ref sig .tc := ⟨.hbm, 968, rfl⟩
abbrev main_v662 : Ref sig .tc := ⟨.hbm, 969, rfl⟩
abbrev main_v663 : Ref sig .tc := ⟨.hbm, 970, rfl⟩
abbrev main_cst_114 : Ref sig .tc := ⟨.hbm, 971, rfl⟩
abbrev main_v664 : Ref sig .tc := ⟨.hbm, 972, rfl⟩
abbrev main_v665 : Ref sig .tc := ⟨.hbm, 973, rfl⟩
abbrev main_v666 : Ref sig .tc := ⟨.hbm, 974, rfl⟩
abbrev main_v667 : Ref sig .tc := ⟨.hbm, 975, rfl⟩
abbrev main_v668 : Ref sig .tc := ⟨.hbm, 976, rfl⟩
abbrev main_v669 : Ref sig .tc := ⟨.hbm, 977, rfl⟩
abbrev main_c_115 : Ref sig .tc := ⟨.hbm, 978, rfl⟩
abbrev main_c_116 : Ref sig .tc := ⟨.hbm, 979, rfl⟩
abbrev main_call34_v0 : Ref sig .tc := ⟨.hbm, 980, rfl⟩
abbrev main_call34_v1 : Ref sig .tc := ⟨.hbm, 981, rfl⟩
abbrev main_call34_v2 : Ref sig .tc := ⟨.hbm, 982, rfl⟩
abbrev main_call34_v3 : Ref sig .tc := ⟨.hbm, 983, rfl⟩
abbrev main_v670 : Ref sig .tc := ⟨.hbm, 984, rfl⟩
abbrev main_call35_v0 : Ref sig .tc := ⟨.hbm, 985, rfl⟩
abbrev main_call35_v1 : Ref sig .tc := ⟨.hbm, 986, rfl⟩
abbrev main_call35_v2 : Ref sig .tc := ⟨.hbm, 987, rfl⟩
abbrev main_call35_v3 : Ref sig .tc := ⟨.hbm, 988, rfl⟩
abbrev main_call35_v4 : Ref sig .tc := ⟨.hbm, 989, rfl⟩
abbrev main_call35_v5 : Ref sig .tc := ⟨.hbm, 990, rfl⟩
abbrev main_call35_v6 : Ref sig .tc := ⟨.hbm, 991, rfl⟩
abbrev main_v671 : Ref sig .tc := ⟨.hbm, 992, rfl⟩
abbrev main_cst_117 : Ref sig .tc := ⟨.hbm, 993, rfl⟩
abbrev main_v672 : Ref sig .tc := ⟨.hbm, 994, rfl⟩
abbrev main_v673 : Ref sig .tc := ⟨.hbm, 995, rfl⟩
abbrev main_v674 : Ref sig .tc := ⟨.hbm, 996, rfl⟩
abbrev main_v675 : Ref sig .tc := ⟨.hbm, 997, rfl⟩
abbrev main_cst_118 : Ref sig .tc := ⟨.hbm, 998, rfl⟩
abbrev main_v676 : Ref sig .tc := ⟨.hbm, 999, rfl⟩
abbrev main_v677 : Ref sig .tc := ⟨.hbm, 1000, rfl⟩
abbrev main_v678 : Ref sig .tc := ⟨.hbm, 1001, rfl⟩
abbrev main_v679 : Ref sig .tc := ⟨.hbm, 1002, rfl⟩
abbrev main_v680 : Ref sig .tc := ⟨.hbm, 1003, rfl⟩
abbrev main_v681 : Ref sig .tc := ⟨.hbm, 1004, rfl⟩
abbrev main_v682 : Ref sig .tc := ⟨.hbm, 1005, rfl⟩
abbrev main_v683 : Ref sig .tc := ⟨.hbm, 1006, rfl⟩
abbrev main_v684 : Ref sig .tc := ⟨.hbm, 1007, rfl⟩
abbrev main_v685 : Ref sig .tc := ⟨.hbm, 1008, rfl⟩
abbrev main_cst_119 : Ref sig .tc := ⟨.hbm, 1009, rfl⟩
abbrev main_v686 : Ref sig .tc := ⟨.hbm, 1010, rfl⟩
abbrev main_v687 : Ref sig .tc := ⟨.hbm, 1011, rfl⟩
abbrev main_v688 : Ref sig .tc := ⟨.hbm, 1012, rfl⟩
abbrev main_v689 : Ref sig .tc := ⟨.hbm, 1013, rfl⟩
abbrev main_v690 : Ref sig .tc := ⟨.hbm, 1014, rfl⟩
abbrev main_v691 : Ref sig .tc := ⟨.hbm, 1015, rfl⟩
abbrev main_c_120 : Ref sig .tc := ⟨.hbm, 1016, rfl⟩
abbrev main_c_121 : Ref sig .tc := ⟨.hbm, 1017, rfl⟩
abbrev main_call36_v0 : Ref sig .tc := ⟨.hbm, 1018, rfl⟩
abbrev main_call36_v1 : Ref sig .tc := ⟨.hbm, 1019, rfl⟩
abbrev main_call36_v2 : Ref sig .tc := ⟨.hbm, 1020, rfl⟩
abbrev main_call36_v3 : Ref sig .tc := ⟨.hbm, 1021, rfl⟩
abbrev main_v692 : Ref sig .tc := ⟨.hbm, 1022, rfl⟩
abbrev main_call37_v0 : Ref sig .tc := ⟨.hbm, 1023, rfl⟩
abbrev main_call37_v1 : Ref sig .tc := ⟨.hbm, 1024, rfl⟩
abbrev main_call37_v2 : Ref sig .tc := ⟨.hbm, 1025, rfl⟩
abbrev main_call37_v3 : Ref sig .tc := ⟨.hbm, 1026, rfl⟩
abbrev main_call37_v4 : Ref sig .tc := ⟨.hbm, 1027, rfl⟩
abbrev main_call37_v5 : Ref sig .tc := ⟨.hbm, 1028, rfl⟩
abbrev main_call37_v6 : Ref sig .tc := ⟨.hbm, 1029, rfl⟩
abbrev main_v693 : Ref sig .tc := ⟨.hbm, 1030, rfl⟩
abbrev main_cst_122 : Ref sig .tc := ⟨.hbm, 1031, rfl⟩
abbrev main_v694 : Ref sig .tc := ⟨.hbm, 1032, rfl⟩
abbrev main_v695 : Ref sig .tc := ⟨.hbm, 1033, rfl⟩
abbrev main_v696 : Ref sig .tc := ⟨.hbm, 1034, rfl⟩
abbrev main_v697 : Ref sig .tc := ⟨.hbm, 1035, rfl⟩
abbrev main_cst_123 : Ref sig .tc := ⟨.hbm, 1036, rfl⟩
abbrev main_v698 : Ref sig .tc := ⟨.hbm, 1037, rfl⟩
abbrev main_v699 : Ref sig .tc := ⟨.hbm, 1038, rfl⟩
abbrev main_v700 : Ref sig .tc := ⟨.hbm, 1039, rfl⟩
abbrev main_v701 : Ref sig .tc := ⟨.hbm, 1040, rfl⟩
abbrev main_v702 : Ref sig .tc := ⟨.hbm, 1041, rfl⟩
abbrev main_v703 : Ref sig .tc := ⟨.hbm, 1042, rfl⟩
abbrev main_v704 : Ref sig .tc := ⟨.hbm, 1043, rfl⟩
abbrev main_v705 : Ref sig .tc := ⟨.hbm, 1044, rfl⟩
abbrev main_v706 : Ref sig .tc := ⟨.hbm, 1045, rfl⟩
abbrev main_v707 : Ref sig .tc := ⟨.hbm, 1046, rfl⟩
abbrev main_cst_124 : Ref sig .tc := ⟨.hbm, 1047, rfl⟩
abbrev main_v708 : Ref sig .tc := ⟨.hbm, 1048, rfl⟩
abbrev main_v709 : Ref sig .tc := ⟨.hbm, 1049, rfl⟩
abbrev main_v710 : Ref sig .tc := ⟨.hbm, 1050, rfl⟩
abbrev main_v711 : Ref sig .tc := ⟨.hbm, 1051, rfl⟩
abbrev main_v712 : Ref sig .tc := ⟨.hbm, 1052, rfl⟩
abbrev main_v713 : Ref sig .tc := ⟨.hbm, 1053, rfl⟩
abbrev main_c_125 : Ref sig .tc := ⟨.hbm, 1054, rfl⟩
abbrev main_c_126 : Ref sig .tc := ⟨.hbm, 1055, rfl⟩
abbrev main_call38_v0 : Ref sig .tc := ⟨.hbm, 1056, rfl⟩
abbrev main_call38_v1 : Ref sig .tc := ⟨.hbm, 1057, rfl⟩
abbrev main_call38_v2 : Ref sig .tc := ⟨.hbm, 1058, rfl⟩
abbrev main_call38_v3 : Ref sig .tc := ⟨.hbm, 1059, rfl⟩
abbrev main_v714 : Ref sig .tc := ⟨.hbm, 1060, rfl⟩
abbrev main_call39_v0 : Ref sig .tc := ⟨.hbm, 1061, rfl⟩
abbrev main_call39_v1 : Ref sig .tc := ⟨.hbm, 1062, rfl⟩
abbrev main_call39_v2 : Ref sig .tc := ⟨.hbm, 1063, rfl⟩
abbrev main_call39_v3 : Ref sig .tc := ⟨.hbm, 1064, rfl⟩
abbrev main_call39_v4 : Ref sig .tc := ⟨.hbm, 1065, rfl⟩
abbrev main_call39_v5 : Ref sig .tc := ⟨.hbm, 1066, rfl⟩
abbrev main_call39_v6 : Ref sig .tc := ⟨.hbm, 1067, rfl⟩
abbrev main_v715 : Ref sig .tc := ⟨.hbm, 1068, rfl⟩
abbrev main_cst_127 : Ref sig .tc := ⟨.hbm, 1069, rfl⟩
abbrev main_v716 : Ref sig .tc := ⟨.hbm, 1070, rfl⟩
abbrev main_v717 : Ref sig .tc := ⟨.hbm, 1071, rfl⟩
abbrev main_v718 : Ref sig .tc := ⟨.hbm, 1072, rfl⟩
abbrev main_v719 : Ref sig .tc := ⟨.hbm, 1073, rfl⟩
abbrev main_cst_128 : Ref sig .tc := ⟨.hbm, 1074, rfl⟩
abbrev main_v720 : Ref sig .tc := ⟨.hbm, 1075, rfl⟩
abbrev main_v721 : Ref sig .tc := ⟨.hbm, 1076, rfl⟩
abbrev main_v722 : Ref sig .tc := ⟨.hbm, 1077, rfl⟩
abbrev main_v723 : Ref sig .tc := ⟨.hbm, 1078, rfl⟩
abbrev main_v724 : Ref sig .tc := ⟨.hbm, 1079, rfl⟩
abbrev main_v725 : Ref sig .tc := ⟨.hbm, 1080, rfl⟩
abbrev main_v726 : Ref sig .tc := ⟨.hbm, 1081, rfl⟩
abbrev main_v727 : Ref sig .tc := ⟨.hbm, 1082, rfl⟩
abbrev main_v728 : Ref sig .tc := ⟨.hbm, 1083, rfl⟩
abbrev main_v729 : Ref sig .tc := ⟨.hbm, 1084, rfl⟩
abbrev main_cst_129 : Ref sig .tc := ⟨.hbm, 1085, rfl⟩
abbrev main_v730 : Ref sig .tc := ⟨.hbm, 1086, rfl⟩
abbrev main_v731 : Ref sig .tc := ⟨.hbm, 1087, rfl⟩
abbrev main_v732 : Ref sig .tc := ⟨.hbm, 1088, rfl⟩
abbrev main_v733 : Ref sig .tc := ⟨.hbm, 1089, rfl⟩
abbrev main_v734 : Ref sig .tc := ⟨.hbm, 1090, rfl⟩
abbrev main_v735 : Ref sig .tc := ⟨.hbm, 1091, rfl⟩
abbrev main_c_130 : Ref sig .tc := ⟨.hbm, 1092, rfl⟩
abbrev main_c_131 : Ref sig .tc := ⟨.hbm, 1093, rfl⟩
abbrev main_call40_v0 : Ref sig .tc := ⟨.hbm, 1094, rfl⟩
abbrev main_call40_v1 : Ref sig .tc := ⟨.hbm, 1095, rfl⟩
abbrev main_call40_v2 : Ref sig .tc := ⟨.hbm, 1096, rfl⟩
abbrev main_call40_v3 : Ref sig .tc := ⟨.hbm, 1097, rfl⟩
abbrev main_v736 : Ref sig .tc := ⟨.hbm, 1098, rfl⟩
abbrev main_call41_v0 : Ref sig .tc := ⟨.hbm, 1099, rfl⟩
abbrev main_call41_v1 : Ref sig .tc := ⟨.hbm, 1100, rfl⟩
abbrev main_call41_v2 : Ref sig .tc := ⟨.hbm, 1101, rfl⟩
abbrev main_call41_v3 : Ref sig .tc := ⟨.hbm, 1102, rfl⟩
abbrev main_call41_v4 : Ref sig .tc := ⟨.hbm, 1103, rfl⟩
abbrev main_call41_v5 : Ref sig .tc := ⟨.hbm, 1104, rfl⟩
abbrev main_call41_v6 : Ref sig .tc := ⟨.hbm, 1105, rfl⟩
abbrev main_v737 : Ref sig .tc := ⟨.hbm, 1106, rfl⟩
abbrev main_cst_132 : Ref sig .tc := ⟨.hbm, 1107, rfl⟩
abbrev main_v738 : Ref sig .tc := ⟨.hbm, 1108, rfl⟩
abbrev main_v739 : Ref sig .tc := ⟨.hbm, 1109, rfl⟩
abbrev main_v740 : Ref sig .tc := ⟨.hbm, 1110, rfl⟩
abbrev main_v741 : Ref sig .tc := ⟨.hbm, 1111, rfl⟩
abbrev main_cst_133 : Ref sig .tc := ⟨.hbm, 1112, rfl⟩
abbrev main_v742 : Ref sig .tc := ⟨.hbm, 1113, rfl⟩
abbrev main_v743 : Ref sig .tc := ⟨.hbm, 1114, rfl⟩
abbrev main_v744 : Ref sig .tc := ⟨.hbm, 1115, rfl⟩
abbrev main_v745 : Ref sig .tc := ⟨.hbm, 1116, rfl⟩
abbrev main_v746 : Ref sig .tc := ⟨.hbm, 1117, rfl⟩
abbrev main_v747 : Ref sig .tc := ⟨.hbm, 1118, rfl⟩
abbrev main_v748 : Ref sig .tc := ⟨.hbm, 1119, rfl⟩
abbrev main_v749 : Ref sig .tc := ⟨.hbm, 1120, rfl⟩
abbrev main_v750 : Ref sig .tc := ⟨.hbm, 1121, rfl⟩
abbrev main_v751 : Ref sig .tc := ⟨.hbm, 1122, rfl⟩
abbrev main_cst_134 : Ref sig .tc := ⟨.hbm, 1123, rfl⟩
abbrev main_v752 : Ref sig .tc := ⟨.hbm, 1124, rfl⟩
abbrev main_v753 : Ref sig .tc := ⟨.hbm, 1125, rfl⟩
abbrev main_v754 : Ref sig .tc := ⟨.hbm, 1126, rfl⟩
abbrev main_v755 : Ref sig .tc := ⟨.hbm, 1127, rfl⟩
abbrev main_v756 : Ref sig .tc := ⟨.hbm, 1128, rfl⟩
abbrev main_v757 : Ref sig .tc := ⟨.hbm, 1129, rfl⟩
abbrev main_c_135 : Ref sig .tc := ⟨.hbm, 1130, rfl⟩
abbrev main_c_136 : Ref sig .tc := ⟨.hbm, 1131, rfl⟩
abbrev main_call42_v0 : Ref sig .tc := ⟨.hbm, 1132, rfl⟩
abbrev main_call42_v1 : Ref sig .tc := ⟨.hbm, 1133, rfl⟩
abbrev main_call42_v2 : Ref sig .tc := ⟨.hbm, 1134, rfl⟩
abbrev main_call42_v3 : Ref sig .tc := ⟨.hbm, 1135, rfl⟩
abbrev main_v758 : Ref sig .tc := ⟨.hbm, 1136, rfl⟩
abbrev main_call43_v0 : Ref sig .tc := ⟨.hbm, 1137, rfl⟩
abbrev main_call43_v1 : Ref sig .tc := ⟨.hbm, 1138, rfl⟩
abbrev main_call43_v2 : Ref sig .tc := ⟨.hbm, 1139, rfl⟩
abbrev main_call43_v3 : Ref sig .tc := ⟨.hbm, 1140, rfl⟩
abbrev main_call43_v4 : Ref sig .tc := ⟨.hbm, 1141, rfl⟩
abbrev main_call43_v5 : Ref sig .tc := ⟨.hbm, 1142, rfl⟩
abbrev main_call43_v6 : Ref sig .tc := ⟨.hbm, 1143, rfl⟩
abbrev main_v759 : Ref sig .tc := ⟨.hbm, 1144, rfl⟩
abbrev main_cst_137 : Ref sig .tc := ⟨.hbm, 1145, rfl⟩
abbrev main_v760 : Ref sig .tc := ⟨.hbm, 1146, rfl⟩
abbrev main_v761 : Ref sig .tc := ⟨.hbm, 1147, rfl⟩
abbrev main_v762 : Ref sig .tc := ⟨.hbm, 1148, rfl⟩
abbrev main_v763 : Ref sig .tc := ⟨.hbm, 1149, rfl⟩
abbrev main_cst_138 : Ref sig .tc := ⟨.hbm, 1150, rfl⟩
abbrev main_v764 : Ref sig .tc := ⟨.hbm, 1151, rfl⟩
abbrev main_v765 : Ref sig .tc := ⟨.hbm, 1152, rfl⟩
abbrev main_v766 : Ref sig .tc := ⟨.hbm, 1153, rfl⟩
abbrev main_v767 : Ref sig .tc := ⟨.hbm, 1154, rfl⟩
abbrev main_v768 : Ref sig .tc := ⟨.hbm, 1155, rfl⟩
abbrev main_v769 : Ref sig .tc := ⟨.hbm, 1156, rfl⟩
abbrev main_v770 : Ref sig .tc := ⟨.hbm, 1157, rfl⟩
abbrev main_v771 : Ref sig .tc := ⟨.hbm, 1158, rfl⟩
abbrev main_v772 : Ref sig .tc := ⟨.hbm, 1159, rfl⟩
abbrev main_v773 : Ref sig .tc := ⟨.hbm, 1160, rfl⟩
abbrev main_cst_139 : Ref sig .tc := ⟨.hbm, 1161, rfl⟩
abbrev main_v774 : Ref sig .tc := ⟨.hbm, 1162, rfl⟩
abbrev main_v775 : Ref sig .tc := ⟨.hbm, 1163, rfl⟩
abbrev main_v776 : Ref sig .tc := ⟨.hbm, 1164, rfl⟩
abbrev main_v777 : Ref sig .tc := ⟨.hbm, 1165, rfl⟩
abbrev main_v778 : Ref sig .tc := ⟨.hbm, 1166, rfl⟩
abbrev main_v779 : Ref sig .tc := ⟨.hbm, 1167, rfl⟩
abbrev main_c_140 : Ref sig .tc := ⟨.hbm, 1168, rfl⟩
abbrev main_c_141 : Ref sig .tc := ⟨.hbm, 1169, rfl⟩
abbrev main_call44_v0 : Ref sig .tc := ⟨.hbm, 1170, rfl⟩
abbrev main_call44_v1 : Ref sig .tc := ⟨.hbm, 1171, rfl⟩
abbrev main_call44_v2 : Ref sig .tc := ⟨.hbm, 1172, rfl⟩
abbrev main_call44_v3 : Ref sig .tc := ⟨.hbm, 1173, rfl⟩
abbrev main_v780 : Ref sig .tc := ⟨.hbm, 1174, rfl⟩
abbrev main_call45_v0 : Ref sig .tc := ⟨.hbm, 1175, rfl⟩
abbrev main_call45_v1 : Ref sig .tc := ⟨.hbm, 1176, rfl⟩
abbrev main_call45_v2 : Ref sig .tc := ⟨.hbm, 1177, rfl⟩
abbrev main_call45_v3 : Ref sig .tc := ⟨.hbm, 1178, rfl⟩
abbrev main_call45_v4 : Ref sig .tc := ⟨.hbm, 1179, rfl⟩
abbrev main_call45_v5 : Ref sig .tc := ⟨.hbm, 1180, rfl⟩
abbrev main_call45_v6 : Ref sig .tc := ⟨.hbm, 1181, rfl⟩
abbrev main_v781 : Ref sig .tc := ⟨.hbm, 1182, rfl⟩
abbrev main_cst_142 : Ref sig .tc := ⟨.hbm, 1183, rfl⟩
abbrev main_v782 : Ref sig .tc := ⟨.hbm, 1184, rfl⟩
abbrev main_v783 : Ref sig .tc := ⟨.hbm, 1185, rfl⟩
abbrev main_v784 : Ref sig .tc := ⟨.hbm, 1186, rfl⟩
abbrev main_v785 : Ref sig .tc := ⟨.hbm, 1187, rfl⟩
abbrev main_cst_143 : Ref sig .tc := ⟨.hbm, 1188, rfl⟩
abbrev main_v786 : Ref sig .tc := ⟨.hbm, 1189, rfl⟩
abbrev main_v787 : Ref sig .tc := ⟨.hbm, 1190, rfl⟩
abbrev main_v788 : Ref sig .tc := ⟨.hbm, 1191, rfl⟩
abbrev main_v789 : Ref sig .tc := ⟨.hbm, 1192, rfl⟩
abbrev main_call46_v0 : Ref sig .tc := ⟨.hbm, 1193, rfl⟩
abbrev main_call46_v1 : Ref sig .tc := ⟨.hbm, 1194, rfl⟩
abbrev main_call46_v2 : Ref sig .tc := ⟨.hbm, 1195, rfl⟩
abbrev main_call46_v3 : Ref sig .tc := ⟨.hbm, 1196, rfl⟩
abbrev main_call46_v4 : Ref sig .tc := ⟨.hbm, 1197, rfl⟩
abbrev main_call46_v5 : Ref sig .tc := ⟨.hbm, 1198, rfl⟩
abbrev main_call46_v6 : Ref sig .tc := ⟨.hbm, 1199, rfl⟩
abbrev main_v790 : Ref sig .tc := ⟨.hbm, 1200, rfl⟩
abbrev main_c_144 : Ref sig .tc := ⟨.hbm, 1201, rfl⟩
abbrev main_v791 : Ref sig .tc := ⟨.hbm, 1202, rfl⟩
abbrev main_v792 : Ref sig .tc := ⟨.hbm, 1203, rfl⟩
abbrev main_v793 : Ref sig .tc := ⟨.hbm, 1204, rfl⟩
abbrev main_v794 : Ref sig .tc := ⟨.hbm, 1205, rfl⟩
abbrev main_v795 : Ref sig .tc := ⟨.hbm, 1206, rfl⟩
abbrev main_v796 : Ref sig .tc := ⟨.hbm, 1207, rfl⟩
abbrev main_c_145 : Ref sig .tc := ⟨.hbm, 1208, rfl⟩
abbrev main_c_146 : Ref sig .tc := ⟨.hbm, 1209, rfl⟩
abbrev main_call47_v0 : Ref sig .tc := ⟨.hbm, 1210, rfl⟩
abbrev main_call47_v1 : Ref sig .tc := ⟨.hbm, 1211, rfl⟩
abbrev main_v797 : Ref sig .tc := ⟨.hbm, 1212, rfl⟩
abbrev main_c_147 : Ref sig .tc := ⟨.hbm, 1213, rfl⟩
abbrev main_v798 : Ref sig .tc := ⟨.hbm, 1214, rfl⟩
abbrev main_v799 : Ref sig .tc := ⟨.hbm, 1215, rfl⟩
abbrev main_v800 : Ref sig .tc := ⟨.hbm, 1216, rfl⟩
abbrev main_v801 : Ref sig .tc := ⟨.hbm, 1217, rfl⟩
abbrev main_v802 : Ref sig .tc := ⟨.hbm, 1218, rfl⟩
abbrev main_v803 : Ref sig .tc := ⟨.hbm, 1219, rfl⟩
abbrev main_call48_v0 : Ref sig .tc := ⟨.hbm, 1220, rfl⟩
abbrev main_v804 : Ref sig .tc := ⟨.hbm, 1221, rfl⟩
abbrev main_v805 : Ref sig .tc := ⟨.hbm, 1222, rfl⟩
abbrev main_c_148 : Ref sig .tc := ⟨.hbm, 1223, rfl⟩
abbrev main_call49_v0 : Ref sig .tc := ⟨.hbm, 1224, rfl⟩
abbrev main_v806 : Ref sig .tc := ⟨.hbm, 1225, rfl⟩
abbrev main_v807 : Ref sig .tc := ⟨.hbm, 1226, rfl⟩
abbrev main_v808 : Ref sig .tc := ⟨.hbm, 1227, rfl⟩
abbrev main_v809 : Ref sig .tc := ⟨.hbm, 1228, rfl⟩
abbrev main_v810 : Ref sig .tc := ⟨.hbm, 1229, rfl⟩
abbrev main_v811 : Ref sig .tc := ⟨.hbm, 1230, rfl⟩
abbrev main_v812 : Ref sig .tc := ⟨.hbm, 1231, rfl⟩
abbrev main_v813 : Ref sig .tc := ⟨.hbm, 1232, rfl⟩
abbrev main_v814 : Ref sig .tc := ⟨.hbm, 1233, rfl⟩
abbrev main_cst_149 : Ref sig .tc := ⟨.hbm, 1234, rfl⟩
abbrev main_v815 : Ref sig .tc := ⟨.hbm, 1235, rfl⟩
abbrev main_cst_150 : Ref sig .tc := ⟨.hbm, 1236, rfl⟩
abbrev main_v816 : Ref sig .tc := ⟨.hbm, 1237, rfl⟩
abbrev main_v817 : Ref sig .tc := ⟨.hbm, 1238, rfl⟩
abbrev main_v818 : Ref sig .tc := ⟨.hbm, 1239, rfl⟩
abbrev main_v819 : Ref sig .tc := ⟨.hbm, 1240, rfl⟩
abbrev main_v820 : Ref sig .tc := ⟨.hbm, 1241, rfl⟩
abbrev main_v821 : Ref sig .tc := ⟨.hbm, 1242, rfl⟩
abbrev main_v822 : Ref sig .tc := ⟨.hbm, 1243, rfl⟩
abbrev main_v823 : Ref sig .tc := ⟨.hbm, 1244, rfl⟩
abbrev main_v824 : Ref sig .tc := ⟨.hbm, 1245, rfl⟩
abbrev main_v825 : Ref sig .tc := ⟨.hbm, 1246, rfl⟩
abbrev main_cst_151 : Ref sig .tc := ⟨.hbm, 1247, rfl⟩
abbrev main_v826 : Ref sig .tc := ⟨.hbm, 1248, rfl⟩
abbrev main_v827 : Ref sig .tc := ⟨.hbm, 1249, rfl⟩
abbrev main_v828 : Ref sig .tc := ⟨.hbm, 1250, rfl⟩
abbrev main_v829 : Ref sig .tc := ⟨.hbm, 1251, rfl⟩
abbrev main_v830 : Ref sig .tc := ⟨.hbm, 1252, rfl⟩
abbrev main_v831 : Ref sig .tc := ⟨.hbm, 1253, rfl⟩
abbrev main_v832 : Ref sig .tc := ⟨.hbm, 1254, rfl⟩
abbrev main_v833 : Ref sig .tc := ⟨.hbm, 1255, rfl⟩
abbrev main_v834 : Ref sig .tc := ⟨.hbm, 1256, rfl⟩
abbrev main_v835 : Ref sig .tc := ⟨.hbm, 1257, rfl⟩
abbrev main_cst_152 : Ref sig .tc := ⟨.hbm, 1258, rfl⟩
abbrev main_v836 : Ref sig .tc := ⟨.hbm, 1259, rfl⟩
abbrev main_v837 : Ref sig .tc := ⟨.hbm, 1260, rfl⟩
abbrev main_v838 : Ref sig .tc := ⟨.hbm, 1261, rfl⟩
abbrev main_v839 : Ref sig .tc := ⟨.hbm, 1262, rfl⟩
abbrev main_v840 : Ref sig .tc := ⟨.hbm, 1263, rfl⟩
abbrev main_v841 : Ref sig .tc := ⟨.hbm, 1264, rfl⟩
abbrev main_v842 : Ref sig .tc := ⟨.hbm, 1265, rfl⟩
abbrev main_v843 : Ref sig .tc := ⟨.hbm, 1266, rfl⟩
abbrev main_v844 : Ref sig .tc := ⟨.hbm, 1267, rfl⟩
abbrev main_v845 : Ref sig .tc := ⟨.hbm, 1268, rfl⟩
abbrev main_cst_153 : Ref sig .tc := ⟨.hbm, 1269, rfl⟩
abbrev main_v846 : Ref sig .tc := ⟨.hbm, 1270, rfl⟩
abbrev main_v847 : Ref sig .tc := ⟨.hbm, 1271, rfl⟩
abbrev main_v848 : Ref sig .tc := ⟨.hbm, 1272, rfl⟩
abbrev main_v849 : Ref sig .tc := ⟨.hbm, 1273, rfl⟩
abbrev main_v850 : Ref sig .tc := ⟨.hbm, 1274, rfl⟩
abbrev main_v851 : Ref sig .tc := ⟨.hbm, 1275, rfl⟩
abbrev main_v852 : Ref sig .tc := ⟨.hbm, 1276, rfl⟩
abbrev main_v853 : Ref sig .tc := ⟨.hbm, 1277, rfl⟩
abbrev main_v854 : Ref sig .tc := ⟨.hbm, 1278, rfl⟩
abbrev main_v855 : Ref sig .tc := ⟨.hbm, 1279, rfl⟩
abbrev main_cst_154 : Ref sig .tc := ⟨.hbm, 1280, rfl⟩
abbrev main_v856 : Ref sig .tc := ⟨.hbm, 1281, rfl⟩
abbrev main_v857 : Ref sig .tc := ⟨.hbm, 1282, rfl⟩
abbrev main_v858 : Ref sig .tc := ⟨.hbm, 1283, rfl⟩
abbrev main_v859 : Ref sig .tc := ⟨.hbm, 1284, rfl⟩
abbrev main_v860 : Ref sig .tc := ⟨.hbm, 1285, rfl⟩
abbrev main_v861 : Ref sig .tc := ⟨.hbm, 1286, rfl⟩
abbrev main_v862 : Ref sig .tc := ⟨.hbm, 1287, rfl⟩
abbrev main_v863 : Ref sig .tc := ⟨.hbm, 1288, rfl⟩
abbrev main_v864 : Ref sig .tc := ⟨.hbm, 1289, rfl⟩
abbrev main_v865 : Ref sig .tc := ⟨.hbm, 1290, rfl⟩
abbrev main_cst_155 : Ref sig .tc := ⟨.hbm, 1291, rfl⟩
abbrev main_v866 : Ref sig .tc := ⟨.hbm, 1292, rfl⟩
abbrev main_v867 : Ref sig .tc := ⟨.hbm, 1293, rfl⟩
abbrev main_v868 : Ref sig .tc := ⟨.hbm, 1294, rfl⟩
abbrev main_v869 : Ref sig .tc := ⟨.hbm, 1295, rfl⟩
abbrev main_v870 : Ref sig .tc := ⟨.hbm, 1296, rfl⟩
abbrev main_v871 : Ref sig .tc := ⟨.hbm, 1297, rfl⟩
abbrev main_v872 : Ref sig .tc := ⟨.hbm, 1298, rfl⟩
abbrev main_v873 : Ref sig .tc := ⟨.hbm, 1299, rfl⟩
abbrev main_v874 : Ref sig .tc := ⟨.hbm, 1300, rfl⟩
abbrev main_v875 : Ref sig .tc := ⟨.hbm, 1301, rfl⟩
abbrev main_cst_156 : Ref sig .tc := ⟨.hbm, 1302, rfl⟩
abbrev main_v876 : Ref sig .tc := ⟨.hbm, 1303, rfl⟩
abbrev main_v877 : Ref sig .tc := ⟨.hbm, 1304, rfl⟩
abbrev main_v878 : Ref sig .tc := ⟨.hbm, 1305, rfl⟩
abbrev main_v879 : Ref sig .tc := ⟨.hbm, 1306, rfl⟩
abbrev main_v880 : Ref sig .tc := ⟨.hbm, 1307, rfl⟩
abbrev main_v881 : Ref sig .tc := ⟨.hbm, 1308, rfl⟩
abbrev main_v882 : Ref sig .tc := ⟨.hbm, 1309, rfl⟩
abbrev main_v883 : Ref sig .tc := ⟨.hbm, 1310, rfl⟩
abbrev main_v884 : Ref sig .tc := ⟨.hbm, 1311, rfl⟩
abbrev main_v885 : Ref sig .tc := ⟨.hbm, 1312, rfl⟩
abbrev main_cst_157 : Ref sig .tc := ⟨.hbm, 1313, rfl⟩
abbrev main_v886 : Ref sig .tc := ⟨.hbm, 1314, rfl⟩
abbrev main_v887 : Ref sig .tc := ⟨.hbm, 1315, rfl⟩
abbrev main_v888 : Ref sig .tc := ⟨.hbm, 1316, rfl⟩
abbrev main_v889 : Ref sig .tc := ⟨.hbm, 1317, rfl⟩
abbrev main_v890 : Ref sig .tc := ⟨.hbm, 1318, rfl⟩
abbrev main_v891 : Ref sig .tc := ⟨.hbm, 1319, rfl⟩
abbrev main_v892 : Ref sig .tc := ⟨.hbm, 1320, rfl⟩
abbrev main_v893 : Ref sig .tc := ⟨.hbm, 1321, rfl⟩
abbrev main_v894 : Ref sig .tc := ⟨.hbm, 1322, rfl⟩
abbrev main_v895 : Ref sig .tc := ⟨.hbm, 1323, rfl⟩
abbrev main_cst_158 : Ref sig .tc := ⟨.hbm, 1324, rfl⟩
abbrev main_v896 : Ref sig .tc := ⟨.hbm, 1325, rfl⟩
abbrev main_v897 : Ref sig .tc := ⟨.hbm, 1326, rfl⟩
abbrev main_v898 : Ref sig .tc := ⟨.hbm, 1327, rfl⟩
abbrev main_v899 : Ref sig .tc := ⟨.hbm, 1328, rfl⟩
abbrev main_v900 : Ref sig .tc := ⟨.hbm, 1329, rfl⟩
abbrev main_v901 : Ref sig .tc := ⟨.hbm, 1330, rfl⟩
abbrev main_v902 : Ref sig .tc := ⟨.hbm, 1331, rfl⟩
abbrev main_v903 : Ref sig .tc := ⟨.hbm, 1332, rfl⟩
abbrev main_v904 : Ref sig .tc := ⟨.hbm, 1333, rfl⟩
abbrev main_v905 : Ref sig .tc := ⟨.hbm, 1334, rfl⟩
abbrev main_cst_159 : Ref sig .tc := ⟨.hbm, 1335, rfl⟩
abbrev main_v906 : Ref sig .tc := ⟨.hbm, 1336, rfl⟩
abbrev main_v907 : Ref sig .tc := ⟨.hbm, 1337, rfl⟩
abbrev main_v908 : Ref sig .tc := ⟨.hbm, 1338, rfl⟩
abbrev main_v909 : Ref sig .tc := ⟨.hbm, 1339, rfl⟩
abbrev main_v910 : Ref sig .tc := ⟨.hbm, 1340, rfl⟩
abbrev main_v911 : Ref sig .tc := ⟨.hbm, 1341, rfl⟩
abbrev main_v912 : Ref sig .tc := ⟨.hbm, 1342, rfl⟩
abbrev main_v913 : Ref sig .tc := ⟨.hbm, 1343, rfl⟩
abbrev main_v914 : Ref sig .tc := ⟨.hbm, 1344, rfl⟩
abbrev main_v915 : Ref sig .tc := ⟨.hbm, 1345, rfl⟩
abbrev main_cst_160 : Ref sig .tc := ⟨.hbm, 1346, rfl⟩
abbrev main_v916 : Ref sig .tc := ⟨.hbm, 1347, rfl⟩
abbrev main_v917 : Ref sig .tc := ⟨.hbm, 1348, rfl⟩
abbrev main_v918 : Ref sig .tc := ⟨.hbm, 1349, rfl⟩
abbrev main_v919 : Ref sig .tc := ⟨.hbm, 1350, rfl⟩
abbrev main_v920 : Ref sig .tc := ⟨.hbm, 1351, rfl⟩
abbrev main_v921 : Ref sig .tc := ⟨.hbm, 1352, rfl⟩
abbrev main_v922 : Ref sig .tc := ⟨.hbm, 1353, rfl⟩
abbrev main_v923 : Ref sig .tc := ⟨.hbm, 1354, rfl⟩
abbrev main_v924 : Ref sig .tc := ⟨.hbm, 1355, rfl⟩
abbrev main_v925 : Ref sig .tc := ⟨.hbm, 1356, rfl⟩
abbrev main_cst_161 : Ref sig .tc := ⟨.hbm, 1357, rfl⟩
abbrev main_v926 : Ref sig .tc := ⟨.hbm, 1358, rfl⟩
abbrev main_v927 : Ref sig .tc := ⟨.hbm, 1359, rfl⟩
abbrev main_v928 : Ref sig .tc := ⟨.hbm, 1360, rfl⟩
abbrev main_v929 : Ref sig .tc := ⟨.hbm, 1361, rfl⟩
abbrev main_v930 : Ref sig .tc := ⟨.hbm, 1362, rfl⟩
abbrev main_v931 : Ref sig .tc := ⟨.hbm, 1363, rfl⟩
abbrev main_v932 : Ref sig .tc := ⟨.hbm, 1364, rfl⟩
abbrev main_v933 : Ref sig .tc := ⟨.hbm, 1365, rfl⟩
abbrev main_v934 : Ref sig .tc := ⟨.hbm, 1366, rfl⟩
abbrev main_v935 : Ref sig .tc := ⟨.hbm, 1367, rfl⟩
abbrev main_cst_162 : Ref sig .tc := ⟨.hbm, 1368, rfl⟩
abbrev main_v936 : Ref sig .tc := ⟨.hbm, 1369, rfl⟩
abbrev main_v937 : Ref sig .tc := ⟨.hbm, 1370, rfl⟩
abbrev main_v938 : Ref sig .tc := ⟨.hbm, 1371, rfl⟩
abbrev main_v939 : Ref sig .tc := ⟨.hbm, 1372, rfl⟩
abbrev main_v940 : Ref sig .tc := ⟨.hbm, 1373, rfl⟩
abbrev main_v941 : Ref sig .tc := ⟨.hbm, 1374, rfl⟩
abbrev main_v942 : Ref sig .tc := ⟨.hbm, 1375, rfl⟩
abbrev main_v943 : Ref sig .tc := ⟨.hbm, 1376, rfl⟩
abbrev main_v944 : Ref sig .tc := ⟨.hbm, 1377, rfl⟩
abbrev main_v945 : Ref sig .tc := ⟨.hbm, 1378, rfl⟩
abbrev main_cst_163 : Ref sig .tc := ⟨.hbm, 1379, rfl⟩
abbrev main_v946 : Ref sig .tc := ⟨.hbm, 1380, rfl⟩
abbrev main_v947 : Ref sig .tc := ⟨.hbm, 1381, rfl⟩
abbrev main_v948 : Ref sig .tc := ⟨.hbm, 1382, rfl⟩
abbrev main_v949 : Ref sig .tc := ⟨.hbm, 1383, rfl⟩
abbrev main_v950 : Ref sig .tc := ⟨.hbm, 1384, rfl⟩
abbrev main_v951 : Ref sig .tc := ⟨.hbm, 1385, rfl⟩
abbrev main_v952 : Ref sig .tc := ⟨.hbm, 1386, rfl⟩
abbrev main_v953 : Ref sig .tc := ⟨.hbm, 1387, rfl⟩
abbrev main_v954 : Ref sig .tc := ⟨.hbm, 1388, rfl⟩
abbrev main_v955 : Ref sig .tc := ⟨.hbm, 1389, rfl⟩
abbrev main_cst_164 : Ref sig .tc := ⟨.hbm, 1390, rfl⟩
abbrev main_v956 : Ref sig .tc := ⟨.hbm, 1391, rfl⟩
abbrev main_v957 : Ref sig .tc := ⟨.hbm, 1392, rfl⟩
abbrev main_v958 : Ref sig .tc := ⟨.hbm, 1393, rfl⟩
abbrev main_v959 : Ref sig .tc := ⟨.hbm, 1394, rfl⟩
abbrev main_v960 : Ref sig .tc := ⟨.hbm, 1395, rfl⟩
abbrev main_v961 : Ref sig .tc := ⟨.hbm, 1396, rfl⟩
abbrev main_v962 : Ref sig .tc := ⟨.hbm, 1397, rfl⟩
abbrev main_v963 : Ref sig .tc := ⟨.hbm, 1398, rfl⟩
abbrev main_v964 : Ref sig .tc := ⟨.hbm, 1399, rfl⟩
abbrev main_v965 : Ref sig .tc := ⟨.hbm, 1400, rfl⟩
abbrev main_cst_165 : Ref sig .tc := ⟨.hbm, 1401, rfl⟩
abbrev main_v966 : Ref sig .tc := ⟨.hbm, 1402, rfl⟩
abbrev main_v967 : Ref sig .tc := ⟨.hbm, 1403, rfl⟩
abbrev main_v968 : Ref sig .tc := ⟨.hbm, 1404, rfl⟩
abbrev main_v969 : Ref sig .tc := ⟨.hbm, 1405, rfl⟩
abbrev main_v970 : Ref sig .tc := ⟨.hbm, 1406, rfl⟩
abbrev main_cst_166 : Ref sig .tc := ⟨.hbm, 1407, rfl⟩
abbrev main_call50_cst : Ref sig .tc := ⟨.hbm, 1408, rfl⟩
abbrev main_call50_v0 : Ref sig .tc := ⟨.hbm, 1409, rfl⟩
abbrev main_call50_v1 : Ref sig .tc := ⟨.hbm, 1410, rfl⟩
abbrev main_call50_v2 : Ref sig .tc := ⟨.hbm, 1411, rfl⟩
abbrev main_call50_v3 : Ref sig .tc := ⟨.hbm, 1412, rfl⟩
abbrev main_call50_v4 : Ref sig .tc := ⟨.hbm, 1413, rfl⟩
abbrev main_v971 : Ref sig .tc := ⟨.hbm, 1414, rfl⟩
abbrev main_c_167 : Ref sig .tc := ⟨.hbm, 1415, rfl⟩
abbrev main_call51_v0 : Ref sig .tc := ⟨.hbm, 1416, rfl⟩
abbrev main_v972 : Ref sig .tc := ⟨.hbm, 1417, rfl⟩
abbrev main_v973 : Ref sig .tc := ⟨.hbm, 1418, rfl⟩
abbrev main_v974 : Ref sig .tc := ⟨.hbm, 1419, rfl⟩
abbrev main_v975 : Ref sig .tc := ⟨.hbm, 1420, rfl⟩
abbrev main_v976 : Ref sig .tc := ⟨.hbm, 1421, rfl⟩
abbrev main_v977 : Ref sig .tc := ⟨.hbm, 1422, rfl⟩
abbrev main_v978 : Ref sig .tc := ⟨.hbm, 1423, rfl⟩
abbrev main_v979 : Ref sig .tc := ⟨.hbm, 1424, rfl⟩
abbrev main_cst_168 : Ref sig .tc := ⟨.hbm, 1425, rfl⟩
abbrev main_v980 : Ref sig .tc := ⟨.hbm, 1426, rfl⟩
abbrev main_cst_169 : Ref sig .tc := ⟨.hbm, 1427, rfl⟩
abbrev main_v981 : Ref sig .tc := ⟨.hbm, 1428, rfl⟩
abbrev main_v982 : Ref sig .tc := ⟨.hbm, 1429, rfl⟩
abbrev main_v983 : Ref sig .tc := ⟨.hbm, 1430, rfl⟩
abbrev main_v984 : Ref sig .tc := ⟨.hbm, 1431, rfl⟩
abbrev main_v985 : Ref sig .tc := ⟨.hbm, 1432, rfl⟩
abbrev main_v986 : Ref sig .tc := ⟨.hbm, 1433, rfl⟩
abbrev main_v987 : Ref sig .tc := ⟨.hbm, 1434, rfl⟩
abbrev main_v988 : Ref sig .tc := ⟨.hbm, 1435, rfl⟩
abbrev main_v989 : Ref sig .tc := ⟨.hbm, 1436, rfl⟩
abbrev main_cst_170 : Ref sig .tc := ⟨.hbm, 1437, rfl⟩
abbrev main_v990 : Ref sig .tc := ⟨.hbm, 1438, rfl⟩
abbrev main_v991 : Ref sig .tc := ⟨.hbm, 1439, rfl⟩
abbrev main_v992 : Ref sig .tc := ⟨.hbm, 1440, rfl⟩
abbrev main_v993 : Ref sig .tc := ⟨.hbm, 1441, rfl⟩
abbrev main_v994 : Ref sig .tc := ⟨.hbm, 1442, rfl⟩
abbrev main_v995 : Ref sig .tc := ⟨.hbm, 1443, rfl⟩
abbrev main_v996 : Ref sig .tc := ⟨.hbm, 1444, rfl⟩
abbrev main_v997 : Ref sig .tc := ⟨.hbm, 1445, rfl⟩
abbrev main_v998 : Ref sig .tc := ⟨.hbm, 1446, rfl⟩
abbrev main_cst_171 : Ref sig .tc := ⟨.hbm, 1447, rfl⟩
abbrev main_v999 : Ref sig .tc := ⟨.hbm, 1448, rfl⟩
abbrev main_v1000 : Ref sig .tc := ⟨.hbm, 1449, rfl⟩
abbrev main_v1001 : Ref sig .tc := ⟨.hbm, 1450, rfl⟩
abbrev main_v1002 : Ref sig .tc := ⟨.hbm, 1451, rfl⟩
abbrev main_v1003 : Ref sig .tc := ⟨.hbm, 1452, rfl⟩
abbrev main_v1004 : Ref sig .tc := ⟨.hbm, 1453, rfl⟩
abbrev main_v1005 : Ref sig .tc := ⟨.hbm, 1454, rfl⟩
abbrev main_v1006 : Ref sig .tc := ⟨.hbm, 1455, rfl⟩
abbrev main_v1007 : Ref sig .tc := ⟨.hbm, 1456, rfl⟩
abbrev main_cst_172 : Ref sig .tc := ⟨.hbm, 1457, rfl⟩
abbrev main_v1008 : Ref sig .tc := ⟨.hbm, 1458, rfl⟩
abbrev main_v1009 : Ref sig .tc := ⟨.hbm, 1459, rfl⟩
abbrev main_v1010 : Ref sig .tc := ⟨.hbm, 1460, rfl⟩
abbrev main_v1011 : Ref sig .tc := ⟨.hbm, 1461, rfl⟩
abbrev main_v1012 : Ref sig .tc := ⟨.hbm, 1462, rfl⟩
abbrev main_v1013 : Ref sig .tc := ⟨.hbm, 1463, rfl⟩
abbrev main_v1014 : Ref sig .tc := ⟨.hbm, 1464, rfl⟩
abbrev main_v1015 : Ref sig .tc := ⟨.hbm, 1465, rfl⟩
abbrev main_v1016 : Ref sig .tc := ⟨.hbm, 1466, rfl⟩
abbrev main_cst_173 : Ref sig .tc := ⟨.hbm, 1467, rfl⟩
abbrev main_v1017 : Ref sig .tc := ⟨.hbm, 1468, rfl⟩
abbrev main_v1018 : Ref sig .tc := ⟨.hbm, 1469, rfl⟩
abbrev main_v1019 : Ref sig .tc := ⟨.hbm, 1470, rfl⟩
abbrev main_v1020 : Ref sig .tc := ⟨.hbm, 1471, rfl⟩
abbrev main_v1021 : Ref sig .tc := ⟨.hbm, 1472, rfl⟩
abbrev main_v1022 : Ref sig .tc := ⟨.hbm, 1473, rfl⟩
abbrev main_v1023 : Ref sig .tc := ⟨.hbm, 1474, rfl⟩
abbrev main_v1024 : Ref sig .tc := ⟨.hbm, 1475, rfl⟩
abbrev main_v1025 : Ref sig .tc := ⟨.hbm, 1476, rfl⟩
abbrev main_cst_174 : Ref sig .tc := ⟨.hbm, 1477, rfl⟩
abbrev main_v1026 : Ref sig .tc := ⟨.hbm, 1478, rfl⟩
abbrev main_v1027 : Ref sig .tc := ⟨.hbm, 1479, rfl⟩
abbrev main_v1028 : Ref sig .tc := ⟨.hbm, 1480, rfl⟩
abbrev main_v1029 : Ref sig .tc := ⟨.hbm, 1481, rfl⟩
abbrev main_v1030 : Ref sig .tc := ⟨.hbm, 1482, rfl⟩
abbrev main_v1031 : Ref sig .tc := ⟨.hbm, 1483, rfl⟩
abbrev main_v1032 : Ref sig .tc := ⟨.hbm, 1484, rfl⟩
abbrev main_v1033 : Ref sig .tc := ⟨.hbm, 1485, rfl⟩
abbrev main_v1034 : Ref sig .tc := ⟨.hbm, 1486, rfl⟩
abbrev main_cst_175 : Ref sig .tc := ⟨.hbm, 1487, rfl⟩
abbrev main_v1035 : Ref sig .tc := ⟨.hbm, 1488, rfl⟩
abbrev main_v1036 : Ref sig .tc := ⟨.hbm, 1489, rfl⟩
abbrev main_v1037 : Ref sig .tc := ⟨.hbm, 1490, rfl⟩
abbrev main_v1038 : Ref sig .tc := ⟨.hbm, 1491, rfl⟩
abbrev main_v1039 : Ref sig .tc := ⟨.hbm, 1492, rfl⟩
abbrev main_v1040 : Ref sig .tc := ⟨.hbm, 1493, rfl⟩
abbrev main_v1041 : Ref sig .tc := ⟨.hbm, 1494, rfl⟩
abbrev main_v1042 : Ref sig .tc := ⟨.hbm, 1495, rfl⟩
abbrev main_v1043 : Ref sig .tc := ⟨.hbm, 1496, rfl⟩
abbrev main_cst_176 : Ref sig .tc := ⟨.hbm, 1497, rfl⟩
abbrev main_v1044 : Ref sig .tc := ⟨.hbm, 1498, rfl⟩
abbrev main_v1045 : Ref sig .tc := ⟨.hbm, 1499, rfl⟩
abbrev main_v1046 : Ref sig .tc := ⟨.hbm, 1500, rfl⟩
abbrev main_v1047 : Ref sig .tc := ⟨.hbm, 1501, rfl⟩
abbrev main_v1048 : Ref sig .tc := ⟨.hbm, 1502, rfl⟩
abbrev main_v1049 : Ref sig .tc := ⟨.hbm, 1503, rfl⟩
abbrev main_v1050 : Ref sig .tc := ⟨.hbm, 1504, rfl⟩
abbrev main_v1051 : Ref sig .tc := ⟨.hbm, 1505, rfl⟩
abbrev main_v1052 : Ref sig .tc := ⟨.hbm, 1506, rfl⟩
abbrev main_cst_177 : Ref sig .tc := ⟨.hbm, 1507, rfl⟩
abbrev main_v1053 : Ref sig .tc := ⟨.hbm, 1508, rfl⟩
abbrev main_v1054 : Ref sig .tc := ⟨.hbm, 1509, rfl⟩
abbrev main_v1055 : Ref sig .tc := ⟨.hbm, 1510, rfl⟩
abbrev main_v1056 : Ref sig .tc := ⟨.hbm, 1511, rfl⟩
abbrev main_v1057 : Ref sig .tc := ⟨.hbm, 1512, rfl⟩
abbrev main_v1058 : Ref sig .tc := ⟨.hbm, 1513, rfl⟩
abbrev main_v1059 : Ref sig .tc := ⟨.hbm, 1514, rfl⟩
abbrev main_v1060 : Ref sig .tc := ⟨.hbm, 1515, rfl⟩
abbrev main_v1061 : Ref sig .tc := ⟨.hbm, 1516, rfl⟩
abbrev main_cst_178 : Ref sig .tc := ⟨.hbm, 1517, rfl⟩
abbrev main_v1062 : Ref sig .tc := ⟨.hbm, 1518, rfl⟩
abbrev main_v1063 : Ref sig .tc := ⟨.hbm, 1519, rfl⟩
abbrev main_v1064 : Ref sig .tc := ⟨.hbm, 1520, rfl⟩
abbrev main_v1065 : Ref sig .tc := ⟨.hbm, 1521, rfl⟩
abbrev main_v1066 : Ref sig .tc := ⟨.hbm, 1522, rfl⟩
abbrev main_v1067 : Ref sig .tc := ⟨.hbm, 1523, rfl⟩
abbrev main_v1068 : Ref sig .tc := ⟨.hbm, 1524, rfl⟩
abbrev main_v1069 : Ref sig .tc := ⟨.hbm, 1525, rfl⟩
abbrev main_v1070 : Ref sig .tc := ⟨.hbm, 1526, rfl⟩
abbrev main_cst_179 : Ref sig .tc := ⟨.hbm, 1527, rfl⟩
abbrev main_v1071 : Ref sig .tc := ⟨.hbm, 1528, rfl⟩
abbrev main_v1072 : Ref sig .tc := ⟨.hbm, 1529, rfl⟩
abbrev main_v1073 : Ref sig .tc := ⟨.hbm, 1530, rfl⟩
abbrev main_v1074 : Ref sig .tc := ⟨.hbm, 1531, rfl⟩
abbrev main_v1075 : Ref sig .tc := ⟨.hbm, 1532, rfl⟩
abbrev main_v1076 : Ref sig .tc := ⟨.hbm, 1533, rfl⟩
abbrev main_v1077 : Ref sig .tc := ⟨.hbm, 1534, rfl⟩
abbrev main_v1078 : Ref sig .tc := ⟨.hbm, 1535, rfl⟩
abbrev main_v1079 : Ref sig .tc := ⟨.hbm, 1536, rfl⟩
abbrev main_cst_180 : Ref sig .tc := ⟨.hbm, 1537, rfl⟩
abbrev main_v1080 : Ref sig .tc := ⟨.hbm, 1538, rfl⟩
abbrev main_v1081 : Ref sig .tc := ⟨.hbm, 1539, rfl⟩
abbrev main_v1082 : Ref sig .tc := ⟨.hbm, 1540, rfl⟩
abbrev main_v1083 : Ref sig .tc := ⟨.hbm, 1541, rfl⟩
abbrev main_v1084 : Ref sig .tc := ⟨.hbm, 1542, rfl⟩
abbrev main_v1085 : Ref sig .tc := ⟨.hbm, 1543, rfl⟩
abbrev main_v1086 : Ref sig .tc := ⟨.hbm, 1544, rfl⟩
abbrev main_v1087 : Ref sig .tc := ⟨.hbm, 1545, rfl⟩
abbrev main_v1088 : Ref sig .tc := ⟨.hbm, 1546, rfl⟩
abbrev main_cst_181 : Ref sig .tc := ⟨.hbm, 1547, rfl⟩
abbrev main_v1089 : Ref sig .tc := ⟨.hbm, 1548, rfl⟩
abbrev main_v1090 : Ref sig .tc := ⟨.hbm, 1549, rfl⟩
abbrev main_v1091 : Ref sig .tc := ⟨.hbm, 1550, rfl⟩
abbrev main_v1092 : Ref sig .tc := ⟨.hbm, 1551, rfl⟩
abbrev main_v1093 : Ref sig .tc := ⟨.hbm, 1552, rfl⟩
abbrev main_v1094 : Ref sig .tc := ⟨.hbm, 1553, rfl⟩
abbrev main_v1095 : Ref sig .tc := ⟨.hbm, 1554, rfl⟩
abbrev main_v1096 : Ref sig .tc := ⟨.hbm, 1555, rfl⟩
abbrev main_v1097 : Ref sig .tc := ⟨.hbm, 1556, rfl⟩
abbrev main_cst_182 : Ref sig .tc := ⟨.hbm, 1557, rfl⟩
abbrev main_v1098 : Ref sig .tc := ⟨.hbm, 1558, rfl⟩
abbrev main_v1099 : Ref sig .tc := ⟨.hbm, 1559, rfl⟩
abbrev main_v1100 : Ref sig .tc := ⟨.hbm, 1560, rfl⟩
abbrev main_v1101 : Ref sig .tc := ⟨.hbm, 1561, rfl⟩
abbrev main_v1102 : Ref sig .tc := ⟨.hbm, 1562, rfl⟩
abbrev main_v1103 : Ref sig .tc := ⟨.hbm, 1563, rfl⟩
abbrev main_v1104 : Ref sig .tc := ⟨.hbm, 1564, rfl⟩
abbrev main_v1105 : Ref sig .tc := ⟨.hbm, 1565, rfl⟩
abbrev main_v1106 : Ref sig .tc := ⟨.hbm, 1566, rfl⟩
abbrev main_cst_183 : Ref sig .tc := ⟨.hbm, 1567, rfl⟩
abbrev main_v1107 : Ref sig .tc := ⟨.hbm, 1568, rfl⟩
abbrev main_v1108 : Ref sig .tc := ⟨.hbm, 1569, rfl⟩
abbrev main_v1109 : Ref sig .tc := ⟨.hbm, 1570, rfl⟩
abbrev main_v1110 : Ref sig .tc := ⟨.hbm, 1571, rfl⟩
abbrev main_v1111 : Ref sig .tc := ⟨.hbm, 1572, rfl⟩
abbrev main_v1112 : Ref sig .tc := ⟨.hbm, 1573, rfl⟩
abbrev main_v1113 : Ref sig .tc := ⟨.hbm, 1574, rfl⟩
abbrev main_v1114 : Ref sig .tc := ⟨.hbm, 1575, rfl⟩
abbrev main_v1115 : Ref sig .tc := ⟨.hbm, 1576, rfl⟩
abbrev main_cst_184 : Ref sig .tc := ⟨.hbm, 1577, rfl⟩
abbrev main_v1116 : Ref sig .tc := ⟨.hbm, 1578, rfl⟩
abbrev main_v1117 : Ref sig .tc := ⟨.hbm, 1579, rfl⟩
abbrev main_v1118 : Ref sig .tc := ⟨.hbm, 1580, rfl⟩
abbrev main_v1119 : Ref sig .tc := ⟨.hbm, 1581, rfl⟩
abbrev main_v1120 : Ref sig .tc := ⟨.hbm, 1582, rfl⟩
abbrev main_cst_185 : Ref sig .tc := ⟨.hbm, 1583, rfl⟩
abbrev main_v1121 : Ref sig .tc := ⟨.hbm, 1584, rfl⟩
abbrev main_cst_186 : Ref sig .tc := ⟨.hbm, 1585, rfl⟩
abbrev main_v1122 : Ref sig .tc := ⟨.hbm, 1586, rfl⟩
abbrev main_v1123 : Ref sig .tc := ⟨.hbm, 1587, rfl⟩
abbrev main_cst_187 : Ref sig .tc := ⟨.hbm, 1588, rfl⟩
abbrev main_v1124 : Ref sig .tc := ⟨.hbm, 1589, rfl⟩
abbrev main_v1125 : Ref sig .tc := ⟨.hbm, 1590, rfl⟩
abbrev main_v1126 : Ref sig .tc := ⟨.hbm, 1591, rfl⟩
abbrev main_v1127 : Ref sig .tc := ⟨.hbm, 1592, rfl⟩
abbrev main_v1128 : Ref sig .tc := ⟨.hbm, 1593, rfl⟩
abbrev main_v1129 : Ref sig .tc := ⟨.hbm, 1594, rfl⟩
abbrev main_v1130 : Ref sig .tc := ⟨.hbm, 1595, rfl⟩
abbrev main_v1131 : Ref sig .tc := ⟨.hbm, 1596, rfl⟩
abbrev main_v1132 : Ref sig .tc := ⟨.hbm, 1597, rfl⟩
abbrev main_cst_188 : Ref sig .tc := ⟨.hbm, 1598, rfl⟩
abbrev main_v1133 : Ref sig .tc := ⟨.hbm, 1599, rfl⟩
abbrev main_cst_189 : Ref sig .tc := ⟨.hbm, 1600, rfl⟩
abbrev main_v1134 : Ref sig .tc := ⟨.hbm, 1601, rfl⟩
abbrev main_v1135 : Ref sig .tc := ⟨.hbm, 1602, rfl⟩
abbrev main_v1136 : Ref sig .tc := ⟨.hbm, 1603, rfl⟩
abbrev main_v1137 : Ref sig .tc := ⟨.hbm, 1604, rfl⟩
abbrev main_v1138 : Ref sig .tc := ⟨.hbm, 1605, rfl⟩
abbrev main_v1139 : Ref sig .tc := ⟨.hbm, 1606, rfl⟩
abbrev main_v1140 : Ref sig .tc := ⟨.hbm, 1607, rfl⟩
abbrev main_v1141 : Ref sig .tc := ⟨.hbm, 1608, rfl⟩
abbrev main_v1142 : Ref sig .tc := ⟨.hbm, 1609, rfl⟩
abbrev main_cst_190 : Ref sig .tc := ⟨.hbm, 1610, rfl⟩
abbrev main_v1143 : Ref sig .tc := ⟨.hbm, 1611, rfl⟩
abbrev main_v1144 : Ref sig .tc := ⟨.hbm, 1612, rfl⟩
abbrev main_v1145 : Ref sig .tc := ⟨.hbm, 1613, rfl⟩
abbrev main_v1146 : Ref sig .tc := ⟨.hbm, 1614, rfl⟩
abbrev main_v1147 : Ref sig .tc := ⟨.hbm, 1615, rfl⟩
abbrev main_v1148 : Ref sig .tc := ⟨.hbm, 1616, rfl⟩
abbrev main_c_191 : Ref sig .tc := ⟨.hbm, 1617, rfl⟩
abbrev main_c_192 : Ref sig .tc := ⟨.hbm, 1618, rfl⟩
abbrev main_call52_v0 : Ref sig .tc := ⟨.hbm, 1619, rfl⟩
abbrev main_call52_v1 : Ref sig .tc := ⟨.hbm, 1620, rfl⟩
abbrev main_call52_v2 : Ref sig .tc := ⟨.hbm, 1621, rfl⟩
abbrev main_call52_v3 : Ref sig .tc := ⟨.hbm, 1622, rfl⟩
abbrev main_v1149 : Ref sig .tc := ⟨.hbm, 1623, rfl⟩
abbrev main_call53_v0 : Ref sig .tc := ⟨.hbm, 1624, rfl⟩
abbrev main_call53_v1 : Ref sig .tc := ⟨.hbm, 1625, rfl⟩
abbrev main_call53_v2 : Ref sig .tc := ⟨.hbm, 1626, rfl⟩
abbrev main_call53_v3 : Ref sig .tc := ⟨.hbm, 1627, rfl⟩
abbrev main_call53_v4 : Ref sig .tc := ⟨.hbm, 1628, rfl⟩
abbrev main_call53_v5 : Ref sig .tc := ⟨.hbm, 1629, rfl⟩
abbrev main_call53_v6 : Ref sig .tc := ⟨.hbm, 1630, rfl⟩
abbrev main_v1150 : Ref sig .tc := ⟨.hbm, 1631, rfl⟩
abbrev main_cst_193 : Ref sig .tc := ⟨.hbm, 1632, rfl⟩
abbrev main_v1151 : Ref sig .tc := ⟨.hbm, 1633, rfl⟩
abbrev main_v1152 : Ref sig .tc := ⟨.hbm, 1634, rfl⟩
abbrev main_v1153 : Ref sig .tc := ⟨.hbm, 1635, rfl⟩
abbrev main_v1154 : Ref sig .tc := ⟨.hbm, 1636, rfl⟩
abbrev main_cst_194 : Ref sig .tc := ⟨.hbm, 1637, rfl⟩
abbrev main_v1155 : Ref sig .tc := ⟨.hbm, 1638, rfl⟩
abbrev main_v1156 : Ref sig .tc := ⟨.hbm, 1639, rfl⟩
abbrev main_v1157 : Ref sig .tc := ⟨.hbm, 1640, rfl⟩
abbrev main_v1158 : Ref sig .tc := ⟨.hbm, 1641, rfl⟩
abbrev main_v1159 : Ref sig .tc := ⟨.hbm, 1642, rfl⟩
abbrev main_v1160 : Ref sig .tc := ⟨.hbm, 1643, rfl⟩
abbrev main_v1161 : Ref sig .tc := ⟨.hbm, 1644, rfl⟩
abbrev main_v1162 : Ref sig .tc := ⟨.hbm, 1645, rfl⟩
abbrev main_v1163 : Ref sig .tc := ⟨.hbm, 1646, rfl⟩
abbrev main_v1164 : Ref sig .tc := ⟨.hbm, 1647, rfl⟩
abbrev main_cst_195 : Ref sig .tc := ⟨.hbm, 1648, rfl⟩
abbrev main_v1165 : Ref sig .tc := ⟨.hbm, 1649, rfl⟩
abbrev main_v1166 : Ref sig .tc := ⟨.hbm, 1650, rfl⟩
abbrev main_v1167 : Ref sig .tc := ⟨.hbm, 1651, rfl⟩
abbrev main_v1168 : Ref sig .tc := ⟨.hbm, 1652, rfl⟩
abbrev main_v1169 : Ref sig .tc := ⟨.hbm, 1653, rfl⟩
abbrev main_v1170 : Ref sig .tc := ⟨.hbm, 1654, rfl⟩
abbrev main_c_196 : Ref sig .tc := ⟨.hbm, 1655, rfl⟩
abbrev main_c_197 : Ref sig .tc := ⟨.hbm, 1656, rfl⟩
abbrev main_call54_v0 : Ref sig .tc := ⟨.hbm, 1657, rfl⟩
abbrev main_call54_v1 : Ref sig .tc := ⟨.hbm, 1658, rfl⟩
abbrev main_call54_v2 : Ref sig .tc := ⟨.hbm, 1659, rfl⟩
abbrev main_call54_v3 : Ref sig .tc := ⟨.hbm, 1660, rfl⟩
abbrev main_v1171 : Ref sig .tc := ⟨.hbm, 1661, rfl⟩
abbrev main_call55_v0 : Ref sig .tc := ⟨.hbm, 1662, rfl⟩
abbrev main_call55_v1 : Ref sig .tc := ⟨.hbm, 1663, rfl⟩
abbrev main_call55_v2 : Ref sig .tc := ⟨.hbm, 1664, rfl⟩
abbrev main_call55_v3 : Ref sig .tc := ⟨.hbm, 1665, rfl⟩
abbrev main_call55_v4 : Ref sig .tc := ⟨.hbm, 1666, rfl⟩
abbrev main_call55_v5 : Ref sig .tc := ⟨.hbm, 1667, rfl⟩
abbrev main_call55_v6 : Ref sig .tc := ⟨.hbm, 1668, rfl⟩
abbrev main_v1172 : Ref sig .tc := ⟨.hbm, 1669, rfl⟩
abbrev main_cst_198 : Ref sig .tc := ⟨.hbm, 1670, rfl⟩
abbrev main_v1173 : Ref sig .tc := ⟨.hbm, 1671, rfl⟩
abbrev main_v1174 : Ref sig .tc := ⟨.hbm, 1672, rfl⟩
abbrev main_v1175 : Ref sig .tc := ⟨.hbm, 1673, rfl⟩
abbrev main_v1176 : Ref sig .tc := ⟨.hbm, 1674, rfl⟩
abbrev main_cst_199 : Ref sig .tc := ⟨.hbm, 1675, rfl⟩
abbrev main_v1177 : Ref sig .tc := ⟨.hbm, 1676, rfl⟩
abbrev main_v1178 : Ref sig .tc := ⟨.hbm, 1677, rfl⟩
abbrev main_v1179 : Ref sig .tc := ⟨.hbm, 1678, rfl⟩
abbrev main_v1180 : Ref sig .tc := ⟨.hbm, 1679, rfl⟩
abbrev main_v1181 : Ref sig .tc := ⟨.hbm, 1680, rfl⟩
abbrev main_v1182 : Ref sig .tc := ⟨.hbm, 1681, rfl⟩
abbrev main_v1183 : Ref sig .tc := ⟨.hbm, 1682, rfl⟩
abbrev main_v1184 : Ref sig .tc := ⟨.hbm, 1683, rfl⟩
abbrev main_v1185 : Ref sig .tc := ⟨.hbm, 1684, rfl⟩
abbrev main_v1186 : Ref sig .tc := ⟨.hbm, 1685, rfl⟩
abbrev main_cst_200 : Ref sig .tc := ⟨.hbm, 1686, rfl⟩
abbrev main_v1187 : Ref sig .tc := ⟨.hbm, 1687, rfl⟩
abbrev main_v1188 : Ref sig .tc := ⟨.hbm, 1688, rfl⟩
abbrev main_v1189 : Ref sig .tc := ⟨.hbm, 1689, rfl⟩
abbrev main_v1190 : Ref sig .tc := ⟨.hbm, 1690, rfl⟩
abbrev main_v1191 : Ref sig .tc := ⟨.hbm, 1691, rfl⟩
abbrev main_v1192 : Ref sig .tc := ⟨.hbm, 1692, rfl⟩
abbrev main_c_201 : Ref sig .tc := ⟨.hbm, 1693, rfl⟩
abbrev main_c_202 : Ref sig .tc := ⟨.hbm, 1694, rfl⟩
abbrev main_call56_v0 : Ref sig .tc := ⟨.hbm, 1695, rfl⟩
abbrev main_call56_v1 : Ref sig .tc := ⟨.hbm, 1696, rfl⟩
abbrev main_call56_v2 : Ref sig .tc := ⟨.hbm, 1697, rfl⟩
abbrev main_call56_v3 : Ref sig .tc := ⟨.hbm, 1698, rfl⟩
abbrev main_v1193 : Ref sig .tc := ⟨.hbm, 1699, rfl⟩
abbrev main_call57_v0 : Ref sig .tc := ⟨.hbm, 1700, rfl⟩
abbrev main_call57_v1 : Ref sig .tc := ⟨.hbm, 1701, rfl⟩
abbrev main_call57_v2 : Ref sig .tc := ⟨.hbm, 1702, rfl⟩
abbrev main_call57_v3 : Ref sig .tc := ⟨.hbm, 1703, rfl⟩
abbrev main_call57_v4 : Ref sig .tc := ⟨.hbm, 1704, rfl⟩
abbrev main_call57_v5 : Ref sig .tc := ⟨.hbm, 1705, rfl⟩
abbrev main_call57_v6 : Ref sig .tc := ⟨.hbm, 1706, rfl⟩
abbrev main_v1194 : Ref sig .tc := ⟨.hbm, 1707, rfl⟩
abbrev main_cst_203 : Ref sig .tc := ⟨.hbm, 1708, rfl⟩
abbrev main_v1195 : Ref sig .tc := ⟨.hbm, 1709, rfl⟩
abbrev main_v1196 : Ref sig .tc := ⟨.hbm, 1710, rfl⟩
abbrev main_v1197 : Ref sig .tc := ⟨.hbm, 1711, rfl⟩
abbrev main_v1198 : Ref sig .tc := ⟨.hbm, 1712, rfl⟩
abbrev main_cst_204 : Ref sig .tc := ⟨.hbm, 1713, rfl⟩
abbrev main_v1199 : Ref sig .tc := ⟨.hbm, 1714, rfl⟩
abbrev main_v1200 : Ref sig .tc := ⟨.hbm, 1715, rfl⟩
abbrev main_v1201 : Ref sig .tc := ⟨.hbm, 1716, rfl⟩
abbrev main_v1202 : Ref sig .tc := ⟨.hbm, 1717, rfl⟩
abbrev main_v1203 : Ref sig .tc := ⟨.hbm, 1718, rfl⟩
abbrev main_v1204 : Ref sig .tc := ⟨.hbm, 1719, rfl⟩
abbrev main_v1205 : Ref sig .tc := ⟨.hbm, 1720, rfl⟩
abbrev main_v1206 : Ref sig .tc := ⟨.hbm, 1721, rfl⟩
abbrev main_v1207 : Ref sig .tc := ⟨.hbm, 1722, rfl⟩
abbrev main_v1208 : Ref sig .tc := ⟨.hbm, 1723, rfl⟩
abbrev main_cst_205 : Ref sig .tc := ⟨.hbm, 1724, rfl⟩
abbrev main_v1209 : Ref sig .tc := ⟨.hbm, 1725, rfl⟩
abbrev main_v1210 : Ref sig .tc := ⟨.hbm, 1726, rfl⟩
abbrev main_v1211 : Ref sig .tc := ⟨.hbm, 1727, rfl⟩
abbrev main_v1212 : Ref sig .tc := ⟨.hbm, 1728, rfl⟩
abbrev main_v1213 : Ref sig .tc := ⟨.hbm, 1729, rfl⟩
abbrev main_v1214 : Ref sig .tc := ⟨.hbm, 1730, rfl⟩
abbrev main_c_206 : Ref sig .tc := ⟨.hbm, 1731, rfl⟩
abbrev main_c_207 : Ref sig .tc := ⟨.hbm, 1732, rfl⟩
abbrev main_call58_v0 : Ref sig .tc := ⟨.hbm, 1733, rfl⟩
abbrev main_call58_v1 : Ref sig .tc := ⟨.hbm, 1734, rfl⟩
abbrev main_call58_v2 : Ref sig .tc := ⟨.hbm, 1735, rfl⟩
abbrev main_call58_v3 : Ref sig .tc := ⟨.hbm, 1736, rfl⟩
abbrev main_v1215 : Ref sig .tc := ⟨.hbm, 1737, rfl⟩
abbrev main_call59_v0 : Ref sig .tc := ⟨.hbm, 1738, rfl⟩
abbrev main_call59_v1 : Ref sig .tc := ⟨.hbm, 1739, rfl⟩
abbrev main_call59_v2 : Ref sig .tc := ⟨.hbm, 1740, rfl⟩
abbrev main_call59_v3 : Ref sig .tc := ⟨.hbm, 1741, rfl⟩
abbrev main_call59_v4 : Ref sig .tc := ⟨.hbm, 1742, rfl⟩
abbrev main_call59_v5 : Ref sig .tc := ⟨.hbm, 1743, rfl⟩
abbrev main_call59_v6 : Ref sig .tc := ⟨.hbm, 1744, rfl⟩
abbrev main_v1216 : Ref sig .tc := ⟨.hbm, 1745, rfl⟩
abbrev main_cst_208 : Ref sig .tc := ⟨.hbm, 1746, rfl⟩
abbrev main_v1217 : Ref sig .tc := ⟨.hbm, 1747, rfl⟩
abbrev main_v1218 : Ref sig .tc := ⟨.hbm, 1748, rfl⟩
abbrev main_v1219 : Ref sig .tc := ⟨.hbm, 1749, rfl⟩
abbrev main_v1220 : Ref sig .tc := ⟨.hbm, 1750, rfl⟩
abbrev main_cst_209 : Ref sig .tc := ⟨.hbm, 1751, rfl⟩
abbrev main_v1221 : Ref sig .tc := ⟨.hbm, 1752, rfl⟩
abbrev main_v1222 : Ref sig .tc := ⟨.hbm, 1753, rfl⟩
abbrev main_v1223 : Ref sig .tc := ⟨.hbm, 1754, rfl⟩
abbrev main_v1224 : Ref sig .tc := ⟨.hbm, 1755, rfl⟩
abbrev main_v1225 : Ref sig .tc := ⟨.hbm, 1756, rfl⟩
abbrev main_v1226 : Ref sig .tc := ⟨.hbm, 1757, rfl⟩
abbrev main_v1227 : Ref sig .tc := ⟨.hbm, 1758, rfl⟩
abbrev main_v1228 : Ref sig .tc := ⟨.hbm, 1759, rfl⟩
abbrev main_v1229 : Ref sig .tc := ⟨.hbm, 1760, rfl⟩
abbrev main_v1230 : Ref sig .tc := ⟨.hbm, 1761, rfl⟩
abbrev main_cst_210 : Ref sig .tc := ⟨.hbm, 1762, rfl⟩
abbrev main_v1231 : Ref sig .tc := ⟨.hbm, 1763, rfl⟩
abbrev main_v1232 : Ref sig .tc := ⟨.hbm, 1764, rfl⟩
abbrev main_v1233 : Ref sig .tc := ⟨.hbm, 1765, rfl⟩
abbrev main_v1234 : Ref sig .tc := ⟨.hbm, 1766, rfl⟩
abbrev main_v1235 : Ref sig .tc := ⟨.hbm, 1767, rfl⟩
abbrev main_v1236 : Ref sig .tc := ⟨.hbm, 1768, rfl⟩
abbrev main_c_211 : Ref sig .tc := ⟨.hbm, 1769, rfl⟩
abbrev main_c_212 : Ref sig .tc := ⟨.hbm, 1770, rfl⟩
abbrev main_call60_v0 : Ref sig .tc := ⟨.hbm, 1771, rfl⟩
abbrev main_call60_v1 : Ref sig .tc := ⟨.hbm, 1772, rfl⟩
abbrev main_call60_v2 : Ref sig .tc := ⟨.hbm, 1773, rfl⟩
abbrev main_call60_v3 : Ref sig .tc := ⟨.hbm, 1774, rfl⟩
abbrev main_v1237 : Ref sig .tc := ⟨.hbm, 1775, rfl⟩
abbrev main_call61_v0 : Ref sig .tc := ⟨.hbm, 1776, rfl⟩
abbrev main_call61_v1 : Ref sig .tc := ⟨.hbm, 1777, rfl⟩
abbrev main_call61_v2 : Ref sig .tc := ⟨.hbm, 1778, rfl⟩
abbrev main_call61_v3 : Ref sig .tc := ⟨.hbm, 1779, rfl⟩
abbrev main_call61_v4 : Ref sig .tc := ⟨.hbm, 1780, rfl⟩
abbrev main_call61_v5 : Ref sig .tc := ⟨.hbm, 1781, rfl⟩
abbrev main_call61_v6 : Ref sig .tc := ⟨.hbm, 1782, rfl⟩
abbrev main_v1238 : Ref sig .tc := ⟨.hbm, 1783, rfl⟩
abbrev main_cst_213 : Ref sig .tc := ⟨.hbm, 1784, rfl⟩
abbrev main_v1239 : Ref sig .tc := ⟨.hbm, 1785, rfl⟩
abbrev main_v1240 : Ref sig .tc := ⟨.hbm, 1786, rfl⟩
abbrev main_v1241 : Ref sig .tc := ⟨.hbm, 1787, rfl⟩
abbrev main_v1242 : Ref sig .tc := ⟨.hbm, 1788, rfl⟩
abbrev main_cst_214 : Ref sig .tc := ⟨.hbm, 1789, rfl⟩
abbrev main_v1243 : Ref sig .tc := ⟨.hbm, 1790, rfl⟩
abbrev main_v1244 : Ref sig .tc := ⟨.hbm, 1791, rfl⟩
abbrev main_v1245 : Ref sig .tc := ⟨.hbm, 1792, rfl⟩
abbrev main_v1246 : Ref sig .tc := ⟨.hbm, 1793, rfl⟩
abbrev main_v1247 : Ref sig .tc := ⟨.hbm, 1794, rfl⟩
abbrev main_v1248 : Ref sig .tc := ⟨.hbm, 1795, rfl⟩
abbrev main_v1249 : Ref sig .tc := ⟨.hbm, 1796, rfl⟩
abbrev main_v1250 : Ref sig .tc := ⟨.hbm, 1797, rfl⟩
abbrev main_v1251 : Ref sig .tc := ⟨.hbm, 1798, rfl⟩
abbrev main_v1252 : Ref sig .tc := ⟨.hbm, 1799, rfl⟩
abbrev main_cst_215 : Ref sig .tc := ⟨.hbm, 1800, rfl⟩
abbrev main_v1253 : Ref sig .tc := ⟨.hbm, 1801, rfl⟩
abbrev main_v1254 : Ref sig .tc := ⟨.hbm, 1802, rfl⟩
abbrev main_v1255 : Ref sig .tc := ⟨.hbm, 1803, rfl⟩
abbrev main_v1256 : Ref sig .tc := ⟨.hbm, 1804, rfl⟩
abbrev main_v1257 : Ref sig .tc := ⟨.hbm, 1805, rfl⟩
abbrev main_v1258 : Ref sig .tc := ⟨.hbm, 1806, rfl⟩
abbrev main_c_216 : Ref sig .tc := ⟨.hbm, 1807, rfl⟩
abbrev main_c_217 : Ref sig .tc := ⟨.hbm, 1808, rfl⟩
abbrev main_call62_v0 : Ref sig .tc := ⟨.hbm, 1809, rfl⟩
abbrev main_call62_v1 : Ref sig .tc := ⟨.hbm, 1810, rfl⟩
abbrev main_call62_v2 : Ref sig .tc := ⟨.hbm, 1811, rfl⟩
abbrev main_call62_v3 : Ref sig .tc := ⟨.hbm, 1812, rfl⟩
abbrev main_v1259 : Ref sig .tc := ⟨.hbm, 1813, rfl⟩
abbrev main_call63_v0 : Ref sig .tc := ⟨.hbm, 1814, rfl⟩
abbrev main_call63_v1 : Ref sig .tc := ⟨.hbm, 1815, rfl⟩
abbrev main_call63_v2 : Ref sig .tc := ⟨.hbm, 1816, rfl⟩
abbrev main_call63_v3 : Ref sig .tc := ⟨.hbm, 1817, rfl⟩
abbrev main_call63_v4 : Ref sig .tc := ⟨.hbm, 1818, rfl⟩
abbrev main_call63_v5 : Ref sig .tc := ⟨.hbm, 1819, rfl⟩
abbrev main_call63_v6 : Ref sig .tc := ⟨.hbm, 1820, rfl⟩
abbrev main_v1260 : Ref sig .tc := ⟨.hbm, 1821, rfl⟩
abbrev main_cst_218 : Ref sig .tc := ⟨.hbm, 1822, rfl⟩
abbrev main_v1261 : Ref sig .tc := ⟨.hbm, 1823, rfl⟩
abbrev main_v1262 : Ref sig .tc := ⟨.hbm, 1824, rfl⟩
abbrev main_v1263 : Ref sig .tc := ⟨.hbm, 1825, rfl⟩
abbrev main_v1264 : Ref sig .tc := ⟨.hbm, 1826, rfl⟩
abbrev main_cst_219 : Ref sig .tc := ⟨.hbm, 1827, rfl⟩
abbrev main_v1265 : Ref sig .tc := ⟨.hbm, 1828, rfl⟩
abbrev main_v1266 : Ref sig .tc := ⟨.hbm, 1829, rfl⟩
abbrev main_v1267 : Ref sig .tc := ⟨.hbm, 1830, rfl⟩
abbrev main_v1268 : Ref sig .tc := ⟨.hbm, 1831, rfl⟩
abbrev main_v1269 : Ref sig .tc := ⟨.hbm, 1832, rfl⟩
abbrev main_v1270 : Ref sig .tc := ⟨.hbm, 1833, rfl⟩
abbrev main_v1271 : Ref sig .tc := ⟨.hbm, 1834, rfl⟩
abbrev main_v1272 : Ref sig .tc := ⟨.hbm, 1835, rfl⟩
abbrev main_v1273 : Ref sig .tc := ⟨.hbm, 1836, rfl⟩
abbrev main_v1274 : Ref sig .tc := ⟨.hbm, 1837, rfl⟩
abbrev main_cst_220 : Ref sig .tc := ⟨.hbm, 1838, rfl⟩
abbrev main_v1275 : Ref sig .tc := ⟨.hbm, 1839, rfl⟩
abbrev main_v1276 : Ref sig .tc := ⟨.hbm, 1840, rfl⟩
abbrev main_v1277 : Ref sig .tc := ⟨.hbm, 1841, rfl⟩
abbrev main_v1278 : Ref sig .tc := ⟨.hbm, 1842, rfl⟩
abbrev main_v1279 : Ref sig .tc := ⟨.hbm, 1843, rfl⟩
abbrev main_v1280 : Ref sig .tc := ⟨.hbm, 1844, rfl⟩
abbrev main_c_221 : Ref sig .tc := ⟨.hbm, 1845, rfl⟩
abbrev main_c_222 : Ref sig .tc := ⟨.hbm, 1846, rfl⟩
abbrev main_call64_v0 : Ref sig .tc := ⟨.hbm, 1847, rfl⟩
abbrev main_call64_v1 : Ref sig .tc := ⟨.hbm, 1848, rfl⟩
abbrev main_call64_v2 : Ref sig .tc := ⟨.hbm, 1849, rfl⟩
abbrev main_call64_v3 : Ref sig .tc := ⟨.hbm, 1850, rfl⟩
abbrev main_v1281 : Ref sig .tc := ⟨.hbm, 1851, rfl⟩
abbrev main_call65_v0 : Ref sig .tc := ⟨.hbm, 1852, rfl⟩
abbrev main_call65_v1 : Ref sig .tc := ⟨.hbm, 1853, rfl⟩
abbrev main_call65_v2 : Ref sig .tc := ⟨.hbm, 1854, rfl⟩
abbrev main_call65_v3 : Ref sig .tc := ⟨.hbm, 1855, rfl⟩
abbrev main_call65_v4 : Ref sig .tc := ⟨.hbm, 1856, rfl⟩
abbrev main_call65_v5 : Ref sig .tc := ⟨.hbm, 1857, rfl⟩
abbrev main_call65_v6 : Ref sig .tc := ⟨.hbm, 1858, rfl⟩
abbrev main_v1282 : Ref sig .tc := ⟨.hbm, 1859, rfl⟩
abbrev main_cst_223 : Ref sig .tc := ⟨.hbm, 1860, rfl⟩
abbrev main_v1283 : Ref sig .tc := ⟨.hbm, 1861, rfl⟩
abbrev main_v1284 : Ref sig .tc := ⟨.hbm, 1862, rfl⟩
abbrev main_v1285 : Ref sig .tc := ⟨.hbm, 1863, rfl⟩
abbrev main_v1286 : Ref sig .tc := ⟨.hbm, 1864, rfl⟩
abbrev main_cst_224 : Ref sig .tc := ⟨.hbm, 1865, rfl⟩
abbrev main_v1287 : Ref sig .tc := ⟨.hbm, 1866, rfl⟩
abbrev main_v1288 : Ref sig .tc := ⟨.hbm, 1867, rfl⟩
abbrev main_v1289 : Ref sig .tc := ⟨.hbm, 1868, rfl⟩
abbrev main_v1290 : Ref sig .tc := ⟨.hbm, 1869, rfl⟩
abbrev main_v1291 : Ref sig .tc := ⟨.hbm, 1870, rfl⟩
abbrev main_v1292 : Ref sig .tc := ⟨.hbm, 1871, rfl⟩
abbrev main_v1293 : Ref sig .tc := ⟨.hbm, 1872, rfl⟩
abbrev main_v1294 : Ref sig .tc := ⟨.hbm, 1873, rfl⟩
abbrev main_v1295 : Ref sig .tc := ⟨.hbm, 1874, rfl⟩
abbrev main_v1296 : Ref sig .tc := ⟨.hbm, 1875, rfl⟩
abbrev main_cst_225 : Ref sig .tc := ⟨.hbm, 1876, rfl⟩
abbrev main_v1297 : Ref sig .tc := ⟨.hbm, 1877, rfl⟩
abbrev main_v1298 : Ref sig .tc := ⟨.hbm, 1878, rfl⟩
abbrev main_v1299 : Ref sig .tc := ⟨.hbm, 1879, rfl⟩
abbrev main_v1300 : Ref sig .tc := ⟨.hbm, 1880, rfl⟩
abbrev main_v1301 : Ref sig .tc := ⟨.hbm, 1881, rfl⟩
abbrev main_v1302 : Ref sig .tc := ⟨.hbm, 1882, rfl⟩
abbrev main_c_226 : Ref sig .tc := ⟨.hbm, 1883, rfl⟩
abbrev main_c_227 : Ref sig .tc := ⟨.hbm, 1884, rfl⟩
abbrev main_call66_v0 : Ref sig .tc := ⟨.hbm, 1885, rfl⟩
abbrev main_call66_v1 : Ref sig .tc := ⟨.hbm, 1886, rfl⟩
abbrev main_call66_v2 : Ref sig .tc := ⟨.hbm, 1887, rfl⟩
abbrev main_call66_v3 : Ref sig .tc := ⟨.hbm, 1888, rfl⟩
abbrev main_v1303 : Ref sig .tc := ⟨.hbm, 1889, rfl⟩
abbrev main_call67_v0 : Ref sig .tc := ⟨.hbm, 1890, rfl⟩
abbrev main_call67_v1 : Ref sig .tc := ⟨.hbm, 1891, rfl⟩
abbrev main_call67_v2 : Ref sig .tc := ⟨.hbm, 1892, rfl⟩
abbrev main_call67_v3 : Ref sig .tc := ⟨.hbm, 1893, rfl⟩
abbrev main_call67_v4 : Ref sig .tc := ⟨.hbm, 1894, rfl⟩
abbrev main_call67_v5 : Ref sig .tc := ⟨.hbm, 1895, rfl⟩
abbrev main_call67_v6 : Ref sig .tc := ⟨.hbm, 1896, rfl⟩
abbrev main_v1304 : Ref sig .tc := ⟨.hbm, 1897, rfl⟩
abbrev main_cst_228 : Ref sig .tc := ⟨.hbm, 1898, rfl⟩
abbrev main_v1305 : Ref sig .tc := ⟨.hbm, 1899, rfl⟩
abbrev main_v1306 : Ref sig .tc := ⟨.hbm, 1900, rfl⟩
abbrev main_v1307 : Ref sig .tc := ⟨.hbm, 1901, rfl⟩
abbrev main_v1308 : Ref sig .tc := ⟨.hbm, 1902, rfl⟩
abbrev main_cst_229 : Ref sig .tc := ⟨.hbm, 1903, rfl⟩
abbrev main_v1309 : Ref sig .tc := ⟨.hbm, 1904, rfl⟩
abbrev main_v1310 : Ref sig .tc := ⟨.hbm, 1905, rfl⟩
abbrev main_v1311 : Ref sig .tc := ⟨.hbm, 1906, rfl⟩
abbrev main_v1312 : Ref sig .tc := ⟨.hbm, 1907, rfl⟩
abbrev main_v1313 : Ref sig .tc := ⟨.hbm, 1908, rfl⟩
abbrev main_v1314 : Ref sig .tc := ⟨.hbm, 1909, rfl⟩
abbrev main_v1315 : Ref sig .tc := ⟨.hbm, 1910, rfl⟩
abbrev main_v1316 : Ref sig .tc := ⟨.hbm, 1911, rfl⟩
abbrev main_v1317 : Ref sig .tc := ⟨.hbm, 1912, rfl⟩
abbrev main_v1318 : Ref sig .tc := ⟨.hbm, 1913, rfl⟩
abbrev main_cst_230 : Ref sig .tc := ⟨.hbm, 1914, rfl⟩
abbrev main_v1319 : Ref sig .tc := ⟨.hbm, 1915, rfl⟩
abbrev main_v1320 : Ref sig .tc := ⟨.hbm, 1916, rfl⟩
abbrev main_v1321 : Ref sig .tc := ⟨.hbm, 1917, rfl⟩
abbrev main_v1322 : Ref sig .tc := ⟨.hbm, 1918, rfl⟩
abbrev main_v1323 : Ref sig .tc := ⟨.hbm, 1919, rfl⟩
abbrev main_v1324 : Ref sig .tc := ⟨.hbm, 1920, rfl⟩
abbrev main_c_231 : Ref sig .tc := ⟨.hbm, 1921, rfl⟩
abbrev main_c_232 : Ref sig .tc := ⟨.hbm, 1922, rfl⟩
abbrev main_call68_v0 : Ref sig .tc := ⟨.hbm, 1923, rfl⟩
abbrev main_call68_v1 : Ref sig .tc := ⟨.hbm, 1924, rfl⟩
abbrev main_call68_v2 : Ref sig .tc := ⟨.hbm, 1925, rfl⟩
abbrev main_call68_v3 : Ref sig .tc := ⟨.hbm, 1926, rfl⟩
abbrev main_v1325 : Ref sig .tc := ⟨.hbm, 1927, rfl⟩
abbrev main_call69_v0 : Ref sig .tc := ⟨.hbm, 1928, rfl⟩
abbrev main_call69_v1 : Ref sig .tc := ⟨.hbm, 1929, rfl⟩
abbrev main_call69_v2 : Ref sig .tc := ⟨.hbm, 1930, rfl⟩
abbrev main_call69_v3 : Ref sig .tc := ⟨.hbm, 1931, rfl⟩
abbrev main_call69_v4 : Ref sig .tc := ⟨.hbm, 1932, rfl⟩
abbrev main_call69_v5 : Ref sig .tc := ⟨.hbm, 1933, rfl⟩
abbrev main_call69_v6 : Ref sig .tc := ⟨.hbm, 1934, rfl⟩
abbrev main_v1326 : Ref sig .tc := ⟨.hbm, 1935, rfl⟩
abbrev main_cst_233 : Ref sig .tc := ⟨.hbm, 1936, rfl⟩
abbrev main_v1327 : Ref sig .tc := ⟨.hbm, 1937, rfl⟩
abbrev main_v1328 : Ref sig .tc := ⟨.hbm, 1938, rfl⟩
abbrev main_v1329 : Ref sig .tc := ⟨.hbm, 1939, rfl⟩
abbrev main_v1330 : Ref sig .tc := ⟨.hbm, 1940, rfl⟩
abbrev main_cst_234 : Ref sig .tc := ⟨.hbm, 1941, rfl⟩
abbrev main_v1331 : Ref sig .tc := ⟨.hbm, 1942, rfl⟩
abbrev main_v1332 : Ref sig .tc := ⟨.hbm, 1943, rfl⟩
abbrev main_v1333 : Ref sig .tc := ⟨.hbm, 1944, rfl⟩
abbrev main_v1334 : Ref sig .tc := ⟨.hbm, 1945, rfl⟩
abbrev main_v1335 : Ref sig .tc := ⟨.hbm, 1946, rfl⟩
abbrev main_v1336 : Ref sig .tc := ⟨.hbm, 1947, rfl⟩
abbrev main_v1337 : Ref sig .tc := ⟨.hbm, 1948, rfl⟩
abbrev main_v1338 : Ref sig .tc := ⟨.hbm, 1949, rfl⟩
abbrev main_v1339 : Ref sig .tc := ⟨.hbm, 1950, rfl⟩
abbrev main_v1340 : Ref sig .tc := ⟨.hbm, 1951, rfl⟩
abbrev main_cst_235 : Ref sig .tc := ⟨.hbm, 1952, rfl⟩
abbrev main_v1341 : Ref sig .tc := ⟨.hbm, 1953, rfl⟩
abbrev main_v1342 : Ref sig .tc := ⟨.hbm, 1954, rfl⟩
abbrev main_v1343 : Ref sig .tc := ⟨.hbm, 1955, rfl⟩
abbrev main_v1344 : Ref sig .tc := ⟨.hbm, 1956, rfl⟩
abbrev main_v1345 : Ref sig .tc := ⟨.hbm, 1957, rfl⟩
abbrev main_v1346 : Ref sig .tc := ⟨.hbm, 1958, rfl⟩
abbrev main_c_236 : Ref sig .tc := ⟨.hbm, 1959, rfl⟩
abbrev main_c_237 : Ref sig .tc := ⟨.hbm, 1960, rfl⟩
abbrev main_call70_v0 : Ref sig .tc := ⟨.hbm, 1961, rfl⟩
abbrev main_call70_v1 : Ref sig .tc := ⟨.hbm, 1962, rfl⟩
abbrev main_call70_v2 : Ref sig .tc := ⟨.hbm, 1963, rfl⟩
abbrev main_call70_v3 : Ref sig .tc := ⟨.hbm, 1964, rfl⟩
abbrev main_v1347 : Ref sig .tc := ⟨.hbm, 1965, rfl⟩
abbrev main_call71_v0 : Ref sig .tc := ⟨.hbm, 1966, rfl⟩
abbrev main_call71_v1 : Ref sig .tc := ⟨.hbm, 1967, rfl⟩
abbrev main_call71_v2 : Ref sig .tc := ⟨.hbm, 1968, rfl⟩
abbrev main_call71_v3 : Ref sig .tc := ⟨.hbm, 1969, rfl⟩
abbrev main_call71_v4 : Ref sig .tc := ⟨.hbm, 1970, rfl⟩
abbrev main_call71_v5 : Ref sig .tc := ⟨.hbm, 1971, rfl⟩
abbrev main_call71_v6 : Ref sig .tc := ⟨.hbm, 1972, rfl⟩
abbrev main_v1348 : Ref sig .tc := ⟨.hbm, 1973, rfl⟩
abbrev main_cst_238 : Ref sig .tc := ⟨.hbm, 1974, rfl⟩
abbrev main_v1349 : Ref sig .tc := ⟨.hbm, 1975, rfl⟩
abbrev main_v1350 : Ref sig .tc := ⟨.hbm, 1976, rfl⟩
abbrev main_v1351 : Ref sig .tc := ⟨.hbm, 1977, rfl⟩
abbrev main_v1352 : Ref sig .tc := ⟨.hbm, 1978, rfl⟩
abbrev main_cst_239 : Ref sig .tc := ⟨.hbm, 1979, rfl⟩
abbrev main_v1353 : Ref sig .tc := ⟨.hbm, 1980, rfl⟩
abbrev main_v1354 : Ref sig .tc := ⟨.hbm, 1981, rfl⟩
abbrev main_v1355 : Ref sig .tc := ⟨.hbm, 1982, rfl⟩
abbrev main_v1356 : Ref sig .tc := ⟨.hbm, 1983, rfl⟩
abbrev main_call72_v0 : Ref sig .tc := ⟨.hbm, 1984, rfl⟩
abbrev main_call72_v1 : Ref sig .tc := ⟨.hbm, 1985, rfl⟩
abbrev main_call72_v2 : Ref sig .tc := ⟨.hbm, 1986, rfl⟩
abbrev main_call72_v3 : Ref sig .tc := ⟨.hbm, 1987, rfl⟩
abbrev main_call72_v4 : Ref sig .tc := ⟨.hbm, 1988, rfl⟩
abbrev main_call72_v5 : Ref sig .tc := ⟨.hbm, 1989, rfl⟩
abbrev main_call72_v6 : Ref sig .tc := ⟨.hbm, 1990, rfl⟩
abbrev main_v1357 : Ref sig .tc := ⟨.hbm, 1991, rfl⟩
abbrev main_c_240 : Ref sig .tc := ⟨.hbm, 1992, rfl⟩
abbrev main_v1358 : Ref sig .tc := ⟨.hbm, 1993, rfl⟩
abbrev main_v1359 : Ref sig .tc := ⟨.hbm, 1994, rfl⟩
abbrev main_v1360 : Ref sig .tc := ⟨.hbm, 1995, rfl⟩
abbrev main_v1361 : Ref sig .tc := ⟨.hbm, 1996, rfl⟩
abbrev main_v1362 : Ref sig .tc := ⟨.hbm, 1997, rfl⟩
abbrev main_v1363 : Ref sig .tc := ⟨.hbm, 1998, rfl⟩
abbrev main_c_241 : Ref sig .tc := ⟨.hbm, 1999, rfl⟩
abbrev main_c_242 : Ref sig .tc := ⟨.hbm, 2000, rfl⟩
abbrev main_call73_v0 : Ref sig .tc := ⟨.hbm, 2001, rfl⟩
abbrev main_call73_v1 : Ref sig .tc := ⟨.hbm, 2002, rfl⟩
abbrev main_v1364 : Ref sig .tc := ⟨.hbm, 2003, rfl⟩
abbrev main_c_243 : Ref sig .tc := ⟨.hbm, 2004, rfl⟩
abbrev main_v1365 : Ref sig .tc := ⟨.hbm, 2005, rfl⟩
abbrev main_v1366 : Ref sig .tc := ⟨.hbm, 2006, rfl⟩
abbrev main_v1367 : Ref sig .tc := ⟨.hbm, 2007, rfl⟩
abbrev main_v1368 : Ref sig .tc := ⟨.hbm, 2008, rfl⟩
abbrev main_v1369 : Ref sig .tc := ⟨.hbm, 2009, rfl⟩
abbrev main_v1370 : Ref sig .tc := ⟨.hbm, 2010, rfl⟩
abbrev main_call74_v0 : Ref sig .tc := ⟨.hbm, 2011, rfl⟩
abbrev main_v1371 : Ref sig .tc := ⟨.hbm, 2012, rfl⟩
abbrev main_v1372 : Ref sig .tc := ⟨.hbm, 2013, rfl⟩
abbrev main_c_244 : Ref sig .tc := ⟨.hbm, 2014, rfl⟩
abbrev main_call75_v0 : Ref sig .tc := ⟨.hbm, 2015, rfl⟩
abbrev main_v1373 : Ref sig .tc := ⟨.hbm, 2016, rfl⟩
abbrev main_v1374 : Ref sig .tc := ⟨.hbm, 2017, rfl⟩
abbrev main_v1375 : Ref sig .tc := ⟨.hbm, 2018, rfl⟩
abbrev main_v1376 : Ref sig .tc := ⟨.hbm, 2019, rfl⟩
abbrev main_v1377 : Ref sig .tc := ⟨.hbm, 2020, rfl⟩
abbrev main_v1378 : Ref sig .tc := ⟨.hbm, 2021, rfl⟩
abbrev main_v1379 : Ref sig .tc := ⟨.hbm, 2022, rfl⟩
abbrev main_v1380 : Ref sig .tc := ⟨.hbm, 2023, rfl⟩
abbrev main_v1381 : Ref sig .tc := ⟨.hbm, 2024, rfl⟩
abbrev main_cst_245 : Ref sig .tc := ⟨.hbm, 2025, rfl⟩
abbrev main_v1382 : Ref sig .tc := ⟨.hbm, 2026, rfl⟩
abbrev main_cst_246 : Ref sig .tc := ⟨.hbm, 2027, rfl⟩
abbrev main_v1383 : Ref sig .tc := ⟨.hbm, 2028, rfl⟩
abbrev main_v1384 : Ref sig .tc := ⟨.hbm, 2029, rfl⟩
abbrev main_v1385 : Ref sig .tc := ⟨.hbm, 2030, rfl⟩
abbrev main_v1386 : Ref sig .tc := ⟨.hbm, 2031, rfl⟩
abbrev main_v1387 : Ref sig .tc := ⟨.hbm, 2032, rfl⟩
abbrev main_v1388 : Ref sig .tc := ⟨.hbm, 2033, rfl⟩
abbrev main_v1389 : Ref sig .tc := ⟨.hbm, 2034, rfl⟩
abbrev main_v1390 : Ref sig .tc := ⟨.hbm, 2035, rfl⟩
abbrev main_v1391 : Ref sig .tc := ⟨.hbm, 2036, rfl⟩
abbrev main_v1392 : Ref sig .tc := ⟨.hbm, 2037, rfl⟩
abbrev main_cst_247 : Ref sig .tc := ⟨.hbm, 2038, rfl⟩
abbrev main_v1393 : Ref sig .tc := ⟨.hbm, 2039, rfl⟩
abbrev main_v1394 : Ref sig .tc := ⟨.hbm, 2040, rfl⟩
abbrev main_v1395 : Ref sig .tc := ⟨.hbm, 2041, rfl⟩
abbrev main_v1396 : Ref sig .tc := ⟨.hbm, 2042, rfl⟩
abbrev main_v1397 : Ref sig .tc := ⟨.hbm, 2043, rfl⟩
abbrev main_v1398 : Ref sig .tc := ⟨.hbm, 2044, rfl⟩
abbrev main_v1399 : Ref sig .tc := ⟨.hbm, 2045, rfl⟩
abbrev main_v1400 : Ref sig .tc := ⟨.hbm, 2046, rfl⟩
abbrev main_v1401 : Ref sig .tc := ⟨.hbm, 2047, rfl⟩
abbrev main_v1402 : Ref sig .tc := ⟨.hbm, 2048, rfl⟩
abbrev main_cst_248 : Ref sig .tc := ⟨.hbm, 2049, rfl⟩
abbrev main_v1403 : Ref sig .tc := ⟨.hbm, 2050, rfl⟩
abbrev main_v1404 : Ref sig .tc := ⟨.hbm, 2051, rfl⟩
abbrev main_v1405 : Ref sig .tc := ⟨.hbm, 2052, rfl⟩
abbrev main_v1406 : Ref sig .tc := ⟨.hbm, 2053, rfl⟩
abbrev main_v1407 : Ref sig .tc := ⟨.hbm, 2054, rfl⟩
abbrev main_v1408 : Ref sig .tc := ⟨.hbm, 2055, rfl⟩
abbrev main_v1409 : Ref sig .tc := ⟨.hbm, 2056, rfl⟩
abbrev main_v1410 : Ref sig .tc := ⟨.hbm, 2057, rfl⟩
abbrev main_v1411 : Ref sig .tc := ⟨.hbm, 2058, rfl⟩
abbrev main_v1412 : Ref sig .tc := ⟨.hbm, 2059, rfl⟩
abbrev main_cst_249 : Ref sig .tc := ⟨.hbm, 2060, rfl⟩
abbrev main_v1413 : Ref sig .tc := ⟨.hbm, 2061, rfl⟩
abbrev main_v1414 : Ref sig .tc := ⟨.hbm, 2062, rfl⟩
abbrev main_v1415 : Ref sig .tc := ⟨.hbm, 2063, rfl⟩
abbrev main_v1416 : Ref sig .tc := ⟨.hbm, 2064, rfl⟩
abbrev main_v1417 : Ref sig .tc := ⟨.hbm, 2065, rfl⟩
abbrev main_v1418 : Ref sig .tc := ⟨.hbm, 2066, rfl⟩
abbrev main_v1419 : Ref sig .tc := ⟨.hbm, 2067, rfl⟩
abbrev main_v1420 : Ref sig .tc := ⟨.hbm, 2068, rfl⟩
abbrev main_v1421 : Ref sig .tc := ⟨.hbm, 2069, rfl⟩
abbrev main_v1422 : Ref sig .tc := ⟨.hbm, 2070, rfl⟩
abbrev main_cst_250 : Ref sig .tc := ⟨.hbm, 2071, rfl⟩
abbrev main_v1423 : Ref sig .tc := ⟨.hbm, 2072, rfl⟩
abbrev main_v1424 : Ref sig .tc := ⟨.hbm, 2073, rfl⟩
abbrev main_v1425 : Ref sig .tc := ⟨.hbm, 2074, rfl⟩
abbrev main_v1426 : Ref sig .tc := ⟨.hbm, 2075, rfl⟩
abbrev main_v1427 : Ref sig .tc := ⟨.hbm, 2076, rfl⟩
abbrev main_v1428 : Ref sig .tc := ⟨.hbm, 2077, rfl⟩
abbrev main_v1429 : Ref sig .tc := ⟨.hbm, 2078, rfl⟩
abbrev main_v1430 : Ref sig .tc := ⟨.hbm, 2079, rfl⟩
abbrev main_v1431 : Ref sig .tc := ⟨.hbm, 2080, rfl⟩
abbrev main_v1432 : Ref sig .tc := ⟨.hbm, 2081, rfl⟩
abbrev main_cst_251 : Ref sig .tc := ⟨.hbm, 2082, rfl⟩
abbrev main_v1433 : Ref sig .tc := ⟨.hbm, 2083, rfl⟩
abbrev main_v1434 : Ref sig .tc := ⟨.hbm, 2084, rfl⟩
abbrev main_v1435 : Ref sig .tc := ⟨.hbm, 2085, rfl⟩
abbrev main_v1436 : Ref sig .tc := ⟨.hbm, 2086, rfl⟩
abbrev main_v1437 : Ref sig .tc := ⟨.hbm, 2087, rfl⟩
abbrev main_v1438 : Ref sig .tc := ⟨.hbm, 2088, rfl⟩
abbrev main_v1439 : Ref sig .tc := ⟨.hbm, 2089, rfl⟩
abbrev main_v1440 : Ref sig .tc := ⟨.hbm, 2090, rfl⟩
abbrev main_v1441 : Ref sig .tc := ⟨.hbm, 2091, rfl⟩
abbrev main_v1442 : Ref sig .tc := ⟨.hbm, 2092, rfl⟩
abbrev main_cst_252 : Ref sig .tc := ⟨.hbm, 2093, rfl⟩
abbrev main_v1443 : Ref sig .tc := ⟨.hbm, 2094, rfl⟩
abbrev main_v1444 : Ref sig .tc := ⟨.hbm, 2095, rfl⟩
abbrev main_v1445 : Ref sig .tc := ⟨.hbm, 2096, rfl⟩
abbrev main_v1446 : Ref sig .tc := ⟨.hbm, 2097, rfl⟩
abbrev main_v1447 : Ref sig .tc := ⟨.hbm, 2098, rfl⟩
abbrev main_v1448 : Ref sig .tc := ⟨.hbm, 2099, rfl⟩
abbrev main_v1449 : Ref sig .tc := ⟨.hbm, 2100, rfl⟩
abbrev main_v1450 : Ref sig .tc := ⟨.hbm, 2101, rfl⟩
abbrev main_v1451 : Ref sig .tc := ⟨.hbm, 2102, rfl⟩
abbrev main_v1452 : Ref sig .tc := ⟨.hbm, 2103, rfl⟩
abbrev main_cst_253 : Ref sig .tc := ⟨.hbm, 2104, rfl⟩
abbrev main_v1453 : Ref sig .tc := ⟨.hbm, 2105, rfl⟩
abbrev main_v1454 : Ref sig .tc := ⟨.hbm, 2106, rfl⟩
abbrev main_v1455 : Ref sig .tc := ⟨.hbm, 2107, rfl⟩
abbrev main_v1456 : Ref sig .tc := ⟨.hbm, 2108, rfl⟩
abbrev main_v1457 : Ref sig .tc := ⟨.hbm, 2109, rfl⟩
abbrev main_v1458 : Ref sig .tc := ⟨.hbm, 2110, rfl⟩
abbrev main_v1459 : Ref sig .tc := ⟨.hbm, 2111, rfl⟩
abbrev main_v1460 : Ref sig .tc := ⟨.hbm, 2112, rfl⟩
abbrev main_v1461 : Ref sig .tc := ⟨.hbm, 2113, rfl⟩
abbrev main_v1462 : Ref sig .tc := ⟨.hbm, 2114, rfl⟩
abbrev main_cst_254 : Ref sig .tc := ⟨.hbm, 2115, rfl⟩
abbrev main_v1463 : Ref sig .tc := ⟨.hbm, 2116, rfl⟩
abbrev main_v1464 : Ref sig .tc := ⟨.hbm, 2117, rfl⟩
abbrev main_v1465 : Ref sig .tc := ⟨.hbm, 2118, rfl⟩
abbrev main_v1466 : Ref sig .tc := ⟨.hbm, 2119, rfl⟩
abbrev main_v1467 : Ref sig .tc := ⟨.hbm, 2120, rfl⟩
abbrev main_v1468 : Ref sig .tc := ⟨.hbm, 2121, rfl⟩
abbrev main_v1469 : Ref sig .tc := ⟨.hbm, 2122, rfl⟩
abbrev main_v1470 : Ref sig .tc := ⟨.hbm, 2123, rfl⟩
abbrev main_v1471 : Ref sig .tc := ⟨.hbm, 2124, rfl⟩
abbrev main_v1472 : Ref sig .tc := ⟨.hbm, 2125, rfl⟩
abbrev main_cst_255 : Ref sig .tc := ⟨.hbm, 2126, rfl⟩
abbrev main_v1473 : Ref sig .tc := ⟨.hbm, 2127, rfl⟩
abbrev main_v1474 : Ref sig .tc := ⟨.hbm, 2128, rfl⟩
abbrev main_v1475 : Ref sig .tc := ⟨.hbm, 2129, rfl⟩
abbrev main_v1476 : Ref sig .tc := ⟨.hbm, 2130, rfl⟩
abbrev main_v1477 : Ref sig .tc := ⟨.hbm, 2131, rfl⟩
abbrev main_v1478 : Ref sig .tc := ⟨.hbm, 2132, rfl⟩
abbrev main_v1479 : Ref sig .tc := ⟨.hbm, 2133, rfl⟩
abbrev main_v1480 : Ref sig .tc := ⟨.hbm, 2134, rfl⟩
abbrev main_v1481 : Ref sig .tc := ⟨.hbm, 2135, rfl⟩
abbrev main_v1482 : Ref sig .tc := ⟨.hbm, 2136, rfl⟩
abbrev main_cst_256 : Ref sig .tc := ⟨.hbm, 2137, rfl⟩
abbrev main_v1483 : Ref sig .tc := ⟨.hbm, 2138, rfl⟩
abbrev main_v1484 : Ref sig .tc := ⟨.hbm, 2139, rfl⟩
abbrev main_v1485 : Ref sig .tc := ⟨.hbm, 2140, rfl⟩
abbrev main_v1486 : Ref sig .tc := ⟨.hbm, 2141, rfl⟩
abbrev main_v1487 : Ref sig .tc := ⟨.hbm, 2142, rfl⟩
abbrev main_v1488 : Ref sig .tc := ⟨.hbm, 2143, rfl⟩
abbrev main_v1489 : Ref sig .tc := ⟨.hbm, 2144, rfl⟩
abbrev main_v1490 : Ref sig .tc := ⟨.hbm, 2145, rfl⟩
abbrev main_v1491 : Ref sig .tc := ⟨.hbm, 2146, rfl⟩
abbrev main_v1492 : Ref sig .tc := ⟨.hbm, 2147, rfl⟩
abbrev main_cst_257 : Ref sig .tc := ⟨.hbm, 2148, rfl⟩
abbrev main_v1493 : Ref sig .tc := ⟨.hbm, 2149, rfl⟩
abbrev main_v1494 : Ref sig .tc := ⟨.hbm, 2150, rfl⟩
abbrev main_v1495 : Ref sig .tc := ⟨.hbm, 2151, rfl⟩
abbrev main_v1496 : Ref sig .tc := ⟨.hbm, 2152, rfl⟩
abbrev main_v1497 : Ref sig .tc := ⟨.hbm, 2153, rfl⟩
abbrev main_v1498 : Ref sig .tc := ⟨.hbm, 2154, rfl⟩
abbrev main_v1499 : Ref sig .tc := ⟨.hbm, 2155, rfl⟩
abbrev main_v1500 : Ref sig .tc := ⟨.hbm, 2156, rfl⟩
abbrev main_v1501 : Ref sig .tc := ⟨.hbm, 2157, rfl⟩
abbrev main_v1502 : Ref sig .tc := ⟨.hbm, 2158, rfl⟩
abbrev main_cst_258 : Ref sig .tc := ⟨.hbm, 2159, rfl⟩
abbrev main_v1503 : Ref sig .tc := ⟨.hbm, 2160, rfl⟩
abbrev main_v1504 : Ref sig .tc := ⟨.hbm, 2161, rfl⟩
abbrev main_v1505 : Ref sig .tc := ⟨.hbm, 2162, rfl⟩
abbrev main_v1506 : Ref sig .tc := ⟨.hbm, 2163, rfl⟩
abbrev main_v1507 : Ref sig .tc := ⟨.hbm, 2164, rfl⟩
abbrev main_v1508 : Ref sig .tc := ⟨.hbm, 2165, rfl⟩
abbrev main_v1509 : Ref sig .tc := ⟨.hbm, 2166, rfl⟩
abbrev main_v1510 : Ref sig .tc := ⟨.hbm, 2167, rfl⟩
abbrev main_v1511 : Ref sig .tc := ⟨.hbm, 2168, rfl⟩
abbrev main_v1512 : Ref sig .tc := ⟨.hbm, 2169, rfl⟩
abbrev main_cst_259 : Ref sig .tc := ⟨.hbm, 2170, rfl⟩
abbrev main_v1513 : Ref sig .tc := ⟨.hbm, 2171, rfl⟩
abbrev main_v1514 : Ref sig .tc := ⟨.hbm, 2172, rfl⟩
abbrev main_v1515 : Ref sig .tc := ⟨.hbm, 2173, rfl⟩
abbrev main_v1516 : Ref sig .tc := ⟨.hbm, 2174, rfl⟩
abbrev main_v1517 : Ref sig .tc := ⟨.hbm, 2175, rfl⟩
abbrev main_v1518 : Ref sig .tc := ⟨.hbm, 2176, rfl⟩
abbrev main_v1519 : Ref sig .tc := ⟨.hbm, 2177, rfl⟩
abbrev main_v1520 : Ref sig .tc := ⟨.hbm, 2178, rfl⟩
abbrev main_v1521 : Ref sig .tc := ⟨.hbm, 2179, rfl⟩
abbrev main_v1522 : Ref sig .tc := ⟨.hbm, 2180, rfl⟩
abbrev main_cst_260 : Ref sig .tc := ⟨.hbm, 2181, rfl⟩
abbrev main_v1523 : Ref sig .tc := ⟨.hbm, 2182, rfl⟩
abbrev main_v1524 : Ref sig .tc := ⟨.hbm, 2183, rfl⟩
abbrev main_v1525 : Ref sig .tc := ⟨.hbm, 2184, rfl⟩
abbrev main_v1526 : Ref sig .tc := ⟨.hbm, 2185, rfl⟩
abbrev main_v1527 : Ref sig .tc := ⟨.hbm, 2186, rfl⟩
abbrev main_v1528 : Ref sig .tc := ⟨.hbm, 2187, rfl⟩
abbrev main_v1529 : Ref sig .tc := ⟨.hbm, 2188, rfl⟩
abbrev main_v1530 : Ref sig .tc := ⟨.hbm, 2189, rfl⟩
abbrev main_v1531 : Ref sig .tc := ⟨.hbm, 2190, rfl⟩
abbrev main_v1532 : Ref sig .tc := ⟨.hbm, 2191, rfl⟩
abbrev main_cst_261 : Ref sig .tc := ⟨.hbm, 2192, rfl⟩
abbrev main_v1533 : Ref sig .tc := ⟨.hbm, 2193, rfl⟩
abbrev main_v1534 : Ref sig .tc := ⟨.hbm, 2194, rfl⟩
abbrev main_v1535 : Ref sig .tc := ⟨.hbm, 2195, rfl⟩
abbrev main_v1536 : Ref sig .tc := ⟨.hbm, 2196, rfl⟩
abbrev main_v1537 : Ref sig .tc := ⟨.hbm, 2197, rfl⟩
abbrev main_cst_262 : Ref sig .tc := ⟨.hbm, 2198, rfl⟩
abbrev main_call76_cst : Ref sig .tc := ⟨.hbm, 2199, rfl⟩
abbrev main_call76_v0 : Ref sig .tc := ⟨.hbm, 2200, rfl⟩
abbrev main_call76_v1 : Ref sig .tc := ⟨.hbm, 2201, rfl⟩
abbrev main_call76_v2 : Ref sig .tc := ⟨.hbm, 2202, rfl⟩
abbrev main_call76_v3 : Ref sig .tc := ⟨.hbm, 2203, rfl⟩
abbrev main_call76_v4 : Ref sig .tc := ⟨.hbm, 2204, rfl⟩
abbrev main_v1538 : Ref sig .tc := ⟨.hbm, 2205, rfl⟩
abbrev main_c_263 : Ref sig .tc := ⟨.hbm, 2206, rfl⟩
abbrev main_call77_v0 : Ref sig .tc := ⟨.hbm, 2207, rfl⟩
abbrev main_v1539 : Ref sig .tc := ⟨.hbm, 2208, rfl⟩
abbrev main_v1540 : Ref sig .tc := ⟨.hbm, 2209, rfl⟩
abbrev main_v1541 : Ref sig .tc := ⟨.hbm, 2210, rfl⟩
abbrev main_v1542 : Ref sig .tc := ⟨.hbm, 2211, rfl⟩
abbrev main_v1543 : Ref sig .tc := ⟨.hbm, 2212, rfl⟩
abbrev main_v1544 : Ref sig .tc := ⟨.hbm, 2213, rfl⟩
abbrev main_v1545 : Ref sig .tc := ⟨.hbm, 2214, rfl⟩
abbrev main_v1546 : Ref sig .tc := ⟨.hbm, 2215, rfl⟩
abbrev main_cst_264 : Ref sig .tc := ⟨.hbm, 2216, rfl⟩
abbrev main_v1547 : Ref sig .tc := ⟨.hbm, 2217, rfl⟩
abbrev main_cst_265 : Ref sig .tc := ⟨.hbm, 2218, rfl⟩
abbrev main_v1548 : Ref sig .tc := ⟨.hbm, 2219, rfl⟩
abbrev main_v1549 : Ref sig .tc := ⟨.hbm, 2220, rfl⟩
abbrev main_v1550 : Ref sig .tc := ⟨.hbm, 2221, rfl⟩
abbrev main_v1551 : Ref sig .tc := ⟨.hbm, 2222, rfl⟩
abbrev main_v1552 : Ref sig .tc := ⟨.hbm, 2223, rfl⟩
abbrev main_v1553 : Ref sig .tc := ⟨.hbm, 2224, rfl⟩
abbrev main_v1554 : Ref sig .tc := ⟨.hbm, 2225, rfl⟩
abbrev main_v1555 : Ref sig .tc := ⟨.hbm, 2226, rfl⟩
abbrev main_v1556 : Ref sig .tc := ⟨.hbm, 2227, rfl⟩
abbrev main_cst_266 : Ref sig .tc := ⟨.hbm, 2228, rfl⟩
abbrev main_v1557 : Ref sig .tc := ⟨.hbm, 2229, rfl⟩
abbrev main_v1558 : Ref sig .tc := ⟨.hbm, 2230, rfl⟩
abbrev main_v1559 : Ref sig .tc := ⟨.hbm, 2231, rfl⟩
abbrev main_v1560 : Ref sig .tc := ⟨.hbm, 2232, rfl⟩
abbrev main_v1561 : Ref sig .tc := ⟨.hbm, 2233, rfl⟩
abbrev main_v1562 : Ref sig .tc := ⟨.hbm, 2234, rfl⟩
abbrev main_v1563 : Ref sig .tc := ⟨.hbm, 2235, rfl⟩
abbrev main_v1564 : Ref sig .tc := ⟨.hbm, 2236, rfl⟩
abbrev main_v1565 : Ref sig .tc := ⟨.hbm, 2237, rfl⟩
abbrev main_cst_267 : Ref sig .tc := ⟨.hbm, 2238, rfl⟩
abbrev main_v1566 : Ref sig .tc := ⟨.hbm, 2239, rfl⟩
abbrev main_v1567 : Ref sig .tc := ⟨.hbm, 2240, rfl⟩
abbrev main_v1568 : Ref sig .tc := ⟨.hbm, 2241, rfl⟩
abbrev main_v1569 : Ref sig .tc := ⟨.hbm, 2242, rfl⟩
abbrev main_v1570 : Ref sig .tc := ⟨.hbm, 2243, rfl⟩
abbrev main_v1571 : Ref sig .tc := ⟨.hbm, 2244, rfl⟩
abbrev main_v1572 : Ref sig .tc := ⟨.hbm, 2245, rfl⟩
abbrev main_v1573 : Ref sig .tc := ⟨.hbm, 2246, rfl⟩
abbrev main_v1574 : Ref sig .tc := ⟨.hbm, 2247, rfl⟩
abbrev main_cst_268 : Ref sig .tc := ⟨.hbm, 2248, rfl⟩
abbrev main_v1575 : Ref sig .tc := ⟨.hbm, 2249, rfl⟩
abbrev main_v1576 : Ref sig .tc := ⟨.hbm, 2250, rfl⟩
abbrev main_v1577 : Ref sig .tc := ⟨.hbm, 2251, rfl⟩
abbrev main_v1578 : Ref sig .tc := ⟨.hbm, 2252, rfl⟩
abbrev main_v1579 : Ref sig .tc := ⟨.hbm, 2253, rfl⟩
abbrev main_v1580 : Ref sig .tc := ⟨.hbm, 2254, rfl⟩
abbrev main_v1581 : Ref sig .tc := ⟨.hbm, 2255, rfl⟩
abbrev main_v1582 : Ref sig .tc := ⟨.hbm, 2256, rfl⟩
abbrev main_v1583 : Ref sig .tc := ⟨.hbm, 2257, rfl⟩
abbrev main_cst_269 : Ref sig .tc := ⟨.hbm, 2258, rfl⟩
abbrev main_v1584 : Ref sig .tc := ⟨.hbm, 2259, rfl⟩
abbrev main_v1585 : Ref sig .tc := ⟨.hbm, 2260, rfl⟩
abbrev main_v1586 : Ref sig .tc := ⟨.hbm, 2261, rfl⟩
abbrev main_v1587 : Ref sig .tc := ⟨.hbm, 2262, rfl⟩
abbrev main_v1588 : Ref sig .tc := ⟨.hbm, 2263, rfl⟩
abbrev main_v1589 : Ref sig .tc := ⟨.hbm, 2264, rfl⟩
abbrev main_v1590 : Ref sig .tc := ⟨.hbm, 2265, rfl⟩
abbrev main_v1591 : Ref sig .tc := ⟨.hbm, 2266, rfl⟩
abbrev main_v1592 : Ref sig .tc := ⟨.hbm, 2267, rfl⟩
abbrev main_cst_270 : Ref sig .tc := ⟨.hbm, 2268, rfl⟩
abbrev main_v1593 : Ref sig .tc := ⟨.hbm, 2269, rfl⟩
abbrev main_v1594 : Ref sig .tc := ⟨.hbm, 2270, rfl⟩
abbrev main_v1595 : Ref sig .tc := ⟨.hbm, 2271, rfl⟩
abbrev main_v1596 : Ref sig .tc := ⟨.hbm, 2272, rfl⟩
abbrev main_v1597 : Ref sig .tc := ⟨.hbm, 2273, rfl⟩
abbrev main_v1598 : Ref sig .tc := ⟨.hbm, 2274, rfl⟩
abbrev main_v1599 : Ref sig .tc := ⟨.hbm, 2275, rfl⟩
abbrev main_v1600 : Ref sig .tc := ⟨.hbm, 2276, rfl⟩
abbrev main_v1601 : Ref sig .tc := ⟨.hbm, 2277, rfl⟩
abbrev main_cst_271 : Ref sig .tc := ⟨.hbm, 2278, rfl⟩
abbrev main_v1602 : Ref sig .tc := ⟨.hbm, 2279, rfl⟩
abbrev main_v1603 : Ref sig .tc := ⟨.hbm, 2280, rfl⟩
abbrev main_v1604 : Ref sig .tc := ⟨.hbm, 2281, rfl⟩
abbrev main_v1605 : Ref sig .tc := ⟨.hbm, 2282, rfl⟩
abbrev main_v1606 : Ref sig .tc := ⟨.hbm, 2283, rfl⟩
abbrev main_v1607 : Ref sig .tc := ⟨.hbm, 2284, rfl⟩
abbrev main_v1608 : Ref sig .tc := ⟨.hbm, 2285, rfl⟩
abbrev main_v1609 : Ref sig .tc := ⟨.hbm, 2286, rfl⟩
abbrev main_v1610 : Ref sig .tc := ⟨.hbm, 2287, rfl⟩
abbrev main_cst_272 : Ref sig .tc := ⟨.hbm, 2288, rfl⟩
abbrev main_v1611 : Ref sig .tc := ⟨.hbm, 2289, rfl⟩
abbrev main_v1612 : Ref sig .tc := ⟨.hbm, 2290, rfl⟩
abbrev main_v1613 : Ref sig .tc := ⟨.hbm, 2291, rfl⟩
abbrev main_v1614 : Ref sig .tc := ⟨.hbm, 2292, rfl⟩
abbrev main_v1615 : Ref sig .tc := ⟨.hbm, 2293, rfl⟩
abbrev main_v1616 : Ref sig .tc := ⟨.hbm, 2294, rfl⟩
abbrev main_v1617 : Ref sig .tc := ⟨.hbm, 2295, rfl⟩
abbrev main_v1618 : Ref sig .tc := ⟨.hbm, 2296, rfl⟩
abbrev main_v1619 : Ref sig .tc := ⟨.hbm, 2297, rfl⟩
abbrev main_cst_273 : Ref sig .tc := ⟨.hbm, 2298, rfl⟩
abbrev main_v1620 : Ref sig .tc := ⟨.hbm, 2299, rfl⟩
abbrev main_v1621 : Ref sig .tc := ⟨.hbm, 2300, rfl⟩
abbrev main_v1622 : Ref sig .tc := ⟨.hbm, 2301, rfl⟩
abbrev main_v1623 : Ref sig .tc := ⟨.hbm, 2302, rfl⟩
abbrev main_v1624 : Ref sig .tc := ⟨.hbm, 2303, rfl⟩
abbrev main_v1625 : Ref sig .tc := ⟨.hbm, 2304, rfl⟩
abbrev main_v1626 : Ref sig .tc := ⟨.hbm, 2305, rfl⟩
abbrev main_v1627 : Ref sig .tc := ⟨.hbm, 2306, rfl⟩
abbrev main_v1628 : Ref sig .tc := ⟨.hbm, 2307, rfl⟩
abbrev main_cst_274 : Ref sig .tc := ⟨.hbm, 2308, rfl⟩
abbrev main_v1629 : Ref sig .tc := ⟨.hbm, 2309, rfl⟩
abbrev main_v1630 : Ref sig .tc := ⟨.hbm, 2310, rfl⟩
abbrev main_v1631 : Ref sig .tc := ⟨.hbm, 2311, rfl⟩
abbrev main_v1632 : Ref sig .tc := ⟨.hbm, 2312, rfl⟩
abbrev main_v1633 : Ref sig .tc := ⟨.hbm, 2313, rfl⟩
abbrev main_v1634 : Ref sig .tc := ⟨.hbm, 2314, rfl⟩
abbrev main_v1635 : Ref sig .tc := ⟨.hbm, 2315, rfl⟩
abbrev main_v1636 : Ref sig .tc := ⟨.hbm, 2316, rfl⟩
abbrev main_v1637 : Ref sig .tc := ⟨.hbm, 2317, rfl⟩
abbrev main_cst_275 : Ref sig .tc := ⟨.hbm, 2318, rfl⟩
abbrev main_v1638 : Ref sig .tc := ⟨.hbm, 2319, rfl⟩
abbrev main_v1639 : Ref sig .tc := ⟨.hbm, 2320, rfl⟩
abbrev main_v1640 : Ref sig .tc := ⟨.hbm, 2321, rfl⟩
abbrev main_v1641 : Ref sig .tc := ⟨.hbm, 2322, rfl⟩
abbrev main_v1642 : Ref sig .tc := ⟨.hbm, 2323, rfl⟩
abbrev main_v1643 : Ref sig .tc := ⟨.hbm, 2324, rfl⟩
abbrev main_v1644 : Ref sig .tc := ⟨.hbm, 2325, rfl⟩
abbrev main_v1645 : Ref sig .tc := ⟨.hbm, 2326, rfl⟩
abbrev main_v1646 : Ref sig .tc := ⟨.hbm, 2327, rfl⟩
abbrev main_cst_276 : Ref sig .tc := ⟨.hbm, 2328, rfl⟩
abbrev main_v1647 : Ref sig .tc := ⟨.hbm, 2329, rfl⟩
abbrev main_v1648 : Ref sig .tc := ⟨.hbm, 2330, rfl⟩
abbrev main_v1649 : Ref sig .tc := ⟨.hbm, 2331, rfl⟩
abbrev main_v1650 : Ref sig .tc := ⟨.hbm, 2332, rfl⟩
abbrev main_v1651 : Ref sig .tc := ⟨.hbm, 2333, rfl⟩
abbrev main_v1652 : Ref sig .tc := ⟨.hbm, 2334, rfl⟩
abbrev main_v1653 : Ref sig .tc := ⟨.hbm, 2335, rfl⟩
abbrev main_v1654 : Ref sig .tc := ⟨.hbm, 2336, rfl⟩
abbrev main_v1655 : Ref sig .tc := ⟨.hbm, 2337, rfl⟩
abbrev main_cst_277 : Ref sig .tc := ⟨.hbm, 2338, rfl⟩
abbrev main_v1656 : Ref sig .tc := ⟨.hbm, 2339, rfl⟩
abbrev main_v1657 : Ref sig .tc := ⟨.hbm, 2340, rfl⟩
abbrev main_v1658 : Ref sig .tc := ⟨.hbm, 2341, rfl⟩
abbrev main_v1659 : Ref sig .tc := ⟨.hbm, 2342, rfl⟩
abbrev main_v1660 : Ref sig .tc := ⟨.hbm, 2343, rfl⟩
abbrev main_v1661 : Ref sig .tc := ⟨.hbm, 2344, rfl⟩
abbrev main_v1662 : Ref sig .tc := ⟨.hbm, 2345, rfl⟩
abbrev main_v1663 : Ref sig .tc := ⟨.hbm, 2346, rfl⟩
abbrev main_v1664 : Ref sig .tc := ⟨.hbm, 2347, rfl⟩
abbrev main_cst_278 : Ref sig .tc := ⟨.hbm, 2348, rfl⟩
abbrev main_v1665 : Ref sig .tc := ⟨.hbm, 2349, rfl⟩
abbrev main_v1666 : Ref sig .tc := ⟨.hbm, 2350, rfl⟩
abbrev main_v1667 : Ref sig .tc := ⟨.hbm, 2351, rfl⟩
abbrev main_v1668 : Ref sig .tc := ⟨.hbm, 2352, rfl⟩
abbrev main_v1669 : Ref sig .tc := ⟨.hbm, 2353, rfl⟩
abbrev main_v1670 : Ref sig .tc := ⟨.hbm, 2354, rfl⟩
abbrev main_v1671 : Ref sig .tc := ⟨.hbm, 2355, rfl⟩
abbrev main_v1672 : Ref sig .tc := ⟨.hbm, 2356, rfl⟩
abbrev main_v1673 : Ref sig .tc := ⟨.hbm, 2357, rfl⟩
abbrev main_cst_279 : Ref sig .tc := ⟨.hbm, 2358, rfl⟩
abbrev main_v1674 : Ref sig .tc := ⟨.hbm, 2359, rfl⟩
abbrev main_v1675 : Ref sig .tc := ⟨.hbm, 2360, rfl⟩
abbrev main_v1676 : Ref sig .tc := ⟨.hbm, 2361, rfl⟩
abbrev main_v1677 : Ref sig .tc := ⟨.hbm, 2362, rfl⟩
abbrev main_v1678 : Ref sig .tc := ⟨.hbm, 2363, rfl⟩
abbrev main_v1679 : Ref sig .tc := ⟨.hbm, 2364, rfl⟩
abbrev main_v1680 : Ref sig .tc := ⟨.hbm, 2365, rfl⟩
abbrev main_v1681 : Ref sig .tc := ⟨.hbm, 2366, rfl⟩
abbrev main_v1682 : Ref sig .tc := ⟨.hbm, 2367, rfl⟩
abbrev main_cst_280 : Ref sig .tc := ⟨.hbm, 2368, rfl⟩
abbrev main_v1683 : Ref sig .tc := ⟨.hbm, 2369, rfl⟩
abbrev main_v1684 : Ref sig .tc := ⟨.hbm, 2370, rfl⟩
abbrev main_v1685 : Ref sig .tc := ⟨.hbm, 2371, rfl⟩
abbrev main_v1686 : Ref sig .tc := ⟨.hbm, 2372, rfl⟩
abbrev main_v1687 : Ref sig .tc := ⟨.hbm, 2373, rfl⟩
abbrev main_cst_281 : Ref sig .tc := ⟨.hbm, 2374, rfl⟩
abbrev main_v1688 : Ref sig .tc := ⟨.hbm, 2375, rfl⟩
abbrev main_cst_282 : Ref sig .tc := ⟨.hbm, 2376, rfl⟩
abbrev main_v1689 : Ref sig .tc := ⟨.hbm, 2377, rfl⟩
abbrev main_v1690 : Ref sig .tc := ⟨.hbm, 2378, rfl⟩
abbrev main_cst_283 : Ref sig .tc := ⟨.hbm, 2379, rfl⟩
abbrev main_v1691 : Ref sig .tc := ⟨.hbm, 2380, rfl⟩
abbrev main_v1692 : Ref sig .tc := ⟨.hbm, 2381, rfl⟩
abbrev main_v1693 : Ref sig .tc := ⟨.hbm, 2382, rfl⟩
abbrev main_v1694 : Ref sig .tc := ⟨.hbm, 2383, rfl⟩
abbrev main_v1695 : Ref sig .tc := ⟨.hbm, 2384, rfl⟩
abbrev main_v1696 : Ref sig .tc := ⟨.hbm, 2385, rfl⟩
abbrev main_v1697 : Ref sig .tc := ⟨.hbm, 2386, rfl⟩
abbrev main_v1698 : Ref sig .tc := ⟨.hbm, 2387, rfl⟩
abbrev main_v1699 : Ref sig .tc := ⟨.hbm, 2388, rfl⟩
abbrev main_cst_284 : Ref sig .tc := ⟨.hbm, 2389, rfl⟩
abbrev main_v1700 : Ref sig .tc := ⟨.hbm, 2390, rfl⟩
abbrev main_cst_285 : Ref sig .tc := ⟨.hbm, 2391, rfl⟩
abbrev main_v1701 : Ref sig .tc := ⟨.hbm, 2392, rfl⟩

abbrev nD : Nat := 1
abbrev τ : Topo := Topo.v7x

variable {F : FTy → Type} [FloatOps F]
-- ==== Proof.Whole.Region0.lean ====
/- The kernel region of call 0: its body run at one grid point, and what it leaves in its output. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__kmeans_body` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where it is not fetched its index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x768x1024 := Rect.unit (s := S1x768x1024) ![0, 0, 0] S1x768x1024.size inb_S1x768x1024_S1x768x1024_0_0_0
abbrev r0_1 : Rect S1x1x1024 := Rect.unit (s := S1x1x1024) ![0, 0, 0] S1x1x1024.size inb_S1x1x1024_S1x1x1024_0_0_0

/-! ## What the body leaves in each output window's buffer -/

/-! ### Values of the body that the stores' payloads, spelt out, would write more than once

    Each is a vector the body binds, stated over the input windows' blocks, with its name in the body after it. -/

def k0_pay24 (x0 : Vec F S1x768x1024 .f32) : FVec F S768x1024 .f32 :=
  k0_pay2 (View.ld x0 r0_0) -- `v1`
def k0_pay25 (x0 : Vec F S1x768x1024 .f32) : FVec F S1x1024 .f32 :=
  k0_pay3 (View.ld x0 r0_0) -- `v5`
def k0_pay26 (x0 : Vec F S1x768x1024 .f32) : IVec S768x1 1 :=
  k0_pay4 (View.ld x0 r0_0) -- `v45`
def k0_pay27 (x0 : Vec F S1x768x1024 .f32) : FVec F S1x1024 .f32 :=
  k0_pay8 (k0_pay24 x0) (k0_pay25 x0) (k0_pay26 x0) -- `v92`
def k0_pay28 (x0 : Vec F S1x768x1024 .f32) : FVec F S768x1024 .f32 :=
  k0_pay9 (k0_pay24 x0) (k0_pay25 x0) (k0_pay26 x0) -- `v93`
def k0_pay29 (x0 : Vec F S1x768x1024 .f32) : IVec S768x1 1 :=
  k0_pay14 (k0_pay24 x0) (k0_pay25 x0) (k0_pay11 (k0_pay24 x0) (k0_pay25 x0) (k0_pay27 x0) (k0_pay28 x0)) (k0_pay12 (k0_pay24 x0) (k0_pay25 x0) (k0_pay27 x0) (k0_pay28 x0)) (k0_pay13 (k0_pay24 x0) (k0_pay25 x0) (k0_pay27 x0) (k0_pay28 x0)) -- `v190`
def k0_pay30 (x0 : Vec F S1x768x1024 .f32) : FVec F S1x1024 .f32 :=
  k0_pay18 (k0_pay24 x0) (k0_pay25 x0) (k0_pay29 x0) -- `v237`
def k0_pay31 (x0 : Vec F S1x768x1024 .f32) : FVec F S768x1024 .f32 :=
  k0_pay19 (k0_pay24 x0) (k0_pay25 x0) (k0_pay29 x0) -- `v238`

/-- Window 1's staging buffer after the body, from the input windows' blocks: its 1 store as pieces, the last first. -/
def out0_1 (x0 : Vec F S1x768x1024 .f32) : Vec F S1x1x1024 .f32 :=
  View.canon [⟨r0_1, k0_pay1 (k0_pay25 x0) (k0_pay21 (k0_pay24 x0) (k0_pay25 x0) (k0_pay30 x0) (k0_pay31 x0)) (k0_pay22 (k0_pay24 x0) (k0_pay25 x0) (k0_pay30 x0) (k0_pay31 x0)) (k0_pay23 (k0_pay24 x0) (k0_pay25 x0) (k0_pay30 x0) (k0_pay31 x0))⟩]

/-- Its stores tile the buffer, so they cover it. -/
theorem cover0_1 (p0 : Vec F S1x1x1024 .f32) (y : S1x1x1024.Idx) :
    ∃ pc ∈ ([⟨r0_1, p0⟩] : List (View.Piece (Elt F) S1x1x1024 .f32)), y ∈ pc.1.set :=
  View.cover_of_tiled [⟨r0_1, p0⟩] S1x1x1024.size (by rfl) y

/-! ## The body's triple -/

set_option maxHeartbeats 1000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg1 : Memref sig .tc .vmem S1x768x1024 .f32) (harg1 : arg1.IsWhole) (arg2 : Memref sig .tc .vmem S1x1x1024 .f32) (harg2 : arg2.IsWhole)
    (x0 : Vec F S1x768x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__kmeans_body i arg1 harg1 arg2 harg2) K := by
  simp only [cc0__kmeans_body_eq_skeleton]; unfold cc0__kmeans_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover0_1 _)).trans ?_
  rfl

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Whole.Region1.lean ====
/- The kernel region of call 1: its body run at one grid point, and what it leaves in its output. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Covers
public import Idealize.ShloMosaic.Lib.Ring
public import Idealize.ShloMosaic.Lib.Tactic
public import Idealize.ShloMosaic.Lib.UnfoldOut
public import Idealize.ShloMosaic.Lib.WordCmp

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_body` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): where it is not fetched its index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): where it is not fetched its index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): where it is not fetched its index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): where it is not fetched its index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): where it is not fetched its index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): where it is not fetched its index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): where it is not fetched its index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): where it is not fetched its index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates. -/
abbrev cond1_0 (i : grid1.Coords) : Prop := k1_cond1 i = 1#1
/-- It holds at the first point only — by arithmetic of the point. -/
theorem hcond1_0 : ∀ t : Fin cfg1.N, cond1_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond1_0, k1_cond1, e0]
    word_cmp
   : ∀ t : Fin grid1.N, cond1_0 (grid1.coords t) ↔ t.val % 8 = 0)

/-- The condition of the body's `scf.if` 1 (`k1_h2`), from the grid coordinates. -/
abbrev cond1_1 (i : grid1.Coords) : Prop := k1_cond2 i = 1#1
/-- It holds at the points from point 1 on — decided over the grid. -/
theorem hcond1_1 : ∀ t : Fin cfg1.N, cond1_1 (grid1.coords t) ↔ 1 ≤ t.val :=
  (by decide +kernel : ∀ t : Fin grid1.N, cond1_1 (grid1.coords t) ↔ 1 ≤ t.val)

/-! ## Where the windows are idle -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-- At the points of case A the printed configuration (`Cfg.idle`) calls output 8 live: the case stores into it. -/
theorem liveAt1_8_A : ∀ t : Fin cfg1.N, cond1_0 (grid1.coords t) → ¬cond1_1 (grid1.coords t) → cfg1.idle 8 (grid1.coords t) = false := by decide +kernel
/-- At the points of case B the printed configuration (`Cfg.idle`) calls output 8 live: the case stores into it. -/
theorem liveAt1_8_B : ∀ t : Fin cfg1.N, ¬cond1_0 (grid1.coords t) → cond1_1 (grid1.coords t) → cfg1.idle 8 (grid1.coords t) = false := by decide +kernel

/-- Output 8 is idle nowhere: every grid point takes one of the two branches that store into it. -/
theorem live1_8 (i : grid1.Coords) : cfg1.idle 8 i = false := by
  obtain ⟨t, rfl⟩ := grid1.coords_surjective i
  exact (by decide +kernel : ∀ t : Fin grid1.N, cfg1.idle 8 (grid1.coords t) = false) t

/-! ## The kernel body on any staging memrefs: a subtype the run finds -/

/-- One staging buffer of output window 8, through which its contents are stated (`View.read_writes_of_cover`: the
    choice does not matter). -/
abbrev VO1_8 : View sig .tc .vmem S1x1 .f32 := (Memref.whole cc1_stg8_0 : Memref sig .tc .vmem S1x1 .f32).view
/-- Each window's current staging memref at point `t`, spelled as the pipeline passes it (`bodyAt1`), and its wholeness. -/
abbrev ms1_0 (t : Fin cfg1.N) : Memref sig .tc .vmem S1x32x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S4x16 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1 .f32 := win1_8.stage (cfg1.slots t 8)
abbrev hs1_8 (t : Fin cfg1.N) : (ms1_8 t).IsWhole := hstage1_8 ((cfg1.slots t 8).cast nbuf1_8)

set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written. -/
noncomputable def kernelRun1_A (c : Dev nD) (i : grid1.Coords) (arg1 : Memref sig .tc .vmem S1x32x32 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S64x32 .f32) (harg7 : arg7.IsWhole) (arg8 : Memref sig .tc .vmem S4x16 .f32) (harg8 : arg8.IsWhole) (arg9 : Memref sig .tc .vmem S1x1 .f32) (harg9 : arg9.IsWhole) (hc0 : cond1_0 i) (hc1 : ¬cond1_1 i)
    (x0 : Vec F S1x32x32 .f32) (x1 : Vec F S32x16 .f32) (x2 : Vec F S32x1 .f32) (x3 : Vec F S32x16 .f32) (x4 : Vec F S1x1 .f32) (x5 : Vec F S1x1x1 .f32) (x6 : Vec F S64x32 .f32) (x7 : Vec F S4x16 .f32) :
    { L8 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc1_body i arg1 harg1 arg2 harg2 arg3 harg3 arg4 harg4 arg5 harg5 arg6 harg6 arg7 harg7 arg8 harg8 arg9 harg9) K } := by
  refine ⟨?_, fun E K => ?run⟩
  case run =>
    simp only [cc1_body_eq_skeleton]; unfold cc1_body_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

/-- Case A's pieces for output 8 tile its block (1 store of `S1x1`), so they cover it. -/
theorem cover1_A_8 (c : Dev nD) (i : grid1.Coords) (arg1 : Memref sig .tc .vmem S1x32x32 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S64x32 .f32) (harg7 : arg7.IsWhole) (arg8 : Memref sig .tc .vmem S4x16 .f32) (harg8 : arg8.IsWhole) (arg9 : Memref sig .tc .vmem S1x1 .f32) (harg9 : arg9.IsWhole) (hc0 : cond1_0 i) (hc1 : ¬cond1_1 i)
    (x0 : Vec F S1x32x32 .f32) (x1 : Vec F S32x16 .f32) (x2 : Vec F S32x1 .f32) (x3 : Vec F S32x16 .f32) (x4 : Vec F S1x1 .f32) (x5 : Vec F S1x1x1 .f32) (x6 : Vec F S64x32 .f32) (x7 : Vec F S4x16 .f32) (y : S1x1.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5 x6 x7).1 S1x1.size (by sl_kernel_rfl) y

/-- What case A leaves in output 8's staging buffer: its pieces read back over junk. -/
def out1_A_8 (c : Dev nD) (i : grid1.Coords) (arg1 : Memref sig .tc .vmem S1x32x32 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S64x32 .f32) (harg7 : arg7.IsWhole) (arg8 : Memref sig .tc .vmem S4x16 .f32) (harg8 : arg8.IsWhole) (arg9 : Memref sig .tc .vmem S1x1 .f32) (harg9 : arg9.IsWhole) (hc0 : cond1_0 i) (hc1 : ¬cond1_1 i)
    (x0 : Vec F S1x32x32 .f32) (x1 : Vec F S32x16 .f32) (x2 : Vec F S32x1 .f32) (x3 : Vec F S32x16 .f32) (x4 : Vec F S1x1 .f32) (x5 : Vec F S1x1x1 .f32) (x6 : Vec F S64x32 .f32) (x7 : Vec F S4x16 .f32) : Vec F S1x1 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 hc0 hc1 x0 x1 x2 x3 x4 x5 x6 x7).1)

set_option maxHeartbeats 1000000 in
/-- What the body's stores leave in each output's staging memref, as pieces (last first) IN CASE B (`scf.if` 0 not taken, `scf.if` 1 taken: points 1, 2, … 7: 7 of 8), WITH the
    proof that on whole staging memrefs — the inputs' at their contents, the outputs it reads before covering (8) at their running contents `xo·`, the other outputs' at
    anything, the body runs to the continuation holding the inputs' as they were,
    each output's buffer with its pieces written. -/
noncomputable def kernelRun1_B (c : Dev nD) (i : grid1.Coords) (arg1 : Memref sig .tc .vmem S1x32x32 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S64x32 .f32) (harg7 : arg7.IsWhole) (arg8 : Memref sig .tc .vmem S4x16 .f32) (harg8 : arg8.IsWhole) (arg9 : Memref sig .tc .vmem S1x1 .f32) (harg9 : arg9.IsWhole) (hc0 : ¬cond1_0 i) (hc1 : cond1_1 i)
    (x0 : Vec F S1x32x32 .f32) (x1 : Vec F S32x16 .f32) (x2 : Vec F S32x1 .f32) (x3 : Vec F S32x16 .f32) (x4 : Vec F S1x1 .f32) (x5 : Vec F S1x1x1 .f32) (x6 : Vec F S64x32 .f32) (x7 : Vec F S4x16 .f32) (xo8 : Vec F S1x1 .f32) :
    { L8 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc1_body i arg1 harg1 arg2 harg2 arg3 harg3 arg4 harg4 arg5 harg5 arg6 harg6 arg7 harg7 arg8 harg8 arg9 harg9) K } := by
  refine ⟨?_, fun E K => ?run⟩
  case run =>
    simp only [cc1_body_eq_skeleton]; unfold cc1_body_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

/-- Case B's pieces for output 8 tile its block (1 store of `S1x1`), so they cover it. -/
theorem cover1_B_8 (c : Dev nD) (i : grid1.Coords) (arg1 : Memref sig .tc .vmem S1x32x32 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S64x32 .f32) (harg7 : arg7.IsWhole) (arg8 : Memref sig .tc .vmem S4x16 .f32) (harg8 : arg8.IsWhole) (arg9 : Memref sig .tc .vmem S1x1 .f32) (harg9 : arg9.IsWhole) (hc0 : ¬cond1_0 i) (hc1 : cond1_1 i)
    (x0 : Vec F S1x32x32 .f32) (x1 : Vec F S32x16 .f32) (x2 : Vec F S32x1 .f32) (x3 : Vec F S32x16 .f32) (x4 : Vec F S1x1 .f32) (x5 : Vec F S1x1x1 .f32) (x6 : Vec F S64x32 .f32) (x7 : Vec F S4x16 .f32) (xo8 : Vec F S1x1 .f32) (y : S1x1.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 x6 x7 xo8).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 x6 x7 xo8).1 S1x1.size (by sl_kernel_rfl) y

/-- What case B leaves in output 8's staging buffer: its pieces read back over junk. -/
def out1_B_8 (c : Dev nD) (i : grid1.Coords) (arg1 : Memref sig .tc .vmem S1x32x32 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S64x32 .f32) (harg7 : arg7.IsWhole) (arg8 : Memref sig .tc .vmem S4x16 .f32) (harg8 : arg8.IsWhole) (arg9 : Memref sig .tc .vmem S1x1 .f32) (harg9 : arg9.IsWhole) (hc0 : ¬cond1_0 i) (hc1 : cond1_1 i)
    (x0 : Vec F S1x32x32 .f32) (x1 : Vec F S32x16 .f32) (x2 : Vec F S32x1 .f32) (x3 : Vec F S32x16 .f32) (x4 : Vec F S1x1 .f32) (x5 : Vec F S1x1x1 .f32) (x6 : Vec F S64x32 .f32) (x7 : Vec F S4x16 .f32) (xo8 : Vec F S1x1 .f32) : Vec F S1x1 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 hc0 hc1 x0 x1 x2 x3 x4 x5 x6 x7 xo8).1)

/-! ## What the outputs hold after each point -/

/-- THE ACCUMULATION. What the outputs' staging buffers hold after the body at position `n`:
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x1 .f32
  | 0, hn => out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩)
  | n + 1, hn =>
    if h0 : (n + 1) % 8 = 0 then
      if h1 : 1 ≤ (n + 1) then
        False.elim (by have hN : n + 1 < 8 := lt_of_lt_of_eq hn (show cfg1.N = 8 from N_1); omega)
      else
        out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩)
    else
      if h1 : 1 ≤ (n + 1) then
        out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn))
      else
        False.elim (by have hN : n + 1 < 8 := lt_of_lt_of_eq hn (show cfg1.N = 8 from N_1); omega)

/-- `outsAt1` at a point of case A: that case's contents. -/
theorem outsAt1_A (c : Dev nD) (t : Fin cfg1.N) (h0 : t.val % 8 = 0) (h1 : ¬1 ≤ t.val) :
    outsAt1 V c t.val t.isLt = out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : 1 ≤ t.val) :
    outsAt1 V c t.val t.isLt = out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
/-- At a point of case B output 8's current staging buffer holds what the body left at the point before: the point is
    not the first, the buffer was not written back between (`flush1_8`), the window is live and uncut. -/
theorem before1_8_B (c : Dev nD) (t : Fin cfg1.N) (h0 : ¬t.val % 8 = 0) (h1 : 1 ≤ t.val) (d) :
    (dat1 V c).before 8 t d = (outsAt1 V c (t.val - 1) (Nat.lt_of_le_of_lt (Nat.sub_le _ _) t.isLt)) := by
  have hN : t.val < 8 := lt_of_lt_of_eq t.isLt (show cfg1.N = 8 from N_1)
  rw [Dat.before_out_kept _ 8 rfl t (by omega) (Bool.eq_false_iff.mpr fun h => by have := (flush1_8 _).mp h; dsimp only at this; omega)
    live1_8 (fun _ _ => rfl)]
  dsimp only [dat1]

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 1600000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl]
  have hN : t.val < 8 := lt_of_lt_of_eq t.isLt (show cfg1.N = 8 from N_1)
  by_cases h0 : t.val % 8 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8_A t ((hcond1_0 t).mpr h0) (fun h => h1 ((hcond1_1 t).mp h))], after1_8]
      rw [outsAt1_A V c t h0 h1]
      unfold out1_A_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8_B t (fun h => h0 ((hcond1_0 t).mp h)) ((hcond1_1 t).mpr h1)], after1_8]
      rw [outsAt1_B V c t h0 h1]
      simp only [before1_8_B V c t h0 h1]
      unfold out1_B_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_B_8 c _ _ _ _ _ _ _ _ _ _ _ _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Whole.Region2.lean ====
/- The kernel region of call 2: its body run at one grid point, and what it leaves in its output. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2__kmeans_body` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): where it is not fetched its index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x768x256 := Rect.unit (s := S1x768x256) ![0, 0, 0] S1x768x256.size inb_S1x768x256_S1x768x256_0_0_0
abbrev r2_1 : Rect S1x1x256 := Rect.unit (s := S1x1x256) ![0, 0, 0] S1x1x256.size inb_S1x1x256_S1x1x256_0_0_0

/-! ## What the body leaves in each output window's buffer -/

/-! ### Values of the body that the stores' payloads, spelt out, would write more than once

    Each is a vector the body binds, stated over the input windows' blocks, with its name in the body after it. -/

def k2_pay24 (x0 : Vec F S1x768x256 .f32) : FVec F S768x256 .f32 :=
  k2_pay2 (View.ld x0 r2_0) -- `v1`
def k2_pay25 (x0 : Vec F S1x768x256 .f32) : FVec F S1x256 .f32 :=
  k2_pay3 (View.ld x0 r2_0) -- `v5`
def k2_pay26 (x0 : Vec F S1x768x256 .f32) : IVec S768x1 1 :=
  k2_pay4 (View.ld x0 r2_0) -- `v45`
def k2_pay27 (x0 : Vec F S1x768x256 .f32) : FVec F S1x256 .f32 :=
  k2_pay8 (k2_pay24 x0) (k2_pay25 x0) (k2_pay26 x0) -- `v92`
def k2_pay28 (x0 : Vec F S1x768x256 .f32) : FVec F S768x256 .f32 :=
  k2_pay9 (k2_pay24 x0) (k2_pay25 x0) (k2_pay26 x0) -- `v93`
def k2_pay29 (x0 : Vec F S1x768x256 .f32) : IVec S768x1 1 :=
  k2_pay14 (k2_pay24 x0) (k2_pay25 x0) (k2_pay11 (k2_pay24 x0) (k2_pay25 x0) (k2_pay27 x0) (k2_pay28 x0)) (k2_pay12 (k2_pay24 x0) (k2_pay25 x0) (k2_pay27 x0) (k2_pay28 x0)) (k2_pay13 (k2_pay24 x0) (k2_pay25 x0) (k2_pay27 x0) (k2_pay28 x0)) -- `v190`
def k2_pay30 (x0 : Vec F S1x768x256 .f32) : FVec F S1x256 .f32 :=
  k2_pay18 (k2_pay24 x0) (k2_pay25 x0) (k2_pay29 x0) -- `v237`
def k2_pay31 (x0 : Vec F S1x768x256 .f32) : FVec F S768x256 .f32 :=
  k2_pay19 (k2_pay24 x0) (k2_pay25 x0) (k2_pay29 x0) -- `v238`

/-- Window 1's staging buffer after the body, from the input windows' blocks: its 1 store as pieces, the last first. -/
def out2_1 (x0 : Vec F S1x768x256 .f32) : Vec F S1x1x256 .f32 :=
  View.canon [⟨r2_1, k2_pay1 (k2_pay25 x0) (k2_pay21 (k2_pay24 x0) (k2_pay25 x0) (k2_pay30 x0) (k2_pay31 x0)) (k2_pay22 (k2_pay24 x0) (k2_pay25 x0) (k2_pay30 x0) (k2_pay31 x0)) (k2_pay23 (k2_pay24 x0) (k2_pay25 x0) (k2_pay30 x0) (k2_pay31 x0))⟩]

/-- Its stores tile the buffer, so they cover it. -/
theorem cover2_1 (p0 : Vec F S1x1x256 .f32) (y : S1x1x256.Idx) :
    ∃ pc ∈ ([⟨r2_1, p0⟩] : List (View.Piece (Elt F) S1x1x256 .f32)), y ∈ pc.1.set :=
  View.cover_of_tiled [⟨r2_1, p0⟩] S1x1x256.size (by rfl) y

/-! ## The body's triple -/

set_option maxHeartbeats 1000000 in
/-- The kernel body on whole staging memrefs, the inputs' at read contents `xW` and the outputs' at anything, runs to
    the continuation holding the inputs' as they were and each output's at `out2_W` of the inputs'. -/
theorem sound_kernel2 (c : Dev nD) (E : Set ℕ) (i : grid2.Coords) (arg1 : Memref sig .tc .vmem S1x768x256 .f32) (harg1 : arg1.IsWhole) (arg2 : Memref sig .tc .vmem S1x1x256 .f32) (harg2 : arg2.IsWhole)
    (x0 : Vec F S1x768x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__kmeans_body i arg1 harg1 arg2 harg2) K := by
  simp only [cc2__kmeans_body_eq_skeleton]; unfold cc2__kmeans_body_skel
  simp only [k2_part1_eq_skeleton, k2_part2_eq_skeleton, k2_part3_eq_skeleton, k2_part4_eq_skeleton, k2_part5_eq_skeleton, k2_part6_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover2_1 _)).trans ?_
  rfl

/-! ## The pipeline's proof data -/

/-- The proof data of pipeline 2 on core `c`: the arrays as the region finds them (`V`); after the body at
    point `t` each input's buffer at its block and each output's at `out2_W` of the input blocks; the invariant the
    class's; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Whole.Region3.lean ====
/- The kernel region of call 3: its body run at one grid point, and what it leaves in its output. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Covers
public import Idealize.ShloMosaic.Lib.Ring
public import Idealize.ShloMosaic.Lib.Tactic
public import Idealize.ShloMosaic.Lib.UnfoldOut
public import Idealize.ShloMosaic.Lib.WordCmp

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_body` (pipeline 3), at the entry contents `V` — class R -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): where it is not fetched its index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): where it is not fetched its index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): where it is not fetched its index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): where it is not fetched its index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): where it is not fetched its index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): where it is not fetched its index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for ANY proof
    data whose array is `V`'s (`hA`) and whose body leaves the block in place (`hafter`): where it is not fetched its index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for ANY proof
    data whose array is `V`'s (`hA`) and whose body leaves the block in place (`hafter`): where it is not fetched its index has not moved. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0 (`k3_h1`), from the grid coordinates. -/
abbrev cond3_0 (i : grid3.Coords) : Prop := k3_cond1 i = 1#1
/-- It holds at the first point only — by arithmetic of the point. -/
theorem hcond3_0 : ∀ t : Fin cfg3.N, cond3_0 (grid3.coords t) ↔ t.val % 8 = 0 :=
  (fun t => by
    have ht : t.val < 8 := Nat.lt_of_lt_of_eq t.isLt N_3
    have e0 : (grid3.coords t 0).val = t.val / 1 % 8 := Pipeline.Grid.coords_val t 0 (by decide) rfl
    simp only [cond3_0, k3_cond1, e0]
    word_cmp
   : ∀ t : Fin grid3.N, cond3_0 (grid3.coords t) ↔ t.val % 8 = 0)

/-- The condition of the body's `scf.if` 1 (`k3_h2`), from the grid coordinates. -/
abbrev cond3_1 (i : grid3.Coords) : Prop := k3_cond2 i = 1#1
/-- It holds at the points from point 1 on — decided over the grid. -/
theorem hcond3_1 : ∀ t : Fin cfg3.N, cond3_1 (grid3.coords t) ↔ 1 ≤ t.val :=
  (by decide +kernel : ∀ t : Fin grid3.N, cond3_1 (grid3.coords t) ↔ 1 ≤ t.val)

/-! ## Where the windows are idle -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- Window 3 is never idle (an input). -/
theorem liveAt3_3 : ∀ t : Fin cfg3.N, cfg3.idle 3 (grid3.coords t) = false := fun _ => rfl
/-- Window 4 is never idle (an input). -/
theorem liveAt3_4 : ∀ t : Fin cfg3.N, cfg3.idle 4 (grid3.coords t) = false := fun _ => rfl
/-- Window 5 is never idle (an input). -/
theorem liveAt3_5 : ∀ t : Fin cfg3.N, cfg3.idle 5 (grid3.coords t) = false := fun _ => rfl
/-- Window 6 is never idle (an input). -/
theorem liveAt3_6 : ∀ t : Fin cfg3.N, cfg3.idle 6 (grid3.coords t) = false := fun _ => rfl
/-- Window 7 is never idle (an input). -/
theorem liveAt3_7 : ∀ t : Fin cfg3.N, cfg3.idle 7 (grid3.coords t) = false := fun _ => rfl
/-- At the points of case A the printed configuration (`Cfg.idle`) calls output 8 live: the case stores into it. -/
theorem liveAt3_8_A : ∀ t : Fin cfg3.N, cond3_0 (grid3.coords t) → ¬cond3_1 (grid3.coords t) → cfg3.idle 8 (grid3.coords t) = false := by decide +kernel
/-- At the points of case B the printed configuration (`Cfg.idle`) calls output 8 live: the case stores into it. -/
theorem liveAt3_8_B : ∀ t : Fin cfg3.N, ¬cond3_0 (grid3.coords t) → cond3_1 (grid3.coords t) → cfg3.idle 8 (grid3.coords t) = false := by decide +kernel

/-- Output 8 is idle nowhere: every grid point takes one of the two branches that store into it. -/
theorem live3_8 (i : grid3.Coords) : cfg3.idle 8 i = false := by
  obtain ⟨t, rfl⟩ := grid3.coords_surjective i
  exact (by decide +kernel : ∀ t : Fin grid3.N, cfg3.idle 8 (grid3.coords t) = false) t

/-! ## The kernel body on any staging memrefs: a subtype the run finds -/

/-- One staging buffer of output window 8, through which its contents are stated (`View.read_writes_of_cover`: the
    choice does not matter). -/
abbrev VO3_8 : View sig .tc .vmem S1x1 .f32 := (Memref.whole cc3_stg8_0 : Memref sig .tc .vmem S1x1 .f32).view
/-- Each window's current staging memref at point `t`, spelled as the pipeline passes it (`bodyAt3`), and its wholeness. -/
abbrev ms3_0 (t : Fin cfg3.N) : Memref sig .tc .vmem S1x16x16 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S32x16 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S32x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S32x16 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S32x16 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S4x8 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x1 .f32 := win3_8.stage (cfg3.slots t 8)
abbrev hs3_8 (t : Fin cfg3.N) : (ms3_8 t).IsWhole := hstage3_8 ((cfg3.slots t 8).cast nbuf3_8)

set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written. -/
noncomputable def kernelRun3_A (c : Dev nD) (i : grid3.Coords) (arg1 : Memref sig .tc .vmem S1x16x16 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S32x16 .f32) (harg7 : arg7.IsWhole) (arg8 : Memref sig .tc .vmem S4x8 .f32) (harg8 : arg8.IsWhole) (arg9 : Memref sig .tc .vmem S1x1 .f32) (harg9 : arg9.IsWhole) (hc0 : cond3_0 i) (hc1 : ¬cond3_1 i)
    (x0 : Vec F S1x16x16 .f32) (x1 : Vec F S32x16 .f32) (x2 : Vec F S32x1 .f32) (x3 : Vec F S32x16 .f32) (x4 : Vec F S1x1 .f32) (x5 : Vec F S1x1x1 .f32) (x6 : Vec F S32x16 .f32) (x7 : Vec F S4x8 .f32) :
    { L8 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc3_body i arg1 harg1 arg2 harg2 arg3 harg3 arg4 harg4 arg5 harg5 arg6 harg6 arg7 harg7 arg8 harg8 arg9 harg9) K } := by
  refine ⟨?_, fun E K => ?run⟩
  case run =>
    simp only [cc3_body_eq_skeleton]; unfold cc3_body_skel
    simp only [k3_part1_eq_skeleton, k3_part2_eq_skeleton, k3_part3_eq_skeleton, k3_part4_eq_skeleton, k3_part5_eq_skeleton, k3_part6_eq_skeleton, k3_part7_eq_skeleton, k3_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

/-- Case A's pieces for output 8 tile its block (1 store of `S1x1`), so they cover it. -/
theorem cover3_A_8 (c : Dev nD) (i : grid3.Coords) (arg1 : Memref sig .tc .vmem S1x16x16 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S32x16 .f32) (harg7 : arg7.IsWhole) (arg8 : Memref sig .tc .vmem S4x8 .f32) (harg8 : arg8.IsWhole) (arg9 : Memref sig .tc .vmem S1x1 .f32) (harg9 : arg9.IsWhole) (hc0 : cond3_0 i) (hc1 : ¬cond3_1 i)
    (x0 : Vec F S1x16x16 .f32) (x1 : Vec F S32x16 .f32) (x2 : Vec F S32x1 .f32) (x3 : Vec F S32x16 .f32) (x4 : Vec F S1x1 .f32) (x5 : Vec F S1x1x1 .f32) (x6 : Vec F S32x16 .f32) (x7 : Vec F S4x8 .f32) (y : S1x1.Idx) :
    ∃ pc ∈ (kernelRun3_A c i arg1 harg1 arg2 harg2 arg3 harg3 arg4 harg4 arg5 harg5 arg6 harg6 arg7 harg7 arg8 harg8 arg9 harg9 hc0 hc1 x0 x1 x2 x3 x4 x5 x6 x7).1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4 x5 x6 x7).1 S1x1.size (by sl_kernel_rfl) y

/-- What case A leaves in output 8's staging buffer: its pieces read back over junk. -/
def out3_A_8 (c : Dev nD) (i : grid3.Coords) (arg1 : Memref sig .tc .vmem S1x16x16 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S32x16 .f32) (harg7 : arg7.IsWhole) (arg8 : Memref sig .tc .vmem S4x8 .f32) (harg8 : arg8.IsWhole) (arg9 : Memref sig .tc .vmem S1x1 .f32) (harg9 : arg9.IsWhole) (hc0 : cond3_0 i) (hc1 : ¬cond3_1 i)
    (x0 : Vec F S1x16x16 .f32) (x1 : Vec F S32x16 .f32) (x2 : Vec F S32x1 .f32) (x3 : Vec F S32x16 .f32) (x4 : Vec F S1x1 .f32) (x5 : Vec F S1x1x1 .f32) (x6 : Vec F S32x16 .f32) (x7 : Vec F S4x8 .f32) : Vec F S1x1 .f32 :=
  VO3_8.read (Elt F) (VO3_8.writes (Elt F) VO3_8.junk (kernelRun3_A c i arg1 harg1 arg2 harg2 arg3 harg3 arg4 harg4 arg5 harg5 arg6 harg6 arg7 harg7 arg8 harg8 arg9 harg9 hc0 hc1 x0 x1 x2 x3 x4 x5 x6 x7).1)

set_option maxHeartbeats 1000000 in
/-- What the body's stores leave in each output's staging memref, as pieces (last first) IN CASE B (`scf.if` 0 not taken, `scf.if` 1 taken: points 1, 2, … 7: 7 of 8), WITH the
    proof that on whole staging memrefs — the inputs' at their contents, the outputs it reads before covering (8) at their running contents `xo·`, the other outputs' at
    anything, the body runs to the continuation holding the inputs' as they were,
    each output's buffer with its pieces written. -/
noncomputable def kernelRun3_B (c : Dev nD) (i : grid3.Coords) (arg1 : Memref sig .tc .vmem S1x16x16 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S32x16 .f32) (harg7 : arg7.IsWhole) (arg8 : Memref sig .tc .vmem S4x8 .f32) (harg8 : arg8.IsWhole) (arg9 : Memref sig .tc .vmem S1x1 .f32) (harg9 : arg9.IsWhole) (hc0 : ¬cond3_0 i) (hc1 : cond3_1 i)
    (x0 : Vec F S1x16x16 .f32) (x1 : Vec F S32x16 .f32) (x2 : Vec F S32x1 .f32) (x3 : Vec F S32x16 .f32) (x4 : Vec F S1x1 .f32) (x5 : Vec F S1x1x1 .f32) (x6 : Vec F S32x16 .f32) (x7 : Vec F S4x8 .f32) (xo8 : Vec F S1x1 .f32) :
    { L8 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc3_body i arg1 harg1 arg2 harg2 arg3 harg3 arg4 harg4 arg5 harg5 arg6 harg6 arg7 harg7 arg8 harg8 arg9 harg9) K } := by
  refine ⟨?_, fun E K => ?run⟩
  case run =>
    simp only [cc3_body_eq_skeleton]; unfold cc3_body_skel
    simp only [k3_part1_eq_skeleton, k3_part2_eq_skeleton, k3_part3_eq_skeleton, k3_part4_eq_skeleton, k3_part5_eq_skeleton, k3_part6_eq_skeleton, k3_part7_eq_skeleton, k3_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

/-- Case B's pieces for output 8 tile its block (1 store of `S1x1`), so they cover it. -/
theorem cover3_B_8 (c : Dev nD) (i : grid3.Coords) (arg1 : Memref sig .tc .vmem S1x16x16 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S32x16 .f32) (harg7 : arg7.IsWhole) (arg8 : Memref sig .tc .vmem S4x8 .f32) (harg8 : arg8.IsWhole) (arg9 : Memref sig .tc .vmem S1x1 .f32) (harg9 : arg9.IsWhole) (hc0 : ¬cond3_0 i) (hc1 : cond3_1 i)
    (x0 : Vec F S1x16x16 .f32) (x1 : Vec F S32x16 .f32) (x2 : Vec F S32x1 .f32) (x3 : Vec F S32x16 .f32) (x4 : Vec F S1x1 .f32) (x5 : Vec F S1x1x1 .f32) (x6 : Vec F S32x16 .f32) (x7 : Vec F S4x8 .f32) (xo8 : Vec F S1x1 .f32) (y : S1x1.Idx) :
    ∃ pc ∈ (kernelRun3_B c i arg1 harg1 arg2 harg2 arg3 harg3 arg4 harg4 arg5 harg5 arg6 harg6 arg7 harg7 arg8 harg8 arg9 harg9 hc0 hc1 x0 x1 x2 x3 x4 x5 x6 x7 xo8).1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 x5 x6 x7 xo8).1 S1x1.size (by sl_kernel_rfl) y

/-- What case B leaves in output 8's staging buffer: its pieces read back over junk. -/
def out3_B_8 (c : Dev nD) (i : grid3.Coords) (arg1 : Memref sig .tc .vmem S1x16x16 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S32x16 .f32) (harg7 : arg7.IsWhole) (arg8 : Memref sig .tc .vmem S4x8 .f32) (harg8 : arg8.IsWhole) (arg9 : Memref sig .tc .vmem S1x1 .f32) (harg9 : arg9.IsWhole) (hc0 : ¬cond3_0 i) (hc1 : cond3_1 i)
    (x0 : Vec F S1x16x16 .f32) (x1 : Vec F S32x16 .f32) (x2 : Vec F S32x1 .f32) (x3 : Vec F S32x16 .f32) (x4 : Vec F S1x1 .f32) (x5 : Vec F S1x1x1 .f32) (x6 : Vec F S32x16 .f32) (x7 : Vec F S4x8 .f32) (xo8 : Vec F S1x1 .f32) : Vec F S1x1 .f32 :=
  VO3_8.read (Elt F) (VO3_8.writes (Elt F) VO3_8.junk (kernelRun3_B c i arg1 harg1 arg2 harg2 arg3 harg3 arg4 harg4 arg5 harg5 arg6 harg6 arg7 harg7 arg8 harg8 arg9 harg9 hc0 hc1 x0 x1 x2 x3 x4 x5 x6 x7 xo8).1)

/-! ## What the outputs hold after each point -/

/-- THE ACCUMULATION. What the outputs' staging buffers hold after the body at position `n`:
    the case the closed forms select at `n`, run at the point's memrefs and input blocks, an output it reads before covering
    at what this leaves at `n - 1` (its buffer is not written back between: `before3_W_κ`). An assignment of the conditions no point meets is no case (`False.elim`). -/
def outsAt3 (c : Dev nD) : (n : ℕ) → n < cfg3.N → Vec F S1x1 .f32
  | 0, hn => out3_A_8 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩)
  | n + 1, hn =>
    if h0 : (n + 1) % 8 = 0 then
      if h1 : 1 ≤ (n + 1) then
        False.elim (by have hN : n + 1 < 8 := lt_of_lt_of_eq hn (show cfg3.N = 8 from N_3); omega)
      else
        out3_A_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩)
    else
      if h1 : 1 ≤ (n + 1) then
        out3_B_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (outsAt3 c n (Nat.lt_of_succ_lt hn))
      else
        False.elim (by have hN : n + 1 < 8 := lt_of_lt_of_eq hn (show cfg3.N = 8 from N_3); omega)

/-- `outsAt3` at a point of case A: that case's contents. -/
theorem outsAt3_A (c : Dev nD) (t : Fin cfg3.N) (h0 : t.val % 8 = 0) (h1 : ¬1 ≤ t.val) :
    outsAt3 V c t.val t.isLt = out3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 8 = 0) (h1 : 1 ≤ t.val) :
    outsAt3 V c t.val t.isLt = out3_B_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 3 on core `c`: the arrays as the region finds them (`V`); after the body at
    point `t` each input's buffer at its block and the outputs' at `outsAt3`; the invariant the class's; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => (outsAt3 V c t.val t.isLt)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = (outsAt3 V c t.val t.isLt) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
/-- At a point of case B output 8's current staging buffer holds what the body left at the point before: the point is
    not the first, the buffer was not written back between (`flush3_8`), the window is live and uncut. -/
theorem before3_8_B (c : Dev nD) (t : Fin cfg3.N) (h0 : ¬t.val % 8 = 0) (h1 : 1 ≤ t.val) (d) :
    (dat3 V c).before 8 t d = (outsAt3 V c (t.val - 1) (Nat.lt_of_le_of_lt (Nat.sub_le _ _) t.isLt)) := by
  have hN : t.val < 8 := lt_of_lt_of_eq t.isLt (show cfg3.N = 8 from N_3)
  rw [Dat.before_out_kept _ 8 rfl t (by omega) (Bool.eq_false_iff.mpr fun h => by have := (flush3_8 _).mp h; dsimp only at this; omega)
    live3_8 (fun _ _ => rfl)]
  dsimp only [dat3]

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

set_option maxHeartbeats 1600000 in
/-- The body at any point: the inputs' memrefs hold their blocks (`before3_W`); the closed forms say which case the point is in (`by_cases`), an output the case reads before covering holds what the point before left (`before3_W_κ`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl]
  have hN : t.val < 8 := lt_of_lt_of_eq t.isLt (show cfg3.N = 8 from N_3)
  by_cases h0 : t.val % 8 = 0
  · by_cases h1 : 1 ≤ t.val
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7 t], after3_7]
      rw [show (dat3 V c).leavesExact 8 t = owns (c : Thread nD τ) (ms3_8 t) fullShare ((dat3 V c).after 8 t) from by
      unfold Dat.leavesExact; rw [liveAt3_8_A t ((hcond3_0 t).mpr h0) (fun h => h1 ((hcond3_1 t).mp h))], after3_8]
      rw [outsAt3_A V c t h0 h1]
      unfold out3_A_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover3_A_8 c _ _ _ _ _ _ _ _ _ _ _ _ _ _ _ _ _ _ _ _ _ _ _ _ _ _ _ _ _)
  · by_cases h1 : 1 ≤ t.val
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7 t], after3_7]
      rw [show (dat3 V c).leavesExact 8 t = owns (c : Thread nD τ) (ms3_8 t) fullShare ((dat3 V c).after 8 t) from by
      unfold Dat.leavesExact; rw [liveAt3_8_B t (fun h => h0 ((hcond3_0 t).mp h)) ((hcond3_1 t).mpr h1)], after3_8]
      rw [outsAt3_B V c t h0 h1]
      simp only [before3_8_B V c t h0 h1]
      unfold out3_B_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun3_B c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover3_B_8 c _ _ _ _ _ _ _ _ _ _ _ _ _ _ _ _ _ _ _ _ _ _ _ _ _ _ _ _ _ _)
    · exfalso; omega

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.Whole.Region4.lean ====
/- The kernel region of call 4: its body run at one grid point, and what it leaves in its output. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc4__kmeans_body` (pipeline 4), at the entry contents `V` -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): where it is not fetched its index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S1x768x64 := Rect.unit (s := S1x768x64) ![0, 0, 0] S1x768x64.size inb_S1x768x64_S1x768x64_0_0_0
abbrev r4_1 : Rect S1x1x64 := Rect.unit (s := S1x1x64) ![0, 0, 0] S1x1x64.size inb_S1x1x64_S1x1x64_0_0_0

/-! ## What the body leaves in each output window's buffer -/

/-! ### Values of the body that the stores' payloads, spelt out, would write more than once

    Each is a vector the body binds, stated over the input windows' blocks, with its name in the body after it. -/

def k4_pay24 (x0 : Vec F S1x768x64 .f32) : FVec F S768x64 .f32 :=
  k4_pay2 (View.ld x0 r4_0) -- `v1`
def k4_pay25 (x0 : Vec F S1x768x64 .f32) : FVec F S1x64 .f32 :=
  k4_pay3 (View.ld x0 r4_0) -- `v5`
def k4_pay26 (x0 : Vec F S1x768x64 .f32) : IVec S768x1 1 :=
  k4_pay4 (View.ld x0 r4_0) -- `v45`
def k4_pay27 (x0 : Vec F S1x768x64 .f32) : FVec F S1x64 .f32 :=
  k4_pay8 (k4_pay24 x0) (k4_pay25 x0) (k4_pay26 x0) -- `v92`
def k4_pay28 (x0 : Vec F S1x768x64 .f32) : FVec F S768x64 .f32 :=
  k4_pay9 (k4_pay24 x0) (k4_pay25 x0) (k4_pay26 x0) -- `v93`
def k4_pay29 (x0 : Vec F S1x768x64 .f32) : IVec S768x1 1 :=
  k4_pay14 (k4_pay24 x0) (k4_pay25 x0) (k4_pay11 (k4_pay24 x0) (k4_pay25 x0) (k4_pay27 x0) (k4_pay28 x0)) (k4_pay12 (k4_pay24 x0) (k4_pay25 x0) (k4_pay27 x0) (k4_pay28 x0)) (k4_pay13 (k4_pay24 x0) (k4_pay25 x0) (k4_pay27 x0) (k4_pay28 x0)) -- `v190`
def k4_pay30 (x0 : Vec F S1x768x64 .f32) : FVec F S1x64 .f32 :=
  k4_pay18 (k4_pay24 x0) (k4_pay25 x0) (k4_pay29 x0) -- `v237`
def k4_pay31 (x0 : Vec F S1x768x64 .f32) : FVec F S768x64 .f32 :=
  k4_pay19 (k4_pay24 x0) (k4_pay25 x0) (k4_pay29 x0) -- `v238`

/-- Window 1's staging buffer after the body, from the input windows' blocks: its 1 store as pieces, the last first. -/
def out4_1 (x0 : Vec F S1x768x64 .f32) : Vec F S1x1x64 .f32 :=
  View.canon [⟨r4_1, k4_pay1 (k4_pay25 x0) (k4_pay21 (k4_pay24 x0) (k4_pay25 x0) (k4_pay30 x0) (k4_pay31 x0)) (k4_pay22 (k4_pay24 x0) (k4_pay25 x0) (k4_pay30 x0) (k4_pay31 x0)) (k4_pay23 (k4_pay24 x0) (k4_pay25 x0) (k4_pay30 x0) (k4_pay31 x0))⟩]

/-- Its stores tile the buffer, so they cover it. -/
theorem cover4_1 (p0 : Vec F S1x1x64 .f32) (y : S1x1x64.Idx) :
    ∃ pc ∈ ([⟨r4_1, p0⟩] : List (View.Piece (Elt F) S1x1x64 .f32)), y ∈ pc.1.set :=
  View.cover_of_tiled [⟨r4_1, p0⟩] S1x1x64.size (by rfl) y

/-! ## The body's triple -/

set_option maxHeartbeats 1000000 in
/-- The kernel body on whole staging memrefs, the inputs' at read contents `xW` and the outputs' at anything, runs to
    the continuation holding the inputs' as they were and each output's at `out4_W` of the inputs'. -/
theorem sound_kernel4 (c : Dev nD) (E : Set ℕ) (i : grid4.Coords) (arg1 : Memref sig .tc .vmem S1x768x64 .f32) (harg1 : arg1.IsWhole) (arg2 : Memref sig .tc .vmem S1x1x64 .f32) (harg2 : arg2.IsWhole)
    (x0 : Vec F S1x768x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4_1 x0)) -∗ K ⟨⟩))
      ⊢ wp frame (wpE (defs₀ (F := F)) Variants.none c none) E (cc4__kmeans_body i arg1 harg1 arg2 harg2) K := by
  simp only [cc4__kmeans_body_eq_skeleton]; unfold cc4__kmeans_body_skel
  simp only [k4_part1_eq_skeleton, k4_part2_eq_skeleton, k4_part3_eq_skeleton, k4_part4_eq_skeleton, k4_part5_eq_skeleton, k4_part6_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover4_1 _)).trans ?_
  rfl

/-! ## The pipeline's proof data -/

/-- The proof data of pipeline 4 on core `c`: the arrays as the region finds them (`V`); after the body at
    point `t` each input's buffer at its block and each output's at `out4_W` of the input blocks; the invariant the
    class's; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

/-- The body at any point: the inputs' memrefs hold their blocks (`before4_W`), so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ (grid4.coords t) _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.Whole.Region5.lean ====
/- The kernel region of call 5: its body run at one grid point, and what it leaves in its output. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Covers
public import Idealize.ShloMosaic.Lib.Ring
public import Idealize.ShloMosaic.Lib.Tactic
public import Idealize.ShloMosaic.Lib.UnfoldOut
public import Idealize.ShloMosaic.Lib.WordCmp

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 5 of @main: custom_call 5, `cc5_body` (pipeline 5), at the entry contents `V` — class R -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): where it is not fetched its index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for ANY proof
    data whose array is `V`'s (`hA`) and whose body leaves the block in place (`hafter`): where it is not fetched its index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for ANY proof
    data whose array is `V`'s (`hA`) and whose body leaves the block in place (`hafter`): where it is not fetched its index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for ANY proof
    data whose array is `V`'s (`hA`) and whose body leaves the block in place (`hafter`): where it is not fetched its index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for ANY proof
    data whose array is `V`'s (`hA`) and whose body leaves the block in place (`hafter`): where it is not fetched its index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not, for ANY proof
    data whose array is `V`'s (`hA`) and whose body leaves the block in place (`hafter`): where it is not fetched its index has not moved. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, fetched there or not, for ANY proof
    data whose array is `V`'s (`hA`) and whose body leaves the block in place (`hafter`): where it is not fetched its index has not moved. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
/-- Input window 7's current staging buffer holds its block at every point, fetched there or not, for ANY proof
    data whose array is `V`'s (`hA`) and whose body leaves the block in place (`hafter`): where it is not fetched its index has not moved. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's `scf.if` 0 (`k5_h1`), from the grid coordinates. -/
abbrev cond5_0 (i : grid5.Coords) : Prop := k5_cond1 i = 1#1
/-- It holds at the first point only — by arithmetic of the point. -/
theorem hcond5_0 : ∀ t : Fin cfg5.N, cond5_0 (grid5.coords t) ↔ t.val % 8 = 0 :=
  (fun t => by
    have ht : t.val < 8 := Nat.lt_of_lt_of_eq t.isLt N_5
    have e0 : (grid5.coords t 0).val = t.val / 1 % 8 := Pipeline.Grid.coords_val t 0 (by decide) rfl
    simp only [cond5_0, k5_cond1, e0]
    word_cmp
   : ∀ t : Fin grid5.N, cond5_0 (grid5.coords t) ↔ t.val % 8 = 0)

/-- The condition of the body's `scf.if` 1 (`k5_h2`), from the grid coordinates. -/
abbrev cond5_1 (i : grid5.Coords) : Prop := k5_cond2 i = 1#1
/-- It holds at the points from point 1 on — decided over the grid. -/
theorem hcond5_1 : ∀ t : Fin cfg5.N, cond5_1 (grid5.coords t) ↔ 1 ≤ t.val :=
  (by decide +kernel : ∀ t : Fin grid5.N, cond5_1 (grid5.coords t) ↔ 1 ≤ t.val)

/-! ## Where the windows are idle -/

/-- Window 0 is never idle (an input). -/
theorem liveAt5_0 : ∀ t : Fin cfg5.N, cfg5.idle 0 (grid5.coords t) = false := fun _ => rfl
/-- Window 1 is never idle (an input). -/
theorem liveAt5_1 : ∀ t : Fin cfg5.N, cfg5.idle 1 (grid5.coords t) = false := fun _ => rfl
/-- Window 2 is never idle (an input). -/
theorem liveAt5_2 : ∀ t : Fin cfg5.N, cfg5.idle 2 (grid5.coords t) = false := fun _ => rfl
/-- Window 3 is never idle (an input). -/
theorem liveAt5_3 : ∀ t : Fin cfg5.N, cfg5.idle 3 (grid5.coords t) = false := fun _ => rfl
/-- Window 4 is never idle (an input). -/
theorem liveAt5_4 : ∀ t : Fin cfg5.N, cfg5.idle 4 (grid5.coords t) = false := fun _ => rfl
/-- Window 5 is never idle (an input). -/
theorem liveAt5_5 : ∀ t : Fin cfg5.N, cfg5.idle 5 (grid5.coords t) = false := fun _ => rfl
/-- Window 6 is never idle (an input). -/
theorem liveAt5_6 : ∀ t : Fin cfg5.N, cfg5.idle 6 (grid5.coords t) = false := fun _ => rfl
/-- Window 7 is never idle (an input). -/
theorem liveAt5_7 : ∀ t : Fin cfg5.N, cfg5.idle 7 (grid5.coords t) = false := fun _ => rfl
/-- At the points of case A the printed configuration (`Cfg.idle`) calls output 8 live: the case stores into it. -/
theorem liveAt5_8_A : ∀ t : Fin cfg5.N, cond5_0 (grid5.coords t) → ¬cond5_1 (grid5.coords t) → cfg5.idle 8 (grid5.coords t) = false := by decide +kernel
/-- At the points of case B the printed configuration (`Cfg.idle`) calls output 8 live: the case stores into it. -/
theorem liveAt5_8_B : ∀ t : Fin cfg5.N, ¬cond5_0 (grid5.coords t) → cond5_1 (grid5.coords t) → cfg5.idle 8 (grid5.coords t) = false := by decide +kernel

/-- Output 8 is idle nowhere: every grid point takes one of the two branches that store into it. -/
theorem live5_8 (i : grid5.Coords) : cfg5.idle 8 i = false := by
  obtain ⟨t, rfl⟩ := grid5.coords_surjective i
  exact (by decide +kernel : ∀ t : Fin grid5.N, cfg5.idle 8 (grid5.coords t) = false) t

/-! ## The kernel body on any staging memrefs: a subtype the run finds -/

/-- One staging buffer of output window 8, through which its contents are stated (`View.read_writes_of_cover`: the
    choice does not matter). -/
abbrev VO5_8 : View sig .tc .vmem S1x1 .f32 := (Memref.whole cc5_stg8_0 : Memref sig .tc .vmem S1x1 .f32).view
/-- Each window's current staging memref at point `t`, spelled as the pipeline passes it (`bodyAt5`), and its wholeness. -/
abbrev ms5_0 (t : Fin cfg5.N) : Memref sig .tc .vmem S1x8x8 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S32x16 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S32x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S32x16 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x1 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x1x1 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S16x8 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S4x4 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S1x1 .f32 := win5_8.stage (cfg5.slots t 8)
abbrev hs5_8 (t : Fin cfg5.N) : (ms5_8 t).IsWhole := hstage5_8 ((cfg5.slots t 8).cast nbuf5_8)

set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written. -/
noncomputable def kernelRun5_A (c : Dev nD) (i : grid5.Coords) (arg1 : Memref sig .tc .vmem S1x8x8 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S16x8 .f32) (harg7 : arg7.IsWhole) (arg8 : Memref sig .tc .vmem S4x4 .f32) (harg8 : arg8.IsWhole) (arg9 : Memref sig .tc .vmem S1x1 .f32) (harg9 : arg9.IsWhole) (hc0 : cond5_0 i) (hc1 : ¬cond5_1 i)
    (x0 : Vec F S1x8x8 .f32) (x1 : Vec F S32x16 .f32) (x2 : Vec F S32x1 .f32) (x3 : Vec F S32x16 .f32) (x4 : Vec F S1x1 .f32) (x5 : Vec F S1x1x1 .f32) (x6 : Vec F S16x8 .f32) (x7 : Vec F S4x4 .f32) :
    { L8 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc5_body i arg1 harg1 arg2 harg2 arg3 harg3 arg4 harg4 arg5 harg5 arg6 harg6 arg7 harg7 arg8 harg8 arg9 harg9) K } := by
  refine ⟨?_, fun E K => ?run⟩
  case run =>
    simp only [cc5_body_eq_skeleton]; unfold cc5_body_skel
    simp only [k5_part1_eq_skeleton, k5_part2_eq_skeleton, k5_part3_eq_skeleton, k5_part4_eq_skeleton, k5_part5_eq_skeleton, k5_part6_eq_skeleton, k5_part7_eq_skeleton, k5_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

/-- Case A's pieces for output 8 tile its block (1 store of `S1x1`), so they cover it. -/
theorem cover5_A_8 (c : Dev nD) (i : grid5.Coords) (arg1 : Memref sig .tc .vmem S1x8x8 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S16x8 .f32) (harg7 : arg7.IsWhole) (arg8 : Memref sig .tc .vmem S4x4 .f32) (harg8 : arg8.IsWhole) (arg9 : Memref sig .tc .vmem S1x1 .f32) (harg9 : arg9.IsWhole) (hc0 : cond5_0 i) (hc1 : ¬cond5_1 i)
    (x0 : Vec F S1x8x8 .f32) (x1 : Vec F S32x16 .f32) (x2 : Vec F S32x1 .f32) (x3 : Vec F S32x16 .f32) (x4 : Vec F S1x1 .f32) (x5 : Vec F S1x1x1 .f32) (x6 : Vec F S16x8 .f32) (x7 : Vec F S4x4 .f32) (y : S1x1.Idx) :
    ∃ pc ∈ (kernelRun5_A c i arg1 harg1 arg2 harg2 arg3 harg3 arg4 harg4 arg5 harg5 arg6 harg6 arg7 harg7 arg8 harg8 arg9 harg9 hc0 hc1 x0 x1 x2 x3 x4 x5 x6 x7).1, y ∈ pc.1.set :=
  View.cover_of_tiledL (kernelRun5_A c i arg1 harg1 arg2 harg2 arg3 harg3 arg4 harg4 arg5 harg5 arg6 harg6 arg7 harg7 arg8 harg8 arg9 harg9 hc0 hc1 x0 x1 x2 x3 x4 x5 x6 x7).1 S1x1.size (by sl_kernel_rfl) y

/-- What case A leaves in output 8's staging buffer: its pieces read back over junk. -/
def out5_A_8 (c : Dev nD) (i : grid5.Coords) (arg1 : Memref sig .tc .vmem S1x8x8 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S16x8 .f32) (harg7 : arg7.IsWhole) (arg8 : Memref sig .tc .vmem S4x4 .f32) (harg8 : arg8.IsWhole) (arg9 : Memref sig .tc .vmem S1x1 .f32) (harg9 : arg9.IsWhole) (hc0 : cond5_0 i) (hc1 : ¬cond5_1 i)
    (x0 : Vec F S1x8x8 .f32) (x1 : Vec F S32x16 .f32) (x2 : Vec F S32x1 .f32) (x3 : Vec F S32x16 .f32) (x4 : Vec F S1x1 .f32) (x5 : Vec F S1x1x1 .f32) (x6 : Vec F S16x8 .f32) (x7 : Vec F S4x4 .f32) : Vec F S1x1 .f32 :=
  VO5_8.read (Elt F) (VO5_8.writes (Elt F) VO5_8.junk (kernelRun5_A c i arg1 harg1 arg2 harg2 arg3 harg3 arg4 harg4 arg5 harg5 arg6 harg6 arg7 harg7 arg8 harg8 arg9 harg9 hc0 hc1 x0 x1 x2 x3 x4 x5 x6 x7).1)

set_option maxHeartbeats 1000000 in
/-- What the body's stores leave in each output's staging memref, as pieces (last first) IN CASE B (`scf.if` 0 not taken, `scf.if` 1 taken: points 1, 2, … 7: 7 of 8), WITH the
    proof that on whole staging memrefs — the inputs' at their contents, the outputs it reads before covering (8) at their running contents `xo·`, the other outputs' at
    anything, the body runs to the continuation holding the inputs' as they were,
    each output's buffer with its pieces written. -/
noncomputable def kernelRun5_B (c : Dev nD) (i : grid5.Coords) (arg1 : Memref sig .tc .vmem S1x8x8 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S16x8 .f32) (harg7 : arg7.IsWhole) (arg8 : Memref sig .tc .vmem S4x4 .f32) (harg8 : arg8.IsWhole) (arg9 : Memref sig .tc .vmem S1x1 .f32) (harg9 : arg9.IsWhole) (hc0 : ¬cond5_0 i) (hc1 : cond5_1 i)
    (x0 : Vec F S1x8x8 .f32) (x1 : Vec F S32x16 .f32) (x2 : Vec F S32x1 .f32) (x3 : Vec F S32x16 .f32) (x4 : Vec F S1x1 .f32) (x5 : Vec F S1x1x1 .f32) (x6 : Vec F S16x8 .f32) (x7 : Vec F S4x4 .f32) (xo8 : Vec F S1x1 .f32) :
    { L8 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc5_body i arg1 harg1 arg2 harg2 arg3 harg3 arg4 harg4 arg5 harg5 arg6 harg6 arg7 harg7 arg8 harg8 arg9 harg9) K } := by
  refine ⟨?_, fun E K => ?run⟩
  case run =>
    simp only [cc5_body_eq_skeleton]; unfold cc5_body_skel
    simp only [k5_part1_eq_skeleton, k5_part2_eq_skeleton, k5_part3_eq_skeleton, k5_part4_eq_skeleton, k5_part5_eq_skeleton, k5_part6_eq_skeleton, k5_part7_eq_skeleton, k5_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

/-- Case B's pieces for output 8 tile its block (1 store of `S1x1`), so they cover it. -/
theorem cover5_B_8 (c : Dev nD) (i : grid5.Coords) (arg1 : Memref sig .tc .vmem S1x8x8 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S16x8 .f32) (harg7 : arg7.IsWhole) (arg8 : Memref sig .tc .vmem S4x4 .f32) (harg8 : arg8.IsWhole) (arg9 : Memref sig .tc .vmem S1x1 .f32) (harg9 : arg9.IsWhole) (hc0 : ¬cond5_0 i) (hc1 : cond5_1 i)
    (x0 : Vec F S1x8x8 .f32) (x1 : Vec F S32x16 .f32) (x2 : Vec F S32x1 .f32) (x3 : Vec F S32x16 .f32) (x4 : Vec F S1x1 .f32) (x5 : Vec F S1x1x1 .f32) (x6 : Vec F S16x8 .f32) (x7 : Vec F S4x4 .f32) (xo8 : Vec F S1x1 .f32) (y : S1x1.Idx) :
    ∃ pc ∈ (kernelRun5_B c i arg1 harg1 arg2 harg2 arg3 harg3 arg4 harg4 arg5 harg5 arg6 harg6 arg7 harg7 arg8 harg8 arg9 harg9 hc0 hc1 x0 x1 x2 x3 x4 x5 x6 x7 xo8).1, y ∈ pc.1.set :=
  View.cover_of_tiledL (kernelRun5_B c i arg1 harg1 arg2 harg2 arg3 harg3 arg4 harg4 arg5 harg5 arg6 harg6 arg7 harg7 arg8 harg8 arg9 harg9 hc0 hc1 x0 x1 x2 x3 x4 x5 x6 x7 xo8).1 S1x1.size (by sl_kernel_rfl) y

/-- What case B leaves in output 8's staging buffer: its pieces read back over junk. -/
def out5_B_8 (c : Dev nD) (i : grid5.Coords) (arg1 : Memref sig .tc .vmem S1x8x8 .f32) (harg1 : arg1.IsWhole) (arg2 : Memref sig .tc .vmem S32x16 .f32) (harg2 : arg2.IsWhole) (arg3 : Memref sig .tc .vmem S32x1 .f32) (harg3 : arg3.IsWhole) (arg4 : Memref sig .tc .vmem S32x16 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S16x8 .f32) (harg7 : arg7.IsWhole) (arg8 : Memref sig .tc .vmem S4x4 .f32) (harg8 : arg8.IsWhole) (arg9 : Memref sig .tc .vmem S1x1 .f32) (harg9 : arg9.IsWhole) (hc0 : ¬cond5_0 i) (hc1 : cond5_1 i)
    (x0 : Vec F S1x8x8 .f32) (x1 : Vec F S32x16 .f32) (x2 : Vec F S32x1 .f32) (x3 : Vec F S32x16 .f32) (x4 : Vec F S1x1 .f32) (x5 : Vec F S1x1x1 .f32) (x6 : Vec F S16x8 .f32) (x7 : Vec F S4x4 .f32) (xo8 : Vec F S1x1 .f32) : Vec F S1x1 .f32 :=
  VO5_8.read (Elt F) (VO5_8.writes (Elt F) VO5_8.junk (kernelRun5_B c i arg1 harg1 arg2 harg2 arg3 harg3 arg4 harg4 arg5 harg5 arg6 harg6 arg7 harg7 arg8 harg8 arg9 harg9 hc0 hc1 x0 x1 x2 x3 x4 x5 x6 x7 xo8).1)

/-! ## What the outputs hold after each point -/

/-- THE ACCUMULATION. What the outputs' staging buffers hold after the body at position `n`:
    the case the closed forms select at `n`, run at the point's memrefs and input blocks, an output it reads before covering
    at what this leaves at `n - 1` (its buffer is not written back between: `before5_W_κ`). An assignment of the conditions no point meets is no case (`False.elim`). -/
def outsAt5 (c : Dev nD) : (n : ℕ) → n < cfg5.N → Vec F S1x1 .f32
  | 0, hn => out5_A_8 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩)
  | n + 1, hn =>
    if h0 : (n + 1) % 8 = 0 then
      if h1 : 1 ≤ (n + 1) then
        False.elim (by have hN : n + 1 < 8 := lt_of_lt_of_eq hn (show cfg5.N = 8 from N_5); omega)
      else
        out5_A_8 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩)
    else
      if h1 : 1 ≤ (n + 1) then
        out5_B_8 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (outsAt5 c n (Nat.lt_of_succ_lt hn))
      else
        False.elim (by have hN : n + 1 < 8 := lt_of_lt_of_eq hn (show cfg5.N = 8 from N_5); omega)

/-- `outsAt5` at a point of case A: that case's contents. -/
theorem outsAt5_A (c : Dev nD) (t : Fin cfg5.N) (h0 : t.val % 8 = 0) (h1 : ¬1 ≤ t.val) :
    outsAt5 V c t.val t.isLt = out5_A_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) := by
  obtain ⟨n, hn⟩ := t
  cases n with
  | zero => exact rfl
  | succ n => exact (dif_pos h0).trans ((dif_neg h1).trans rfl)

/-- `outsAt5` at a point of case B: that case's contents, over what the point before left. -/
theorem outsAt5_B (c : Dev nD) (t : Fin cfg5.N) (h0 : ¬t.val % 8 = 0) (h1 : 1 ≤ t.val) :
    outsAt5 V c t.val t.isLt = out5_B_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 5 on core `c`: the arrays as the region finds them (`V`); after the body at
    point `t` each input's buffer at its block and the outputs' at `outsAt5`; the invariant the class's; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => (outsAt5 V c t.val t.isLt)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = (outsAt5 V c t.val t.isLt) := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
/-- At a point of case B output 8's current staging buffer holds what the body left at the point before: the point is
    not the first, the buffer was not written back between (`flush5_8`), the window is live and uncut. -/
theorem before5_8_B (c : Dev nD) (t : Fin cfg5.N) (h0 : ¬t.val % 8 = 0) (h1 : 1 ≤ t.val) (d) :
    (dat5 V c).before 8 t d = (outsAt5 V c (t.val - 1) (Nat.lt_of_le_of_lt (Nat.sub_le _ _) t.isLt)) := by
  have hN : t.val < 8 := lt_of_lt_of_eq t.isLt (show cfg5.N = 8 from N_5)
  rw [Dat.before_out_kept _ 8 rfl t (by omega) (Bool.eq_false_iff.mpr fun h => by have := (flush5_8 _).mp h; dsimp only at this; omega)
    live5_8 (fun _ _ => rfl)]
  dsimp only [dat5]

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t)

set_option maxHeartbeats 1600000 in
/-- The body at any point: the inputs' memrefs hold their blocks (`before5_W`); the closed forms say which case the point is in (`by_cases`), an output the case reads before covering holds what the point before left (`before5_W_κ`); so the
    run applies; the invariant passes through unread; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl]
  have hN : t.val < 8 := lt_of_lt_of_eq t.isLt (show cfg5.N = 8 from N_5)
  by_cases h0 : t.val % 8 = 0
  · by_cases h1 : 1 ≤ t.val
    · exfalso; omega
    · rw [show (dat5 V c).leavesExact 0 t = owns (c : Thread nD τ) (ms5_0 t) fullShare ((dat5 V c).after 0 t) from by
      unfold Dat.leavesExact; rw [liveAt5_0 t], after5_0]
      rw [show (dat5 V c).leavesExact 1 t = owns (c : Thread nD τ) (ms5_1 t) fullShare ((dat5 V c).after 1 t) from by
      unfold Dat.leavesExact; rw [liveAt5_1 t], after5_1]
      rw [show (dat5 V c).leavesExact 2 t = owns (c : Thread nD τ) (ms5_2 t) fullShare ((dat5 V c).after 2 t) from by
      unfold Dat.leavesExact; rw [liveAt5_2 t], after5_2]
      rw [show (dat5 V c).leavesExact 3 t = owns (c : Thread nD τ) (ms5_3 t) fullShare ((dat5 V c).after 3 t) from by
      unfold Dat.leavesExact; rw [liveAt5_3 t], after5_3]
      rw [show (dat5 V c).leavesExact 4 t = owns (c : Thread nD τ) (ms5_4 t) fullShare ((dat5 V c).after 4 t) from by
      unfold Dat.leavesExact; rw [liveAt5_4 t], after5_4]
      rw [show (dat5 V c).leavesExact 5 t = owns (c : Thread nD τ) (ms5_5 t) fullShare ((dat5 V c).after 5 t) from by
      unfold Dat.leavesExact; rw [liveAt5_5 t], after5_5]
      rw [show (dat5 V c).leavesExact 6 t = owns (c : Thread nD τ) (ms5_6 t) fullShare ((dat5 V c).after 6 t) from by
      unfold Dat.leavesExact; rw [liveAt5_6 t], after5_6]
      rw [show (dat5 V c).leavesExact 7 t = owns (c : Thread nD τ) (ms5_7 t) fullShare ((dat5 V c).after 7 t) from by
      unfold Dat.leavesExact; rw [liveAt5_7 t], after5_7]
      rw [show (dat5 V c).leavesExact 8 t = owns (c : Thread nD τ) (ms5_8 t) fullShare ((dat5 V c).after 8 t) from by
      unfold Dat.leavesExact; rw [liveAt5_8_A t ((hcond5_0 t).mpr h0) (fun h => h1 ((hcond5_1 t).mp h))], after5_8]
      rw [outsAt5_A V c t h0 h1]
      unfold out5_A_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_A c (grid5.coords t) _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover5_A_8 c _ _ _ _ _ _ _ _ _ _ _ _ _ _ _ _ _ _ _ _ _ _ _ _ _ _ _ _ _)
  · by_cases h1 : 1 ≤ t.val
    · rw [show (dat5 V c).leavesExact 0 t = owns (c : Thread nD τ) (ms5_0 t) fullShare ((dat5 V c).after 0 t) from by
      unfold Dat.leavesExact; rw [liveAt5_0 t], after5_0]
      rw [show (dat5 V c).leavesExact 1 t = owns (c : Thread nD τ) (ms5_1 t) fullShare ((dat5 V c).after 1 t) from by
      unfold Dat.leavesExact; rw [liveAt5_1 t], after5_1]
      rw [show (dat5 V c).leavesExact 2 t = owns (c : Thread nD τ) (ms5_2 t) fullShare ((dat5 V c).after 2 t) from by
      unfold Dat.leavesExact; rw [liveAt5_2 t], after5_2]
      rw [show (dat5 V c).leavesExact 3 t = owns (c : Thread nD τ) (ms5_3 t) fullShare ((dat5 V c).after 3 t) from by
      unfold Dat.leavesExact; rw [liveAt5_3 t], after5_3]
      rw [show (dat5 V c).leavesExact 4 t = owns (c : Thread nD τ) (ms5_4 t) fullShare ((dat5 V c).after 4 t) from by
      unfold Dat.leavesExact; rw [liveAt5_4 t], after5_4]
      rw [show (dat5 V c).leavesExact 5 t = owns (c : Thread nD τ) (ms5_5 t) fullShare ((dat5 V c).after 5 t) from by
      unfold Dat.leavesExact; rw [liveAt5_5 t], after5_5]
      rw [show (dat5 V c).leavesExact 6 t = owns (c : Thread nD τ) (ms5_6 t) fullShare ((dat5 V c).after 6 t) from by
      unfold Dat.leavesExact; rw [liveAt5_6 t], after5_6]
      rw [show (dat5 V c).leavesExact 7 t = owns (c : Thread nD τ) (ms5_7 t) fullShare ((dat5 V c).after 7 t) from by
      unfold Dat.leavesExact; rw [liveAt5_7 t], after5_7]
      rw [show (dat5 V c).leavesExact 8 t = owns (c : Thread nD τ) (ms5_8 t) fullShare ((dat5 V c).after 8 t) from by
      unfold Dat.leavesExact; rw [liveAt5_8_B t (fun h => h0 ((hcond5_0 t).mp h)) ((hcond5_1 t).mpr h1)], after5_8]
      rw [outsAt5_B V c t h0 h1]
      simp only [before5_8_B V c t h0 h1]
      unfold out5_B_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun5_B c (grid5.coords t) _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover5_B_8 c _ _ _ _ _ _ _ _ _ _ _ _ _ _ _ _ _ _ _ _ _ _ _ _ _ _ _ _ _ _)
    · exfalso; omega

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point: the body's triple restated. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Gen

end
-- ==== Proof.Whole.Hosts0.lean ====
/- What the host operations between the regions write, and that they change nothing else. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_cst_0, main_cst_1, main_cst_2, main_cst_3, main_cst_4, main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4, main_v5, main_v6, main_v7, main_v8]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v10, main_v11]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v13, main_v14, main_v15, main_v16, main_v17]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v19, main_v20]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v22, main_v23, main_v24, main_v25, main_v26]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v28]
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays (checked: each argument against each reference it writes). -/
theorem hostOps6_args : ∀ a ∈ argRefs, a ∉ hostOps6_W := ListAll.forall_mem_of_all_decide (by decide +kernel)

end Cert.KernelIdeal.Gen

end
-- ==== Proof.Whole.Fold0.lean ====
/- The contents of the buffers at the boundaries of the segments, part 0. -/
module

public import proofs.«01_k».proof.Proof.Whole.Region0
public import proofs.«01_k».proof.Proof.Whole.Region1
public import proofs.«01_k».proof.Proof.Whole.Region2
public import proofs.«01_k».proof.Proof.Whole.Region3
public import proofs.«01_k».proof.Proof.Whole.Region4
public import proofs.«01_k».proof.Proof.Whole.Region5
public import proofs.«01_k».proof.Proof.Whole.Hosts0

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
end Cert.KernelIdeal.Gen

end
-- ==== Proof.Whole.Fold1.lean ====
/- The contents of the buffers at the boundaries of the segments, part 1. -/
module

public import proofs.«01_k».proof.Proof.Whole.Fold0

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 2's exit: its arrays at what the pipeline leaves (the inputs as entered, each output's write-backs
    folded: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- A reference `hostOps4` does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, each output's write-backs
    folded: `Dat.arrAt … N`), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- A reference that is none of region 4's OUTPUT arrays keeps its entry contents across it: an input window's
    array is never written back (`Dat.arrAt_in`, `A_eq4`); any other buffer is left as is. -/
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn4 a ha)).trans (W9_args m ρ c a ha)
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

end Cert.KernelIdeal.Gen

end
-- ==== Proof.Whole.Fold2.lean ====
/- The contents of the buffers at the boundaries of the segments, part 2. -/
module

public import proofs.«01_k».proof.Proof.Whole.Fold1

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After `hostOps5` (region 5's entry). -/
abbrev W11 : Dev nD → Valuation τ sig (Elt F) := fun c => StableHlo.after hostOps5 (W10 m ρ c)
/-- A reference `hostOps5` does not write keeps its contents across it. -/
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h
theorem W11_args (c : Dev nD) : ∀ a ∈ argRefs, W11 m ρ c (Proc.devRef .tc a) = m ((c : Thread nD τ).loc a) :=
  fun a ha => (W11_of m ρ c a (hostOps5_args a ha)).trans (W10_args m ρ c a ha)
/-- The same read at the TensorCore's references (what region 5's proof data take). -/
abbrev V11 : (c : Dev nD) → (b : Ref sig .tc) → Buf (Elt F) ((c : Thread nD τ).loc b) := fun c b => W11 m ρ c b
/-- At region 5's exit: its arrays at what the pipeline leaves (the inputs as entered, each output's write-backs
    folded: `Dat.arrAt … N`), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- A reference that is none of region 5's OUTPUT arrays keeps its entry contents across it: an input window's
    array is never written back (`Dat.arrAt_in`, `A_eq5`); any other buffer is left as is. -/
theorem W12_of (c : Dev nD) (r : Ref sig .tc) (h : ∀ w : Fin cfg5.W, Pipeline.arrRef spec5 w = r → (cfg5.win w).isOut = false) :
    W12 m ρ c (Proc.devRef .tc r) = W11 m ρ c (Proc.devRef .tc r) := by
  by_cases hw : ∃ w : Fin cfg5.W, Pipeline.arrRef spec5 w = r
  · obtain ⟨w, rfl⟩ := hw
    exact (W12_arr m ρ c w).trans (((dat5 (V11 m ρ) c).arrAt_in w (h w rfl) _).trans (A_eq5 (V11 m ρ) c w))
  · exact W12_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn5 a ha)).trans (W11_args m ρ c a ha)
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves (`hF5`) and every other buffer what it
    held at entry (`hrest5`). -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6`. -/
abbrev W13 : Dev nD → Valuation τ sig (Elt F) := fun c => StableHlo.after hostOps6 (W12 m ρ c)
/-- A reference `hostOps6` does not write keeps its contents across it. -/
theorem W13_of (c : Dev nD) (r : Ref sig .tc) (h : r ∉ hostOps6_W) : W13 m ρ c (Proc.devRef .tc r) = W12 m ρ c (Proc.devRef .tc r) :=
  StableHlo.after_of_writes_sub hostOps6 _ hostOps6_writes h
theorem W13_args (c : Dev nD) : ∀ a ∈ argRefs, W13 m ρ c (Proc.devRef .tc a) = m ((c : Thread nD τ).loc a) :=
  fun a ha => (W13_of m ρ c a (hostOps6_args a ha)).trans (W12_args m ρ c a ha)

/-! ### The arguments end as launched: no host stretch writes one and no region may change one (a region reads it
    through an input window or bypasses it) -/

theorem W13_main_arg0 (c : Dev nD) : W13 m ρ c (Proc.devRef .tc main_arg0) = m ((c : Thread nD τ).loc main_arg0) :=
  W13_args m ρ c main_arg0 (by decide)
theorem W13_main_arg1 (c : Dev nD) : W13 m ρ c (Proc.devRef .tc main_arg1) = m ((c : Thread nD τ).loc main_arg1) :=
  W13_args m ρ c main_arg1 (by decide)
theorem W13_main_arg2 (c : Dev nD) : W13 m ρ c (Proc.devRef .tc main_arg2) = m ((c : Thread nD τ).loc main_arg2) :=
  W13_args m ρ c main_arg2 (by decide)
theorem W13_main_arg3 (c : Dev nD) : W13 m ρ c (Proc.devRef .tc main_arg3) = m ((c : Thread nD τ).loc main_arg3) :=
  W13_args m ρ c main_arg3 (by decide)
theorem W13_main_arg4 (c : Dev nD) : W13 m ρ c (Proc.devRef .tc main_arg4) = m ((c : Thread nD τ).loc main_arg4) :=
  W13_args m ρ c main_arg4 (by decide)
theorem W13_main_arg5 (c : Dev nD) : W13 m ρ c (Proc.devRef .tc main_arg5) = m ((c : Thread nD τ).loc main_arg5) :=
  W13_args m ρ c main_arg5 (by decide)
theorem W13_main_arg6 (c : Dev nD) : W13 m ρ c (Proc.devRef .tc main_arg6) = m ((c : Thread nD τ).loc main_arg6) :=
  W13_args m ρ c main_arg6 (by decide)
theorem W13_main_arg7 (c : Dev nD) : W13 m ρ c (Proc.devRef .tc main_arg7) = m ((c : Thread nD τ).loc main_arg7) :=
  W13_args m ρ c main_arg7 (by decide)
theorem W13_main_arg8 (c : Dev nD) : W13 m ρ c (Proc.devRef .tc main_arg8) = m ((c : Thread nD τ).loc main_arg8) :=
  W13_args m ρ c main_arg8 (by decide)
theorem W13_main_arg9 (c : Dev nD) : W13 m ρ c (Proc.devRef .tc main_arg9) = m ((c : Thread nD τ).loc main_arg9) :=
  W13_args m ρ c main_arg9 (by decide)
theorem W13_main_arg10 (c : Dev nD) : W13 m ρ c (Proc.devRef .tc main_arg10) = m ((c : Thread nD τ).loc main_arg10) :=
  W13_args m ρ c main_arg10 (by decide)
theorem W13_main_arg11 (c : Dev nD) : W13 m ρ c (Proc.devRef .tc main_arg11) = m ((c : Thread nD τ).loc main_arg11) :=
  W13_args m ρ c main_arg11 (by decide)
theorem W13_main_arg12 (c : Dev nD) : W13 m ρ c (Proc.devRef .tc main_arg12) = m ((c : Thread nD τ).loc main_arg12) :=
  W13_args m ρ c main_arg12 (by decide)
theorem W13_main_arg13 (c : Dev nD) : W13 m ρ c (Proc.devRef .tc main_arg13) = m ((c : Thread nD τ).loc main_arg13) :=
  W13_args m ρ c main_arg13 (by decide)
theorem W13_main_arg14 (c : Dev nD) : W13 m ρ c (Proc.devRef .tc main_arg14) = m ((c : Thread nD τ).loc main_arg14) :=
  W13_args m ρ c main_arg14 (by decide)
theorem W13_main_arg15 (c : Dev nD) : W13 m ρ c (Proc.devRef .tc main_arg15) = m ((c : Thread nD τ).loc main_arg15) :=
  W13_args m ρ c main_arg15 (by decide)
theorem W13_main_arg16 (c : Dev nD) : W13 m ρ c (Proc.devRef .tc main_arg16) = m ((c : Thread nD τ).loc main_arg16) :=
  W13_args m ρ c main_arg16 (by decide)
theorem W13_main_arg17 (c : Dev nD) : W13 m ρ c (Proc.devRef .tc main_arg17) = m ((c : Thread nD τ).loc main_arg17) :=
  W13_args m ρ c main_arg17 (by decide)
theorem W13_main_arg18 (c : Dev nD) : W13 m ρ c (Proc.devRef .tc main_arg18) = m ((c : Thread nD τ).loc main_arg18) :=
  W13_args m ρ c main_arg18 (by decide)
end Cert.KernelIdeal.Gen

end
-- ==== Proof.Whole.State.lean ====
/- The state of the thread at the boundaries between the regions and the host operations. -/
module

public import proofs.«01_k».proof.Proof.Whole.Fold2

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W13`, the generator register at some state. -/
abbrev Tₙ (c : Dev nD) : sProp 𝕄 := iprop(StableHlo.held (c : Thread nD τ) (Pipeline.ucRefs τ sig) (W13 m ρ c) ∗ ∃ r, prngReg c r)

end Cert.KernelIdeal.Gen

end
-- ==== Proof.Whole.Record0.lean ====
/- The kernel region of call 0 as a segment of the whole run. -/
module

public import proofs.«01_k».proof.Proof.Whole.State

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Whole.Record1.lean ====
/- The kernel region of call 1 as a segment of the whole run. -/
module

public import proofs.«01_k».proof.Proof.Whole.State

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Whole.Record2.lean ====
/- The kernel region of call 2 as a segment of the whole run. -/
module

public import proofs.«01_k».proof.Proof.Whole.State

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Whole.Record3.lean ====
/- The kernel region of call 3 as a segment of the whole run. -/
module

public import proofs.«01_k».proof.Proof.Whole.State

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Whole.Record4.lean ====
/- The kernel region of call 4 as a segment of the whole run. -/
module

public import proofs.«01_k».proof.Proof.Whole.State

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Whole.Record5.lean ====
/- The kernel region of call 5 as a segment of the whole run. -/
module

public import proofs.«01_k».proof.Proof.Whole.State

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 5 (custom_call 5) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) (A_eq5 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Whole.All.lean ====
/- The whole run of the program: its six kernel regions and the host operations between them, put together; every argument is unchanged at the end. -/
module

public import proofs.«01_k».proof.Proof.Whole.Record0
public import proofs.«01_k».proof.Proof.Whole.Record1
public import proofs.«01_k».proof.Proof.Whole.Record2
public import proofs.«01_k».proof.Proof.Whole.Record3
public import proofs.«01_k».proof.Proof.Whole.Record4
public import proofs.«01_k».proof.Proof.Whole.Record5

@[expose] public section

-- the covers of blocks with long axes recurse once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the implicit arguments of the launch theorem are found by unifying its conclusion with this one, which takes unfolding
-- plain definitions in a metavariable's type
set_option backward.isDefEq.respectTransparency.types false in
/-- The run of the whole program, from any memory with zero counters and at any number type: it ends without a fault, every
    array outside the kernels' own buffers holds what the fold of the segments (`W13`) says, and every semaphore counter is zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W13 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

/-- The arguments end as they were given, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun r hr => ⟨(fun c => have h := hr.1
     ⟨(h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c)⟩), hr.2⟩) (ends m ρ)

/-- The arguments end as they were given. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h => h.1) (frame m ρ)

end Cert.KernelIdeal.Gen

end
-- ==== Proof.Frames.lean ====
/- The claims that say the three programs run to the end with their arguments as they were. -/
module

public import proofs.«01_k».proof.Defs
public import proofs.«01_k».proof.Proof.Whole.All
public import proofs.«01_k».proof.Proof.Gen.ReferenceIdeal.Run

@[expose] public section

noncomputable section

namespace Cert.Proof

open Idealize.ShloMosaic Idealize.SL.Sem

/-- The shapes the precondition broadcasts its bound to. -/
instance preFacts : Cert.Pre_finite_inputs.Facts where
  bcast_S_S8x768x32x32 := by decide
  bcast_S_S8x768x16x16 := by decide
  bcast_S_S8x768x8x8 := by decide
  bcast_S_S32x1x4x4 := by decide
  bcast_S_S1x32x4x4 := by decide

/-- The ideal kernel runs and leaves its arguments. -/
theorem kernelIdeal_frame : Cert.quiescent_KernelIdeal (hKernelIdeal := Cert.KernelIdeal.Gen.facts) :=
  fun m g _ => Cert.KernelIdeal.Gen.frame m g

/-- The same under the precondition of the value claim. -/
theorem kernelIdeal_frame_pre : Cert.quiescent_KernelIdeal_pre_finite_inputs (hKernelIdeal := Cert.KernelIdeal.Gen.facts) :=
  fun m g _ => Cert.KernelIdeal.Gen.frame m g

/-- The reference runs and leaves its arguments; it has no semaphore. -/
theorem reference_frame : Cert.quiescent_ReferenceIdeal (hReferenceIdeal := Cert.ReferenceIdeal.Gen.facts) :=
  fun m g _ => (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

/-- The same under the precondition of the value claim. -/
theorem reference_frame_pre : Cert.quiescent_ReferenceIdeal_pre_finite_inputs (hReferenceIdeal := Cert.ReferenceIdeal.Gen.facts) :=
  fun m g _ => reference_frame m g trivial

end Cert.Proof

end
-- ==== Proof.KFrame.lean ====
/- The kernel at the float formats of the chip runs to the end with its arguments as they were. -/
module

public import proofs.«01_k».proof.Defs
public import proofs.«01_k».proof.Proof.Gen.Kernel
public import proofs.«01_k».proof.Proof.Whole.All
public import Idealize.ShloMosaic.Lib.Tactic

@[expose] public section

noncomputable section

namespace Cert.Proof

open Idealize.ShloMosaic Idealize.SL.Sem

set_option maxRecDepth 16384 in
set_option maxHeartbeats 4000000 in
/-- The two printed programs are one program: nothing was replaced between them. -/
theorem main_eq {F : FTy → Type} [FloatOps F] :
    @Cert.Kernel.main F _ Cert.Kernel.Gen.facts = @Cert.KernelIdeal.main F _ Cert.KernelIdeal.Gen.facts := by sl_kernel_rfl

set_option maxRecDepth 16384 in
set_option maxHeartbeats 4000000 in
/-- Their kernels' bodies and pipelines are the same too. -/
theorem defs_eq {F : FTy → Type} [FloatOps F] :
    @Cert.Kernel.defs F _ Cert.Kernel.Gen.facts = @Cert.KernelIdeal.defs F _ Cert.KernelIdeal.Gen.facts := by sl_kernel_rfl

set_option maxRecDepth 16384 in
set_option maxHeartbeats 4000000 in
/-- The frame of the kernel at the float formats of the chip: the run of the same program at any number type. -/
theorem kernel_frame : Cert.quiescent_Kernel (hKernel := Cert.Kernel.Gen.facts) := by
  intro m g _
  have h := Cert.KernelIdeal.Gen.frame (F := Bits) m g
  rw [← main_eq, ← defs_eq] at h
  exact h

end Cert.Proof

end
-- ==== Proof.KSpec.lean ====
/- Two-means clustering over the extended reals: the distances, the assignment of the rows to the two centers, the means of
   the two clusters, and the mean of the larger cluster; the means written with the total sum, as the kernel computes them,
   agree with the means of the two clusters when the data are finite. -/
module

public import Idealize.ShloMosaic.PureOps.Ideal
public import Idealize.ShloMosaic.PureOps.Ideal.Laws

@[expose] public section

noncomputable section

namespace Cert.KM

open Idealize.ShloMosaic
open scoped BigOperators

variable {d : ℕ}

/-- The squared distance of row `i` from the center `c`. -/
def dist (X : Fin 768 → Fin d → EReal) (c : Fin d → EReal) (i : Fin 768) : EReal :=
  ∑ j, (X i j - c j) * (X i j - c j)

/-- Row `i` belongs to cluster 1: it is strictly nearer to the second center. -/
def near (X : Fin 768 → Fin d → EReal) (C : Fin 2 → Fin d → EReal) (i : Fin 768) : Bool :=
  decide (dist X (C 1) i < dist X (C 0) i)

/-- The weight of a row in cluster 1. -/
def one (b : Bool) : EReal := if b then 1 else 0

/-- The weight of a row in cluster `k`. -/
def wt (b : Bool) (k : Fin 2) : EReal := if k = 1 then one b else one !b

/-- The mean of cluster `k`. -/
def cen (X : Fin 768 → Fin d → EReal) (m : Fin 768 → Bool) (k : Fin 2) (j : Fin d) : EReal :=
  Ideal.div (∑ i, wt (m i) k * X i j) (max (∑ i, wt (m i) k) 1)

/-- The two means as the kernel computes them: cluster 0 as what cluster 1 leaves of the total. -/
def cenK (X : Fin 768 → Fin d → EReal) (m : Fin 768 → Bool) (k : Fin 2) (j : Fin d) : EReal :=
  if k = 1 then Ideal.div (∑ i, X i j * one (m i)) (max (∑ i, one (m i)) 1)
  else Ideal.div ((∑ i, X i j) - ∑ i, X i j * one (m i)) (max (768 - ∑ i, one (m i)) 1)

/-- The number of rows in cluster 1. -/
def size1 (m : Fin 768 → Bool) : ℕ := (Finset.univ.filter fun i => m i = true).card

/-- The mean of the larger cluster; cluster 0 on a tie. -/
def best (X : Fin 768 → Fin d → EReal) (m : Fin 768 → Bool) : Fin d → EReal :=
  cen X m (if 768 < 2 * size1 m then 1 else 0)

theorem sum_coe {n : ℕ} (f : Fin n → ℝ) : ∑ i, ((f i : ℝ) : EReal) = ((∑ i, f i : ℝ) : EReal) := by
  classical
  refine Finset.induction_on (Finset.univ : Finset (Fin n)) (by simp) ?_
  intro a s ha ih
  rw [Finset.sum_insert ha, Finset.sum_insert ha, ih, EReal.coe_add]

theorem one_coe (b : Bool) : one b = ((if b then 1 else 0 : ℝ) : EReal) := by
  cases b <;> simp [one]

theorem sum_one (m : Fin 768 → Bool) : ∑ i, one (m i) = ((size1 m : ℝ) : EReal) := by
  simp only [one_coe, sum_coe]
  congr 1
  rw [Finset.sum_boole]
  rfl

theorem size1_le (m : Fin 768 → Bool) : size1 m ≤ 768 :=
  (Finset.card_le_univ _).trans (by simp)

theorem sum_not (m : Fin 768 → Bool) : ∑ i, one (!m i) = 768 - ∑ i, one (m i) := by
  have h : ∑ i, (if (!m i) = true then 1 else 0 : ℝ) = 768 - ∑ i, (if m i = true then 1 else 0 : ℝ) := by
    have : ∀ i, (if (!m i) = true then 1 else 0 : ℝ) = 1 - (if m i = true then 1 else 0 : ℝ) := by
      intro i; cases m i <;> simp
    simp only [this, Finset.sum_sub_distrib]
    simp
  simp only [one_coe, sum_coe, h, EReal.coe_sub]
  rfl

/-- For finite data the kernel's means are the means of the two clusters. -/
theorem cenK_eq (X : Fin 768 → Fin d → EReal) (hX : ∀ i j, ∃ r : ℝ, X i j = r) (m : Fin 768 → Bool) : cenK X m = cen X m := by
  funext k j
  choose R hR using hX
  obtain rfl | rfl : k = 0 ∨ k = 1 := by omega
  · have e : (∑ i, X i j) - ∑ i, X i j * one (m i) = ∑ i, one (!m i) * X i j := by
      simp only [hR, one_coe, ← EReal.coe_mul, sum_coe, ← EReal.coe_sub]
      congr 1
      rw [← Finset.sum_sub_distrib]
      refine Finset.sum_congr rfl fun i _ => ?_
      cases m i <;> simp
    simp only [cenK, cen, wt]
    rw [if_neg (by decide), e, ← sum_not]
    simp
  · simp [cenK, cen, wt, mul_comm]

/-- The larger cluster, decided by comparing the two sizes as extended reals. -/
theorem best_eq (X : Fin 768 → Fin d → EReal) (m : Fin 768 → Bool) (j : Fin d) :
    best X m j = if 768 - ∑ i, one (m i) < ∑ i, one (m i) then cen X m 1 j else cen X m 0 j := by
  have h : (768 - ∑ i, one (m i) < ∑ i, one (m i)) ↔ 768 < 2 * size1 m := by
    rw [sum_one]
    have : (768 : EReal) - ((size1 m : ℝ) : EReal) = ((768 - (size1 m : ℝ) : ℝ) : EReal) := by
      rw [EReal.coe_sub]; rfl
    rw [this, EReal.coe_lt_coe_iff]
    constructor
    · intro h
      have h' : (768 : ℝ) < 2 * (size1 m : ℝ) := by linarith
      exact_mod_cast h'
    · intro h
      have h' : (768 : ℝ) < 2 * (size1 m : ℝ) := by exact_mod_cast h
      linarith
  unfold best
  by_cases c : 768 < 2 * size1 m
  · rw [if_pos c, if_pos (h.2 c)]
  · rw [if_neg c, if_neg (fun x => c (h.1 x))]

end Cert.KM

end
-- ==== Proof.KKern.lean ====
/- One round of the kernel's two-means clustering, for any number `d` of coordinates: the operations it is made of as one
   function of the data, the total and the assignment, and what each computes over the extended reals. -/
module

public import proofs.«01_k».proof.Proof.KSpec
public import Idealize.ShloMosaic.Lib.Pipeline.Value
public import Idealize.ShloMosaic.Lib.ValueIdx

@[expose] public section

noncomputable section

namespace Cert.KM

open Idealize.ShloMosaic Idealize.ShloMosaic.ValueIdx
open scoped BigOperators

/-- The side conditions of the operations at `d` coordinates. -/
class KF (d : ℕ) : Prop where
  r0 : (⟨2, ![768, d]⟩ : Shape).Reduces [0] ⟨1, ![d]⟩
  r1 : (⟨2, ![768, d]⟩ : Shape).Reduces [1] ⟨1, ![768]⟩
  rs : (⟨3, ![1, 768, 1]⟩ : Shape).Reduces [1, 2] ⟨1, ![1]⟩
  cd : (⟨1, ![d]⟩ : Shape).ShapeCasts ⟨2, ![1, d]⟩
  c7 : (⟨1, ![768]⟩ : Shape).ShapeCasts ⟨2, ![768, 1]⟩
  c1 : (⟨1, ![1]⟩ : Shape).ShapeCasts ⟨3, ![1, 1, 1]⟩
  cm : (⟨2, ![768, 1]⟩ : Shape).ShapeCasts ⟨3, ![1, 768, 1]⟩
  b0 : (⟨2, ![1, d]⟩ : Shape).Broadcasts ⟨2, ![768, d]⟩
  b1 : (⟨2, ![768, 1]⟩ : Shape).Broadcasts ⟨2, ![768, d]⟩
  s0 : (⟨2, ![768, d]⟩ : Shape).Slices ![0, 0] ⟨2, ![1, d]⟩
  s1 : (⟨2, ![768, d]⟩ : Shape).Slices ![1, 0] ⟨2, ![1, d]⟩
  cx : (⟨3, ![1, 768, d]⟩ : Shape).ShapeCasts ⟨2, ![768, d]⟩
  cf : (⟨2, ![1, d]⟩ : Shape).ShapeCasts ⟨3, ![1, 1, d]⟩
  p1 : ∀ a, (![0, 0, 0] : Fin 3 → Nat) a < (⟨3, ![1, 1, 1]⟩ : Shape).size a
  w1 : 1 < 32

/-- A sample's 768 rows of `d` coordinates. -/
abbrev SM (d : ℕ) : Shape := ⟨2, ![768, d]⟩
/-- One row. -/
abbrev SR (d : ℕ) : Shape := ⟨2, ![1, d]⟩
/-- One entry per row. -/
abbrev SC : Shape := ⟨2, ![768, 1]⟩

section Ops

variable {F : FTy → Type} [FloatOps F] {d : ℕ} [KF d]

/-- The squared distances of the rows of `x` from the rows of `b`. -/
def dst (x b : FVec F (SM d) .f32) : FVec F SC .f32 :=
  shapeCast ⟨2, ![768, 1]⟩ (multiReduction .add [1] ⟨1, ![768]⟩ (mulf (subf x b) (subf x b)) 0x00000000#32 KF.r1 (.inl rfl) rfl) (KF.c7 d)
/-- The rows strictly nearer to `b1`. -/
def msk (x b0 b1 : FVec F (SM d) .f32) : IVec SC 1 := cmpf .olt (dst x b1) (dst x b0)
/-- An assignment as weights. -/
def fl (d : ℕ) [KF d] (m : IVec SC 1) : FVec F SC .f32 := sitofp .f32 (extui 32 m (KF.w1 d))
/-- The sum of the weights. -/
def cnt (d : ℕ) [KF d] (w : FVec F SC .f32) : F .f32 :=
  extractAt ![0, 0, 0] (shapeCast ⟨3, ![1, 1, 1]⟩ (multiReduction .add [1, 2] ⟨1, ![1]⟩ (shapeCast ⟨3, ![1, 768, 1]⟩ w (KF.cm d)) 0x00000000#32 (KF.rs d) (.inl rfl) rfl) (KF.c1 d)) (KF.p1 d)
/-- The rows times their weights. -/
def xm (x : FVec F (SM d) .f32) (w : FVec F SC .f32) : FVec F (SM d) .f32 := mulf x (broadcastTo ⟨2, ![768, d]⟩ w KF.b1)
/-- The sum of the rows. -/
def colsum (y : FVec F (SM d) .f32) : FVec F (SR d) .f32 :=
  shapeCast ⟨2, ![1, d]⟩ (multiReduction .add [0] ⟨1, ![d]⟩ y 0x00000000#32 KF.r0 (.inl rfl) rfl) KF.cd
/-- A row at every row. -/
def rep (c : FVec F (SR d) .f32) : FVec F (SM d) .f32 := broadcastTo ⟨2, ![768, d]⟩ c KF.b0
/-- A row divided by a count, at least one. -/
def mean (s : FVec F (SR d) .f32) (n : F .f32) : FVec F (SR d) .f32 := divf s (broadcast ⟨2, ![1, d]⟩ (Scalar.maximumf n (Scalar.ofBits .f32 0x3F800000#32)))
/-- What is left of the 768 rows. -/
def rest (n : F .f32) : F .f32 := Scalar.subf (Scalar.ofBits .f32 0x44400000#32) n
/-- The mean of cluster 1 under the assignment `m`. -/
def cen1 (x : FVec F (SM d) .f32) (m : IVec SC 1) : FVec F (SR d) .f32 := mean (colsum (xm x (fl d m))) (cnt d (fl d m))
/-- The mean of cluster 0 under the assignment `m`. -/
def cen0 (x : FVec F (SM d) .f32) (t : FVec F (SR d) .f32) (m : IVec SC 1) : FVec F (SR d) .f32 := mean (subf t (colsum (xm x (fl d m)))) (rest (cnt d (fl d m)))
/-- The next assignment. -/
def next (x : FVec F (SM d) .f32) (t : FVec F (SR d) .f32) (m : IVec SC 1) : IVec SC 1 := msk x (rep (cen0 x t m)) (rep (cen1 x m))
/-- The first assignment: to the first two rows. -/
def init (x : FVec F (SM d) .f32) : IVec SC 1 :=
  msk x (rep (extractStridedSlice ⟨2, ![1, d]⟩ ![0, 0] x KF.s0)) (rep (extractStridedSlice ⟨2, ![1, d]⟩ ![1, 0] x KF.s1))
/-- The mean of the larger cluster, from the counts and the weighted rows. -/
def pick (t : FVec F (SR d) .f32) (n1 n0 : F .f32) (y : FVec F (SM d) .f32) : FVec F (⟨3, ![1, 1, d]⟩ : Shape) .f32 :=
  shapeCast ⟨3, ![1, 1, d]⟩ (Scalar.select (Scalar.cmpf .ogt n1 n0) (mean (colsum y) n1) (mean (subf t (colsum y)) n0)) KF.cf
/-- The data matrix of a block. -/
def mat (v : FVec F (⟨3, ![1, 768, d]⟩ : Shape) .f32) : FVec F (SM d) .f32 := shapeCast ⟨2, ![768, d]⟩ v KF.cx

/-- The whole clustering of a block: ten assignments, then the mean of the larger cluster. -/
def clus (v : FVec F (⟨3, ![1, 768, d]⟩ : Shape) .f32) : FVec F (⟨3, ![1, 1, d]⟩ : Shape) .f32 :=
  let x := mat v
  let m := (next x (colsum x))^[9] (init x)
  pick (colsum x) (cnt d (fl d m)) (rest (cnt d (fl d m))) (xm x (fl d m))

end Ops

section Read

variable {d : ℕ} [KF d]

theorem dst_apply (x b : FVec Ideal (SM d) .f32) (i : Fin 768) (u : Fin 1) :
    dst x b (ix2 i u) = ∑ j : Fin d, (x (ix2 i j) - b (ix2 i j)) * (x (ix2 i j) - b (ix2 i j)) := by
  unfold dst
  rw [shapeCast_apply _ _ _ (ix1 i) (by
    rw [Shape.rowMajor_val_one, Shape.rowMajor_val_two]
    show i.val = i.val * 1 + u.val
    omega)]
  refine (Ideal.multiReduction_add_single _ _ _ _ _ _).trans ?_
  refine Finset.sum_congr rfl fun j _ => ?_
  have e : KF.r1.lift (ix1 i) j = ix2 i j := by
    funext a; match a with | ⟨0, _⟩ => rfl | ⟨1, _⟩ => rfl
  rw [e]; rfl

theorem rep_apply (c : FVec Ideal (SR d) .f32) (i : Fin 768) (j : Fin d) : rep c (ix2 i j) = c (ix2 0 j) := by
  unfold rep
  rw [broadcastTo_apply _ _ _ (ix2 0 j)]
  intro a
  match a with
  | ⟨0, _⟩ => rfl
  | ⟨1, _⟩ =>
    show j.val = if d = 1 then 0 else j.val
    split <;> omega

theorem colsum_apply (y : FVec Ideal (SM d) .f32) (u : Fin 1) (j : Fin d) : colsum y (ix2 u j) = ∑ i : Fin 768, y (ix2 i j) := by
  unfold colsum
  rw [shapeCast_apply _ _ _ (ix1 j) (by
    rw [Shape.rowMajor_val_one, Shape.rowMajor_val_two]
    show j.val = u.val * d + j.val
    have : u.val = 0 := by omega
    rw [this]; omega)]
  refine (Ideal.multiReduction_add_single _ _ _ _ _ _).trans ?_
  refine Finset.sum_congr rfl fun i _ => ?_
  have e : KF.r0.lift (ix1 j) i = ix2 i j := by
    funext a; match a with | ⟨0, _⟩ => rfl | ⟨1, _⟩ => rfl
  rw [e]; rfl

theorem xm_apply (x : FVec Ideal (SM d) .f32) (w : FVec Ideal SC .f32) (i : Fin 768) (j : Fin d) :
    xm x w (ix2 i j) = x (ix2 i j) * w (ix2 i 0) := by
  unfold xm
  rw [mulf_apply, broadcastTo_apply _ _ _ (ix2 i 0)]
  intro a
  match a with
  | ⟨0, _⟩ => rfl
  | ⟨1, _⟩ => rfl

/-- The assignment as booleans. -/
def bits (m : IVec SC 1) (i : Fin 768) : Bool := decide (m (ix2 i 0) = 1#1)

theorem fl_apply (m : IVec SC 1) (i : Fin 768) (u : Fin 1) : fl (F := Ideal) d m (ix2 i u) = one (bits m i) := by
  have hu : u = 0 := by omega
  subst hu
  unfold fl bits
  show (((((m (ix2 i 0)).setWidth 32).toInt : ℝ)) : EReal) = _
  by_cases h : m (ix2 i 0) = 1#1
  · rw [h]; simp [one]
  · rw [eq_zero_of_ne_one h]; simp [one]

theorem cnt_apply (w : FVec Ideal SC .f32) : cnt d w = ∑ i : Fin 768, w (ix2 i 0) := by
  unfold cnt extractAt
  rw [shapeCast_apply _ _ _ (ix1 0) (by
    rw [Shape.rowMajor_val_one, Shape.rowMajor_val_three]; rfl)]
  refine (Ideal.multiReduction_add_total _ _ _ (by intro b; match b with | ⟨0, _⟩ => rfl) _ _ _).trans ?_
  refine Fintype.sum_equiv
    { toFun := fun j => j 1
      invFun := fun i => ix3 0 i 0
      left_inv := fun j => by
        rw [eq_ix3 j]
        funext a
        match a with
        | ⟨0, _⟩ => exact Fin.ext (by have := (j 0).isLt; show 0 = (j 0).val; change (j 0).val < 1 at this; omega)
        | ⟨1, _⟩ => rfl
        | ⟨2, _⟩ => exact Fin.ext (by have := (j 2).isLt; show 0 = (j 2).val; change (j 2).val < 1 at this; omega)
      right_inv := fun _ => rfl } _ _ ?_
  intro j
  refine shapeCast_apply _ _ _ (ix2 (j 1) 0) ?_
  rw [Shape.rowMajor_val_two, Shape.rowMajor_val_three]
  have h0 := (j 0).isLt
  have h2 := (j 2).isLt
  change (j 0).val < 1 at h0
  change (j 2).val < 1 at h2
  show (j 1).val * 1 + 0 = ((j 0).val * 768 + (j 1).val) * 1 + (j 2).val
  omega

theorem msk_bits (x b0 b1 : FVec Ideal (SM d) .f32) (i : Fin 768) :
    bits (msk x b0 b1) i = decide (dst x b1 (ix2 i 0) < dst x b0 (ix2 i 0)) := by
  unfold bits msk
  rw [cmpf_apply, Ideal.cmpf_def]
  unfold Ideal.cmp
  by_cases h : dst x b1 (ix2 i 0) < dst x b0 (ix2 i 0) <;> simp [h]

/-- The data as a matrix of extended reals. -/
def arr (x : FVec Ideal (SM d) .f32) (i : Fin 768) (j : Fin d) : EReal := x (ix2 i j)

theorem mean_apply (s : FVec Ideal (SR d) .f32) (n : Ideal .f32) (j : Fin d) :
    mean s n (ix2 0 j) = Ideal.div (s (ix2 0 j)) (max n 1) := by
  have h1 : Ideal.ofBits .f32 0x3F800000#32 = 1 := by simp [Ideal.ofBits, Ideal.ieee, -EReal.coe_mul]; norm_num
  show Ideal.div (s (ix2 0 j)) (max n (Ideal.ofBits .f32 0x3F800000#32)) = _
  rw [h1]

theorem rest_eq (n : Ideal .f32) : rest n = (768 - n : EReal) := by
  have h1 : Ideal.ofBits .f32 0x44400000#32 = 768 := by simp [Ideal.ofBits, Ideal.ieee, -EReal.coe_mul]; norm_num; rfl
  show Ideal.ofBits .f32 0x44400000#32 - n = _
  rw [h1]

theorem cnt_fl (m : IVec SC 1) : cnt d (fl (F := Ideal) d m) = ∑ i, one (bits m i) := by
  rw [cnt_apply]; simp only [fl_apply]

theorem colsum_xm (x : FVec Ideal (SM d) .f32) (m : IVec SC 1) (j : Fin d) :
    colsum (xm x (fl d m)) (ix2 0 j) = ∑ i, arr x i j * one (bits m i) := by
  rw [colsum_apply]; simp only [xm_apply, fl_apply]; rfl

theorem cen1_apply (x : FVec Ideal (SM d) .f32) (m : IVec SC 1) (j : Fin d) :
    cen1 x m (ix2 0 j) = cenK (arr x) (bits m) 1 j := by
  unfold cen1 cenK
  rw [mean_apply, colsum_xm, cnt_fl, if_pos rfl]

theorem cen0_apply (x : FVec Ideal (SM d) .f32) (m : IVec SC 1) (j : Fin d) :
    cen0 x (colsum x) m (ix2 0 j) = cenK (arr x) (bits m) 0 j := by
  unfold cen0 cenK
  rw [mean_apply, cnt_fl, rest_eq, if_neg (by decide)]
  show Ideal.div (colsum x (ix2 0 j) - colsum (xm x (fl d m)) (ix2 0 j)) _ = _
  rw [colsum_xm, colsum_apply]; rfl

theorem next_bits (x : FVec Ideal (SM d) .f32) (m : IVec SC 1) :
    bits (next x (colsum x) m) = near (arr x) (cenK (arr x) (bits m)) := by
  funext i
  unfold next near dist
  rw [msk_bits, dst_apply, dst_apply]
  simp only [rep_apply, cen1_apply, cen0_apply]
  rfl

theorem init_bits (x : FVec Ideal (SM d) .f32) :
    bits (init x) = near (arr x) (fun k j => arr x (if k = 1 then 1 else 0) j) := by
  funext i
  unfold init near dist
  rw [msk_bits, dst_apply, dst_apply]
  have h0 : ∀ j, extractStridedSlice ⟨2, ![1, d]⟩ ![0, 0] x KF.s0 (ix2 0 j) = arr x 0 j := fun j =>
    extractStridedSlice_apply _ _ _ _ (ix2 0 j) (by
      intro a; match a with | ⟨0, _⟩ => rfl | ⟨1, _⟩ => simp [ix2])
  have h1 : ∀ j, extractStridedSlice ⟨2, ![1, d]⟩ ![1, 0] x KF.s1 (ix2 0 j) = arr x 1 j := fun j =>
    extractStridedSlice_apply _ _ _ _ (ix2 1 j) (by
      intro a; match a with | ⟨0, _⟩ => rfl | ⟨1, _⟩ => simp [ix2])
  simp only [rep_apply, h0, h1]
  rfl

/-- The assignment after `n` more rounds. -/
def rounds (X : Fin 768 → Fin d → EReal) : ℕ → Fin 768 → Bool
  | 0 => near X (fun k j => X (if k = 1 then 1 else 0) j)
  | n + 1 => near X (cen X (rounds X n))

theorem iter_bits (x : FVec Ideal (SM d) .f32) (hX : ∀ i j, ∃ r : ℝ, arr x i j = r) (n : ℕ) :
    bits ((next x (colsum x))^[n] (init x)) = rounds (arr x) n := by
  induction n with
  | zero => exact init_bits x
  | succ n ih =>
    rw [Function.iterate_succ_apply', next_bits, ih, cenK_eq _ hX]; rfl

theorem clus_apply (v : FVec Ideal (⟨3, ![1, 768, d]⟩ : Shape) .f32) (hX : ∀ i j, ∃ r : ℝ, arr (mat v) i j = r) (u w : Fin 1) (j : Fin d) :
    clus v (ix3 u w j) = best (arr (mat v)) (rounds (arr (mat v)) 9) j := by
  unfold clus
  rw [← iter_bits _ hX]
  generalize (next (mat v) (colsum (mat v)))^[9] (init (mat v)) = m
  unfold pick
  rw [shapeCast_apply _ _ _ (ix2 0 j) (by
    rw [Shape.rowMajor_val_two, Shape.rowMajor_val_three]
    show 0 * d + j.val = (u.val * 1 + w.val) * d + j.val
    have : u.val = 0 := by omega
    have : w.val = 0 := by omega
    simp [*])]
  rw [cnt_fl, rest_eq]
  have hb := best_eq (arr (mat v)) (bits m)
  have hc := cenK_eq (arr (mat v)) hX (bits m)
  have e1 := cen1_apply (mat v) m j
  have e0 := cen0_apply (mat v) m j
  unfold cen1 cen0 at *
  rw [cnt_fl] at e1 e0
  rw [rest_eq] at e0
  rw [hc] at e1 e0
  rw [hb]
  show (if Ideal.cmp .ogt (∑ i, one (bits m i)) (768 - ∑ i, one (bits m i)) = 1#1 then mean _ _ else mean _ _ : FVec Ideal (SR d) .f32) (ix2 0 j) = _
  unfold Ideal.cmp
  by_cases h : (768 : EReal) - ∑ i, one (bits m i) < ∑ i, one (bits m i)
  · simp only [h, if_true, decide_true]
    exact e1
  · simp only [h, if_false, decide_false]
    exact e0

theorem mat_apply (v : FVec Ideal (⟨3, ![1, 768, d]⟩ : Shape) .f32) (i : Fin 768) (j : Fin d) :
    arr (mat v) i j = v (ix3 0 i j) := by
  unfold arr mat
  refine shapeCast_apply _ _ _ _ ?_
  rw [Shape.rowMajor_val_two, Shape.rowMajor_val_three]
  show (0 * 768 + i.val) * d + j.val = i.val * d + j.val
  simp

end Read

end Cert.KM

end
-- ==== Proof.KRef.lean ====
/- The reference's two-means clustering, for any number `d` of coordinates: one round as a function of the data and the
   centers, the choice of the larger cluster, and what each computes over the extended reals. -/
module

public import proofs.«01_k».proof.Proof.KKern

@[expose] public section

noncomputable section

namespace Cert.KM

open Idealize.ShloMosaic Idealize.ShloMosaic.ValueIdx
open scoped BigOperators

/-- The eight samples' rows. -/
abbrev RX (d : ℕ) : Shape := ⟨3, ![8, 768, d]⟩
/-- The eight samples' two centers. -/
abbrev RC (d : ℕ) : Shape := ⟨3, ![8, 2, d]⟩
/-- A number. -/
abbrev R0 : Shape := ⟨0, ![]⟩
/-- One entry per sample and row. -/
abbrev RI : Shape := ⟨2, ![8, 768]⟩
/-- One entry per sample, row and cluster. -/
abbrev RH : Shape := ⟨3, ![8, 768, 2]⟩

/-- The side conditions of the reference's operations at `d` coordinates. -/
class RF (d : ℕ) : Prop where
  bx : (RX d).BroadcastsInDim ⟨4, ![8, 768, 1, d]⟩ ![0, 1, 3]
  bc : (RC d).BroadcastsInDim ⟨4, ![8, 1, 2, d]⟩ ![0, 2, 3]
  bx' : (⟨4, ![8, 768, 1, d]⟩ : Shape).BroadcastsInDim ⟨4, ![8, 768, 2, d]⟩ ![0, 1, 2, 3]
  bc' : (⟨4, ![8, 1, 2, d]⟩ : Shape).BroadcastsInDim ⟨4, ![8, 768, 2, d]⟩ ![0, 1, 2, 3]
  rd : (⟨4, ![8, 768, 2, d]⟩ : Shape).ReducesTo [3] RH
  rd' : (⟨4, ![8, 768, 2, d]⟩ : Shape).Reduces [3] RH
  pos : 0 < R0.numel
  s0 : RH.Slices ![0, 0, 0] ⟨3, ![8, 768, 1]⟩
  s1 : RH.Slices ![0, 0, 1] ⟨3, ![8, 768, 1]⟩
  ci : (⟨3, ![8, 768, 1]⟩ : Shape).ShapeCasts RI
  bk : R0.BroadcastsInDim ⟨1, ![768]⟩ ![]
  bk' : (⟨1, ![768]⟩ : Shape).BroadcastsInDim RI ![1]
  bi : RI.BroadcastsInDim ⟨3, ![8, 768, 1]⟩ ![0, 1]
  bo : (⟨2, ![1, 2]⟩ : Shape).BroadcastsInDim ⟨3, ![1, 1, 2]⟩ ![1, 2]
  bi' : (⟨3, ![8, 768, 1]⟩ : Shape).BroadcastsInDim RH ![0, 1, 2]
  bo' : (⟨3, ![1, 1, 2]⟩ : Shape).BroadcastsInDim RH ![0, 1, 2]
  rk : RH.ReducesTo [1] ⟨2, ![8, 2]⟩
  rk' : RH.Reduces [1] ⟨2, ![8, 2]⟩
  tr : RH.Transposes [0, 2, 1] ⟨3, ![8, 2, 768]⟩
  wf : DotDims.WF ⟨3, ![8, 2, 768]⟩ (RX d) (RC d) [2] [1] [1] [2] [0] [0]
  bn : (⟨2, ![8, 2]⟩ : Shape).BroadcastsInDim ⟨3, ![8, 2, 1]⟩ ![0, 1]
  b1 : R0.BroadcastsInDim ⟨3, ![8, 2, 1]⟩ ![]
  bm : (⟨3, ![8, 2, 1]⟩ : Shape).BroadcastsInDim (RC d) ![0, 1, 2]
  w1 : 1 < 32
  k0 : (⟨2, ![8, 2]⟩ : Shape).Slices ![0, 0] ⟨2, ![8, 1]⟩
  k1 : (⟨2, ![8, 2]⟩ : Shape).Slices ![0, 1] ⟨2, ![8, 1]⟩
  ck : (⟨2, ![8, 1]⟩ : Shape).ShapeCasts ⟨1, ![8]⟩
  b8 : R0.BroadcastsInDim ⟨1, ![8]⟩ ![]
  c0 : (RC d).Slices ![0, 0, 0] ⟨3, ![8, 1, d]⟩
  c1 : (RC d).Slices ![0, 1, 0] ⟨3, ![8, 1, d]⟩
  cc : (⟨3, ![8, 1, d]⟩ : Shape).ShapeCasts ⟨2, ![8, d]⟩
  bs : (⟨1, ![8]⟩ : Shape).BroadcastsInDim ⟨2, ![8, d]⟩ ![0]
  si : (RX d).Slices ![0, 0, 0] (RC d)

section Ops

variable {F : FTy → Type} [FloatOps F] {d : ℕ} [RF d]

/-- The contraction of the one-hot assignment with the rows. -/
def rdot (d : ℕ) [RF d] : DotDims ⟨3, ![8, 2, 768]⟩ (RX d) (RC d) where
  lhsContracting := [2]
  rhsContracting := [1]
  lhsNonContracting := [1]
  rhsNonContracting := [2]
  lhsBatch := [0]
  rhsBatch := [0]
  wf := RF.wf

/-- The squared distances of the rows from the two centers. -/
def rdist (X : FVec F (RX d) .f32) (C : FVec F (RC d) .f32) : FVec F RH .f32 :=
  let e := subf (broadcastInDim ⟨4, ![8, 768, 2, d]⟩ ![0, 1, 2, 3] RF.bx' (broadcastInDim ⟨4, ![8, 768, 1, d]⟩ ![0, 1, 3] RF.bx X))
    (broadcastInDim ⟨4, ![8, 768, 2, d]⟩ ![0, 1, 2, 3] RF.bc' (broadcastInDim ⟨4, ![8, 1, 2, d]⟩ ![0, 2, 3] RF.bc C))
  Host.reduceAdd (mulf e e) (constant R0 .f32 0x00000000#32) (RF.rd (d := d)) (RF.pos d)

/-- The cluster numbers. -/
def rids (X : FVec F (RX d) .f32) (C : FVec F (RC d) .f32) : IVec RI 32 :=
  select (cmpf .ole
      (shapeCast RI (extractStridedSlice ⟨3, ![8, 768, 1]⟩ ![0, 0, 0] (rdist X C) (RF.s0 d)) (RF.ci d))
      (shapeCast RI (extractStridedSlice ⟨3, ![8, 768, 1]⟩ ![0, 0, 1] (rdist X C) (RF.s1 d)) (RF.ci d)))
    (broadcastInDim RI ![1] (RF.bk' d) (broadcastInDim ⟨1, ![768]⟩ ![] (RF.bk d) (constantI R0 32 0#32)))
    (broadcastInDim RI ![1] (RF.bk' d) (broadcastInDim ⟨1, ![768]⟩ ![] (RF.bk d) (constantI R0 32 1#32)))

/-- The one-hot assignment. -/
def rhot (d : ℕ) [RF d] (s : IVec RI 32) : IVec RH 1 :=
  cmpi .eq (broadcastInDim RH ![0, 1, 2] (RF.bi' d) (id (broadcastInDim ⟨3, ![8, 768, 1]⟩ ![0, 1] (RF.bi d) s)))
    (broadcastInDim RH ![0, 1, 2] (RF.bo' d) (broadcastInDim ⟨3, ![1, 1, 2]⟩ ![1, 2] (RF.bo d) (iotaInDim ⟨2, ![1, 2]⟩ 32 1)))

/-- The means of the two clusters of an assignment. -/
def rcen (X : FVec F (RX d) .f32) (s : IVec RI 32) : FVec F (RC d) .f32 :=
  let o : FVec F RH .f32 := uitofp .f32 (rhot d s)
  Host.divf (Host.dotGeneral (rdot d) none (transpose ⟨3, ![8, 2, 768]⟩ [0, 2, 1] o (RF.tr d)) X)
    (broadcastInDim (RC d) ![0, 1, 2] RF.bm
      (maximumf (broadcastInDim ⟨3, ![8, 2, 1]⟩ ![0, 1] (RF.bn d) (Host.reduceAdd o (constant R0 .f32 0x00000000#32) (RF.rk d) (RF.pos d)))
        (broadcastInDim ⟨3, ![8, 2, 1]⟩ ![] (RF.b1 d) (constant R0 .f32 0x3F800000#32))))

/-- One round. -/
def rstep (X : FVec F (RX d) .f32) (C : FVec F (RC d) .f32) : FVec F (RC d) .f32 := rcen X (rids X C)

/-- The first centers: the first two rows. -/
def rinit (X : FVec F (RX d) .f32) : FVec F (RC d) .f32 := extractStridedSlice (RC d) ![0, 0, 0] X RF.si

/-- The sizes of the two clusters. -/
def rsize (d : ℕ) [RF d] (s : IVec RI 32) : IVec ⟨2, ![8, 2]⟩ 32 :=
  Host.reduce IntOp.addi (extui 32 (rhot d s) (RF.w1 d)) (constantI R0 32 0#32) (RF.rk d) (RF.pos d)

/-- The center of the larger cluster, the first on a tie. -/
def rpick (s : IVec RI 32) (C : FVec F (RC d) .f32) : FVec F ⟨2, ![8, d]⟩ .f32 :=
  select (broadcastInDim ⟨2, ![8, d]⟩ ![0] RF.bs
      (cmpi .eq
        (select (cmpi .sge (shapeCast ⟨1, ![8]⟩ (extractStridedSlice ⟨2, ![8, 1]⟩ ![0, 0] (rsize d s) (RF.k0 d)) (RF.ck d))
            (shapeCast ⟨1, ![8]⟩ (extractStridedSlice ⟨2, ![8, 1]⟩ ![0, 1] (rsize d s) (RF.k1 d)) (RF.ck d)))
          (broadcastInDim ⟨1, ![8]⟩ ![] (RF.b8 d) (constantI R0 32 0#32)) (broadcastInDim ⟨1, ![8]⟩ ![] (RF.b8 d) (constantI R0 32 1#32)))
        (broadcastInDim ⟨1, ![8]⟩ ![] (RF.b8 d) (constantI R0 32 0#32))))
    (shapeCast ⟨2, ![8, d]⟩ (extractStridedSlice ⟨3, ![8, 1, d]⟩ ![0, 0, 0] C RF.c0) RF.cc)
    (shapeCast ⟨2, ![8, d]⟩ (extractStridedSlice ⟨3, ![8, 1, d]⟩ ![0, 1, 0] C RF.c1) RF.cc)

/-- The whole clustering: ten rounds, then the center of the larger cluster. -/
def rclus (X : FVec F (RX d) .f32) : FVec F ⟨2, ![8, d]⟩ .f32 :=
  let C := (rstep X)^[9] (rinit X)
  rpick (rids X C) (rstep X C)

end Ops

section Read

variable {d : ℕ} [RF d]

/-- The rows of sample `b`. -/
def rarr (X : FVec Ideal (RX d) .f32) (b : Fin 8) (i : Fin 768) (j : Fin d) : EReal := X (ix3 b i j)
/-- The centers of sample `b`. -/
def rctr (C : FVec Ideal (RC d) .f32) (b : Fin 8) (k : Fin 2) (j : Fin d) : EReal := C (ix3 b k j)

theorem bd (v n : ℕ) (h : v < n) : v = if n = 1 then 0 else v := by split <;> omega

theorem rdist_apply (X : FVec Ideal (RX d) .f32) (C : FVec Ideal (RC d) .f32) (b : Fin 8) (i : Fin 768) (k : Fin 2) :
    rdist X C (ix3 b i k) = dist (rarr X b) (rctr C b k) i := by
  unfold rdist dist
  simp only [Host.reduceAdd, Ideal.hostReduceAdd_def]
  rw [Ideal.hostReduceAdd_single RF.rd RF.rd']
  have hz : (constant R0 .f32 0x00000000#32 : FVec Ideal R0 .f32) (Shape.Idx.first (RF.pos d)) = 0 := by
    show Ideal.ofBits .f32 0x00000000#32 = 0
    exact Ideal.ofBits_zero_f32
  rw [hz, zero_add]
  refine Finset.sum_congr rfl fun j _ => ?_
  change Fin d at j
  have e : (RF.rd' (d := d)).lift (ix3 b i k) j = ix4 b i k j := by
    funext a; match a with | ⟨0, _⟩ => rfl | ⟨1, _⟩ => rfl | ⟨2, _⟩ => rfl | ⟨3, _⟩ => rfl
  rw [e, mulf_apply, subf_apply]
  have ex : broadcastInDim ⟨4, ![8, 768, 2, d]⟩ ![0, 1, 2, 3] RF.bx' (broadcastInDim ⟨4, ![8, 768, 1, d]⟩ ![0, 1, 3] RF.bx X) (ix4 b i k j)
      = rarr X b i j := by
    rw [broadcastInDim_apply _ _ _ _ (ix4 b i 0 j) (by
      intro a
      match a with
      | ⟨0, _⟩ => rfl
      | ⟨1, _⟩ => rfl
      | ⟨2, _⟩ => rfl
      | ⟨3, _⟩ => exact bd j.val d j.isLt)]
    rw [broadcastInDim_apply _ _ _ _ (ix3 b i j) (by
      intro a
      match a with
      | ⟨0, _⟩ => rfl
      | ⟨1, _⟩ => rfl
      | ⟨2, _⟩ => exact bd j.val d j.isLt)]
    rfl
  have ec : broadcastInDim ⟨4, ![8, 768, 2, d]⟩ ![0, 1, 2, 3] RF.bc' (broadcastInDim ⟨4, ![8, 1, 2, d]⟩ ![0, 2, 3] RF.bc C) (ix4 b i k j)
      = rctr C b k j := by
    rw [broadcastInDim_apply _ _ _ _ (ix4 b 0 k j) (by
      intro a
      match a with
      | ⟨0, _⟩ => rfl
      | ⟨1, _⟩ => rfl
      | ⟨2, _⟩ => rfl
      | ⟨3, _⟩ => exact bd j.val d j.isLt)]
    rw [broadcastInDim_apply _ _ _ _ (ix3 b k j) (by
      intro a
      match a with
      | ⟨0, _⟩ => rfl
      | ⟨1, _⟩ => rfl
      | ⟨2, _⟩ => exact bd j.val d j.isLt)]
    rfl
  rw [ex, ec]

/-- The number of a cluster. -/
def num (c : Bool) : BitVec 32 := if c then 1#32 else 0#32

theorem rids_apply (X : FVec Ideal (RX d) .f32) (C : FVec Ideal (RC d) .f32) (b : Fin 8) (i : Fin 768) :
    rids X C (ix2 b i) = num (near (rarr X b) (rctr C b) i) := by
  unfold rids
  rw [select_apply, cmpf_apply]
  have h (k : Fin 2) (h : RH.Slices ![0, 0, k.val] ⟨3, ![8, 768, 1]⟩) :
      shapeCast RI (extractStridedSlice ⟨3, ![8, 768, 1]⟩ ![0, 0, k.val] (rdist X C) h) (RF.ci d) (ix2 b i)
        = dist (rarr X b) (rctr C b k) i := by
    rw [shapeCast_apply _ _ _ (ix3 b i 0) (by
      rw [Shape.rowMajor_val_two, Shape.rowMajor_val_three]
      show (b.val * 768 + i.val) * 1 + 0 = b.val * 768 + i.val
      omega)]
    rw [extractStridedSlice_apply _ _ _ _ (ix3 b i k) (by
      intro a
      match a with | ⟨0, _⟩ => simp [ix3] | ⟨1, _⟩ => simp [ix3] | ⟨2, _⟩ => simp [ix3])]
    exact rdist_apply X C b i k
  have h0 := h 0 (RF.s0 d)
  have h1 := h 1 (RF.s1 d)
  change shapeCast RI (extractStridedSlice ⟨3, ![8, 768, 1]⟩ ![0, 0, 0] (rdist X C) (RF.s0 d)) (RF.ci d) (ix2 b i) = _ at h0
  change shapeCast RI (extractStridedSlice ⟨3, ![8, 768, 1]⟩ ![0, 0, 1] (rdist X C) (RF.s1 d)) (RF.ci d) (ix2 b i) = _ at h1
  rw [h0, h1, Ideal.cmpf_def]
  show Scalar.select _ (0#32) (1#32) = _
  unfold near num Ideal.cmp Scalar.select
  by_cases h : dist (rarr X b) (rctr C b 0) i ≤ dist (rarr X b) (rctr C b 1) i
  · simp [h, not_lt.mpr h]
  · simp [h, not_le.mp h]

theorem rhot_apply (s : IVec RI 32) (m : Fin 768 → Bool) (b : Fin 8) (hs : ∀ i, s (ix2 b i) = num (m i)) (i : Fin 768) (k : Fin 2) :
    rhot d s (ix3 b i k) = if (m i = true ↔ k = 1) then 1#1 else 0#1 := by
  unfold rhot
  show IntOp.cmpi .eq _ _ = _
  rw [broadcastInDim_apply _ (RF.bi' d) _ _ (ix3 b i 0) (by
    intro a
    match a with
    | ⟨0, _⟩ => rfl
    | ⟨1, _⟩ => rfl
    | ⟨2, _⟩ => rfl)]
  rw [broadcastInDim_apply _ (RF.bo' d) _ _ (ix3 0 0 k) (by
    intro a
    match a with
    | ⟨0, _⟩ => rfl
    | ⟨1, _⟩ => rfl
    | ⟨2, _⟩ => rfl)]
  rw [broadcastInDim_apply _ (RF.bo d) _ _ (ix2 0 k) (by
    intro a
    match a with
    | ⟨0, _⟩ => rfl
    | ⟨1, _⟩ => rfl)]
  show IntOp.cmpi .eq (broadcastInDim ⟨3, ![8, 768, 1]⟩ ![0, 1] (RF.bi d) s (ix3 b i 0)) _ = _
  rw [broadcastInDim_apply _ (RF.bi d) _ _ (ix2 b i) (by
    intro a
    match a with
    | ⟨0, _⟩ => rfl
    | ⟨1, _⟩ => rfl)]
  rw [hs]
  show IntOp.cmpi .eq (num (m i)) (BitVec.ofNat 32 k.val) = _
  cases m i <;> fin_cases k <;> simp [num, IntOp.cmpi]

theorem ronehot (s : IVec RI 32) (m : Fin 768 → Bool) (b : Fin 8) (hs : ∀ i, s (ix2 b i) = num (m i)) (i : Fin 768) (k : Fin 2) :
    (uitofp .f32 (rhot d s) : FVec Ideal RH .f32) (ix3 b i k) = wt (m i) k := by
  show (((rhot d s (ix3 b i k)).toNat : ℝ) : EReal) = _
  rw [rhot_apply s m b hs]
  cases m i <;> fin_cases k <;> simp [wt, one]

theorem lhs0 (i : (RC d).Idx) (q : (rdot d).contr.Idx) : ((rdot d).lhsIdx i q 0).val = (i 0).val := by
  unfold DotDims.lhsIdx
  rw [dif_pos (show (0 : Fin 3) ∈ (rdot d).lhsBatch from (by decide : (0 : Fin 3) ∈ ([0] : List (Fin 3))))]
  rfl

theorem lhs1 (i : (RC d).Idx) (q : (rdot d).contr.Idx) : ((rdot d).lhsIdx i q 1).val = (i 1).val := by
  unfold DotDims.lhsIdx
  rw [dif_neg (show ¬(1 : Fin 3) ∈ (rdot d).lhsBatch from (by decide : ¬(1 : Fin 3) ∈ ([0] : List (Fin 3)))),
    dif_pos (show (1 : Fin 3) ∈ (rdot d).lhsNonContracting from (by decide : (1 : Fin 3) ∈ ([1] : List (Fin 3))))]
  rfl

theorem rhs0 (i : (RC d).Idx) (q : (rdot d).contr.Idx) : ((rdot d).rhsIdx i q 0).val = (i 0).val := by
  unfold DotDims.rhsIdx
  rw [dif_pos (show (0 : Fin 3) ∈ (rdot d).rhsBatch from (by decide : (0 : Fin 3) ∈ ([0] : List (Fin 3))))]
  rfl

theorem rhs2 (i : (RC d).Idx) (q : (rdot d).contr.Idx) : ((rdot d).rhsIdx i q 2).val = (i 2).val := by
  unfold DotDims.rhsIdx
  rw [dif_neg (show ¬(2 : Fin 3) ∈ (rdot d).rhsBatch from (by decide : ¬(2 : Fin 3) ∈ ([0] : List (Fin 3)))),
    dif_pos (show (2 : Fin 3) ∈ (rdot d).rhsNonContracting from (by decide : (2 : Fin 3) ∈ ([2] : List (Fin 3))))]
  rfl

theorem rcen_apply (X : FVec Ideal (RX d) .f32) (s : IVec RI 32) (m : Fin 768 → Bool) (b : Fin 8) (hs : ∀ i, s (ix2 b i) = num (m i)) :
    rctr (rcen X s) b = cen (rarr X b) m := by
  funext k j
  unfold rcen rctr cen
  have hn : Host.reduceAdd (uitofp .f32 (rhot d s) : FVec Ideal RH .f32) (constant R0 .f32 0x00000000#32) (RF.rk d) (RF.pos d) (ix2 b k)
      = ∑ i, wt (m i) k := by
    simp only [Host.reduceAdd, Ideal.hostReduceAdd_def]
    rw [Ideal.hostReduceAdd_single (RF.rk d) (RF.rk' d)]
    have hz : (constant R0 .f32 0x00000000#32 : FVec Ideal R0 .f32) (Shape.Idx.first (RF.pos d)) = 0 := Ideal.ofBits_zero_f32
    rw [hz, zero_add]
    refine Finset.sum_congr rfl fun i _ => ?_
    change Fin 768 at i
    have e : (RF.rk' d).lift (ix2 b k) i = ix3 b i k := by
      funext a; match a with | ⟨0, _⟩ => rfl | ⟨1, _⟩ => rfl | ⟨2, _⟩ => rfl
    rw [e]
    exact ronehot s m b hs i k
  have hd : Host.dotGeneral (rdot d) none (transpose ⟨3, ![8, 2, 768]⟩ [0, 2, 1] (uitofp .f32 (rhot d s) : FVec Ideal RH .f32) (RF.tr d)) X (ix3 b k j)
      = ∑ i, wt (m i) k * rarr X b i j := by
    generalize hT : transpose ⟨3, ![8, 2, 768]⟩ [0, 2, 1] (uitofp .f32 (rhot d s) : FVec Ideal RH .f32) (RF.tr d) = T
    have hT' (i : Fin 768) : T (ix3 b k i) = wt (m i) k := by
      rw [← hT, transpose_apply _ _ _ _ (ix3 b i k) (by
        intro a; match a with | ⟨0, _⟩ => rfl | ⟨1, _⟩ => rfl | ⟨2, _⟩ => rfl)]
      exact ronehot s m b hs i k
    simp only [Host.dotGeneral]
    rw [Ideal.dotGeneral_apply, ← Equiv.sum_comp (contrEquiv1 (rdot d) 768 rfl rfl).symm]
    refine Finset.sum_congr rfl fun i _ => ?_
    have hk := contrEquiv1_symm_val (rdot d) 768 rfl rfl i
    have el : (rdot d).lhsIdx (ix3 b k j) ((contrEquiv1 (rdot d) 768 rfl rfl).symm i) = ix3 b k i := by
      funext a
      refine Fin.ext ?_
      match a with
      | ⟨0, _⟩ => exact lhs0 _ _
      | ⟨1, _⟩ => exact lhs1 _ _
      | ⟨2, _⟩ => exact ((rdot d).lhsIdx_val_of_single rfl _ _).trans hk
    have er : (rdot d).rhsIdx (ix3 b k j) ((contrEquiv1 (rdot d) 768 rfl rfl).symm i) = ix3 b i j := by
      funext a
      refine Fin.ext ?_
      match a with
      | ⟨0, _⟩ => exact rhs0 _ _
      | ⟨1, _⟩ => exact ((rdot d).rhsIdx_val_of_single rfl _ _).trans hk
      | ⟨2, _⟩ => exact rhs2 _ _
    rw [el, er, hT']; rfl
  show Ideal.div (Host.dotGeneral (F := Ideal) (rdot d) none _ X (ix3 b k j)) (broadcastInDim (s := ⟨3, ![8, 2, 1]⟩) (RC d) ![0, 1, 2] (RF.bm (d := d)) _ (ix3 b k j)) = _
  rw [hd]
  congr 1
  rw [broadcastInDim_apply _ _ _ _ (ix3 b k 0) (by
    intro a
    match a with
    | ⟨0, _⟩ => rfl
    | ⟨1, _⟩ => rfl
    | ⟨2, _⟩ => rfl)]
  show max (broadcastInDim (s := ⟨2, ![8, 2]⟩) ⟨3, ![8, 2, 1]⟩ ![0, 1] (RF.bn d) _ (ix3 b k 0)) (Ideal.ofBits .f32 0x3F800000#32) = _
  rw [broadcastInDim_apply _ (RF.bn d) _ _ (ix2 b k) (by
    intro a
    match a with
    | ⟨0, _⟩ => rfl
    | ⟨1, _⟩ => rfl), hn]
  have h1 : Ideal.ofBits .f32 0x3F800000#32 = 1 := by simp [Ideal.ofBits, Ideal.ieee, -EReal.coe_mul]; norm_num
  rw [h1]

theorem rinit_apply (X : FVec Ideal (RX d) .f32) (b : Fin 8) :
    rctr (rinit X) b = fun k j => rarr X b (if k = 1 then 1 else 0) j := by
  funext k j
  unfold rctr rinit rarr
  refine extractStridedSlice_apply _ _ _ _ _ ?_
  intro a
  match a with
  | ⟨0, _⟩ => simp [ix3]
  | ⟨1, _⟩ => fin_cases k <;> simp [ix3]
  | ⟨2, _⟩ => simp [ix3]

/-- The centers after `n` rounds give assignment number `n`, counted from 0. -/
theorem riter (X : FVec Ideal (RX d) .f32) (b : Fin 8) (n : ℕ) :
    near (rarr X b) (rctr ((rstep X)^[n] (rinit X)) b) = rounds (rarr X b) n := by
  induction n with
  | zero => rw [Function.iterate_zero, id, rinit_apply]; rfl
  | succ n ih =>
    rw [Function.iterate_succ_apply', rstep, rcen_apply X _ (rounds (rarr X b) n) b (by
      intro i; rw [rids_apply, ih])]
    rfl

theorem fold_addi {n : ℕ} (l : List (Fin n)) (x : Fin n → BitVec 32) (r : BitVec 32) :
    (l.foldl (fun r i => IntOp.addi r (x i)) r).toNat = (r.toNat + (l.map fun i => (x i).toNat).sum) % 2 ^ 32 := by
  induction l generalizing r with
  | nil => simp [Nat.mod_eq_of_lt r.isLt]
  | cons a l ih =>
    rw [List.foldl_cons, ih, List.map_cons, List.sum_cons]
    show ((r + x a).toNat + _) % _ = _
    rw [BitVec.toNat_add]
    omega

theorem rsize_apply (s : IVec RI 32) (m : Fin 768 → Bool) (b : Fin 8) (hs : ∀ i, s (ix2 b i) = num (m i)) (k : Fin 2) :
    rsize d s (ix2 b k) = BitVec.ofNat 32 (Finset.univ.filter fun i => (m i = true ↔ k = 1)).card := by
  unfold rsize Host.reduce
  apply BitVec.eq_of_toNat_eq
  rw [fold_addi, BitVec.toNat_ofNat]
  have hz : ((constantI R0 32 0#32) (Shape.Idx.first (RF.pos d))).toNat = 0 := rfl
  rw [hz, Nat.zero_add, Finset.card_filter]
  rw [← List.sum_toFinset _ ((List.nodup_finRange _).filter _)]
  have hsum := (RF.rk' d).sum_filter_drop_single (fun i => (extui 32 (rhot d s) (RF.w1 d) i).toNat) (ix2 b k)
  have hlift : ∀ i : Fin 768, (extui 32 (rhot d s) (RF.w1 d) ((RF.rk' d).lift (ix2 b k) i)).toNat = if (m i = true ↔ k = 1) then 1 else 0 := by
    intro i
    have e : (RF.rk' d).lift (ix2 b k) i = ix3 b i k := by
      funext a; match a with | ⟨0, _⟩ => rfl | ⟨1, _⟩ => rfl | ⟨2, _⟩ => rfl
    rw [e, extui_apply, rhot_apply s m b hs]
    split <;> rfl
  refine congrArg (· % 2 ^ 32) (Eq.trans ?_ (hsum.trans (Finset.sum_congr rfl fun i _ => hlift i)))
  refine Finset.sum_bij' (fun n _ => RH.rowMajor.symm n) (fun i _ => RH.rowMajor i) ?_ ?_ ?_ ?_ ?_
  · intro n hn
    simp only [List.mem_toFinset, List.mem_filter, decide_eq_true_eq] at hn
    simp only [Finset.mem_filter, Finset.mem_univ, true_and]
    rw [← hn.2, Shape.ReducesTo.drop_eq_drop (RF.rk d) (RF.rk' d)]
  · intro i hi
    simp only [Finset.mem_filter, Finset.mem_univ, true_and] at hi
    simp only [List.mem_toFinset, List.mem_filter, decide_eq_true_eq, List.mem_finRange, true_and, Equiv.symm_apply_apply]
    rw [← hi, Shape.ReducesTo.drop_eq_drop (RF.rk d) (RF.rk' d)]
  · intro n _; simp
  · intro i _; simp
  · intro n _; rfl

theorem toInt_small (n : ℕ) (h : n ≤ 768) : (BitVec.ofNat 32 n).toInt = n := by
  rw [BitVec.toInt_ofNat']
  simp [Int.bmod]
  omega

theorem rpick_apply (s : IVec RI 32) (C : FVec Ideal (RC d) .f32) (m : Fin 768 → Bool) (b : Fin 8) (hs : ∀ i, s (ix2 b i) = num (m i)) (j : Fin d) :
    rpick s C (ix2 b j) = rctr C b (if 768 < 2 * size1 m then 1 else 0) j := by
  unfold rpick
  rw [select_apply]
  rw [broadcastInDim_apply _ _ _ _ (ix1 b) (by intro a; match a with | ⟨0, _⟩ => rfl)]
  have hc (k : Fin 2) (h : (RC d).Slices ![0, k.val, 0] ⟨3, ![8, 1, d]⟩) :
      shapeCast ⟨2, ![8, d]⟩ (extractStridedSlice ⟨3, ![8, 1, d]⟩ ![0, k.val, 0] C h) RF.cc (ix2 b j) = rctr C b k j := by
    rw [shapeCast_apply _ _ _ (ix3 b 0 j) (by
      rw [Shape.rowMajor_val_two, Shape.rowMajor_val_three]
      show (b.val * 1 + 0) * d + j.val = b.val * d + j.val
      simp)]
    exact extractStridedSlice_apply _ _ _ _ (ix3 b k j) (by
      intro a
      match a with | ⟨0, _⟩ => simp [ix3] | ⟨1, _⟩ => simp [ix3] | ⟨2, _⟩ => simp [ix3])
  have hk (k : Fin 2) (h : (⟨2, ![8, 2]⟩ : Shape).Slices ![0, k.val] ⟨2, ![8, 1]⟩) :
      shapeCast ⟨1, ![8]⟩ (extractStridedSlice ⟨2, ![8, 1]⟩ ![0, k.val] (rsize d s) h) (RF.ck d) (ix1 b)
        = BitVec.ofNat 32 (Finset.univ.filter fun i => (m i = true ↔ k = 1)).card := by
    rw [shapeCast_apply _ _ _ (ix2 b 0) (by
      rw [Shape.rowMajor_val_one, Shape.rowMajor_val_two]
      show b.val * 1 + 0 = b.val
      simp)]
    rw [extractStridedSlice_apply _ _ _ _ (ix2 b k) (by
      intro a
      match a with | ⟨0, _⟩ => simp [ix2] | ⟨1, _⟩ => simp [ix2])]
    exact rsize_apply s m b hs k
  have c0 := hc 0 RF.c0
  have c1 := hc 1 RF.c1
  have k0 := hk 0 (RF.k0 d)
  have k1 := hk 1 (RF.k1 d)
  change shapeCast ⟨2, ![8, d]⟩ (extractStridedSlice ⟨3, ![8, 1, d]⟩ ![0, 0, 0] C RF.c0) RF.cc (ix2 b j) = _ at c0
  change shapeCast ⟨2, ![8, d]⟩ (extractStridedSlice ⟨3, ![8, 1, d]⟩ ![0, 1, 0] C RF.c1) RF.cc (ix2 b j) = _ at c1
  change shapeCast ⟨1, ![8]⟩ (extractStridedSlice ⟨2, ![8, 1]⟩ ![0, 0] (rsize d s) (RF.k0 d)) (RF.ck d) (ix1 b) = _ at k0
  change shapeCast ⟨1, ![8]⟩ (extractStridedSlice ⟨2, ![8, 1]⟩ ![0, 1] (rsize d s) (RF.k1 d)) (RF.ck d) (ix1 b) = _ at k1
  rw [c0, c1]
  show Scalar.select (IntOp.cmpi .eq (Scalar.select (IntOp.cmpi .sge _ _) 0#32 1#32) 0#32) _ _ = _
  rw [k0, k1]
  have e1 : (Finset.univ.filter fun i => (m i = true ↔ (1 : Fin 2) = 1)).card = size1 m := by
    exact congrArg Finset.card (Finset.filter_congr fun i _ => by simp)
  have e0 : (Finset.univ.filter fun i => (m i = true ↔ (0 : Fin 2) = 1)).card = 768 - size1 m := by
    have h := Finset.card_filter_add_card_filter_not (s := (Finset.univ : Finset (Fin 768))) (fun i => m i = true)
    rw [Finset.card_univ, Fintype.card_fin] at h
    have : (Finset.univ.filter fun i => (m i = true ↔ (0 : Fin 2) = 1)) = Finset.univ.filter fun i => ¬ m i = true := by
      ext i; simp
    rw [this]
    unfold size1
    omega
  rw [e0, e1]
  have hle := size1_le m
  have hge : IntOp.cmpi .sge (BitVec.ofNat 32 (768 - size1 m)) (BitVec.ofNat 32 (size1 m)) = if 768 < 2 * size1 m then 0#1 else 1#1 := by
    show BitVec.ofBool (BitVec.sle _ _) = _
    unfold BitVec.sle
    rw [toInt_small _ (by omega), toInt_small _ (by omega)]
    by_cases h : 768 < 2 * size1 m
    · rw [if_pos h, decide_eq_false (by omega)]; rfl
    · rw [if_neg h, decide_eq_true (by omega)]; rfl
  rw [hge]
  split <;> simp [Scalar.select, IntOp.cmpi]

/-- The reference's clustering is the mean of the larger cluster of the tenth assignment. -/
theorem rclus_apply (X : FVec Ideal (RX d) .f32) (b : Fin 8) (j : Fin d) :
    rclus X (ix2 b j) = best (rarr X b) (rounds (rarr X b) 9) j := by
  unfold rclus best
  have h : ∀ i, rids X ((rstep X)^[9] (rinit X)) (ix2 b i) = num (rounds (rarr X b) 9 i) := by
    intro i; rw [rids_apply, riter]
  rw [rpick_apply _ _ _ b h, rstep, rcen_apply X _ _ b h]

end Read

end Cert.KM

end
-- ==== Proof.DKern.lean ====
/- The kernel's discriminator for a map of side `h` and its half `g`: the operations of one call's body as functions of its
   blocks, and what they compute over the extended reals. -/
module

public import Idealize.ShloMosaic.Lib.Pipeline.Value
public import Idealize.ShloMosaic.Lib.ValueIdx
public import Idealize.ShloMosaic.PureOps.Ideal.Laws

@[expose] public section

noncomputable section

namespace Cert.DM

open Idealize.ShloMosaic Idealize.ShloMosaic.ValueIdx
open scoped BigOperators

/-- Add `f 0`, then `f 1`, …, then `f (n - 1)` to `z`. -/
def chain {α : Type} (add : α → α → α) (z : α) : (n : ℕ) → (Fin n → α) → α
  | 0, _ => z
  | n + 1, f => add (chain add z n fun i => f i.castSucc) (f (Fin.last n))

theorem chain_add (z : EReal) : (n : ℕ) → (f : Fin n → EReal) → chain (· + ·) z n f = z + ∑ i, f i
  | 0, f => by simp [chain]
  | n + 1, f => by
    show chain (· + ·) z n _ + _ = _
    rw [chain_add z n, Fin.sum_univ_castSucc, add_assoc]

theorem chain_apply {s : Shape} (z : FVec Ideal s .f32) (j : s.Idx) :
    (n : ℕ) → (f : Fin n → FVec Ideal s .f32) → chain addf z n f j = z j + ∑ i, f i j
  | 0, f => by simp [chain]
  | n + 1, f => by
    show chain addf z n _ j + _ = _
    rw [chain_apply z j n, Fin.sum_univ_castSucc, add_assoc]

/-- The row of the tap `t` of a four by four kernel. -/
def hi (t : Fin 16) : Fin 4 := ⟨t.val / 4, by omega⟩
/-- Its column. -/
def lo (t : Fin 16) : Fin 4 := ⟨t.val % 4, by omega⟩

/-- The side conditions of the operations at sides `h` and `g`. -/
class DF (h g : ℕ) : Prop where
  cx : (⟨3, ![1, h, h]⟩ : Shape).ShapeCasts ⟨2, ![h, h]⟩
  m1 : DotDims.WF ⟨2, ![g, h]⟩ ⟨2, ![h, h]⟩ ⟨2, ![g, h]⟩ [1] [0] [0] [1] [] []
  m2 : DotDims.WF ⟨2, ![g, h]⟩ ⟨2, ![h, g]⟩ ⟨2, ![g, g]⟩ [1] [0] [0] [1] [] []
  tr : (⟨2, ![g, h]⟩ : Shape).Transposes [1, 0] ⟨2, ![h, g]⟩
  cp : (⟨2, ![g, g]⟩ : Shape).ShapeCasts ⟨3, ![1, g, g]⟩
  sw : ∀ t : Fin 16, (⟨2, ![32, 16]⟩ : Shape).Slices ![0, t.val] ⟨2, ![32, 1]⟩
  cw : (⟨2, ![32, 1]⟩ : Shape).ShapeCasts ⟨3, ![32, 1, 1]⟩
  bp : (⟨3, ![1, g, g]⟩ : Shape).Broadcasts ⟨3, ![32, g, g]⟩
  bw : (⟨3, ![32, 1, 1]⟩ : Shape).Broadcasts ⟨3, ![32, g, g]⟩
  cu : (⟨2, ![1, g]⟩ : Shape).ShapeCasts ⟨3, ![1, g, 1]⟩
  bu : (⟨3, ![1, g, 1]⟩ : Shape).Broadcasts ⟨3, ![32, g, g]⟩
  r1 : (⟨3, ![32, g, g]⟩ : Shape).Reduces [1] ⟨2, ![32, g]⟩
  bv : (⟨2, ![1, g]⟩ : Shape).Broadcasts ⟨2, ![32, g]⟩
  r2 : (⟨2, ![32, g]⟩ : Shape).Reduces [1] ⟨1, ![32]⟩
  c3 : (⟨1, ![32]⟩ : Shape).ShapeCasts ⟨2, ![32, 1]⟩
  c4 : (⟨2, ![32, 1]⟩ : Shape).ShapeCasts ⟨3, ![1, 32, 1]⟩
  rs : (⟨3, ![1, 32, 1]⟩ : Shape).Reduces [1, 2] ⟨1, ![1]⟩
  c1 : (⟨1, ![1]⟩ : Shape).ShapeCasts ⟨3, ![1, 1, 1]⟩
  p3 : ∀ a, (![0, 0, 0] : Fin 3 → Nat) a < (⟨3, ![1, 1, 1]⟩ : Shape).size a
  p2 : ∀ a, (![0, 0] : Fin 2 → Nat) a < (⟨2, ![1, 1]⟩ : Shape).size a

/-- A matrix of `a` rows and `b` columns. -/
abbrev SM (a b : ℕ) : Shape := ⟨2, ![a, b]⟩
/-- The feature maps of the first convolution: 32 channels of side `g`. -/
abbrev SY (g : ℕ) : Shape := ⟨3, ![32, g, g]⟩

/-- The product of two matrices. -/
abbrev mdot (a b c : ℕ) (wf : DotDims.WF (SM a b) (SM b c) (SM a c) [1] [0] [0] [1] [] []) : DotDims (SM a b) (SM b c) (SM a c) where
  lhsContracting := [1]
  rhsContracting := [0]
  lhsNonContracting := [0]
  rhsNonContracting := [1]
  lhsBatch := []
  rhsBatch := []
  wf := wf

section Ops

variable {F : FTy → Type} [FloatOps F] {h g : ℕ} [DF h g]

/-- The map of a block. -/
def mat (v : FVec F (⟨3, ![1, h, h]⟩ : Shape) .f32) : FVec F (SM h h) .f32 := shapeCast ⟨2, ![h, h]⟩ v (DF.cx g)
/-- The rows of `x` picked by the matrix `s`. -/
def rows (s : FVec F (SM g h) .f32) (x : FVec F (SM h h) .f32) : FVec F (SM g h) .f32 :=
  matmul (mdot g h h DF.m1) none s x (constant (SM g h) .f32 0x00000000#32)
/-- The columns of `a` picked by the matrix `s`. -/
def cols (a s : FVec F (SM g h) .f32) : FVec F (SM g g) .f32 :=
  matmul (mdot g h g DF.m2) none a (transpose (SM h g) [1, 0] s DF.tr) (constant (SM g g) .f32 0x00000000#32)
/-- One tap of the first convolution. -/
def tap (h : ℕ) [DF h g] (p : FVec F (SM g g) .f32) (w : FVec F (SM 32 16) .f32) (t : Fin 16) : FVec F (SY g) .f32 :=
  mulf (broadcastTo (SY g) (shapeCast ⟨3, ![1, g, g]⟩ p (DF.cp h)) (DF.bp h))
    (broadcastTo (SY g) (shapeCast ⟨3, ![32, 1, 1]⟩ (extractStridedSlice (SM 32 1) ![0, t.val] w (DF.sw h g t)) (DF.cw h g)) (DF.bw h))
/-- The first convolution. -/
def conv (x : FVec F (SM h h) .f32) (w : FVec F (SM 32 16) .f32) (b : FVec F (SM 32 1) .f32) (S : Fin 4 → FVec F (SM g h) .f32) : FVec F (SY g) .f32 :=
  addf (chain addf (broadcast (SY g) (Scalar.ofBits .f32 0x00000000#32)) 16 fun t => tap h (cols (rows (S (hi t)) x) (S (lo t))) w t)
    (broadcastTo (SY g) (shapeCast ⟨3, ![32, 1, 1]⟩ b (DF.cw h g)) (DF.bw h))
/-- The leaky activation. -/
def leaky {s : Shape} (y : FVec F s .f32) : FVec F s .f32 :=
  select (cmpf .oge y (broadcast s (Scalar.ofBits .f32 0x00000000#32))) y (mulf (broadcast s (Scalar.ofBits .f32 0x3E4CCCCD#32)) y)
/-- The rows of every channel, weighted by `u` and added. -/
def rsum (h : ℕ) [DF h g] (u : FVec F (SM 1 g) .f32) (y : FVec F (SY g) .f32) : FVec F (SM 32 g) .f32 :=
  multiReduction .add [1] (SM 32 g) (mulf y (broadcastTo (SY g) (shapeCast ⟨3, ![1, g, 1]⟩ u (DF.cu h)) (DF.bu h))) 0x00000000#32 (DF.r1 h) (.inl rfl) rfl
/-- One tap of the second convolution, summed over its output positions. -/
def tap2 (h : ℕ) [DF h g] (r : FVec F (SM 32 g) .f32) (u : FVec F (SM 1 g) .f32) (w : FVec F (SM 32 16) .f32) (t : Fin 16) : F .f32 :=
  extractAt ![0, 0, 0] (shapeCast ⟨3, ![1, 1, 1]⟩ (multiReduction .add [1, 2] ⟨1, ![1]⟩ (shapeCast ⟨3, ![1, 32, 1]⟩
    (mulf (shapeCast (SM 32 1) (multiReduction .add [1] ⟨1, ![32]⟩ (mulf r (broadcastTo (SM 32 g) u (DF.bv h))) 0x00000000#32 (DF.r2 h) (.inl rfl) rfl) (DF.c3 h g))
      (extractStridedSlice (SM 32 1) ![0, t.val] w (DF.sw h g t))) (DF.c4 h g)) 0x00000000#32 (DF.rs h g) (.inl rfl) rfl) (DF.c1 h g)) (DF.p3 h g)
/-- The sum of the second convolution over its output positions, without its bias. -/
def total (h : ℕ) [DF h g] (y : FVec F (SY g) .f32) (w : FVec F (SM 32 16) .f32) (U : Fin 4 → FVec F (SM 1 g) .f32) : F .f32 :=
  chain Scalar.addf (Scalar.ofBits .f32 0x00000000#32) 16 fun t => tap2 h (rsum h (U (hi t)) y) (U (lo t)) w t
/-- The cross entropy of a logit `l` and a label `t`. -/
def bce (l t : F .f32) : F .f32 :=
  Scalar.addf (Scalar.subf (Scalar.maximumf l (Scalar.ofBits .f32 0x00000000#32)) (Scalar.mulf l t))
    (Scalar.log1p (Scalar.exp (Scalar.subf (Scalar.ofBits .f32 0x00000000#32) (Scalar.absf l))))
/-- What one map adds to the loss; `n` is the number of output positions. -/
def part (n : BitVec 32) (v : FVec F (⟨3, ![1, h, h]⟩ : Shape) .f32) (w1 : FVec F (SM 32 16) .f32) (b1 : FVec F (SM 32 1) .f32) (w2 : FVec F (SM 32 16) .f32)
    (b2 : FVec F (SM 1 1) .f32) (l : FVec F (⟨3, ![1, 1, 1]⟩ : Shape) .f32) (S : Fin 4 → FVec F (SM g h) .f32) (U : Fin 4 → FVec F (SM 1 g) .f32) : FVec F (SM 1 1) .f32 :=
  broadcast (SM 1 1) (Scalar.divf (bce (Scalar.addf (Scalar.divf (total h (leaky (conv (mat (g := g) v) w1 b1 S)) w2 U) (Scalar.ofBits .f32 n)) (extractAt ![0, 0] b2 (DF.p2 h g)))
    (extractAt ![0, 0, 0] l (DF.p3 h g))) (Scalar.ofBits .f32 0x41000000#32))

end Ops

section Read

variable {h g : ℕ} [DF h g]

theorem mm_apply {a b c : ℕ} (wf) (x : FVec Ideal (SM a b) .f32) (y : FVec Ideal (SM b c) .f32) (i : Fin a) (k : Fin c) :
    matmul (mdot a b c wf) none x y (constant (SM a c) .f32 0x00000000#32) (ix2 i k) = ∑ j : Fin b, x (ix2 i j) * y (ix2 j k) := by
  refine (Ideal.matmul_apply _ _ _ _ _ _).trans ?_
  rw [← Equiv.sum_comp (contrEquiv1 (mdot a b c wf) b rfl rfl).symm]
  show Ideal.ofBits .f32 0x00000000#32 + _ = _
  rw [Ideal.ofBits_zero_f32, zero_add]
  refine Finset.sum_congr rfl fun j _ => ?_
  have hk := contrEquiv1_symm_val (mdot a b c wf) b rfl rfl j
  have el : (mdot a b c wf).lhsIdx (ix2 i k) ((contrEquiv1 (mdot a b c wf) b rfl rfl).symm j) = ix2 i j := by
    funext q
    refine Fin.ext ?_
    match q with
    | ⟨0, _⟩ => rfl
    | ⟨1, _⟩ => exact ((mdot a b c wf).lhsIdx_val_of_single rfl _ _).trans hk
  have er : (mdot a b c wf).rhsIdx (ix2 i k) ((contrEquiv1 (mdot a b c wf) b rfl rfl).symm j) = ix2 j k := by
    funext q
    refine Fin.ext ?_
    match q with
    | ⟨0, _⟩ => exact ((mdot a b c wf).rhsIdx_val_of_single rfl _ _).trans hk
    | ⟨1, _⟩ => rfl
  rw [el, er]

theorem rows_apply (s : FVec Ideal (SM g h) .f32) (x : FVec Ideal (SM h h) .f32) (i : Fin g) (k : Fin h) :
    rows s x (ix2 i k) = ∑ j : Fin h, s (ix2 i j) * x (ix2 j k) := mm_apply _ _ _ _ _

theorem cols_apply (a s : FVec Ideal (SM g h) .f32) (i l : Fin g) :
    cols a s (ix2 i l) = ∑ k : Fin h, a (ix2 i k) * s (ix2 l k) := by
  unfold cols
  rw [mm_apply]
  refine Finset.sum_congr rfl fun k _ => ?_
  rw [transpose_apply _ _ _ _ (ix2 l k) (by
    intro a; match a with | ⟨0, _⟩ => rfl | ⟨1, _⟩ => rfl)]

theorem bd (v n : ℕ) (hv : v < n) : v = if n = 1 then 0 else v := by split <;> omega

theorem col_apply (w : FVec Ideal (SM 32 1) .f32) (c : Fin 32) (i l : Fin g) :
    broadcastTo (SY g) (shapeCast ⟨3, ![32, 1, 1]⟩ w (DF.cw h g)) (DF.bw h) (ix3 c i l) = w (ix2 c 0) := by
  rw [broadcastTo_apply _ _ _ (ix3 c 0 0) (by
    intro a; match a with | ⟨0, _⟩ => rfl | ⟨1, _⟩ => rfl | ⟨2, _⟩ => rfl)]
  exact shapeCast_apply _ _ _ (ix2 c 0) (by
    rw [Shape.rowMajor_val_two, Shape.rowMajor_val_three]
    show c.val * 1 + 0 = (c.val * 1 + 0) * 1 + 0
    omega)

theorem slice_apply (w : FVec Ideal (SM 32 16) .f32) (t : Fin 16) (c : Fin 32) (u : Fin 1) :
    extractStridedSlice (SM 32 1) ![0, t.val] w (DF.sw h g t) (ix2 c u) = w (ix2 c t) :=
  extractStridedSlice_apply _ _ _ _ (ix2 c t) (by
    intro a; match a with
    | ⟨0, _⟩ => show c.val = 0 + c.val; omega
    | ⟨1, _⟩ => show t.val = t.val + u.val; omega)

theorem tap_apply (p : FVec Ideal (SM g g) .f32) (w : FVec Ideal (SM 32 16) .f32) (t : Fin 16) (c : Fin 32) (i l : Fin g) :
    tap h p w t (ix3 c i l) = p (ix2 i l) * w (ix2 c t) := by
  unfold tap
  show _ * _ = _
  rw [col_apply (h := h), slice_apply (h := h) (g := g), broadcastTo_apply _ _ _ (ix3 0 i l) (by
    intro a; match a with
    | ⟨0, _⟩ => rfl
    | ⟨1, _⟩ => exact bd _ _ i.isLt
    | ⟨2, _⟩ => exact bd _ _ l.isLt)]
  congr 1
  exact shapeCast_apply _ _ _ (ix2 i l) (by
    rw [Shape.rowMajor_val_two, Shape.rowMajor_val_three]
    show i.val * g + l.val = (0 * g + i.val) * g + l.val
    simp)

theorem conv_apply (x : FVec Ideal (SM h h) .f32) (w : FVec Ideal (SM 32 16) .f32) (b : FVec Ideal (SM 32 1) .f32) (S : Fin 4 → FVec Ideal (SM g h) .f32)
    (c : Fin 32) (i l : Fin g) :
    conv x w b S (ix3 c i l) = (∑ t : Fin 16, (∑ k : Fin h, (∑ j : Fin h, S (hi t) (ix2 i j) * x (ix2 j k)) * S (lo t) (ix2 l k)) * w (ix2 c t)) + b (ix2 c 0) := by
  unfold conv
  show _ + _ = _
  rw [col_apply (h := h), chain_apply]
  show (Ideal.ofBits .f32 0x00000000#32 + _) + _ = _
  rw [Ideal.ofBits_zero_f32, zero_add]
  simp only [tap_apply, cols_apply, rows_apply]

theorem rsum_apply (u : FVec Ideal (SM 1 g) .f32) (y : FVec Ideal (SY g) .f32) (c : Fin 32) (l : Fin g) :
    rsum h u y (ix2 c l) = ∑ i : Fin g, y (ix3 c i l) * u (ix2 0 i) := by
  unfold rsum
  refine (Ideal.multiReduction_add_single _ _ _ _ _ _).trans ?_
  refine Finset.sum_congr rfl fun i _ => ?_
  change Fin g at i
  have e : (DF.r1 h (g := g)).lift (ix2 c l) i = ix3 c i l := by
    funext a; match a with | ⟨0, _⟩ => rfl | ⟨1, _⟩ => rfl | ⟨2, _⟩ => rfl
  rw [e]
  show _ * _ = _
  rw [broadcastTo_apply _ _ _ (ix3 0 i 0) (by
    intro a; match a with
    | ⟨0, _⟩ => rfl
    | ⟨1, _⟩ => exact bd _ _ i.isLt
    | ⟨2, _⟩ => rfl)]
  congr 1
  exact shapeCast_apply _ _ _ (ix2 0 i) (by
    rw [Shape.rowMajor_val_two, Shape.rowMajor_val_three]
    show 0 * g + i.val = (0 * g + i.val) * 1 + 0
    simp)

/-- The indices of a column standing in the middle. -/
def mid : Fin 32 ≃ (⟨3, ![1, 32, 1]⟩ : Shape).Idx where
  toFun c := ix3 0 c 0
  invFun q := q 1
  left_inv _ := rfl
  right_inv q := by
    funext a
    match a with
    | ⟨0, _⟩ => exact Subsingleton.elim (α := Fin 1) _ _
    | ⟨1, _⟩ => rfl
    | ⟨2, _⟩ => exact Subsingleton.elim (α := Fin 1) _ _

theorem tap2_apply (r : FVec Ideal (SM 32 g) .f32) (u : FVec Ideal (SM 1 g) .f32) (w : FVec Ideal (SM 32 16) .f32) (t : Fin 16) :
    tap2 h r u w t = ∑ c : Fin 32, (∑ l : Fin g, r (ix2 c l) * u (ix2 0 l)) * w (ix2 c t) := by
  unfold tap2
  show shapeCast _ _ _ _ = _
  rw [shapeCast_apply _ _ _ (ix1 0) (by rw [Shape.rowMajor_val_one, Shape.rowMajor_val_three]; rfl)]
  refine (Ideal.multiReduction_add_total _ _ _ (fun b => by match b with | ⟨0, _⟩ => rfl) _ _ _).trans ?_
  rw [← Equiv.sum_comp mid]
  refine Finset.sum_congr rfl fun c _ => ?_
  show shapeCast _ _ _ (ix3 0 c 0) = _
  rw [shapeCast_apply _ _ _ (ix2 c 0) (by
    rw [Shape.rowMajor_val_two, Shape.rowMajor_val_three]
    show c.val * 1 + 0 = (0 * 32 + c.val) * 1 + 0
    omega)]
  show _ * _ = _
  rw [slice_apply (h := h) (g := g), shapeCast_apply _ _ _ (ix1 c) (by
    rw [Shape.rowMajor_val_one, Shape.rowMajor_val_two]
    show c.val = c.val * 1 + 0
    omega)]
  congr 1
  refine (Ideal.multiReduction_add_single _ _ _ _ _ _).trans ?_
  refine Finset.sum_congr rfl fun l _ => ?_
  change Fin g at l
  have e : (DF.r2 h (g := g)).lift (ix1 c) l = ix2 c l := by
    funext a; match a with | ⟨0, _⟩ => rfl | ⟨1, _⟩ => rfl
  rw [e]
  show _ * _ = _
  rw [broadcastTo_apply _ _ _ (ix2 0 l) (by
    intro a; match a with
    | ⟨0, _⟩ => rfl
    | ⟨1, _⟩ => exact bd _ _ l.isLt)]

theorem total_apply (y : FVec Ideal (SY g) .f32) (w : FVec Ideal (SM 32 16) .f32) (U : Fin 4 → FVec Ideal (SM 1 g) .f32) :
    total h y w U = ∑ t : Fin 16, ∑ c : Fin 32, (∑ l : Fin g, (∑ i : Fin g, y (ix3 c i l) * U (hi t) (ix2 0 i)) * U (lo t) (ix2 0 l)) * w (ix2 c t) := by
  unfold total
  refine (chain_add _ 16 _).trans ?_
  show Ideal.ofBits .f32 0x00000000#32 + _ = _
  rw [Ideal.ofBits_zero_f32, zero_add]
  simp only [tap2_apply, rsum_apply]

end Read

end Cert.DM

end
-- ==== Proof.DMath.lean ====
/- Sums over zero-padded rows: picking with a zero-one matrix, and summing over the positions of a strided window. -/
module

public import proofs.«01_k».proof.Proof.DKern

@[expose] public section

noncomputable section

namespace Cert.DM

open scoped BigOperators

/-- Row `q` of `f` with one row of zeros put before it and zeros after it. -/
def padv {n : ℕ} (f : Fin n → EReal) (q : ℕ) : EReal := if hq : 1 ≤ q ∧ q - 1 < n then f ⟨q - 1, hq.2⟩ else 0

theorem sum_pick {n : ℕ} (f : Fin n → EReal) (q : ℕ) : ∑ j : Fin n, (if q = j.val + 1 then f j else 0) = padv f q := by
  unfold padv
  split
  · next hq =>
    rw [Finset.sum_eq_single ⟨q - 1, hq.2⟩]
    · rw [if_pos (show q = q - 1 + 1 by omega)]
    · intro j _ hj
      exact if_neg fun e => hj (Fin.ext (show j.val = q - 1 by omega))
    · intro hn; exact absurd (Finset.mem_univ _) hn
  · next hq =>
    exact Finset.sum_eq_zero fun j _ => if_neg fun e => hq ⟨by omega, by have := j.isLt; omega⟩

theorem pick_left {n : ℕ} (f : Fin n → EReal) (s : Fin n → EReal) (q : ℕ) (hs : ∀ j, s j = if q = j.val + 1 then 1 else 0) :
    ∑ j, s j * f j = padv f q := by
  rw [← sum_pick]
  refine Finset.sum_congr rfl fun j _ => ?_
  rw [hs]
  split <;> simp

theorem pick_right {n : ℕ} (f : Fin n → EReal) (s : Fin n → EReal) (q : ℕ) (hs : ∀ j, s j = if q = j.val + 1 then 1 else 0) :
    ∑ j, f j * s j = padv f q := by
  rw [← pick_left f s q hs]
  exact Finset.sum_congr rfl fun j _ => mul_comm _ _

/-- Weighting by the indicator of the rows a stride-two window of `k` positions visits at offset `d` sums the padded rows there. -/
theorem window {n k : ℕ} (f u : Fin n → EReal) (d : ℕ) (hu : ∀ i, u i = if ∃ o : Fin k, 2 * o.val + d = i.val + 1 then 1 else 0) :
    ∑ i, f i * u i = ∑ o : Fin k, padv f (2 * o.val + d) := by
  simp only [← sum_pick]
  rw [Finset.sum_comm]
  refine Finset.sum_congr rfl fun i _ => ?_
  rw [hu]
  split
  · next h =>
    obtain ⟨o, ho⟩ := h
    rw [mul_one, Finset.sum_eq_single o, if_pos ho]
    · intro o' _ hne
      exact if_neg fun e => hne (Fin.ext (by omega))
    · intro hn; exact absurd (Finset.mem_univ _) hn
  · next h =>
    rw [mul_zero]
    exact (Finset.sum_eq_zero fun o _ => if_neg fun e => h ⟨o, e⟩).symm

theorem padv_sum {n k : ℕ} (F : Fin k → Fin n → EReal) (q : ℕ) : padv (fun l => ∑ o, F o l) q = ∑ o, padv (F o) q := by
  unfold padv
  split
  · rfl
  · simp

/-- A map with a border of zeros. -/
def pad2 {n : ℕ} (f : Fin n → Fin n → EReal) (q r : ℕ) : EReal :=
  if h : (1 ≤ q ∧ q - 1 < n) ∧ (1 ≤ r ∧ r - 1 < n) then f ⟨q - 1, h.1.2⟩ ⟨r - 1, h.2.2⟩ else 0

theorem pad2_eq {n : ℕ} (f : Fin n → Fin n → EReal) (q r : ℕ) : pad2 f q r = padv (fun l => padv (fun i => f i l) q) r := by
  unfold pad2 padv
  by_cases hq : 1 ≤ q ∧ q - 1 < n <;> by_cases hr : 1 ≤ r ∧ r - 1 < n <;> simp [hq, hr]

theorem mul_ne_top (A : EReal) (r : ℝ) (hr : 0 ≤ r) (hA : A ≠ ⊤) : A * (r : EReal) ≠ ⊤ := by
  induction A with
  | bot =>
    rcases hr.eq_or_lt with h | h
    · subst h; simp
    · rw [EReal.bot_mul_coe_of_pos h]; exact bot_ne_top
  | coe a => rw [← EReal.coe_mul]; exact EReal.coe_ne_top _
  | top => exact absurd rfl hA

theorem add_mul_top (A B : EReal) (r : ℝ) (hA : A ≠ ⊤) (hB : B ≠ ⊤) : (A + B) * (r : EReal) = A * r + B * r := by
  rcases le_total 0 r with h | h
  · exact EReal.right_distrib_of_nonneg_of_ne_top (by exact_mod_cast h) (EReal.coe_ne_top r) A B
  · have h' : 0 ≤ -r := by linarith
    have e := EReal.right_distrib_of_nonneg_of_ne_top (x := ((-r : ℝ) : EReal)) (by exact_mod_cast h') (EReal.coe_ne_top _) A B
    have e' := congrArg Neg.neg e
    rw [EReal.neg_add (.inr (mul_ne_top B _ h' hB)) (.inl (mul_ne_top A _ h' hA))] at e'
    simpa [sub_eq_add_neg] using e'

theorem sum_mul_top {ι : Type} (s : Finset ι) (f : ι → EReal) (r : ℝ) (hf : ∀ i, f i ≠ ⊤) : ((∑ i ∈ s, f i) * (r : EReal) = ∑ i ∈ s, f i * r) ∧ (∑ i ∈ s, f i) ≠ ⊤ := by
  classical
  induction s using Finset.induction_on with
  | empty => simp
  | insert a s ha ih =>
    rw [Finset.sum_insert ha, Finset.sum_insert ha, ← ih.1]
    refine ⟨?_, EReal.add_ne_top (hf a) ih.2⟩
    exact add_mul_top _ _ r (hf a) ih.2

theorem neg_sum {ι : Type} (s : Finset ι) (f : ι → EReal) (hf : ∀ i, f i ≠ ⊥) : (-∑ i ∈ s, f i) = ∑ i ∈ s, -f i ∧ (∑ i ∈ s, f i) ≠ ⊥ := by
  classical
  induction s using Finset.induction_on with
  | empty => simp
  | insert a s ha ih =>
    rw [Finset.sum_insert ha, Finset.sum_insert ha, ← ih.1]
    exact ⟨EReal.neg_add (.inl (hf a)) (.inr ih.2), EReal.add_ne_bot_iff.2 ⟨hf a, ih.2⟩⟩

theorem sum_mul_bot {ι : Type} (s : Finset ι) (f : ι → EReal) (r : ℝ) (hf : ∀ i, f i ≠ ⊥) : (∑ i ∈ s, f i) * (r : EReal) = ∑ i ∈ s, f i * r := by
  have h := (sum_mul_top s (fun i => -f i) (-r) fun i e => hf i (EReal.neg_eq_top_iff.1 e)).1
  rw [← (neg_sum s f hf).1] at h
  simpa using h

/-- A family of extended reals that all lie below `⊤`, or all above `⊥`. -/
def Tame {ι : Type} (f : ι → EReal) : Prop := (∀ i, f i ≠ ⊤) ∨ (∀ i, f i ≠ ⊥)

theorem tame_sum_mul {ι : Type} (s : Finset ι) (f : ι → EReal) (r : ℝ) (hf : Tame f) : (∑ i ∈ s, f i) * (r : EReal) = ∑ i ∈ s, f i * r :=
  hf.elim (fun h => (sum_mul_top s f r h).1) (sum_mul_bot s f r)

/-- A positive real divisor divides a sum of two terms by dividing each. -/
theorem add_mul_pos (a b : EReal) (r : ℝ) (hr : 0 ≤ r) : (a + b) * (r : EReal) = a * r + b * r :=
  EReal.right_distrib_of_nonneg_of_ne_top (by exact_mod_cast hr) (EReal.coe_ne_top r) a b

theorem sum_mul_pos {ι : Type} (s : Finset ι) (f : ι → EReal) (r : ℝ) (hr : 0 ≤ r) : (∑ i ∈ s, f i) * (r : EReal) = ∑ i ∈ s, f i * r := by
  classical
  induction s using Finset.induction_on with
  | empty => simp
  | insert a s ha ih => rw [Finset.sum_insert ha, Finset.sum_insert ha, add_mul_pos _ _ _ hr, ih]

/-- The second convolution summed over its `k` by `k` positions: adding weighted columns and rows, or adding every position. -/
theorem positions {g k : ℕ} (Y : Fin 32 → Fin g → Fin g → EReal) (w : Fin 32 → Fin 16 → ℝ) (U : Fin 4 → Fin g → EReal)
    (hU : ∀ d i, U d i = if ∃ o : Fin k, 2 * o.val + d.val = i.val + 1 then 1 else 0) (hY : ∀ c, Tame fun p : Fin g × Fin g => Y c p.1 p.2) (b : EReal) :
    ∑ o : Fin k, ∑ p : Fin k, ((∑ t : Fin 16, ∑ c : Fin 32, pad2 (Y c) (2 * o.val + (hi t).val) (2 * p.val + (lo t).val) * (w c t : EReal)) + b)
      = (∑ t : Fin 16, ∑ c : Fin 32, (∑ l : Fin g, (∑ i : Fin g, Y c i l * U (hi t) i) * U (lo t) l) * (w c t : EReal)) + (k * k) • b := by
  have hP : ∀ c q r, (∀ i l, Y c i l ≠ ⊤) → pad2 (Y c) q r ≠ ⊤ := fun c q r h => by
    unfold pad2; split
    · exact h _ _
    · exact EReal.zero_ne_top
  have hQ : ∀ c q r, (∀ i l, Y c i l ≠ ⊥) → pad2 (Y c) q r ≠ ⊥ := fun c q r h => by
    unfold pad2; split
    · exact h _ _
    · exact EReal.zero_ne_bot
  have key : ∀ (t : Fin 16) (c : Fin 32), (∑ l : Fin g, (∑ i : Fin g, Y c i l * U (hi t) i) * U (lo t) l) * (w c t : EReal)
      = ∑ o : Fin k, ∑ p : Fin k, pad2 (Y c) (2 * o.val + (hi t).val) (2 * p.val + (lo t).val) * (w c t : EReal) := fun t c => by
    have e : ∑ l : Fin g, (∑ i : Fin g, Y c i l * U (hi t) i) * U (lo t) l
        = ∑ q : Fin k × Fin k, pad2 (Y c) (2 * q.1.val + (hi t).val) (2 * q.2.val + (lo t).val) := by
      rw [window _ _ _ (hU (lo t)), Fintype.sum_prod_type, Finset.sum_comm]
      refine Finset.sum_congr rfl fun p _ => ?_
      simp only [window _ _ _ (hU (hi t)), padv_sum, pad2_eq]
    rw [e, tame_sum_mul _ _ _ ((hY c).imp (fun h q => hP c _ _ fun i l => h (i, l)) (fun h q => hQ c _ _ fun i l => h (i, l))),
      Fintype.sum_prod_type]
  simp only [key, Finset.sum_add_distrib]
  congr 1
  · rw [Finset.sum_congr rfl fun o _ => Finset.sum_comm, Finset.sum_comm]
    refine Finset.sum_congr rfl fun t _ => ?_
    rw [Finset.sum_congr rfl fun o _ => Finset.sum_comm, Finset.sum_comm]
  · simp [mul_smul]

end Cert.DM

end
-- ==== Proof.DRef.lean ====
/- The reference's discriminator on the eight centers as maps of side `h`: its first convolution has outputs of side `g`, its
   second of side `k`. Its operations, and what they compute over the extended reals. -/
module

public import proofs.«01_k».proof.Proof.DMath

@[expose] public section

noncomputable section

namespace Cert.DM

open Idealize.ShloMosaic Idealize.ShloMosaic.ValueIdx
open scoped BigOperators

/-- A number. -/
abbrev Z0 : Shape := ⟨0, ![]⟩
/-- Eight numbers. -/
abbrev Z8 : Shape := ⟨1, ![8]⟩
/-- Eight samples of `c` maps of side `n`. -/
abbrev ZM (c n : ℕ) : Shape := ⟨4, ![8, c, n, n]⟩
/-- The kernels of a convolution from `c` to `o` channels. -/
abbrev ZW (o c : ℕ) : Shape := ⟨4, ![o, c, 4, 4]⟩

/-- The side conditions of the operations. -/
class RD (h g k hp gp : ℕ) : Prop where
  eh : hp = h + 2
  eg : gp = g + 2
  pos : 0 < Z0.numel
  p1 : (ZM 1 h).Pads (![0, 0, 1, 1] : Fin 4 → Nat) ![0, 0, 1, 1] ![0, 0, 0, 0] (ZM 1 hp)
  s1 : ∀ t : Fin 16, (ZM 1 hp).SlicesBy (![0, 0, (hi t).val, (lo t).val] : Fin 4 → Nat) ![1, 1, 2, 2] (ZM 1 g)
  a1 : (ZM 1 g).BroadcastsInDim ⟨5, ![8, 1, 1, g, g]⟩ (![0, 2, 3, 4] : Fin 4 → Fin 5)
  a1' : (⟨5, ![8, 1, 1, g, g]⟩ : Shape).BroadcastsInDim ⟨5, ![8, 32, 1, g, g]⟩ (![0, 1, 2, 3, 4] : Fin 5 → Fin 5)
  w1 : ∀ t : Fin 16, (ZW 32 1).Slices ![0, 0, (hi t).val, (lo t).val] ⟨4, ![32, 1, 1, 1]⟩
  c1 : (⟨4, ![32, 1, 1, 1]⟩ : Shape).ShapeCasts ⟨2, ![32, 1]⟩
  b1 : (⟨2, ![32, 1]⟩ : Shape).BroadcastsInDim ⟨5, ![1, 32, 1, 1, 1]⟩ (![1, 2] : Fin 2 → Fin 5)
  b1' : (⟨5, ![1, 32, 1, 1, 1]⟩ : Shape).BroadcastsInDim ⟨5, ![8, 32, 1, g, g]⟩ (![0, 1, 2, 3, 4] : Fin 5 → Fin 5)
  r1 : (⟨5, ![8, 32, 1, g, g]⟩ : Shape).ReducesTo [2] (ZM 32 g)
  r1' : (⟨5, ![8, 32, 1, g, g]⟩ : Shape).Reduces [2] (ZM 32 g)
  z1 : Z0.BroadcastsInDim (ZM 32 g) (![] : Fin 0 → Fin 4)
  e1 : (⟨1, ![32]⟩ : Shape).BroadcastsInDim ⟨4, ![1, 32, 1, 1]⟩ (![1] : Fin 1 → Fin 4)
  e1' : (⟨4, ![1, 32, 1, 1]⟩ : Shape).BroadcastsInDim (ZM 32 g) (![0, 1, 2, 3] : Fin 4 → Fin 4)
  p2 : (ZM 32 g).Pads (![0, 0, 1, 1] : Fin 4 → Nat) ![0, 0, 1, 1] ![0, 0, 0, 0] (ZM 32 gp)
  s2 : ∀ t : Fin 16, (ZM 32 gp).SlicesBy (![0, 0, (hi t).val, (lo t).val] : Fin 4 → Nat) ![1, 1, 2, 2] (ZM 32 k)
  a2 : (ZM 32 k).BroadcastsInDim ⟨5, ![8, 1, 32, k, k]⟩ (![0, 2, 3, 4] : Fin 4 → Fin 5)
  w2 : ∀ t : Fin 16, (ZW 1 32).Slices ![0, 0, (hi t).val, (lo t).val] ⟨4, ![1, 32, 1, 1]⟩
  c2 : (⟨4, ![1, 32, 1, 1]⟩ : Shape).ShapeCasts ⟨2, ![1, 32]⟩
  b2 : (⟨2, ![1, 32]⟩ : Shape).BroadcastsInDim ⟨5, ![1, 1, 32, 1, 1]⟩ (![1, 2] : Fin 2 → Fin 5)
  b2' : (⟨5, ![1, 1, 32, 1, 1]⟩ : Shape).BroadcastsInDim ⟨5, ![8, 1, 32, k, k]⟩ (![0, 1, 2, 3, 4] : Fin 5 → Fin 5)
  r2 : (⟨5, ![8, 1, 32, k, k]⟩ : Shape).ReducesTo [2] (ZM 1 k)
  r2' : (⟨5, ![8, 1, 32, k, k]⟩ : Shape).Reduces [2] (ZM 1 k)
  z2 : Z0.BroadcastsInDim (ZM 1 k) (![] : Fin 0 → Fin 4)
  e2 : (⟨1, ![1]⟩ : Shape).BroadcastsInDim ⟨4, ![1, 1, 1, 1]⟩ (![1] : Fin 1 → Fin 4)
  e2' : (⟨4, ![1, 1, 1, 1]⟩ : Shape).BroadcastsInDim (ZM 1 k) (![0, 1, 2, 3] : Fin 4 → Fin 4)
  r3 : (ZM 1 k).ReducesTo [1, 2, 3] Z8
  z8 : Z0.BroadcastsInDim Z8 (![] : Fin 0 → Fin 1)
  r8 : Z8.ReducesTo [0] Z0

section Ops

variable {F : FTy → Type} [FloatOps F] {h g k hp gp : ℕ} [RD h g k hp gp]

/-- Zero. -/
def zero0 : FVec F Z0 .f32 := constant Z0 .f32 0x00000000#32

/-- The maps with a border of zeros. -/
def rpad1 (g k hp gp : ℕ) [RD h g k hp gp] (X : FVec F (ZM 1 h) .f32) : FVec F (ZM 1 hp) .f32 :=
  pad (ZM 1 hp) ![0, 0, 1, 1] ![0, 0, 1, 1] ![0, 0, 0, 0] X (sitofp .f32 (constantI Z0 32 0#32)) (RD.p1 g k gp) (RD.pos h g k hp gp)

/-- One tap of the first convolution. -/
def rtap1 (h k gp : ℕ) [RD h g k hp gp] (P : FVec F (ZM 1 hp) .f32) (W : FVec F (ZW 32 1) .f32) (t : Fin 16) : FVec F (ZM 32 g) .f32 :=
  Host.reduceAdd (mulf
      (broadcastInDim ⟨5, ![8, 32, 1, g, g]⟩ ![0, 1, 2, 3, 4] (RD.a1' h k hp gp)
        (broadcastInDim ⟨5, ![8, 1, 1, g, g]⟩ ![0, 2, 3, 4] (RD.a1 h k hp gp)
          (Host.slice (ZM 1 g) ![0, 0, (hi t).val, (lo t).val] ![1, 1, 2, 2] P (RD.s1 h k gp t))))
      (broadcastInDim ⟨5, ![8, 32, 1, g, g]⟩ ![0, 1, 2, 3, 4] (RD.b1' h k hp gp)
        (broadcastInDim ⟨5, ![1, 32, 1, 1, 1]⟩ ![1, 2] (RD.b1 h g k hp gp)
          (shapeCast _ (extractStridedSlice ⟨4, ![32, 1, 1, 1]⟩ ![0, 0, (hi t).val, (lo t).val] W (RD.w1 h g k hp gp t)) (RD.c1 h g k hp gp)))))
    zero0 (RD.r1 h k hp gp) (RD.pos h g k hp gp)

/-- The first convolution. -/
def rconv1 (g k hp gp : ℕ) [RD h g k hp gp] (X : FVec F (ZM 1 h) .f32) (W : FVec F (ZW 32 1) .f32) (b : FVec F ⟨1, ![32]⟩ .f32) : FVec F (ZM 32 g) .f32 :=
  addf (chain addf (broadcastInDim (ZM 32 g) ![] (RD.z1 h k hp gp) zero0) 16 fun t => rtap1 h k gp (rpad1 g k hp gp X) W t)
    (broadcastInDim (ZM 32 g) ![0, 1, 2, 3] (RD.e1' h k hp gp) (broadcastInDim ⟨4, ![1, 32, 1, 1]⟩ ![1] (RD.e1 h g k hp gp) b))

/-- The leaky activation. -/
def rleaky (h k hp gp : ℕ) [RD h g k hp gp] (Y : FVec F (ZM 32 g) .f32) : FVec F (ZM 32 g) .f32 :=
  select (cmpf .oge Y (broadcastInDim (ZM 32 g) ![] (RD.z1 h k hp gp) zero0)) Y
    (mulf (broadcastInDim (ZM 32 g) ![] (RD.z1 h k hp gp) (constant Z0 .f32 0x3E4CCCCD#32)) Y)

/-- The channels with a border of zeros. -/
def rpad2 (h k hp gp : ℕ) [RD h g k hp gp] (Y : FVec F (ZM 32 g) .f32) : FVec F (ZM 32 gp) .f32 :=
  pad (ZM 32 gp) ![0, 0, 1, 1] ![0, 0, 1, 1] ![0, 0, 0, 0] Y (sitofp .f32 (constantI Z0 32 0#32)) (RD.p2 h k hp) (RD.pos h g k hp gp)

/-- One tap of the second convolution. -/
def rtap2 (h g hp : ℕ) [RD h g k hp gp] (P : FVec F (ZM 32 gp) .f32) (W : FVec F (ZW 1 32) .f32) (t : Fin 16) : FVec F (ZM 1 k) .f32 :=
  Host.reduceAdd (mulf
      (broadcastInDim ⟨5, ![8, 1, 32, k, k]⟩ ![0, 2, 3, 4] (RD.a2 h g hp gp)
        (Host.slice (ZM 32 k) ![0, 0, (hi t).val, (lo t).val] ![1, 1, 2, 2] P (RD.s2 h g hp t)))
      (broadcastInDim ⟨5, ![8, 1, 32, k, k]⟩ ![0, 1, 2, 3, 4] (RD.b2' h g hp gp)
        (broadcastInDim ⟨5, ![1, 1, 32, 1, 1]⟩ ![1, 2] (RD.b2 h g k hp gp)
          (shapeCast _ (extractStridedSlice ⟨4, ![1, 32, 1, 1]⟩ ![0, 0, (hi t).val, (lo t).val] W (RD.w2 h g k hp gp t)) (RD.c2 h g k hp gp)))))
    zero0 (RD.r2 h g hp gp) (RD.pos h g k hp gp)

/-- The second convolution. -/
def rconv2 (h k hp gp : ℕ) [RD h g k hp gp] (Y : FVec F (ZM 32 g) .f32) (W : FVec F (ZW 1 32) .f32) (b : FVec F ⟨1, ![1]⟩ .f32) : FVec F (ZM 1 k) .f32 :=
  addf (chain addf (broadcastInDim (ZM 1 k) ![] (RD.z2 h g hp gp) zero0) 16 fun t => rtap2 h g hp (rpad2 h k hp gp Y) W t)
    (broadcastInDim (ZM 1 k) ![0, 1, 2, 3] (RD.e2' h g hp gp) (broadcastInDim ⟨4, ![1, 1, 1, 1]⟩ ![1] (RD.e2 h g k hp gp) b))

/-- The mean of each sample's outputs, `n` in number. -/
def rmean (h g hp gp : ℕ) [RD h g k hp gp] (n : BitVec 32) (Y : FVec F (ZM 1 k) .f32) : FVec F Z8 .f32 :=
  Host.divf (Host.reduceAdd Y zero0 (RD.r3 h g hp gp) (RD.pos h g k hp gp)) (broadcastInDim Z8 ![] (RD.z8 h g k hp gp) (constant Z0 .f32 n))

/-- The cross entropies' mean. -/
def rloss (h g k hp gp : ℕ) [RD h g k hp gp] (l t : FVec F Z8 .f32) : FVec F Z0 .f32 :=
  Host.divf (Host.reduceAdd (addf (subf (maximumf l (broadcastInDim Z8 ![] (RD.z8 h g k hp gp) zero0)) (mulf l t))
      (Host.log1p (Host.exp (Host.negf (Host.absf l))))) zero0 (RD.r8 h g k hp gp) (RD.pos h g k hp gp))
    (constant Z0 .f32 0x41000000#32)

/-- The reference's loss of the maps `X`. -/
def rdisc (g k hp gp : ℕ) [RD h g k hp gp] (n : BitVec 32) (X : FVec F (ZM 1 h) .f32) (t : FVec F Z8 .f32) (W1 : FVec F (ZW 32 1) .f32) (b1 : FVec F ⟨1, ![32]⟩ .f32)
    (W2 : FVec F (ZW 1 32) .f32) (b2 : FVec F ⟨1, ![1]⟩ .f32) : FVec F Z0 .f32 :=
  rloss h g k hp gp (rmean h g hp gp n (rconv2 h k hp gp (rleaky h k hp gp (rconv1 g k hp gp X W1 b1)) W2 b2)) t

end Ops

section Read

variable {h g k hp gp : ℕ} [RD h g k hp gp]

theorem zero0_apply (i : Z0.Idx) : (zero0 : FVec Ideal Z0 .f32) i = 0 := Ideal.ofBits_zero_f32

theorem pad_read {c n m : ℕ} (X : FVec Ideal (ZM c n) .f32) (hP : (ZM c n).Pads (![0, 0, 1, 1] : Fin 4 → Nat) ![0, 0, 1, 1] ![0, 0, 0, 0] (ZM c m))
    (hu : 0 < Z0.numel) (b : Fin 8) (e : Fin c) (q r : Fin m) :
    pad (ZM c m) ![0, 0, 1, 1] ![0, 0, 1, 1] ![0, 0, 0, 0] X (sitofp .f32 (constantI Z0 32 0#32)) hP hu (ix4 b e q r)
      = pad2 (fun i l => X (ix4 b e i l)) q.val r.val := by
  unfold pad pad2
  by_cases hq : (1 ≤ q.val ∧ q.val - 1 < n) ∧ (1 ≤ r.val ∧ r.val - 1 < n)
  · rw [dif_pos hq, dif_pos (show _ from fun a => ?_)]
    · refine congrArg X ?_
      funext a
      refine Fin.ext ?_
      match a with
      | ⟨0, _⟩ => exact (Nat.div_one _)
      | ⟨1, _⟩ => exact (Nat.div_one _)
      | ⟨2, _⟩ => exact (Nat.div_one _)
      | ⟨3, _⟩ => exact (Nat.div_one _)
    · match a with
      | ⟨0, _⟩ => exact ⟨Nat.zero_le _, Nat.mod_one _, (Nat.div_one _).trans_lt b.isLt⟩
      | ⟨1, _⟩ => exact ⟨Nat.zero_le _, Nat.mod_one _, (Nat.div_one _).trans_lt e.isLt⟩
      | ⟨2, _⟩ => exact ⟨hq.1.1, Nat.mod_one _, (Nat.div_one _).trans_lt hq.1.2⟩
      | ⟨3, _⟩ => exact ⟨hq.2.1, Nat.mod_one _, (Nat.div_one _).trans_lt hq.2.2⟩
  · rw [dif_neg hq, dif_neg]
    · show (((0#32 : BitVec 32).toInt : ℝ) : EReal) = 0
      simp
    · intro hin
      have h2 := hin 2
      have h3 := hin 3
      refine hq ⟨⟨h2.1, ?_⟩, h3.1, ?_⟩
      · exact (Nat.div_one _).symm.trans_lt h2.2.2
      · exact (Nat.div_one _).symm.trans_lt h3.2.2

theorem slice_read {c n m : ℕ} (P : FVec Ideal (ZM c m) .f32) (t : Fin 16)
    (hs : (ZM c m).SlicesBy (![0, 0, (hi t).val, (lo t).val] : Fin 4 → Nat) ![1, 1, 2, 2] (ZM c n)) (b : Fin 8) (e : Fin c) (i l : Fin n)
    (q r : Fin m) (hq : q.val = 2 * i.val + (hi t).val) (hr : r.val = 2 * l.val + (lo t).val) :
    Host.slice (ZM c n) ![0, 0, (hi t).val, (lo t).val] ![1, 1, 2, 2] P hs (ix4 b e i l) = P (ix4 b e q r) := by
  unfold Host.slice
  refine congrArg P ?_
  funext a
  refine Fin.ext ?_
  match a with
  | ⟨0, _⟩ => show 0 + 1 * b.val = b.val; omega
  | ⟨1, _⟩ => show 0 + 1 * e.val = e.val; omega
  | ⟨2, _⟩ => show (hi t).val + 2 * i.val = q.val; omega
  | ⟨3, _⟩ => show (lo t).val + 2 * l.val = r.val; omega

theorem win_lt {n m : ℕ} (c : ℕ) (t : Fin 16) (hs : (ZM c m).SlicesBy (![0, 0, (hi t).val, (lo t).val] : Fin 4 → Nat) ![1, 1, 2, 2] (ZM c n)) (i l : Fin n) :
    2 * i.val + (hi t).val < m ∧ 2 * l.val + (lo t).val < m := by
  obtain ⟨e, H⟩ := hs
  have h2 : n = 0 ∨ (hi t).val + 2 * (n - 1) < m := (H 2).2
  have h3 : n = 0 ∨ (lo t).val + 2 * (n - 1) < m := (H 3).2
  have := i.isLt
  have := l.isLt
  omega

theorem rtap1_apply (X : FVec Ideal (ZM 1 h) .f32) (W : FVec Ideal (ZW 32 1) .f32) (t : Fin 16) (b : Fin 8) (c : Fin 32) (i l : Fin g) :
    rtap1 (hp := hp) h k gp (rpad1 g k hp gp X) W t (ix4 b c i l)
      = pad2 (fun q r => X (ix4 b 0 q r)) (2 * i.val + (hi t).val) (2 * l.val + (lo t).val) * W (ix4 c 0 (hi t) (lo t)) := by
  unfold rtap1
  simp only [Host.reduceAdd, Ideal.hostReduceAdd_def]
  rw [Ideal.hostReduceAdd_single (RD.r1 h k hp gp) (RD.r1' h k hp gp), zero0_apply, zero_add]
  refine (Fin.sum_univ_one (M := EReal) _).trans ?_
  have e : (RD.r1' h k hp gp (g := g)).lift (ix4 b c i l) (0 : Fin 1) = ix5 b c 0 i l := by
    funext a; match a with | ⟨0, _⟩ => rfl | ⟨1, _⟩ => rfl | ⟨2, _⟩ => rfl | ⟨3, _⟩ => rfl | ⟨4, _⟩ => rfl
  have hw := win_lt 1 t (RD.s1 (hp := hp) h k gp t) i l
  refine (congrArg _ e).trans ?_
  refine congrArg₂ (fun x y : EReal => x * y) ?_ ?_
  · refine (broadcastInDim_apply _ _ _ _ (ix5 b 0 0 i l) ?_).trans ?_
    · intro a
      match a with
      | ⟨0, _⟩ => rfl
      | ⟨1, _⟩ => rfl
      | ⟨2, _⟩ => rfl
      | ⟨3, _⟩ => exact bd _ _ i.isLt
      | ⟨4, _⟩ => exact bd _ _ l.isLt
    refine (broadcastInDim_apply _ _ _ _ (ix4 b 0 i l) ?_).trans ?_
    · intro a
      match a with
      | ⟨0, _⟩ => rfl
      | ⟨1, _⟩ => rfl
      | ⟨2, _⟩ => exact bd _ _ i.isLt
      | ⟨3, _⟩ => exact bd _ _ l.isLt
    refine (slice_read _ t _ b 0 i l ⟨_, hw.1⟩ ⟨_, hw.2⟩ rfl rfl).trans ?_
    exact pad_read X _ _ b 0 _ _
  · refine (broadcastInDim_apply _ _ _ _ (ix5 0 c 0 0 0) ?_).trans ?_
    · intro a
      match a with
      | ⟨0, _⟩ => rfl
      | ⟨1, _⟩ => rfl
      | ⟨2, _⟩ => rfl
      | ⟨3, _⟩ => rfl
      | ⟨4, _⟩ => rfl
    refine (broadcastInDim_apply _ _ _ _ (ix2 c 0) ?_).trans ?_
    · intro a
      match a with
      | ⟨0, _⟩ => rfl
      | ⟨1, _⟩ => rfl
    refine (shapeCast_apply _ _ _ (ix4 c 0 0 0) ?_).trans ?_
    · rw [Shape.rowMajor_val_two, Shape.rowMajor_val_four]
      show ((c.val * 1 + 0) * 1 + 0) * 1 + 0 = c.val * 1 + 0
      omega
    refine extractStridedSlice_apply _ _ _ _ _ ?_
    intro a
    match a with
    | ⟨0, _⟩ => show c.val = 0 + c.val; omega
    | ⟨1, _⟩ => rfl
    | ⟨2, _⟩ => rfl
    | ⟨3, _⟩ => rfl

theorem rtap2_apply (Y : FVec Ideal (ZM 32 g) .f32) (W : FVec Ideal (ZW 1 32) .f32) (t : Fin 16) (b : Fin 8) (i l : Fin k) :
    rtap2 h g hp (rpad2 h k hp gp Y) W t (ix4 b 0 i l)
      = ∑ c : Fin 32, pad2 (fun q r => Y (ix4 b c q r)) (2 * i.val + (hi t).val) (2 * l.val + (lo t).val) * W (ix4 0 c (hi t) (lo t)) := by
  unfold rtap2
  simp only [Host.reduceAdd, Ideal.hostReduceAdd_def]
  rw [Ideal.hostReduceAdd_single (RD.r2 h g hp gp) (RD.r2' h g hp gp), zero0_apply, zero_add]
  refine Finset.sum_congr rfl fun c _ => ?_
  change Fin 32 at c
  have e : (RD.r2' h g hp gp (k := k)).lift (ix4 b 0 i l) c = ix5 b 0 c i l := by
    funext a; match a with | ⟨0, _⟩ => rfl | ⟨1, _⟩ => rfl | ⟨2, _⟩ => rfl | ⟨3, _⟩ => rfl | ⟨4, _⟩ => rfl
  have hw := win_lt 32 t (RD.s2 (gp := gp) h g hp t) i l
  refine (congrArg _ e).trans ?_
  refine congrArg₂ (fun x y : EReal => x * y) ?_ ?_
  · refine (broadcastInDim_apply _ _ _ _ (ix4 b c i l) ?_).trans ?_
    · intro a
      match a with
      | ⟨0, _⟩ => rfl
      | ⟨1, _⟩ => rfl
      | ⟨2, _⟩ => exact bd _ _ i.isLt
      | ⟨3, _⟩ => exact bd _ _ l.isLt
    refine (slice_read _ t _ b c i l ⟨_, hw.1⟩ ⟨_, hw.2⟩ rfl rfl).trans ?_
    exact pad_read Y _ _ b c _ _
  · refine (broadcastInDim_apply _ _ _ _ (ix5 0 0 c 0 0) ?_).trans ?_
    · intro a
      match a with
      | ⟨0, _⟩ => rfl
      | ⟨1, _⟩ => rfl
      | ⟨2, _⟩ => rfl
      | ⟨3, _⟩ => rfl
      | ⟨4, _⟩ => rfl
    refine (broadcastInDim_apply _ _ _ _ (ix2 0 c) ?_).trans ?_
    · intro a
      match a with
      | ⟨0, _⟩ => rfl
      | ⟨1, _⟩ => rfl
    refine (shapeCast_apply _ _ _ (ix4 0 c 0 0) ?_).trans ?_
    · rw [Shape.rowMajor_val_two, Shape.rowMajor_val_four]
      show ((0 * 32 + c.val) * 1 + 0) * 1 + 0 = 0 * 32 + c.val
      omega
    refine extractStridedSlice_apply _ _ _ _ _ ?_
    intro a
    match a with
    | ⟨0, _⟩ => rfl
    | ⟨1, _⟩ => show c.val = 0 + c.val; omega
    | ⟨2, _⟩ => rfl
    | ⟨3, _⟩ => rfl

theorem rconv1_apply (X : FVec Ideal (ZM 1 h) .f32) (W : FVec Ideal (ZW 32 1) .f32) (e : FVec Ideal ⟨1, ![32]⟩ .f32) (b : Fin 8) (c : Fin 32) (i l : Fin g) :
    rconv1 g k hp gp X W e (ix4 b c i l)
      = (∑ t : Fin 16, pad2 (fun q r => X (ix4 b 0 q r)) (2 * i.val + (hi t).val) (2 * l.val + (lo t).val) * W (ix4 c 0 (hi t) (lo t))) + e (ix1 c) := by
  unfold rconv1
  refine congrArg₂ (fun x y : EReal => x + y) ?_ ?_
  · rw [chain_apply]
    refine (congrArg₂ (fun x y : EReal => x + y) (show _ = (0 : EReal) from Ideal.ofBits_zero_f32) (Finset.sum_congr rfl fun t _ => rtap1_apply X W t b c i l)).trans ?_
    exact zero_add _
  · refine (broadcastInDim_apply _ _ _ _ (ix4 0 c 0 0) ?_).trans ?_
    · intro a
      match a with
      | ⟨0, _⟩ => rfl
      | ⟨1, _⟩ => rfl
      | ⟨2, _⟩ => rfl
      | ⟨3, _⟩ => rfl
    refine broadcastInDim_apply _ _ _ _ (ix1 c) ?_
    intro a
    match a with
    | ⟨0, _⟩ => rfl

theorem rconv2_apply (Y : FVec Ideal (ZM 32 g) .f32) (W : FVec Ideal (ZW 1 32) .f32) (e : FVec Ideal ⟨1, ![1]⟩ .f32) (b : Fin 8) (i l : Fin k) :
    rconv2 h k hp gp Y W e (ix4 b 0 i l)
      = (∑ t : Fin 16, ∑ c : Fin 32, pad2 (fun q r => Y (ix4 b c q r)) (2 * i.val + (hi t).val) (2 * l.val + (lo t).val) * W (ix4 0 c (hi t) (lo t)))
        + e (ix1 0) := by
  unfold rconv2
  refine congrArg₂ (fun x y : EReal => x + y) ?_ ?_
  · rw [chain_apply]
    refine (congrArg₂ (fun x y : EReal => x + y) (show _ = (0 : EReal) from Ideal.ofBits_zero_f32) (Finset.sum_congr rfl fun t _ => rtap2_apply Y W t b i l)).trans ?_
    exact zero_add _
  · refine (broadcastInDim_apply _ _ _ _ (ix4 0 0 0 0) ?_).trans ?_
    · intro a
      match a with
      | ⟨0, _⟩ => rfl
      | ⟨1, _⟩ => rfl
      | ⟨2, _⟩ => rfl
      | ⟨3, _⟩ => rfl
    refine broadcastInDim_apply _ _ _ _ (ix1 0) ?_
    intro a
    match a with
    | ⟨0, _⟩ => rfl

theorem rmean_apply (n : BitVec 32) (Y : FVec Ideal (ZM 1 k) .f32) (b : Fin 8) :
    rmean h g hp gp n Y (ix1 b) = Ideal.div (∑ o : Fin k, ∑ p : Fin k, Y (ix4 b 0 o p)) (Ideal.ofBits .f32 n) := by
  unfold rmean
  refine congrArg₂ Ideal.div ?_ rfl
  simp only [Host.reduceAdd, Ideal.hostReduceAdd_def]
  unfold Ideal.hostReduceAdd
  rw [zero0_apply, zero_add, ← Fintype.sum_prod_type']
  refine (Finset.sum_nbij' (fun q : Fin k × Fin k => (ix4 b 0 q.1 q.2 : (ZM 1 k).Idx)) (fun j => ((j 2, j 3) : Fin k × Fin k)) ?_ ?_ ?_ ?_ ?_).symm
  · intro q _
    refine Finset.mem_filter.2 ⟨Finset.mem_univ _, ?_⟩
    funext a
    match a with
    | ⟨0, _⟩ => rfl
  · intro _ _; exact Finset.mem_univ _
  · intro _ _; rfl
  · intro j hj
    have e := congrFun (Finset.mem_filter.1 hj).2 0
    funext a
    match a with
    | ⟨0, _⟩ => exact Fin.ext (congrArg Fin.val e).symm
    | ⟨1, _⟩ => exact Subsingleton.elim (α := Fin 1) _ _
    | ⟨2, _⟩ => rfl
    | ⟨3, _⟩ => rfl
  · intro _ _; rfl

/-- The cross entropy of a logit and a label. -/
def xent (l t : EReal) : EReal := (max l 0 - l * t) + Ideal.log1p (Ideal.exp (-max l (-l)))

end Read

end Cert.DM

end
-- ==== Proof.Link0.lean ====
/- The reference's loss of map 0, as the printed program computes it, is the clustering and the discriminator of the
   previous modules. -/
module

public import Idealize.ShloMosaic.Lib.Tactic
public import proofs.«01_k».proof.Proof.KRef
public import proofs.«01_k».proof.Proof.DRef
public import proofs.«01_k».proof.Proof.Gen.ReferenceIdeal.Read

@[expose] public section

noncomputable section

namespace Cert.Link

open Idealize.ShloMosaic Idealize.ShloMosaic.ValueIdx Cert.KM Cert.DM Cert.ReferenceIdeal Cert.ReferenceIdeal.Read

/-- The shapes of the clustering at 1024 coordinates. -/
instance rf1024 : RF 1024 where
  bx := by decide
  bc := by decide
  bx' := by decide
  bc' := by decide
  rd := by decide
  rd' := by decide
  pos := by decide
  s0 := by decide
  s1 := by decide
  ci := by decide
  bk := by decide
  bk' := by decide
  bi := by decide
  bo := by decide
  bi' := by decide
  bo' := by decide
  rk := by decide
  rk' := by decide
  tr := by decide
  wf := by decide
  bn := by decide
  b1 := by decide
  bm := by decide
  w1 := by decide
  k0 := by decide
  k1 := by decide
  ck := by decide
  b8 := by decide
  c0 := by decide
  c1 := by decide
  cc := by decide
  bs := by decide
  si := by decide

/-- The shapes of the discriminator at side 32. -/
instance rd32 : RD 32 16 8 34 18 where
  eh := by decide
  eg := by decide
  pos := by decide
  p1 := by decide
  s1 := by decide
  a1 := by decide
  a1' := by decide
  w1 := by decide
  c1 := by decide
  b1 := by decide
  b1' := by decide
  r1 := by decide
  r1' := by decide
  z1 := by decide
  e1 := by decide
  e1' := by decide
  p2 := by decide
  s2 := by decide
  a2 := by decide
  w2 := by decide
  c2 := by decide
  b2 := by decide
  b2' := by decide
  r2 := by decide
  r2' := by decide
  z2 := by decide
  e2 := by decide
  e2' := by decide
  r3 := by decide
  z8 := by decide
  r8 := by decide

variable {F : FTy → Type} [FloatOps F]

/-- Nine rounds. -/
theorem rounds1024 (x : (⟨S8x768x32x32, .f32⟩ : BufTy).Contents (Elt F)) :
    val_main_v200 x = (rstep (val_main_v1 x))^[9] (rinit (val_main_v1 x)) := by
  have e0 : val_main_v2 x = rinit (val_main_v1 x) := by sl_kernel_rfl
  have e1 : val_main_v24 x = rstep (val_main_v1 x) (val_main_v2 x) := by sl_kernel_rfl
  have e2 : val_main_v46 x = rstep (val_main_v1 x) (val_main_v24 x) := by sl_kernel_rfl
  have e3 : val_main_v68 x = rstep (val_main_v1 x) (val_main_v46 x) := by sl_kernel_rfl
  have e4 : val_main_v90 x = rstep (val_main_v1 x) (val_main_v68 x) := by sl_kernel_rfl
  have e5 : val_main_v112 x = rstep (val_main_v1 x) (val_main_v90 x) := by sl_kernel_rfl
  have e6 : val_main_v134 x = rstep (val_main_v1 x) (val_main_v112 x) := by sl_kernel_rfl
  have e7 : val_main_v156 x = rstep (val_main_v1 x) (val_main_v134 x) := by sl_kernel_rfl
  have e8 : val_main_v178 x = rstep (val_main_v1 x) (val_main_v156 x) := by sl_kernel_rfl
  have e9 : val_main_v200 x = rstep (val_main_v1 x) (val_main_v178 x) := by sl_kernel_rfl
  rw [e9, e8, e7, e6, e5, e4, e3, e2, e1, e0]
  rfl

/-- The clustering. -/
theorem clus1024 (x : (⟨S8x768x32x32, .f32⟩ : BufTy).Contents (Elt F)) : val_main_v237 x = rclus (val_main_v1 x) := by
  have e1 : val_main_v213 x = rids (val_main_v1 x) (val_main_v200 x) := by sl_kernel_rfl
  have e2 : val_main_v222 x = rcen (val_main_v1 x) (val_main_v213 x) := by sl_kernel_rfl
  have e3 : val_main_v237 x = rpick (val_main_v213 x) (val_main_v222 x) := by sl_kernel_rfl
  rw [e3, e2, e1, rounds1024]
  rfl

/-- The discriminator and its loss. -/
theorem disc32 (x : (⟨S8x768x32x32, .f32⟩ : BufTy).Contents (Elt F)) (t : (⟨S8, .i32⟩ : BufTy).Contents (Elt F))
    (W1 : (⟨S32x1x4x4, .f32⟩ : BufTy).Contents (Elt F)) (b1 : (⟨S32, .f32⟩ : BufTy).Contents (Elt F))
    (W2 : (⟨S1x32x4x4, .f32⟩ : BufTy).Contents (Elt F)) (b2 : (⟨S1, .f32⟩ : BufTy).Contents (Elt F)) :
    val_main_v567 x t W1 b1 W2 b2 = rdisc 16 8 34 18 0x42800000#32 (val_main_v238 x) (sitofp .f32 t) W1 b1 W2 b2 := by
  have e1 : val_main_v403 x W1 b1 = rconv1 16 8 34 18 (val_main_v238 x) W1 b1 := by sl_kernel_rfl
  have e2 : val_main_v404 x W1 b1 = rleaky 32 8 34 18 (val_main_v403 x W1 b1) := by sl_kernel_rfl
  have e3 : val_main_v553 x W1 b1 W2 b2 = rconv2 32 8 34 18 (val_main_v404 x W1 b1) W2 b2 := by sl_kernel_rfl
  have e4 : val_main_v556 x W1 b1 W2 b2 = rmean 32 16 34 18 0x42800000#32 (val_main_v553 x W1 b1 W2 b2) := by sl_kernel_rfl
  have e5 : val_main_v567 x t W1 b1 W2 b2 = rloss 32 16 8 34 18 (val_main_v556 x W1 b1 W2 b2) (sitofp .f32 t) := by sl_kernel_rfl
  rw [e5, e4, e3, e2, e1]
  rfl

/-- The whole loss. -/
theorem loss32 (x : (⟨S8x768x32x32, .f32⟩ : BufTy).Contents (Elt F)) (t : (⟨S8, .i32⟩ : BufTy).Contents (Elt F))
    (W1 : (⟨S32x1x4x4, .f32⟩ : BufTy).Contents (Elt F)) (b1 : (⟨S32, .f32⟩ : BufTy).Contents (Elt F))
    (W2 : (⟨S1x32x4x4, .f32⟩ : BufTy).Contents (Elt F)) (b2 : (⟨S1, .f32⟩ : BufTy).Contents (Elt F)) :
    val_main_v567 x t W1 b1 W2 b2 = rdisc 16 8 34 18 0x42800000#32
      (shapeCast S8x1x32x32 (rclus (shapeCast S8x768x1024 x (by decide))) (by decide)) (sitofp .f32 t) W1 b1 W2 b2 := by
  rw [disc32]
  have e : val_main_v238 x = shapeCast S8x1x32x32 (val_main_v237 x) (by decide) := by sl_kernel_rfl
  rw [e, clus1024]
  rfl

end Cert.Link

end
-- ==== Proof.Link1.lean ====
/- The reference's loss of map 1, as the printed program computes it, is the clustering and the discriminator of the
   previous modules. -/
module

public import Idealize.ShloMosaic.Lib.Tactic
public import proofs.«01_k».proof.Proof.KRef
public import proofs.«01_k».proof.Proof.DRef
public import proofs.«01_k».proof.Proof.Gen.ReferenceIdeal.Read

@[expose] public section

noncomputable section

namespace Cert.Link

open Idealize.ShloMosaic Idealize.ShloMosaic.ValueIdx Cert.KM Cert.DM Cert.ReferenceIdeal Cert.ReferenceIdeal.Read

/-- The shapes of the clustering at 256 coordinates. -/
instance rf256 : RF 256 where
  bx := by decide
  bc := by decide
  bx' := by decide
  bc' := by decide
  rd := by decide
  rd' := by decide
  pos := by decide
  s0 := by decide
  s1 := by decide
  ci := by decide
  bk := by decide
  bk' := by decide
  bi := by decide
  bo := by decide
  bi' := by decide
  bo' := by decide
  rk := by decide
  rk' := by decide
  tr := by decide
  wf := by decide
  bn := by decide
  b1 := by decide
  bm := by decide
  w1 := by decide
  k0 := by decide
  k1 := by decide
  ck := by decide
  b8 := by decide
  c0 := by decide
  c1 := by decide
  cc := by decide
  bs := by decide
  si := by decide

/-- The shapes of the discriminator at side 16. -/
instance rd16 : RD 16 8 4 18 10 where
  eh := by decide
  eg := by decide
  pos := by decide
  p1 := by decide
  s1 := by decide
  a1 := by decide
  a1' := by decide
  w1 := by decide
  c1 := by decide
  b1 := by decide
  b1' := by decide
  r1 := by decide
  r1' := by decide
  z1 := by decide
  e1 := by decide
  e1' := by decide
  p2 := by decide
  s2 := by decide
  a2 := by decide
  w2 := by decide
  c2 := by decide
  b2 := by decide
  b2' := by decide
  r2 := by decide
  r2' := by decide
  z2 := by decide
  e2 := by decide
  e2' := by decide
  r3 := by decide
  z8 := by decide
  r8 := by decide

variable {F : FTy → Type} [FloatOps F]

/-- Nine rounds. -/
theorem rounds256 (x : (⟨S8x768x16x16, .f32⟩ : BufTy).Contents (Elt F)) :
    val_main_v767 x = (rstep (val_main_v568 x))^[9] (rinit (val_main_v568 x)) := by
  have e0 : val_main_v569 x = rinit (val_main_v568 x) := by sl_kernel_rfl
  have e1 : val_main_v591 x = rstep (val_main_v568 x) (val_main_v569 x) := by sl_kernel_rfl
  have e2 : val_main_v613 x = rstep (val_main_v568 x) (val_main_v591 x) := by sl_kernel_rfl
  have e3 : val_main_v635 x = rstep (val_main_v568 x) (val_main_v613 x) := by sl_kernel_rfl
  have e4 : val_main_v657 x = rstep (val_main_v568 x) (val_main_v635 x) := by sl_kernel_rfl
  have e5 : val_main_v679 x = rstep (val_main_v568 x) (val_main_v657 x) := by sl_kernel_rfl
  have e6 : val_main_v701 x = rstep (val_main_v568 x) (val_main_v679 x) := by sl_kernel_rfl
  have e7 : val_main_v723 x = rstep (val_main_v568 x) (val_main_v701 x) := by sl_kernel_rfl
  have e8 : val_main_v745 x = rstep (val_main_v568 x) (val_main_v723 x) := by sl_kernel_rfl
  have e9 : val_main_v767 x = rstep (val_main_v568 x) (val_main_v745 x) := by sl_kernel_rfl
  rw [e9, e8, e7, e6, e5, e4, e3, e2, e1, e0]
  rfl

/-- The clustering. -/
theorem clus256 (x : (⟨S8x768x16x16, .f32⟩ : BufTy).Contents (Elt F)) : val_main_v804 x = rclus (val_main_v568 x) := by
  have e1 : val_main_v780 x = rids (val_main_v568 x) (val_main_v767 x) := by sl_kernel_rfl
  have e2 : val_main_v789 x = rcen (val_main_v568 x) (val_main_v780 x) := by sl_kernel_rfl
  have e3 : val_main_v804 x = rpick (val_main_v780 x) (val_main_v789 x) := by sl_kernel_rfl
  rw [e3, e2, e1, rounds256]
  rfl

/-- The discriminator and its loss. -/
theorem disc16 (x : (⟨S8x768x16x16, .f32⟩ : BufTy).Contents (Elt F)) (t : (⟨S8, .i32⟩ : BufTy).Contents (Elt F))
    (W1 : (⟨S32x1x4x4, .f32⟩ : BufTy).Contents (Elt F)) (b1 : (⟨S32, .f32⟩ : BufTy).Contents (Elt F))
    (W2 : (⟨S1x32x4x4, .f32⟩ : BufTy).Contents (Elt F)) (b2 : (⟨S1, .f32⟩ : BufTy).Contents (Elt F)) :
    val_main_v1134 x t W1 b1 W2 b2 = rdisc 8 4 18 10 0x41800000#32 (val_main_v805 x) (sitofp .f32 t) W1 b1 W2 b2 := by
  have e1 : val_main_v970 x W1 b1 = rconv1 8 4 18 10 (val_main_v805 x) W1 b1 := by sl_kernel_rfl
  have e2 : val_main_v971 x W1 b1 = rleaky 16 4 18 10 (val_main_v970 x W1 b1) := by sl_kernel_rfl
  have e3 : val_main_v1120 x W1 b1 W2 b2 = rconv2 16 4 18 10 (val_main_v971 x W1 b1) W2 b2 := by sl_kernel_rfl
  have e4 : val_main_v1123 x W1 b1 W2 b2 = rmean 16 8 18 10 0x41800000#32 (val_main_v1120 x W1 b1 W2 b2) := by sl_kernel_rfl
  have e5 : val_main_v1134 x t W1 b1 W2 b2 = rloss 16 8 4 18 10 (val_main_v1123 x W1 b1 W2 b2) (sitofp .f32 t) := by sl_kernel_rfl
  rw [e5, e4, e3, e2, e1]
  rfl

/-- The whole loss. -/
theorem loss16 (x : (⟨S8x768x16x16, .f32⟩ : BufTy).Contents (Elt F)) (t : (⟨S8, .i32⟩ : BufTy).Contents (Elt F))
    (W1 : (⟨S32x1x4x4, .f32⟩ : BufTy).Contents (Elt F)) (b1 : (⟨S32, .f32⟩ : BufTy).Contents (Elt F))
    (W2 : (⟨S1x32x4x4, .f32⟩ : BufTy).Contents (Elt F)) (b2 : (⟨S1, .f32⟩ : BufTy).Contents (Elt F)) :
    val_main_v1134 x t W1 b1 W2 b2 = rdisc 8 4 18 10 0x41800000#32
      (shapeCast S8x1x16x16 (rclus (shapeCast S8x768x256 x (by decide))) (by decide)) (sitofp .f32 t) W1 b1 W2 b2 := by
  rw [disc16]
  have e : val_main_v805 x = shapeCast S8x1x16x16 (val_main_v804 x) (by decide) := by sl_kernel_rfl
  rw [e, clus256]
  rfl

end Cert.Link

end
-- ==== Proof.Link2.lean ====
/- The reference's loss of map 2, as the printed program computes it, is the clustering and the discriminator of the
   previous modules. -/
module

public import Idealize.ShloMosaic.Lib.Tactic
public import proofs.«01_k».proof.Proof.KRef
public import proofs.«01_k».proof.Proof.DRef
public import proofs.«01_k».proof.Proof.Gen.ReferenceIdeal.Read

@[expose] public section

noncomputable section

namespace Cert.Link

open Idealize.ShloMosaic Idealize.ShloMosaic.ValueIdx Cert.KM Cert.DM Cert.ReferenceIdeal Cert.ReferenceIdeal.Read

/-- The shapes of the clustering at 64 coordinates. -/
instance rf64 : RF 64 where
  bx := by decide
  bc := by decide
  bx' := by decide
  bc' := by decide
  rd := by decide
  rd' := by decide
  pos := by decide
  s0 := by decide
  s1 := by decide
  ci := by decide
  bk := by decide
  bk' := by decide
  bi := by decide
  bo := by decide
  bi' := by decide
  bo' := by decide
  rk := by decide
  rk' := by decide
  tr := by decide
  wf := by decide
  bn := by decide
  b1 := by decide
  bm := by decide
  w1 := by decide
  k0 := by decide
  k1 := by decide
  ck := by decide
  b8 := by decide
  c0 := by decide
  c1 := by decide
  cc := by decide
  bs := by decide
  si := by decide

/-- The shapes of the discriminator at side 8. -/
instance rd8 : RD 8 4 2 10 6 where
  eh := by decide
  eg := by decide
  pos := by decide
  p1 := by decide
  s1 := by decide
  a1 := by decide
  a1' := by decide
  w1 := by decide
  c1 := by decide
  b1 := by decide
  b1' := by decide
  r1 := by decide
  r1' := by decide
  z1 := by decide
  e1 := by decide
  e1' := by decide
  p2 := by decide
  s2 := by decide
  a2 := by decide
  w2 := by decide
  c2 := by decide
  b2 := by decide
  b2' := by decide
  r2 := by decide
  r2' := by decide
  z2 := by decide
  e2 := by decide
  e2' := by decide
  r3 := by decide
  z8 := by decide
  r8 := by decide

variable {F : FTy → Type} [FloatOps F]

/-- Nine rounds. -/
theorem rounds64 (x : (⟨S8x768x8x8, .f32⟩ : BufTy).Contents (Elt F)) :
    val_main_v1334 x = (rstep (val_main_v1135 x))^[9] (rinit (val_main_v1135 x)) := by
  have e0 : val_main_v1136 x = rinit (val_main_v1135 x) := by sl_kernel_rfl
  have e1 : val_main_v1158 x = rstep (val_main_v1135 x) (val_main_v1136 x) := by sl_kernel_rfl
  have e2 : val_main_v1180 x = rstep (val_main_v1135 x) (val_main_v1158 x) := by sl_kernel_rfl
  have e3 : val_main_v1202 x = rstep (val_main_v1135 x) (val_main_v1180 x) := by sl_kernel_rfl
  have e4 : val_main_v1224 x = rstep (val_main_v1135 x) (val_main_v1202 x) := by sl_kernel_rfl
  have e5 : val_main_v1246 x = rstep (val_main_v1135 x) (val_main_v1224 x) := by sl_kernel_rfl
  have e6 : val_main_v1268 x = rstep (val_main_v1135 x) (val_main_v1246 x) := by sl_kernel_rfl
  have e7 : val_main_v1290 x = rstep (val_main_v1135 x) (val_main_v1268 x) := by sl_kernel_rfl
  have e8 : val_main_v1312 x = rstep (val_main_v1135 x) (val_main_v1290 x) := by sl_kernel_rfl
  have e9 : val_main_v1334 x = rstep (val_main_v1135 x) (val_main_v1312 x) := by sl_kernel_rfl
  rw [e9, e8, e7, e6, e5, e4, e3, e2, e1, e0]
  rfl

/-- The clustering. -/
theorem clus64 (x : (⟨S8x768x8x8, .f32⟩ : BufTy).Contents (Elt F)) : val_main_v1371 x = rclus (val_main_v1135 x) := by
  have e1 : val_main_v1347 x = rids (val_main_v1135 x) (val_main_v1334 x) := by sl_kernel_rfl
  have e2 : val_main_v1356 x = rcen (val_main_v1135 x) (val_main_v1347 x) := by sl_kernel_rfl
  have e3 : val_main_v1371 x = rpick (val_main_v1347 x) (val_main_v1356 x) := by sl_kernel_rfl
  rw [e3, e2, e1, rounds64]
  rfl

/-- The discriminator and its loss. -/
theorem disc8 (x : (⟨S8x768x8x8, .f32⟩ : BufTy).Contents (Elt F)) (t : (⟨S8, .i32⟩ : BufTy).Contents (Elt F))
    (W1 : (⟨S32x1x4x4, .f32⟩ : BufTy).Contents (Elt F)) (b1 : (⟨S32, .f32⟩ : BufTy).Contents (Elt F))
    (W2 : (⟨S1x32x4x4, .f32⟩ : BufTy).Contents (Elt F)) (b2 : (⟨S1, .f32⟩ : BufTy).Contents (Elt F)) :
    val_main_v1701 x t W1 b1 W2 b2 = rdisc 4 2 10 6 0x40800000#32 (val_main_v1372 x) (sitofp .f32 t) W1 b1 W2 b2 := by
  have e1 : val_main_v1537 x W1 b1 = rconv1 4 2 10 6 (val_main_v1372 x) W1 b1 := by sl_kernel_rfl
  have e2 : val_main_v1538 x W1 b1 = rleaky 8 2 10 6 (val_main_v1537 x W1 b1) := by sl_kernel_rfl
  have e3 : val_main_v1687 x W1 b1 W2 b2 = rconv2 8 2 10 6 (val_main_v1538 x W1 b1) W2 b2 := by sl_kernel_rfl
  have e4 : val_main_v1690 x W1 b1 W2 b2 = rmean 8 4 10 6 0x40800000#32 (val_main_v1687 x W1 b1 W2 b2) := by sl_kernel_rfl
  have e5 : val_main_v1701 x t W1 b1 W2 b2 = rloss 8 4 2 10 6 (val_main_v1690 x W1 b1 W2 b2) (sitofp .f32 t) := by sl_kernel_rfl
  rw [e5, e4, e3, e2, e1]
  rfl

/-- The whole loss. -/
theorem loss8 (x : (⟨S8x768x8x8, .f32⟩ : BufTy).Contents (Elt F)) (t : (⟨S8, .i32⟩ : BufTy).Contents (Elt F))
    (W1 : (⟨S32x1x4x4, .f32⟩ : BufTy).Contents (Elt F)) (b1 : (⟨S32, .f32⟩ : BufTy).Contents (Elt F))
    (W2 : (⟨S1x32x4x4, .f32⟩ : BufTy).Contents (Elt F)) (b2 : (⟨S1, .f32⟩ : BufTy).Contents (Elt F)) :
    val_main_v1701 x t W1 b1 W2 b2 = rdisc 4 2 10 6 0x40800000#32
      (shapeCast S8x1x8x8 (rclus (shapeCast S8x768x64 x (by decide))) (by decide)) (sitofp .f32 t) W1 b1 W2 b2 := by
  rw [disc8]
  have e : val_main_v1372 x = shapeCast S8x1x8x8 (val_main_v1371 x) (by decide) := by sl_kernel_rfl
  rw [e, clus64]
  rfl

end Cert.Link

end
-- ==== Proof.DPay.lean ====
/- The values of the kernel's discriminator calls: what each call's body leaves in its output is one function of its blocks, at
   the sides 32, 16 and 8. -/
module

public import proofs.«01_k».proof.Proof.DKern
public import proofs.«01_k».proof.Proof.Whole.Region1
public import proofs.«01_k».proof.Proof.Whole.Region3
public import proofs.«01_k».proof.Proof.Whole.Region5
public import Idealize.ShloMosaic.Lib.UnfoldOut

@[expose] public section

set_option maxRecDepth 16384

noncomputable section

namespace Cert.DM

open Idealize.ShloMosaic Idealize.ShloMosaic.ValueIdx Idealize.ShloMosaic.TcCoe Idealize.ShloMosaic.Tactic Cert.KernelIdeal Cert.KernelIdeal.Gen

variable {F : FTy → Type} [FloatOps F]

/-- The `d`-th `g` rows of a stack of four matrices of `g` rows. -/
def stack (h g n : ℕ) (x : FVec F (SM n h) .f32) (hn : 4 * g = n) (d : Fin 4) : FVec F (SM g h) .f32 :=
  fun j => x (ix2 ⟨d.val * g + (j 0).val, by have := (j 0).isLt; have := d.isLt; change (j 0).val < g at *; nlinarith⟩ (j 1))

theorem hz2 : (![0, 0] : Fin 2 → ℕ) = fun _ => 0 := by decide
theorem hz3 : (![0, 0, 0] : Fin 3 → ℕ) = fun _ => 0 := by decide

/-- A load of `g` rows from row `k = d g` on. -/
theorem ld_rows {h g n : ℕ} (x : FVec F (SM n h) .f32) (hn : 4 * g = n) (d : Fin 4) (k : ℕ) (hk : k = d.val * g)
    (inb : ∀ a, (![k, 0] : Fin 2 → ℕ) a + (![g, h] : Fin 2 → ℕ) a ≤ (SM n h).size a) :
    View.ld (Val := Elt F) (e' := .f32) x (Rect.unit (s := SM n h) ![k, 0] ![g, h] inb) = stack h g n x hn d := by
  subst hk
  funext j
  refine congrArg x (funext fun a => Fin.ext ?_)
  match a with
  | ⟨0, _⟩ => show d.val * g + 1 * (j 0).val = d.val * g + (j 0).val; omega
  | ⟨1, _⟩ => show 0 + 1 * (j 1).val = (j 1).val; omega

/-! ### The discriminator at side 32 -/

instance df32 : DF 32 16 where
  cx := by decide
  m1 := by decide
  m2 := by decide
  tr := by decide
  cp := by decide
  sw := by decide
  cw := by decide
  bp := by decide
  bw := by decide
  cu := by decide
  bu := by decide
  r1 := by decide
  bv := by decide
  r2 := by decide
  c3 := by decide
  c4 := by decide
  rs := by decide
  c1 := by decide
  p3 := by decide
  p2 := by decide

set_option maxHeartbeats 1000000 in
theorem out1A (c : Dev nD) (i : grid1.Coords) (a1 : Memref sig .tc .vmem S1x32x32 .f32) (h1 : a1.IsWhole) (a2 : Memref sig .tc .vmem S32x16 .f32) (h2 : a2.IsWhole) (a3 : Memref sig .tc .vmem S32x1 .f32) (h3 : a3.IsWhole) (a4 : Memref sig .tc .vmem S32x16 .f32) (h4 : a4.IsWhole) (a5 : Memref sig .tc .vmem S1x1 .f32) (h5 : a5.IsWhole) (a6 : Memref sig .tc .vmem S1x1x1 .f32) (h6 : a6.IsWhole) (a7 : Memref sig .tc .vmem S64x32 .f32) (h7 : a7.IsWhole) (a8 : Memref sig .tc .vmem S4x16 .f32) (h8 : a8.IsWhole) (a9 : Memref sig .tc .vmem S1x1 .f32) (h9 : a9.IsWhole) (hc0 : cond1_0 i) (hc1 : ¬cond1_1 i) (x0 : Vec F S1x32x32 .f32) (x1 : Vec F S32x16 .f32) (x2 : Vec F S32x1 .f32) (x3 : Vec F S32x16 .f32) (x4 : Vec F S1x1 .f32) (x5 : Vec F S1x1x1 .f32) (x6 : Vec F S64x32 .f32) (x7 : Vec F S4x16 .f32) :
    out1_A_8 c i a1 h1 a2 h2 a3 h3 a4 h4 a5 h5 a6 h6 a7 h7 a8 h8 a9 h9 hc0 hc1 x0 x1 x2 x3 x4 x5 x6 x7 = part (h := 32) (g := 16) 0x42800000#32 x0 x1 x2 x3 x4 x5 (stack 32 16 64 x6 rfl) (stack 16 1 4 x7 rfl) := by
  unfold out1_A_8
  rw [View.read_writes_eq_canon _ _ _ (cover1_A_8 c i a1 h1 a2 h2 a3 h3 a4 h4 a5 h5 a6 h6 a7 h7 a8 h8 a9 h9 hc0 hc1 x0 x1 x2 x3 x4 x5 x6 x7)]
  unfold kernelRun1_A
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S1x32x32) hz3, View.ld_unit_zero (S := S32x16) hz2, View.ld_unit_zero (S := S32x1) hz2, View.ld_unit_zero (S := S1x1) hz2, View.ld_unit_zero (S := S1x1x1) hz3]
  have es0 : View.ld (Val := Elt F) (e' := .f32) x6 (Rect.unit (s := S64x32) ![0, 0] ![16, 32] inb_S64x32_S16x32_0_0) = stack 32 16 64 x6 rfl 0 := ld_rows x6 rfl 0 0 rfl _
  have eu0 : View.ld (Val := Elt F) (e' := .f32) x7 (Rect.unit (s := S4x16) ![0, 0] ![1, 16] inb_S4x16_S1x16_0_0) = stack 16 1 4 x7 rfl 0 := ld_rows x7 rfl 0 0 rfl _
  have es1 : View.ld (Val := Elt F) (e' := .f32) x6 (Rect.unit (s := S64x32) ![16, 0] ![16, 32] inb_S64x32_S16x32_16_0) = stack 32 16 64 x6 rfl 1 := ld_rows x6 rfl 1 16 rfl _
  have eu1 : View.ld (Val := Elt F) (e' := .f32) x7 (Rect.unit (s := S4x16) ![1, 0] ![1, 16] inb_S4x16_S1x16_1_0) = stack 16 1 4 x7 rfl 1 := ld_rows x7 rfl 1 1 rfl _
  have es2 : View.ld (Val := Elt F) (e' := .f32) x6 (Rect.unit (s := S64x32) ![32, 0] ![16, 32] inb_S64x32_S16x32_32_0) = stack 32 16 64 x6 rfl 2 := ld_rows x6 rfl 2 32 rfl _
  have eu2 : View.ld (Val := Elt F) (e' := .f32) x7 (Rect.unit (s := S4x16) ![2, 0] ![1, 16] inb_S4x16_S1x16_2_0) = stack 16 1 4 x7 rfl 2 := ld_rows x7 rfl 2 2 rfl _
  have es3 : View.ld (Val := Elt F) (e' := .f32) x6 (Rect.unit (s := S64x32) ![48, 0] ![16, 32] inb_S64x32_S16x32_48_0) = stack 32 16 64 x6 rfl 3 := ld_rows x6 rfl 3 48 rfl _
  have eu3 : View.ld (Val := Elt F) (e' := .f32) x7 (Rect.unit (s := S4x16) ![3, 0] ![1, 16] inb_S4x16_S1x16_3_0) = stack 16 1 4 x7 rfl 3 := ld_rows x7 rfl 3 3 rfl _
  simp only [es0, es1, es2, es3, eu0, eu1, eu2, eu3]
  generalize stack 32 16 64 x6 rfl = S
  generalize stack 16 1 4 x7 rfl = U
  have e : part (h := 32) (g := 16) 0x42800000#32 x0 (k1_pay3 x1) (k1_pay4 x2) (k1_pay5 x3) x4 x5 S U = part (h := 32) (g := 16) 0x42800000#32 x0 x1 x2 x3 x4 x5 S U := by
    unfold k1_pay3 k1_pay4 k1_pay5
    simp only [shapeCast_self]
  rw [← e]
  rfl

set_option maxHeartbeats 1000000 in
theorem out1B (c : Dev nD) (i : grid1.Coords) (a1 : Memref sig .tc .vmem S1x32x32 .f32) (h1 : a1.IsWhole) (a2 : Memref sig .tc .vmem S32x16 .f32) (h2 : a2.IsWhole) (a3 : Memref sig .tc .vmem S32x1 .f32) (h3 : a3.IsWhole) (a4 : Memref sig .tc .vmem S32x16 .f32) (h4 : a4.IsWhole) (a5 : Memref sig .tc .vmem S1x1 .f32) (h5 : a5.IsWhole) (a6 : Memref sig .tc .vmem S1x1x1 .f32) (h6 : a6.IsWhole) (a7 : Memref sig .tc .vmem S64x32 .f32) (h7 : a7.IsWhole) (a8 : Memref sig .tc .vmem S4x16 .f32) (h8 : a8.IsWhole) (a9 : Memref sig .tc .vmem S1x1 .f32) (h9 : a9.IsWhole) (hc0 : ¬cond1_0 i) (hc1 : cond1_1 i) (x0 : Vec F S1x32x32 .f32) (x1 : Vec F S32x16 .f32) (x2 : Vec F S32x1 .f32) (x3 : Vec F S32x16 .f32) (x4 : Vec F S1x1 .f32) (x5 : Vec F S1x1x1 .f32) (x6 : Vec F S64x32 .f32) (x7 : Vec F S4x16 .f32) (xo : Vec F S1x1 .f32) :
    out1_B_8 c i a1 h1 a2 h2 a3 h3 a4 h4 a5 h5 a6 h6 a7 h7 a8 h8 a9 h9 hc0 hc1 x0 x1 x2 x3 x4 x5 x6 x7 xo = addf xo (part (h := 32) (g := 16) 0x42800000#32 x0 x1 x2 x3 x4 x5 (stack 32 16 64 x6 rfl) (stack 16 1 4 x7 rfl)) := by
  unfold out1_B_8
  rw [View.read_writes_eq_canon _ _ _ (cover1_B_8 c i a1 h1 a2 h2 a3 h3 a4 h4 a5 h5 a6 h6 a7 h7 a8 h8 a9 h9 hc0 hc1 x0 x1 x2 x3 x4 x5 x6 x7 xo)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S1x32x32) hz3, View.ld_unit_zero (S := S32x16) hz2, View.ld_unit_zero (S := S32x1) hz2, View.ld_unit_zero (S := S1x1) hz2, View.ld_unit_zero (S := S1x1x1) hz3]
  have es0 : View.ld (Val := Elt F) (e' := .f32) x6 (Rect.unit (s := S64x32) ![0, 0] ![16, 32] inb_S64x32_S16x32_0_0) = stack 32 16 64 x6 rfl 0 := ld_rows x6 rfl 0 0 rfl _
  have eu0 : View.ld (Val := Elt F) (e' := .f32) x7 (Rect.unit (s := S4x16) ![0, 0] ![1, 16] inb_S4x16_S1x16_0_0) = stack 16 1 4 x7 rfl 0 := ld_rows x7 rfl 0 0 rfl _
  have es1 : View.ld (Val := Elt F) (e' := .f32) x6 (Rect.unit (s := S64x32) ![16, 0] ![16, 32] inb_S64x32_S16x32_16_0) = stack 32 16 64 x6 rfl 1 := ld_rows x6 rfl 1 16 rfl _
  have eu1 : View.ld (Val := Elt F) (e' := .f32) x7 (Rect.unit (s := S4x16) ![1, 0] ![1, 16] inb_S4x16_S1x16_1_0) = stack 16 1 4 x7 rfl 1 := ld_rows x7 rfl 1 1 rfl _
  have es2 : View.ld (Val := Elt F) (e' := .f32) x6 (Rect.unit (s := S64x32) ![32, 0] ![16, 32] inb_S64x32_S16x32_32_0) = stack 32 16 64 x6 rfl 2 := ld_rows x6 rfl 2 32 rfl _
  have eu2 : View.ld (Val := Elt F) (e' := .f32) x7 (Rect.unit (s := S4x16) ![2, 0] ![1, 16] inb_S4x16_S1x16_2_0) = stack 16 1 4 x7 rfl 2 := ld_rows x7 rfl 2 2 rfl _
  have es3 : View.ld (Val := Elt F) (e' := .f32) x6 (Rect.unit (s := S64x32) ![48, 0] ![16, 32] inb_S64x32_S16x32_48_0) = stack 32 16 64 x6 rfl 3 := ld_rows x6 rfl 3 48 rfl _
  have eu3 : View.ld (Val := Elt F) (e' := .f32) x7 (Rect.unit (s := S4x16) ![3, 0] ![1, 16] inb_S4x16_S1x16_3_0) = stack 16 1 4 x7 rfl 3 := ld_rows x7 rfl 3 3 rfl _
  simp only [es0, es1, es2, es3, eu0, eu1, eu2, eu3]
  generalize stack 32 16 64 x6 rfl = S
  generalize stack 16 1 4 x7 rfl = U
  have e : part (h := 32) (g := 16) 0x42800000#32 x0 (k1_pay3 x1) (k1_pay4 x2) (k1_pay5 x3) x4 x5 S U = part (h := 32) (g := 16) 0x42800000#32 x0 x1 x2 x3 x4 x5 S U := by
    unfold k1_pay3 k1_pay4 k1_pay5
    simp only [shapeCast_self]
  rw [← e]
  unfold k1_pay1
  rw [shapeCast_self]
  rfl

/-! ### The discriminator at side 16 -/

instance df16 : DF 16 8 where
  cx := by decide
  m1 := by decide
  m2 := by decide
  tr := by decide
  cp := by decide
  sw := by decide
  cw := by decide
  bp := by decide
  bw := by decide
  cu := by decide
  bu := by decide
  r1 := by decide
  bv := by decide
  r2 := by decide
  c3 := by decide
  c4 := by decide
  rs := by decide
  c1 := by decide
  p3 := by decide
  p2 := by decide

set_option maxHeartbeats 1000000 in
theorem out3A (c : Dev nD) (i : grid3.Coords) (a1 : Memref sig .tc .vmem S1x16x16 .f32) (h1 : a1.IsWhole) (a2 : Memref sig .tc .vmem S32x16 .f32) (h2 : a2.IsWhole) (a3 : Memref sig .tc .vmem S32x1 .f32) (h3 : a3.IsWhole) (a4 : Memref sig .tc .vmem S32x16 .f32) (h4 : a4.IsWhole) (a5 : Memref sig .tc .vmem S1x1 .f32) (h5 : a5.IsWhole) (a6 : Memref sig .tc .vmem S1x1x1 .f32) (h6 : a6.IsWhole) (a7 : Memref sig .tc .vmem S32x16 .f32) (h7 : a7.IsWhole) (a8 : Memref sig .tc .vmem S4x8 .f32) (h8 : a8.IsWhole) (a9 : Memref sig .tc .vmem S1x1 .f32) (h9 : a9.IsWhole) (hc0 : cond3_0 i) (hc1 : ¬cond3_1 i) (x0 : Vec F S1x16x16 .f32) (x1 : Vec F S32x16 .f32) (x2 : Vec F S32x1 .f32) (x3 : Vec F S32x16 .f32) (x4 : Vec F S1x1 .f32) (x5 : Vec F S1x1x1 .f32) (x6 : Vec F S32x16 .f32) (x7 : Vec F S4x8 .f32) :
    out3_A_8 c i a1 h1 a2 h2 a3 h3 a4 h4 a5 h5 a6 h6 a7 h7 a8 h8 a9 h9 hc0 hc1 x0 x1 x2 x3 x4 x5 x6 x7 = part (h := 16) (g := 8) 0x41800000#32 x0 x1 x2 x3 x4 x5 (stack 16 8 32 x6 rfl) (stack 8 1 4 x7 rfl) := by
  unfold out3_A_8
  rw [View.read_writes_eq_canon _ _ _ (cover3_A_8 c i a1 h1 a2 h2 a3 h3 a4 h4 a5 h5 a6 h6 a7 h7 a8 h8 a9 h9 hc0 hc1 x0 x1 x2 x3 x4 x5 x6 x7)]
  unfold kernelRun3_A
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S1x16x16) hz3, View.ld_unit_zero (S := S32x16) hz2, View.ld_unit_zero (S := S32x1) hz2, View.ld_unit_zero (S := S1x1) hz2, View.ld_unit_zero (S := S1x1x1) hz3]
  have es0 : View.ld (Val := Elt F) (e' := .f32) x6 (Rect.unit (s := S32x16) ![0, 0] ![8, 16] inb_S32x16_S8x16_0_0) = stack 16 8 32 x6 rfl 0 := ld_rows x6 rfl 0 0 rfl _
  have eu0 : View.ld (Val := Elt F) (e' := .f32) x7 (Rect.unit (s := S4x8) ![0, 0] ![1, 8] inb_S4x8_S1x8_0_0) = stack 8 1 4 x7 rfl 0 := ld_rows x7 rfl 0 0 rfl _
  have es1 : View.ld (Val := Elt F) (e' := .f32) x6 (Rect.unit (s := S32x16) ![8, 0] ![8, 16] inb_S32x16_S8x16_8_0) = stack 16 8 32 x6 rfl 1 := ld_rows x6 rfl 1 8 rfl _
  have eu1 : View.ld (Val := Elt F) (e' := .f32) x7 (Rect.unit (s := S4x8) ![1, 0] ![1, 8] inb_S4x8_S1x8_1_0) = stack 8 1 4 x7 rfl 1 := ld_rows x7 rfl 1 1 rfl _
  have es2 : View.ld (Val := Elt F) (e' := .f32) x6 (Rect.unit (s := S32x16) ![16, 0] ![8, 16] inb_S32x16_S8x16_16_0) = stack 16 8 32 x6 rfl 2 := ld_rows x6 rfl 2 16 rfl _
  have eu2 : View.ld (Val := Elt F) (e' := .f32) x7 (Rect.unit (s := S4x8) ![2, 0] ![1, 8] inb_S4x8_S1x8_2_0) = stack 8 1 4 x7 rfl 2 := ld_rows x7 rfl 2 2 rfl _
  have es3 : View.ld (Val := Elt F) (e' := .f32) x6 (Rect.unit (s := S32x16) ![24, 0] ![8, 16] inb_S32x16_S8x16_24_0) = stack 16 8 32 x6 rfl 3 := ld_rows x6 rfl 3 24 rfl _
  have eu3 : View.ld (Val := Elt F) (e' := .f32) x7 (Rect.unit (s := S4x8) ![3, 0] ![1, 8] inb_S4x8_S1x8_3_0) = stack 8 1 4 x7 rfl 3 := ld_rows x7 rfl 3 3 rfl _
  simp only [es0, es1, es2, es3, eu0, eu1, eu2, eu3]
  generalize stack 16 8 32 x6 rfl = S
  generalize stack 8 1 4 x7 rfl = U
  have e : part (h := 16) (g := 8) 0x41800000#32 x0 (k3_pay3 x1) (k3_pay4 x2) (k3_pay5 x3) x4 x5 S U = part (h := 16) (g := 8) 0x41800000#32 x0 x1 x2 x3 x4 x5 S U := by
    unfold k3_pay3 k3_pay4 k3_pay5
    simp only [shapeCast_self]
  rw [← e]
  rfl

set_option maxHeartbeats 1000000 in
theorem out3B (c : Dev nD) (i : grid3.Coords) (a1 : Memref sig .tc .vmem S1x16x16 .f32) (h1 : a1.IsWhole) (a2 : Memref sig .tc .vmem S32x16 .f32) (h2 : a2.IsWhole) (a3 : Memref sig .tc .vmem S32x1 .f32) (h3 : a3.IsWhole) (a4 : Memref sig .tc .vmem S32x16 .f32) (h4 : a4.IsWhole) (a5 : Memref sig .tc .vmem S1x1 .f32) (h5 : a5.IsWhole) (a6 : Memref sig .tc .vmem S1x1x1 .f32) (h6 : a6.IsWhole) (a7 : Memref sig .tc .vmem S32x16 .f32) (h7 : a7.IsWhole) (a8 : Memref sig .tc .vmem S4x8 .f32) (h8 : a8.IsWhole) (a9 : Memref sig .tc .vmem S1x1 .f32) (h9 : a9.IsWhole) (hc0 : ¬cond3_0 i) (hc1 : cond3_1 i) (x0 : Vec F S1x16x16 .f32) (x1 : Vec F S32x16 .f32) (x2 : Vec F S32x1 .f32) (x3 : Vec F S32x16 .f32) (x4 : Vec F S1x1 .f32) (x5 : Vec F S1x1x1 .f32) (x6 : Vec F S32x16 .f32) (x7 : Vec F S4x8 .f32) (xo : Vec F S1x1 .f32) :
    out3_B_8 c i a1 h1 a2 h2 a3 h3 a4 h4 a5 h5 a6 h6 a7 h7 a8 h8 a9 h9 hc0 hc1 x0 x1 x2 x3 x4 x5 x6 x7 xo = addf xo (part (h := 16) (g := 8) 0x41800000#32 x0 x1 x2 x3 x4 x5 (stack 16 8 32 x6 rfl) (stack 8 1 4 x7 rfl)) := by
  unfold out3_B_8
  rw [View.read_writes_eq_canon _ _ _ (cover3_B_8 c i a1 h1 a2 h2 a3 h3 a4 h4 a5 h5 a6 h6 a7 h7 a8 h8 a9 h9 hc0 hc1 x0 x1 x2 x3 x4 x5 x6 x7 xo)]
  unfold kernelRun3_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S1x16x16) hz3, View.ld_unit_zero (S := S32x16) hz2, View.ld_unit_zero (S := S32x1) hz2, View.ld_unit_zero (S := S1x1) hz2, View.ld_unit_zero (S := S1x1x1) hz3]
  have es0 : View.ld (Val := Elt F) (e' := .f32) x6 (Rect.unit (s := S32x16) ![0, 0] ![8, 16] inb_S32x16_S8x16_0_0) = stack 16 8 32 x6 rfl 0 := ld_rows x6 rfl 0 0 rfl _
  have eu0 : View.ld (Val := Elt F) (e' := .f32) x7 (Rect.unit (s := S4x8) ![0, 0] ![1, 8] inb_S4x8_S1x8_0_0) = stack 8 1 4 x7 rfl 0 := ld_rows x7 rfl 0 0 rfl _
  have es1 : View.ld (Val := Elt F) (e' := .f32) x6 (Rect.unit (s := S32x16) ![8, 0] ![8, 16] inb_S32x16_S8x16_8_0) = stack 16 8 32 x6 rfl 1 := ld_rows x6 rfl 1 8 rfl _
  have eu1 : View.ld (Val := Elt F) (e' := .f32) x7 (Rect.unit (s := S4x8) ![1, 0] ![1, 8] inb_S4x8_S1x8_1_0) = stack 8 1 4 x7 rfl 1 := ld_rows x7 rfl 1 1 rfl _
  have es2 : View.ld (Val := Elt F) (e' := .f32) x6 (Rect.unit (s := S32x16) ![16, 0] ![8, 16] inb_S32x16_S8x16_16_0) = stack 16 8 32 x6 rfl 2 := ld_rows x6 rfl 2 16 rfl _
  have eu2 : View.ld (Val := Elt F) (e' := .f32) x7 (Rect.unit (s := S4x8) ![2, 0] ![1, 8] inb_S4x8_S1x8_2_0) = stack 8 1 4 x7 rfl 2 := ld_rows x7 rfl 2 2 rfl _
  have es3 : View.ld (Val := Elt F) (e' := .f32) x6 (Rect.unit (s := S32x16) ![24, 0] ![8, 16] inb_S32x16_S8x16_24_0) = stack 16 8 32 x6 rfl 3 := ld_rows x6 rfl 3 24 rfl _
  have eu3 : View.ld (Val := Elt F) (e' := .f32) x7 (Rect.unit (s := S4x8) ![3, 0] ![1, 8] inb_S4x8_S1x8_3_0) = stack 8 1 4 x7 rfl 3 := ld_rows x7 rfl 3 3 rfl _
  simp only [es0, es1, es2, es3, eu0, eu1, eu2, eu3]
  generalize stack 16 8 32 x6 rfl = S
  generalize stack 8 1 4 x7 rfl = U
  have e : part (h := 16) (g := 8) 0x41800000#32 x0 (k3_pay3 x1) (k3_pay4 x2) (k3_pay5 x3) x4 x5 S U = part (h := 16) (g := 8) 0x41800000#32 x0 x1 x2 x3 x4 x5 S U := by
    unfold k3_pay3 k3_pay4 k3_pay5
    simp only [shapeCast_self]
  rw [← e]
  unfold k3_pay1
  rw [shapeCast_self]
  rfl

/-! ### The discriminator at side 8 -/

instance df8 : DF 8 4 where
  cx := by decide
  m1 := by decide
  m2 := by decide
  tr := by decide
  cp := by decide
  sw := by decide
  cw := by decide
  bp := by decide
  bw := by decide
  cu := by decide
  bu := by decide
  r1 := by decide
  bv := by decide
  r2 := by decide
  c3 := by decide
  c4 := by decide
  rs := by decide
  c1 := by decide
  p3 := by decide
  p2 := by decide

set_option maxHeartbeats 1000000 in
theorem out5A (c : Dev nD) (i : grid5.Coords) (a1 : Memref sig .tc .vmem S1x8x8 .f32) (h1 : a1.IsWhole) (a2 : Memref sig .tc .vmem S32x16 .f32) (h2 : a2.IsWhole) (a3 : Memref sig .tc .vmem S32x1 .f32) (h3 : a3.IsWhole) (a4 : Memref sig .tc .vmem S32x16 .f32) (h4 : a4.IsWhole) (a5 : Memref sig .tc .vmem S1x1 .f32) (h5 : a5.IsWhole) (a6 : Memref sig .tc .vmem S1x1x1 .f32) (h6 : a6.IsWhole) (a7 : Memref sig .tc .vmem S16x8 .f32) (h7 : a7.IsWhole) (a8 : Memref sig .tc .vmem S4x4 .f32) (h8 : a8.IsWhole) (a9 : Memref sig .tc .vmem S1x1 .f32) (h9 : a9.IsWhole) (hc0 : cond5_0 i) (hc1 : ¬cond5_1 i) (x0 : Vec F S1x8x8 .f32) (x1 : Vec F S32x16 .f32) (x2 : Vec F S32x1 .f32) (x3 : Vec F S32x16 .f32) (x4 : Vec F S1x1 .f32) (x5 : Vec F S1x1x1 .f32) (x6 : Vec F S16x8 .f32) (x7 : Vec F S4x4 .f32) :
    out5_A_8 c i a1 h1 a2 h2 a3 h3 a4 h4 a5 h5 a6 h6 a7 h7 a8 h8 a9 h9 hc0 hc1 x0 x1 x2 x3 x4 x5 x6 x7 = part (h := 8) (g := 4) 0x40800000#32 x0 x1 x2 x3 x4 x5 (stack 8 4 16 x6 rfl) (stack 4 1 4 x7 rfl) := by
  unfold out5_A_8
  rw [View.read_writes_eq_canon _ _ _ (cover5_A_8 c i a1 h1 a2 h2 a3 h3 a4 h4 a5 h5 a6 h6 a7 h7 a8 h8 a9 h9 hc0 hc1 x0 x1 x2 x3 x4 x5 x6 x7)]
  unfold kernelRun5_A
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S1x8x8) hz3, View.ld_unit_zero (S := S32x16) hz2, View.ld_unit_zero (S := S32x1) hz2, View.ld_unit_zero (S := S1x1) hz2, View.ld_unit_zero (S := S1x1x1) hz3]
  have es0 : View.ld (Val := Elt F) (e' := .f32) x6 (Rect.unit (s := S16x8) ![0, 0] ![4, 8] inb_S16x8_S4x8_0_0) = stack 8 4 16 x6 rfl 0 := ld_rows x6 rfl 0 0 rfl _
  have eu0 : View.ld (Val := Elt F) (e' := .f32) x7 (Rect.unit (s := S4x4) ![0, 0] ![1, 4] inb_S4x4_S1x4_0_0) = stack 4 1 4 x7 rfl 0 := ld_rows x7 rfl 0 0 rfl _
  have es1 : View.ld (Val := Elt F) (e' := .f32) x6 (Rect.unit (s := S16x8) ![4, 0] ![4, 8] inb_S16x8_S4x8_4_0) = stack 8 4 16 x6 rfl 1 := ld_rows x6 rfl 1 4 rfl _
  have eu1 : View.ld (Val := Elt F) (e' := .f32) x7 (Rect.unit (s := S4x4) ![1, 0] ![1, 4] inb_S4x4_S1x4_1_0) = stack 4 1 4 x7 rfl 1 := ld_rows x7 rfl 1 1 rfl _
  have es2 : View.ld (Val := Elt F) (e' := .f32) x6 (Rect.unit (s := S16x8) ![8, 0] ![4, 8] inb_S16x8_S4x8_8_0) = stack 8 4 16 x6 rfl 2 := ld_rows x6 rfl 2 8 rfl _
  have eu2 : View.ld (Val := Elt F) (e' := .f32) x7 (Rect.unit (s := S4x4) ![2, 0] ![1, 4] inb_S4x4_S1x4_2_0) = stack 4 1 4 x7 rfl 2 := ld_rows x7 rfl 2 2 rfl _
  have es3 : View.ld (Val := Elt F) (e' := .f32) x6 (Rect.unit (s := S16x8) ![12, 0] ![4, 8] inb_S16x8_S4x8_12_0) = stack 8 4 16 x6 rfl 3 := ld_rows x6 rfl 3 12 rfl _
  have eu3 : View.ld (Val := Elt F) (e' := .f32) x7 (Rect.unit (s := S4x4) ![3, 0] ![1, 4] inb_S4x4_S1x4_3_0) = stack 4 1 4 x7 rfl 3 := ld_rows x7 rfl 3 3 rfl _
  simp only [es0, es1, es2, es3, eu0, eu1, eu2, eu3]
  generalize stack 8 4 16 x6 rfl = S
  generalize stack 4 1 4 x7 rfl = U
  have e : part (h := 8) (g := 4) 0x40800000#32 x0 (k5_pay3 x1) (k5_pay4 x2) (k5_pay5 x3) x4 x5 S U = part (h := 8) (g := 4) 0x40800000#32 x0 x1 x2 x3 x4 x5 S U := by
    unfold k5_pay3 k5_pay4 k5_pay5
    simp only [shapeCast_self]
  rw [← e]
  rfl

set_option maxHeartbeats 1000000 in
theorem out5B (c : Dev nD) (i : grid5.Coords) (a1 : Memref sig .tc .vmem S1x8x8 .f32) (h1 : a1.IsWhole) (a2 : Memref sig .tc .vmem S32x16 .f32) (h2 : a2.IsWhole) (a3 : Memref sig .tc .vmem S32x1 .f32) (h3 : a3.IsWhole) (a4 : Memref sig .tc .vmem S32x16 .f32) (h4 : a4.IsWhole) (a5 : Memref sig .tc .vmem S1x1 .f32) (h5 : a5.IsWhole) (a6 : Memref sig .tc .vmem S1x1x1 .f32) (h6 : a6.IsWhole) (a7 : Memref sig .tc .vmem S16x8 .f32) (h7 : a7.IsWhole) (a8 : Memref sig .tc .vmem S4x4 .f32) (h8 : a8.IsWhole) (a9 : Memref sig .tc .vmem S1x1 .f32) (h9 : a9.IsWhole) (hc0 : ¬cond5_0 i) (hc1 : cond5_1 i) (x0 : Vec F S1x8x8 .f32) (x1 : Vec F S32x16 .f32) (x2 : Vec F S32x1 .f32) (x3 : Vec F S32x16 .f32) (x4 : Vec F S1x1 .f32) (x5 : Vec F S1x1x1 .f32) (x6 : Vec F S16x8 .f32) (x7 : Vec F S4x4 .f32) (xo : Vec F S1x1 .f32) :
    out5_B_8 c i a1 h1 a2 h2 a3 h3 a4 h4 a5 h5 a6 h6 a7 h7 a8 h8 a9 h9 hc0 hc1 x0 x1 x2 x3 x4 x5 x6 x7 xo = addf xo (part (h := 8) (g := 4) 0x40800000#32 x0 x1 x2 x3 x4 x5 (stack 8 4 16 x6 rfl) (stack 4 1 4 x7 rfl)) := by
  unfold out5_B_8
  rw [View.read_writes_eq_canon _ _ _ (cover5_B_8 c i a1 h1 a2 h2 a3 h3 a4 h4 a5 h5 a6 h6 a7 h7 a8 h8 a9 h9 hc0 hc1 x0 x1 x2 x3 x4 x5 x6 x7 xo)]
  unfold kernelRun5_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S1x8x8) hz3, View.ld_unit_zero (S := S32x16) hz2, View.ld_unit_zero (S := S32x1) hz2, View.ld_unit_zero (S := S1x1) hz2, View.ld_unit_zero (S := S1x1x1) hz3]
  have es0 : View.ld (Val := Elt F) (e' := .f32) x6 (Rect.unit (s := S16x8) ![0, 0] ![4, 8] inb_S16x8_S4x8_0_0) = stack 8 4 16 x6 rfl 0 := ld_rows x6 rfl 0 0 rfl _
  have eu0 : View.ld (Val := Elt F) (e' := .f32) x7 (Rect.unit (s := S4x4) ![0, 0] ![1, 4] inb_S4x4_S1x4_0_0) = stack 4 1 4 x7 rfl 0 := ld_rows x7 rfl 0 0 rfl _
  have es1 : View.ld (Val := Elt F) (e' := .f32) x6 (Rect.unit (s := S16x8) ![4, 0] ![4, 8] inb_S16x8_S4x8_4_0) = stack 8 4 16 x6 rfl 1 := ld_rows x6 rfl 1 4 rfl _
  have eu1 : View.ld (Val := Elt F) (e' := .f32) x7 (Rect.unit (s := S4x4) ![1, 0] ![1, 4] inb_S4x4_S1x4_1_0) = stack 4 1 4 x7 rfl 1 := ld_rows x7 rfl 1 1 rfl _
  have es2 : View.ld (Val := Elt F) (e' := .f32) x6 (Rect.unit (s := S16x8) ![8, 0] ![4, 8] inb_S16x8_S4x8_8_0) = stack 8 4 16 x6 rfl 2 := ld_rows x6 rfl 2 8 rfl _
  have eu2 : View.ld (Val := Elt F) (e' := .f32) x7 (Rect.unit (s := S4x4) ![2, 0] ![1, 4] inb_S4x4_S1x4_2_0) = stack 4 1 4 x7 rfl 2 := ld_rows x7 rfl 2 2 rfl _
  have es3 : View.ld (Val := Elt F) (e' := .f32) x6 (Rect.unit (s := S16x8) ![12, 0] ![4, 8] inb_S16x8_S4x8_12_0) = stack 8 4 16 x6 rfl 3 := ld_rows x6 rfl 3 12 rfl _
  have eu3 : View.ld (Val := Elt F) (e' := .f32) x7 (Rect.unit (s := S4x4) ![3, 0] ![1, 4] inb_S4x4_S1x4_3_0) = stack 4 1 4 x7 rfl 3 := ld_rows x7 rfl 3 3 rfl _
  simp only [es0, es1, es2, es3, eu0, eu1, eu2, eu3]
  generalize stack 8 4 16 x6 rfl = S
  generalize stack 4 1 4 x7 rfl = U
  have e : part (h := 8) (g := 4) 0x40800000#32 x0 (k5_pay3 x1) (k5_pay4 x2) (k5_pay5 x3) x4 x5 S U = part (h := 8) (g := 4) 0x40800000#32 x0 x1 x2 x3 x4 x5 S U := by
    unfold k5_pay3 k5_pay4 k5_pay5
    simp only [shapeCast_self]
  rw [← e]
  unfold k5_pay1
  rw [shapeCast_self]
  rfl

end Cert.DM

end
-- ==== Proof.DEq.lean ====
/- The kernel's loss is the reference's: the sum over the samples of what the kernel's discriminator adds for each is the
   reference's mean cross entropy, for finite maps and weights and any biases. -/
module

public import proofs.«01_k».proof.Proof.DRef

@[expose] public section

noncomputable section

namespace Cert.DM

open Idealize.ShloMosaic Idealize.ShloMosaic.ValueIdx
open scoped BigOperators

/-- The leaky activation of one value. -/
def lk (x : EReal) : EReal := leaky (F := Ideal) (s := Z0) (fun _ => x) ix0

theorem leaky_apply {s : Shape} (y : FVec Ideal s .f32) (j : s.Idx) : leaky y j = lk (y j) := rfl

theorem rleaky_apply {h g k hp gp : ℕ} [RD h g k hp gp] (Y : FVec Ideal (ZM 32 g) .f32) (j : (ZM 32 g).Idx) : rleaky h k hp gp Y j = lk (Y j) := rfl

theorem slope : ∃ r : ℝ, 0 ≤ r ∧ Ideal.ofBits .f32 0x3E4CCCCD#32 = (r : EReal) := by
  refine ⟨_, ?_, by simp [Ideal.ofBits, Ideal.ieee, -EReal.coe_mul]; rfl⟩
  norm_num

theorem lk_cases (x : EReal) : lk x = x ∨ lk x = Ideal.ofBits .f32 0x3E4CCCCD#32 * x := by
  show (Scalar.select _ _ _ = _ ∨ Scalar.select _ _ _ = _)
  unfold Scalar.select
  split
  · exact .inl rfl
  · exact .inr rfl

theorem lk_ne_top (x : EReal) (h : x ≠ ⊤) : lk x ≠ ⊤ := by
  obtain ⟨r, hr, e⟩ := slope
  rcases lk_cases x with q | q
  · rw [q]; exact h
  · rw [q, e, mul_comm]; exact mul_ne_top x r hr h

theorem lk_ne_bot (x : EReal) (h : x ≠ ⊥) : lk x ≠ ⊥ := by
  obtain ⟨r, hr, e⟩ := slope
  rcases lk_cases x with q | q
  · rw [q]; exact h
  · rw [q, e, mul_comm]
    intro hb
    refine mul_ne_top (-x) r hr (fun e' => h (EReal.neg_eq_top_iff.1 e')) ?_
    rw [EReal.neg_mul, hb]; rfl

theorem finite_sum {ι : Type} (s : Finset ι) (f : ι → EReal) (hf : ∀ i, ∃ r : ℝ, f i = r) : ∃ r : ℝ, ∑ i ∈ s, f i = r := by
  choose g hg using hf
  exact ⟨∑ i ∈ s, g i, by simp only [hg]; exact (map_sum (⟨⟨Real.toEReal, EReal.coe_zero⟩, EReal.coe_add⟩ : ℝ →+ EReal) g s).symm⟩

theorem finite_pad2 {n : ℕ} (f : Fin n → Fin n → EReal) (hf : ∀ i l, ∃ r : ℝ, f i l = r) (q r : ℕ) : ∃ x : ℝ, pad2 f q r = x := by
  unfold pad2
  split
  · exact hf _ _
  · exact ⟨0, by simp⟩

theorem nsmul_div (b : EReal) (m : ℕ) (hm : 0 < m) : (m • b) * ((1 / (m : ℝ) : ℝ) : EReal) = b := by
  have hm' : (0 : ℝ) < m := by exact_mod_cast hm
  have hi : 0 < 1 / (m : ℝ) := by positivity
  induction b with
  | bot =>
    have e : m • (⊥ : EReal) = ⊥ := by
      obtain ⟨j, rfl⟩ : ∃ j, m = j + 1 := ⟨m - 1, by omega⟩
      rw [succ_nsmul, EReal.add_bot]
    rw [e, EReal.bot_mul_coe_of_pos hi]
  | top =>
    have e : ∀ j : ℕ, (j + 1) • (⊤ : EReal) = ⊤ := by
      intro j
      induction j with
      | zero => simp
      | succ j ih => rw [succ_nsmul, ih]; rfl
    obtain ⟨j, rfl⟩ : ∃ j, m = j + 1 := ⟨m - 1, by omega⟩
    rw [e, EReal.top_mul_coe_of_pos hi]
  | coe x =>
    have e : m • (x : EReal) = ((m * x : ℝ) : EReal) := by
      rw [← nsmul_eq_mul]
      exact (map_nsmul (⟨⟨Real.toEReal, EReal.coe_zero⟩, EReal.coe_add⟩ : ℝ →+ EReal) m x).symm
    rw [e, ← EReal.coe_mul]
    congr 1
    field_simp

/-- The mean of `m` values with a common bias is the mean without it, plus the bias. -/
theorem mean_bias (A b : EReal) (m : ℕ) (hm : 0 < m) : Ideal.div (A + m • b) (m : ℝ) = Ideal.div A (m : ℝ) + b := by
  have hm' : (m : ℝ) ≠ 0 := by exact_mod_cast hm.ne'
  rw [Ideal.div_coe hm', Ideal.div_coe hm', add_mul_pos _ _ _ (by positivity), nsmul_div b m hm]

theorem eight : Ideal.ofBits .f32 0x41000000#32 = ((8 : ℝ) : EReal) := by
  simp [Ideal.ofBits, Ideal.ieee, -EReal.coe_mul]; norm_num

theorem bce_apply (l t : EReal) : bce (F := Ideal) l t = xent l t := by
  unfold bce xent
  show (max l (Ideal.ofBits .f32 0x00000000#32) - l * t) + Ideal.log1p (Ideal.exp (Ideal.ofBits .f32 0x00000000#32 - max l (-l))) = _
  rw [Ideal.ofBits_zero_f32, sub_eq_add_neg (0 : EReal), zero_add]

section

variable {h g k hp gp : ℕ} [DF h g] [RD h g k hp gp]

theorem rloss_apply (l t : FVec Ideal Z8 .f32) :
    rloss h g k hp gp l t ix0 = Ideal.div (∑ b : Fin 8, xent (l (ix1 b)) (t (ix1 b))) (8 : ℝ) := by
  unfold rloss
  refine congrArg₂ Ideal.div ?_ eight
  simp only [Host.reduceAdd, Ideal.hostReduceAdd_def]
  refine (Ideal.hostReduceAdd_total _ (fun b => b.elim0) _ _ _).trans ?_
  rw [zero0_apply, zero_add]
  refine Fintype.sum_equiv ⟨fun i => i 0, fun b => ix1 b, fun i => (eq_ix1 i).symm, fun _ => rfl⟩ _ _ fun i => ?_
  obtain ⟨b, rfl⟩ : ∃ b : Fin 8, i = ix1 b := ⟨i 0, eq_ix1 i⟩
  show (max _ (Ideal.ofBits .f32 0x00000000#32) - _) + _ = _
  rw [Ideal.ofBits_zero_f32]
  rfl

variable (v : Fin 8 → FVec Ideal (⟨3, ![1, h, h]⟩ : Shape) .f32) (w1 w2 : FVec Ideal (SM 32 16) .f32) (c1 : FVec Ideal (SM 32 1) .f32) (c2 : FVec Ideal (SM 1 1) .f32)
  (l : Fin 8 → FVec Ideal (⟨3, ![1, 1, 1]⟩ : Shape) .f32) (S : Fin 4 → FVec Ideal (SM g h) .f32) (U : Fin 4 → FVec Ideal (SM 1 g) .f32)
  (X : FVec Ideal (ZM 1 h) .f32) (t : FVec Ideal Z8 .f32) (W1 : FVec Ideal (ZW 32 1) .f32) (b1 : FVec Ideal ⟨1, ![32]⟩ .f32) (W2 : FVec Ideal (ZW 1 32) .f32) (b2 : FVec Ideal ⟨1, ![1]⟩ .f32)

theorem conv_eq (hv : ∀ b i j, v b (ix3 0 i j) = X (ix4 b 0 i j)) (hw1 : ∀ c t, w1 (ix2 c t) = W1 (ix4 c 0 (hi t) (lo t)))
    (hc1 : ∀ c, c1 (ix2 c 0) = b1 (ix1 c)) (hS : ∀ d i j, S d (ix2 i j) = if 2 * i.val + d.val = j.val + 1 then 1 else 0) (b : Fin 8) (c : Fin 32) (i j : Fin g) :
    conv (mat (g := g) (v b)) w1 c1 S (ix3 c i j) = rconv1 g k hp gp X W1 b1 (ix4 b c i j) := by
  rw [conv_apply, rconv1_apply, hc1]
  congr 1
  refine Finset.sum_congr rfl fun t _ => ?_
  rw [hw1, pick_right _ _ _ (hS (lo t) j), pad2_eq]
  congr 2
  funext p
  rw [pick_left _ _ _ (hS (hi t) i)]
  congr 1
  funext q
  rw [← hv]
  exact shapeCast_apply _ _ _ (ix3 0 q p) (by
    rw [Shape.rowMajor_val_two, Shape.rowMajor_val_three]
    show (0 * h + q.val) * h + p.val = q.val * h + p.val
    simp)

/-- Every channel of the first layer stays clear of one of the two infinities. -/
theorem tame_conv (hX : ∀ b i j, ∃ r : ℝ, X (ix4 b 0 i j) = r) (hW1 : ∀ j, ∃ r : ℝ, W1 j = r) (b : Fin 8) (c : Fin 32) :
    Tame fun p : Fin g × Fin g => lk (rconv1 g k hp gp X W1 b1 (ix4 b c p.1 p.2)) := by
  have key : ∀ p : Fin g × Fin g, ∃ r : ℝ, rconv1 g k hp gp X W1 b1 (ix4 b c p.1 p.2) = (r : EReal) + b1 (ix1 c) := by
    intro p
    rw [rconv1_apply]
    obtain ⟨r, hr⟩ := finite_sum Finset.univ (fun t : Fin 16 => pad2 (fun q r => X (ix4 b 0 q r)) (2 * p.1.val + (hi t).val) (2 * p.2.val + (lo t).val) * W1 (ix4 c 0 (hi t) (lo t)))
      (fun t => by
        obtain ⟨x, hx⟩ := finite_pad2 (fun q r => X (ix4 b 0 q r)) (hX b) (2 * p.1.val + (hi t).val) (2 * p.2.val + (lo t).val)
        obtain ⟨y, hy⟩ := hW1 (ix4 c 0 (hi t) (lo t))
        exact ⟨x * y, by rw [hx, hy, EReal.coe_mul]⟩)
    exact ⟨r, by rw [hr]⟩
  by_cases hb : b1 (ix1 c) = ⊤
  · refine .inr fun p => ?_
    obtain ⟨r, hr⟩ := key p
    refine lk_ne_bot _ ?_
    rw [hr, hb, EReal.coe_add_top]
    exact top_ne_bot
  · refine .inl fun p => ?_
    obtain ⟨r, hr⟩ := key p
    refine lk_ne_top _ ?_
    rw [hr]
    exact EReal.add_ne_top (EReal.coe_ne_top r) hb

/-- The logits agree. -/
theorem logit_eq (n : BitVec 32) (hn : Ideal.ofBits .f32 n = (((k * k : ℕ) : ℝ) : EReal)) (hk : 0 < k)
    (hv : ∀ b i j, v b (ix3 0 i j) = X (ix4 b 0 i j)) (hw1 : ∀ c t, w1 (ix2 c t) = W1 (ix4 c 0 (hi t) (lo t)))
    (hc1 : ∀ c, c1 (ix2 c 0) = b1 (ix1 c)) (hw2 : ∀ c t, w2 (ix2 c t) = W2 (ix4 0 c (hi t) (lo t))) (hc2 : c2 (ix2 0 0) = b2 (ix1 0))
    (hS : ∀ d i j, S d (ix2 i j) = if 2 * i.val + d.val = j.val + 1 then 1 else 0)
    (hU : ∀ d i, U d (ix2 0 i) = if ∃ o : Fin k, 2 * o.val + d.val = i.val + 1 then 1 else 0)
    (hX : ∀ b i j, ∃ r : ℝ, X (ix4 b 0 i j) = r) (hW1 : ∀ j, ∃ r : ℝ, W1 j = r) (hW2 : ∀ j, ∃ r : ℝ, W2 j = r) (b : Fin 8) :
    Ideal.div (total h (leaky (conv (mat (g := g) (v b)) w1 c1 S)) w2 U) (Ideal.ofBits .f32 n) + c2 (ix2 0 0)
      = rmean h g hp gp n (rconv2 h k hp gp (rleaky h k hp gp (rconv1 g k hp gp X W1 b1)) W2 b2) (ix1 b) := by
  choose r hr using hW2
  rw [rmean_apply, total_apply, hn]
  simp only [rconv2_apply, rleaky_apply, leaky_apply, conv_eq (k := k) (hp := hp) (gp := gp) v w1 c1 S X W1 b1 hv hw1 hc1 hS, hw2, hr]
  have P := positions (k := k) (fun c i j => lk (rconv1 g k hp gp X W1 b1 (ix4 b c i j))) (fun c t => r (ix4 0 c (hi t) (lo t))) (fun d i => U d (ix2 0 i)) hU
    (tame_conv X W1 b1 hX hW1 b) (b2 (ix1 0))
  rw [P, mean_bias _ _ _ (Nat.mul_pos hk hk), hc2]

/-- The losses agree. -/
theorem loss_eq (n : BitVec 32) (hn : Ideal.ofBits .f32 n = (((k * k : ℕ) : ℝ) : EReal)) (hk : 0 < k)
    (hv : ∀ b i j, v b (ix3 0 i j) = X (ix4 b 0 i j)) (hw1 : ∀ c t, w1 (ix2 c t) = W1 (ix4 c 0 (hi t) (lo t)))
    (hc1 : ∀ c, c1 (ix2 c 0) = b1 (ix1 c)) (hw2 : ∀ c t, w2 (ix2 c t) = W2 (ix4 0 c (hi t) (lo t))) (hc2 : c2 (ix2 0 0) = b2 (ix1 0))
    (hl : ∀ b, l b (ix3 0 0 0) = t (ix1 b))
    (hS : ∀ d i j, S d (ix2 i j) = if 2 * i.val + d.val = j.val + 1 then 1 else 0)
    (hU : ∀ d i, U d (ix2 0 i) = if ∃ o : Fin k, 2 * o.val + d.val = i.val + 1 then 1 else 0)
    (hX : ∀ b i j, ∃ r : ℝ, X (ix4 b 0 i j) = r) (hW1 : ∀ j, ∃ r : ℝ, W1 j = r) (hW2 : ∀ j, ∃ r : ℝ, W2 j = r) (z : (SM 1 1).Idx) :
    ∑ b : Fin 8, part n (v b) w1 c1 w2 c2 (l b) S U z = rdisc g k hp gp n X t W1 b1 W2 b2 ix0 := by
  unfold rdisc
  rw [rloss_apply, Ideal.div_coe (by norm_num), sum_mul_pos _ _ _ (by norm_num)]
  refine Finset.sum_congr rfl fun b _ => ?_
  rw [← logit_eq v w1 w2 c1 c2 S U X W1 b1 W2 b2 n hn hk hv hw1 hc1 hw2 hc2 hS hU hX hW1 hW2 b, ← hl b, ← bce_apply, ← Ideal.div_coe (by norm_num), ← eight]
  have e2 : extractAt ![0, 0] c2 (DF.p2 h g) = c2 (ix2 0 0) := by
    refine congrArg c2 ?_
    funext a; match a with | ⟨0, _⟩ => rfl | ⟨1, _⟩ => rfl
  have e3 : extractAt ![0, 0, 0] (l b) (DF.p3 h g) = l b (ix3 0 0 0) := by
    refine congrArg (l b) ?_
    funext a; match a with | ⟨0, _⟩ => rfl | ⟨1, _⟩ => rfl | ⟨2, _⟩ => rfl
  rw [← e2, ← e3]
  rfl

end

end Cert.DM

end
-- ==== Proof.DLit.lean ====
/- The constant zero-one matrices of the kernel's discriminators. -/
module

public import proofs.«01_k».proof.Proof.DPay
public import proofs.«01_k».proof.Proof.DEq

@[expose] public section

set_option maxRecDepth 16384

noncomputable section

namespace Cert.DM

open Idealize.ShloMosaic Idealize.ShloMosaic.ValueIdx Cert.KernelIdeal Cert.KernelIdeal.Gen

theorem one_bits : Ideal.ofBits .f32 0x3F800000#32 = 1 := by
  have h : Ideal.ofBits .f32 0x3F800000#32 = ((1 : ℝ) : EReal) := by simp [Ideal.ofBits, Ideal.ieee, -EReal.coe_mul]; norm_num
  rw [h, EReal.coe_one]

/-- A matrix given by a table of the words of zero and one. -/
theorem stack_table {h g n N : ℕ} (lit : Fin N → BitVec 32) (hN : (SM n h).numel = N) (hn : 4 * g = n) (P : Fin 4 → Fin g → Fin h → Prop) [∀ d i j, Decidable (P d i j)]
    (hlt : ∀ (d : Fin 4) (i : Fin g) (j : Fin h), (d.val * g + i.val) * h + j.val < N)
    (hlit : ∀ d i j, lit ⟨(d.val * g + i.val) * h + j.val, hlt d i j⟩ = if P d i j then 0x3F800000#32 else 0x00000000#32) (d : Fin 4) (i : Fin g) (j : Fin h) :
    stack (F := Ideal) h g n (fun q => FloatOps.ofBits .f32 (lit (((SM n h).rowMajor q).cast hN))) hn d (ix2 i j) = if P d i j then 1 else 0 := by
  have e : ∀ (r : Fin n), r.val = d.val * g + i.val → ((SM n h).rowMajor (ix2 r j)).cast hN = ⟨(d.val * g + i.val) * h + j.val, hlt d i j⟩ := by
    intro r hr
    refine Fin.ext ?_
    show ((SM n h).rowMajor (ix2 r j)).val = _
    rw [Shape.rowMajor_val_two]
    show r.val * h + j.val = (d.val * g + i.val) * h + j.val
    rw [hr]
  show Ideal.ofBits .f32 (lit (((SM n h).rowMajor (ix2 _ j)).cast hN)) = _
  rw [e _ rfl, hlit]
  split
  · exact one_bits
  · exact Ideal.ofBits_zero_f32

/-- The stacked picking matrices at side 32. -/
abbrev lS32 : FVec Ideal S64x32 .f32 := fun i => FloatOps.ofBits .f32 (lit0 (S64x32.rowMajor i))
abbrev lU32 : FVec Ideal S4x16 .f32 := fun i => FloatOps.ofBits .f32 (lit1 (S4x16.rowMajor i))
/-- At side 16. -/
abbrev lS16 : FVec Ideal S32x16 .f32 := fun i => FloatOps.ofBits .f32 (lit2 (S32x16.rowMajor i))
abbrev lU16 : FVec Ideal S4x8 .f32 := fun i => FloatOps.ofBits .f32 (lit3 (S4x8.rowMajor i))
/-- At side 8. -/
abbrev lS8 : FVec Ideal S16x8 .f32 := fun i => FloatOps.ofBits .f32 (lit4 (S16x8.rowMajor i))
abbrev lU8 : FVec Ideal S4x4 .f32 := fun i => FloatOps.ofBits .f32 (lit5 (S4x4.rowMajor i))

theorem S32_apply (d : Fin 4) (i : Fin 16) (j : Fin 32) : stack 32 16 64 lS32 rfl d (ix2 i j) = if 2 * i.val + d.val = j.val + 1 then 1 else 0 :=
  stack_table (h := 32) (g := 16) (n := 64) lit0 rfl rfl (fun d i j => 2 * i.val + d.val = j.val + 1) (by decide +kernel) (by decide +kernel) d i j
theorem U32_apply (d : Fin 4) (i : Fin 16) : stack 16 1 4 lU32 rfl d (ix2 0 i) = if ∃ o : Fin 8, 2 * o.val + d.val = i.val + 1 then 1 else 0 :=
  stack_table (h := 16) (g := 1) (n := 4) lit1 rfl rfl (fun d _ i => ∃ o : Fin 8, 2 * o.val + d.val = i.val + 1) (by decide +kernel) (by decide +kernel) d 0 i
theorem S16_apply (d : Fin 4) (i : Fin 8) (j : Fin 16) : stack 16 8 32 lS16 rfl d (ix2 i j) = if 2 * i.val + d.val = j.val + 1 then 1 else 0 :=
  stack_table (h := 16) (g := 8) (n := 32) lit2 rfl rfl (fun d i j => 2 * i.val + d.val = j.val + 1) (by decide +kernel) (by decide +kernel) d i j
theorem U16_apply (d : Fin 4) (i : Fin 8) : stack 8 1 4 lU16 rfl d (ix2 0 i) = if ∃ o : Fin 4, 2 * o.val + d.val = i.val + 1 then 1 else 0 :=
  stack_table (h := 8) (g := 1) (n := 4) lit3 rfl rfl (fun d _ i => ∃ o : Fin 4, 2 * o.val + d.val = i.val + 1) (by decide +kernel) (by decide +kernel) d 0 i
theorem S8_apply (d : Fin 4) (i : Fin 4) (j : Fin 8) : stack 8 4 16 lS8 rfl d (ix2 i j) = if 2 * i.val + d.val = j.val + 1 then 1 else 0 :=
  stack_table (h := 8) (g := 4) (n := 16) lit4 rfl rfl (fun d i j => 2 * i.val + d.val = j.val + 1) (by decide +kernel) (by decide +kernel) d i j
theorem U8_apply (d : Fin 4) (i : Fin 4) : stack 4 1 4 lU8 rfl d (ix2 0 i) = if ∃ o : Fin 2, 2 * o.val + d.val = i.val + 1 then 1 else 0 :=
  stack_table (h := 4) (g := 1) (n := 4) lit5 rfl rfl (fun d _ i => ∃ o : Fin 2, 2 * o.val + d.val = i.val + 1) (by decide +kernel) (by decide +kernel) d 0 i

end Cert.DM

end
-- ==== Proof.KPay.lean ====
/- The values of the kernel's clustering calls: each call's body computes one function of its block, the clustering of
   `clus`, at 1024, 256 and 64 coordinates. -/
module

public import proofs.«01_k».proof.Proof.KKern
public import proofs.«01_k».proof.Proof.Whole.Region0
public import proofs.«01_k».proof.Proof.Whole.Region2
public import proofs.«01_k».proof.Proof.Whole.Region4

@[expose] public section

set_option maxRecDepth 16384

noncomputable section

namespace Cert.KM

open Idealize.ShloMosaic Cert.KernelIdeal Cert.KernelIdeal.Gen

variable {F : FTy → Type} [FloatOps F]

/-! ### The clustering at 1024 coordinates -/

instance kf1024 : KF 1024 where
  r0 := reduces_S768x1024_S1024
  r1 := reduces_S768x1024_S768
  rs := by decide
  cd := shapeCasts_S1024_S1x1024
  c7 := shapeCasts_S768_S768x1
  c1 := by decide
  cm := by decide
  b0 := broadcasts_S1x1024_S768x1024
  b1 := by decide
  s0 := slices_S768x1024_o0_0_S1x1024
  s1 := slices_S768x1024_o1_0_S1x1024
  cx := shapeCasts_S1x768x1024_S768x1024
  cf := by decide
  p1 := by decide
  w1 := by decide

section
variable (x : FVec F S768x1024 .f32) (t : FVec F S1x1024 .f32) (m : IVec S768x1 1) (v : FVec F S1x768x1024 .f32)

theorem start1024 : k0_pay4 v = next (mat v) (colsum (mat v)) (init (mat v)) := rfl
theorem mean1a1024 : k0_pay8 x t m = cen1 x (next x t m) := rfl
theorem mean0a1024 : k0_pay9 x t m = rep (cen0 x t (next x t m)) := rfl
theorem mean1b1024 : k0_pay18 x t m = cen1 x (next x t m) := rfl
theorem mean0b1024 : k0_pay19 x t m = rep (cen0 x t (next x t m)) := rfl
theorem weights1024 : k0_pay10 x t (cen1 x m) (rep (cen0 x t m)) = fl 1024 (next x t (next x t m)) := rfl
theorem weights'1024 : k0_pay20 x t (cen1 x m) (rep (cen0 x t m)) = fl 1024 (next x t (next x t m)) := rfl
theorem mask1024 : k0_pay14 x t (cnt 1024 (fl 1024 m)) (rest (cnt 1024 (fl 1024 m))) (xm x (fl 1024 m)) = next x t (next x t m) := rfl

theorem count1024 : k0_pay11 x t (cen1 x m) (rep (cen0 x t m)) = cnt 1024 (fl 1024 (next x t (next x t m))) :=
  (congrArg (cnt 1024) (weights1024 x t m) :)
theorem left1024 : k0_pay12 x t (cen1 x m) (rep (cen0 x t m)) = rest (cnt 1024 (fl 1024 (next x t (next x t m)))) :=
  (congrArg rest (count1024 x t m) :)
theorem rows1024 : k0_pay13 x t (cen1 x m) (rep (cen0 x t m)) = xm x (fl 1024 (next x t (next x t m))) :=
  (congrArg (xm x) (weights1024 x t m) :)
theorem count'1024 : k0_pay21 x t (cen1 x m) (rep (cen0 x t m)) = cnt 1024 (fl 1024 (next x t (next x t m))) :=
  (congrArg (cnt 1024) (weights'1024 x t m) :)
theorem left'1024 : k0_pay22 x t (cen1 x m) (rep (cen0 x t m)) = rest (cnt 1024 (fl 1024 (next x t (next x t m)))) :=
  (congrArg rest (count'1024 x t m) :)
theorem rows'1024 : k0_pay23 x t (cen1 x m) (rep (cen0 x t m)) = xm x (fl 1024 (next x t (next x t m))) :=
  (congrArg (xm x) (weights'1024 x t m) :)

theorem pick1024 (n1 n0 : F .f32) : k0_pay1 t n1 n0 x = pick t n1 n0 x := rfl

/-- What the call leaves in its output block is the clustering of its data block. -/
theorem out1024 : out0_1 v = clus v := by
  have h2 : k0_pay2 v = mat v := rfl
  have h3 : k0_pay3 v = colsum (mat v) := rfl
  unfold out0_1
  rw [View.canon_unit_zero (by funext a; match a with | ⟨0, _⟩ => rfl | ⟨1, _⟩ => rfl | ⟨2, _⟩ => rfl)]
  simp only [k0_pay24, k0_pay25, k0_pay26, k0_pay27, k0_pay28, k0_pay29, k0_pay30, k0_pay31]
  rw [View.ld_unit_zero (by funext a; match a with | ⟨0, _⟩ => rfl | ⟨1, _⟩ => rfl | ⟨2, _⟩ => rfl)]
  rw [h2, h3, start1024, mean1a1024, mean0a1024, count1024, left1024, rows1024, mask1024, mean1b1024, mean0b1024, count'1024, left'1024, rows'1024, pick1024]
  rfl
end

/-! ### The clustering at 256 coordinates -/

instance kf256 : KF 256 where
  r0 := reduces_S768x256_S256
  r1 := reduces_S768x256_S768
  rs := by decide
  cd := shapeCasts_S256_S1x256
  c7 := shapeCasts_S768_S768x1
  c1 := by decide
  cm := by decide
  b0 := broadcasts_S1x256_S768x256
  b1 := by decide
  s0 := slices_S768x256_o0_0_S1x256
  s1 := slices_S768x256_o1_0_S1x256
  cx := shapeCasts_S1x768x256_S768x256
  cf := by decide
  p1 := by decide
  w1 := by decide

section
variable (x : FVec F S768x256 .f32) (t : FVec F S1x256 .f32) (m : IVec S768x1 1) (v : FVec F S1x768x256 .f32)

theorem start256 : k2_pay4 v = next (mat v) (colsum (mat v)) (init (mat v)) := rfl
theorem mean1a256 : k2_pay8 x t m = cen1 x (next x t m) := rfl
theorem mean0a256 : k2_pay9 x t m = rep (cen0 x t (next x t m)) := rfl
theorem mean1b256 : k2_pay18 x t m = cen1 x (next x t m) := rfl
theorem mean0b256 : k2_pay19 x t m = rep (cen0 x t (next x t m)) := rfl
theorem weights256 : k2_pay10 x t (cen1 x m) (rep (cen0 x t m)) = fl 256 (next x t (next x t m)) := rfl
theorem weights'256 : k2_pay20 x t (cen1 x m) (rep (cen0 x t m)) = fl 256 (next x t (next x t m)) := rfl
theorem mask256 : k2_pay14 x t (cnt 256 (fl 256 m)) (rest (cnt 256 (fl 256 m))) (xm x (fl 256 m)) = next x t (next x t m) := rfl

theorem count256 : k2_pay11 x t (cen1 x m) (rep (cen0 x t m)) = cnt 256 (fl 256 (next x t (next x t m))) :=
  (congrArg (cnt 256) (weights256 x t m) :)
theorem left256 : k2_pay12 x t (cen1 x m) (rep (cen0 x t m)) = rest (cnt 256 (fl 256 (next x t (next x t m)))) :=
  (congrArg rest (count256 x t m) :)
theorem rows256 : k2_pay13 x t (cen1 x m) (rep (cen0 x t m)) = xm x (fl 256 (next x t (next x t m))) :=
  (congrArg (xm x) (weights256 x t m) :)
theorem count'256 : k2_pay21 x t (cen1 x m) (rep (cen0 x t m)) = cnt 256 (fl 256 (next x t (next x t m))) :=
  (congrArg (cnt 256) (weights'256 x t m) :)
theorem left'256 : k2_pay22 x t (cen1 x m) (rep (cen0 x t m)) = rest (cnt 256 (fl 256 (next x t (next x t m)))) :=
  (congrArg rest (count'256 x t m) :)
theorem rows'256 : k2_pay23 x t (cen1 x m) (rep (cen0 x t m)) = xm x (fl 256 (next x t (next x t m))) :=
  (congrArg (xm x) (weights'256 x t m) :)

theorem pick256 (n1 n0 : F .f32) : k2_pay1 t n1 n0 x = pick t n1 n0 x := rfl

/-- What the call leaves in its output block is the clustering of its data block. -/
theorem out256 : out2_1 v = clus v := by
  have h2 : k2_pay2 v = mat v := rfl
  have h3 : k2_pay3 v = colsum (mat v) := rfl
  unfold out2_1
  rw [View.canon_unit_zero (by funext a; match a with | ⟨0, _⟩ => rfl | ⟨1, _⟩ => rfl | ⟨2, _⟩ => rfl)]
  simp only [k2_pay24, k2_pay25, k2_pay26, k2_pay27, k2_pay28, k2_pay29, k2_pay30, k2_pay31]
  rw [View.ld_unit_zero (by funext a; match a with | ⟨0, _⟩ => rfl | ⟨1, _⟩ => rfl | ⟨2, _⟩ => rfl)]
  rw [h2, h3, start256, mean1a256, mean0a256, count256, left256, rows256, mask256, mean1b256, mean0b256, count'256, left'256, rows'256, pick256]
  rfl
end

/-! ### The clustering at 64 coordinates -/

instance kf64 : KF 64 where
  r0 := reduces_S768x64_S64
  r1 := reduces_S768x64_S768
  rs := by decide
  cd := shapeCasts_S64_S1x64
  c7 := shapeCasts_S768_S768x1
  c1 := by decide
  cm := by decide
  b0 := broadcasts_S1x64_S768x64
  b1 := by decide
  s0 := slices_S768x64_o0_0_S1x64
  s1 := slices_S768x64_o1_0_S1x64
  cx := shapeCasts_S1x768x64_S768x64
  cf := by decide
  p1 := by decide
  w1 := by decide

section
variable (x : FVec F S768x64 .f32) (t : FVec F S1x64 .f32) (m : IVec S768x1 1) (v : FVec F S1x768x64 .f32)

theorem start64 : k4_pay4 v = next (mat v) (colsum (mat v)) (init (mat v)) := rfl
theorem mean1a64 : k4_pay8 x t m = cen1 x (next x t m) := rfl
theorem mean0a64 : k4_pay9 x t m = rep (cen0 x t (next x t m)) := rfl
theorem mean1b64 : k4_pay18 x t m = cen1 x (next x t m) := rfl
theorem mean0b64 : k4_pay19 x t m = rep (cen0 x t (next x t m)) := rfl
theorem weights64 : k4_pay10 x t (cen1 x m) (rep (cen0 x t m)) = fl 64 (next x t (next x t m)) := rfl
theorem weights'64 : k4_pay20 x t (cen1 x m) (rep (cen0 x t m)) = fl 64 (next x t (next x t m)) := rfl
theorem mask64 : k4_pay14 x t (cnt 64 (fl 64 m)) (rest (cnt 64 (fl 64 m))) (xm x (fl 64 m)) = next x t (next x t m) := rfl

theorem count64 : k4_pay11 x t (cen1 x m) (rep (cen0 x t m)) = cnt 64 (fl 64 (next x t (next x t m))) :=
  (congrArg (cnt 64) (weights64 x t m) :)
theorem left64 : k4_pay12 x t (cen1 x m) (rep (cen0 x t m)) = rest (cnt 64 (fl 64 (next x t (next x t m)))) :=
  (congrArg rest (count64 x t m) :)
theorem rows64 : k4_pay13 x t (cen1 x m) (rep (cen0 x t m)) = xm x (fl 64 (next x t (next x t m))) :=
  (congrArg (xm x) (weights64 x t m) :)
theorem count'64 : k4_pay21 x t (cen1 x m) (rep (cen0 x t m)) = cnt 64 (fl 64 (next x t (next x t m))) :=
  (congrArg (cnt 64) (weights'64 x t m) :)
theorem left'64 : k4_pay22 x t (cen1 x m) (rep (cen0 x t m)) = rest (cnt 64 (fl 64 (next x t (next x t m)))) :=
  (congrArg rest (count'64 x t m) :)
theorem rows'64 : k4_pay23 x t (cen1 x m) (rep (cen0 x t m)) = xm x (fl 64 (next x t (next x t m))) :=
  (congrArg (xm x) (weights'64 x t m) :)

theorem pick64 (n1 n0 : F .f32) : k4_pay1 t n1 n0 x = pick t n1 n0 x := rfl

/-- What the call leaves in its output block is the clustering of its data block. -/
theorem out64 : out4_1 v = clus v := by
  have h2 : k4_pay2 v = mat v := rfl
  have h3 : k4_pay3 v = colsum (mat v) := rfl
  unfold out4_1
  rw [View.canon_unit_zero (by funext a; match a with | ⟨0, _⟩ => rfl | ⟨1, _⟩ => rfl | ⟨2, _⟩ => rfl)]
  simp only [k4_pay24, k4_pay25, k4_pay26, k4_pay27, k4_pay28, k4_pay29, k4_pay30, k4_pay31]
  rw [View.ld_unit_zero (by funext a; match a with | ⟨0, _⟩ => rfl | ⟨1, _⟩ => rfl | ⟨2, _⟩ => rfl)]
  rw [h2, h3, start64, mean1a64, mean0a64, count64, left64, rows64, mask64, mean1b64, mean0b64, count'64, left'64, rows'64, pick64]
  rfl
end

end Cert.KM

end
-- ==== Proof.MapEq.lean ====
/- One feature map's loss: the sum of the samples' contributions as the kernel forms them, from the picked centers of the
   samples, is the reference's loss of the reference's picked centers, for finite data. -/
module

public import proofs.«01_k».proof.Proof.DEq
public import proofs.«01_k».proof.Proof.KKern
public import proofs.«01_k».proof.Proof.KRef

@[expose] public section

noncomputable section

namespace Cert.Out

open Idealize.ShloMosaic Idealize.ShloMosaic.ValueIdx Cert.KM Cert.DM
open scoped BigOperators

/-- Sample `b` of eight. -/
def samp {F : FTy → Type} {n d : ℕ} (X : FVec F (⟨3, ![8, n, d]⟩ : Shape) .f32) (b : Fin 8) : FVec F (⟨3, ![1, n, d]⟩ : Shape) .f32 :=
  fun j => X (ix3 b (j 1) (j 2))

/-- The samples' picked centers, one row per sample. -/
def centers {F : FTy → Type} [FloatOps F] {d : ℕ} [KF d] (X : FVec F (⟨3, ![8, 768, d]⟩ : Shape) .f32) : FVec F (⟨3, ![8, 1, d]⟩ : Shape) .f32 :=
  fun i => clus (samp X (i 0)) (ix3 0 0 (i 2))

/-- The mean of the larger cluster of finite data is finite. -/
theorem best_real {d : ℕ} (X : Fin 768 → Fin d → EReal) (hX : ∀ i j, ∃ r : ℝ, X i j = r) (m : Fin 768 → Bool) (j : Fin d) :
    ∃ r : ℝ, best X m j = r := by
  choose R hR using hX
  have hw : ∀ (b : Bool) (k : Fin 2), ∃ w : ℝ, wt b k = w := by
    intro b k
    unfold wt
    split
    · exact ⟨_, one_coe b⟩
    · exact ⟨_, one_coe !b⟩
  choose w hw using hw
  have key : ∀ k, ∃ r : ℝ, cen X m k j = r := by
    intro k
    unfold cen
    simp only [hw, hR, ← EReal.coe_mul, sum_coe]
    have e : max ((∑ i, w (m i) k : ℝ) : EReal) 1 = ((max (∑ i, w (m i) k) 1 : ℝ) : EReal) := by
      exact (EReal.coe_strictMono.monotone.map_max).symm
    rw [e, Ideal.div_coe (by have := le_max_right (∑ i, w (m i) k) 1; linarith), ← EReal.coe_mul]
    exact ⟨_, rfl⟩
  exact key _

theorem num64 : Ideal.ofBits .f32 0x42800000#32 = (((8 * 8 : ℕ) : ℝ) : EReal) := by
  simp [Ideal.ofBits, Ideal.ieee, -EReal.coe_mul]; norm_num
theorem num16 : Ideal.ofBits .f32 0x41800000#32 = (((4 * 4 : ℕ) : ℝ) : EReal) := by
  simp [Ideal.ofBits, Ideal.ieee, -EReal.coe_mul]; norm_num
theorem num4 : Ideal.ofBits .f32 0x40800000#32 = (((2 * 2 : ℕ) : ℝ) : EReal) := by
  simp [Ideal.ofBits, Ideal.ieee, -EReal.coe_mul]; norm_num

section

variable {d h g k hp gp : ℕ} [KF d] [RF d] [DF h g] [RD h g k hp gp] (hd : h * h = d)
  (x : FVec Ideal (⟨3, ![8, 768, d]⟩ : Shape) .f32)

theorem centers_apply (hx : ∀ i, ∃ r : ℝ, x i = r) (b : Fin 8) (u : Fin 1) (j : Fin d) :
    centers x (ix3 b u j) = rclus x (ix2 b j) := by
  have e : arr (KM.mat (samp x b)) = rarr x b := by
    funext i j
    rw [mat_apply]
    rfl
  rw [rclus_apply, ← e]
  exact clus_apply (samp x b) (fun i j => by rw [mat_apply]; exact hx _) 0 0 j

theorem rclus_real (hx : ∀ i, ∃ r : ℝ, x i = r) (b : Fin 8) (j : Fin d) : ∃ r : ℝ, rclus x (ix2 b j) = r := by
  rw [rclus_apply]
  exact best_real _ (fun i j => hx _) _ _

/-- The place of row `i`, column `j` in a row of `h * h` entries. -/
def place (i j : Fin h) : Fin d := ⟨i.val * h + j.val, by have := i.isLt; have := j.isLt; rw [← hd]; nlinarith⟩

theorem rows_apply (hx : ∀ i, ∃ r : ℝ, x i = r) (cv : (⟨3, ![8, 1, d]⟩ : Shape).ShapeCasts ⟨3, ![8, h, h]⟩) (b : Fin 8) (i j : Fin h) :
    shapeCast ⟨3, ![8, h, h]⟩ (centers x) cv (ix3 b i j) = rclus x (ix2 b (place hd i j)) := by
  rw [← centers_apply x hx b 0]
  refine shapeCast_apply _ _ _ _ ?_
  rw [Shape.rowMajor_val_three, Shape.rowMajor_val_three]
  show (b.val * 1 + 0) * d + (i.val * h + j.val) = (b.val * h + i.val) * h + j.val
  rw [← hd]
  ring

theorem image_apply (R : FVec Ideal (⟨2, ![8, d]⟩ : Shape) .f32) (cr : (⟨2, ![8, d]⟩ : Shape).ShapeCasts ⟨4, ![8, 1, h, h]⟩) (b : Fin 8) (i j : Fin h) :
    shapeCast ⟨4, ![8, 1, h, h]⟩ R cr (ix4 b 0 i j) = R (ix2 b (place hd i j)) := by
  refine shapeCast_apply _ _ _ _ ?_
  rw [Shape.rowMajor_val_two, Shape.rowMajor_val_four]
  show b.val * d + (i.val * h + j.val) = ((b.val * 1 + 0) * h + i.val) * h + j.val
  rw [← hd]
  ring

theorem taps1_apply (W : FVec Ideal (⟨4, ![32, 1, 4, 4]⟩ : Shape) .f32) (cw : (⟨4, ![32, 1, 4, 4]⟩ : Shape).ShapeCasts (SM 32 16)) (c : Fin 32) (t : Fin 16) :
    shapeCast (SM 32 16) W cw (ix2 c t) = W (ix4 c 0 (hi t) (lo t)) := by
  refine shapeCast_apply _ _ _ _ ?_
  rw [Shape.rowMajor_val_two, Shape.rowMajor_val_four]
  show ((c.val * 1 + 0) * 4 + t.val / 4) * 4 + t.val % 4 = c.val * 16 + t.val
  omega

theorem taps2_apply (W : FVec Ideal (⟨4, ![1, 32, 4, 4]⟩ : Shape) .f32) (cw : (⟨4, ![1, 32, 4, 4]⟩ : Shape).ShapeCasts (SM 32 16)) (c : Fin 32) (t : Fin 16) :
    shapeCast (SM 32 16) W cw (ix2 c t) = W (ix4 0 c (hi t) (lo t)) := by
  refine shapeCast_apply _ _ _ _ ?_
  rw [Shape.rowMajor_val_two, Shape.rowMajor_val_four]
  show ((0 * 32 + c.val) * 4 + t.val / 4) * 4 + t.val % 4 = c.val * 16 + t.val
  omega

theorem bias1_apply (b1 : FVec Ideal (⟨1, ![32]⟩ : Shape) .f32) (cb : (⟨1, ![32]⟩ : Shape).ShapeCasts (SM 32 1)) (c : Fin 32) :
    shapeCast (SM 32 1) b1 cb (ix2 c 0) = b1 (ix1 c) := by
  refine shapeCast_apply _ _ _ _ ?_
  rw [Shape.rowMajor_val_two, Shape.rowMajor_val_one]
  show c.val = c.val * 1 + 0
  omega

theorem bias2_apply (b2 : FVec Ideal (⟨1, ![1]⟩ : Shape) .f32) (cb : (⟨1, ![1]⟩ : Shape).ShapeCasts (SM 1 1)) :
    shapeCast (SM 1 1) b2 cb (ix2 0 0) = b2 (ix1 0) := by
  refine shapeCast_apply _ _ _ _ ?_
  rw [Shape.rowMajor_val_two, Shape.rowMajor_val_one]
  rfl

theorem label_apply (t : FVec Ideal (⟨1, ![8]⟩ : Shape) .f32) (cl : (⟨1, ![8]⟩ : Shape).ShapeCasts ⟨3, ![8, 1, 1]⟩) (b : Fin 8) :
    samp (shapeCast ⟨3, ![8, 1, 1]⟩ t cl) b (ix3 0 0 0) = t (ix1 b) := by
  refine shapeCast_apply _ _ _ _ ?_
  rw [Shape.rowMajor_val_three, Shape.rowMajor_val_one]
  show b.val = (b.val * 1 + 0) * 1 + 0
  omega

include hd in
/-- The kernel's sum over the samples is the reference's loss. -/
theorem map_eq (n : BitVec 32) (hn : Ideal.ofBits .f32 n = (((k * k : ℕ) : ℝ) : EReal)) (hk : 0 < k)
    (S : Fin 4 → FVec Ideal (SM g h) .f32) (U : Fin 4 → FVec Ideal (SM 1 g) .f32)
    (hS : ∀ d i j, S d (ix2 i j) = if 2 * i.val + d.val = j.val + 1 then 1 else 0)
    (hU : ∀ d i, U d (ix2 0 i) = if ∃ o : Fin k, 2 * o.val + d.val = i.val + 1 then 1 else 0)
    (t : FVec Ideal (⟨1, ![8]⟩ : Shape) .f32) (W1 : FVec Ideal (⟨4, ![32, 1, 4, 4]⟩ : Shape) .f32) (b1 : FVec Ideal (⟨1, ![32]⟩ : Shape) .f32)
    (W2 : FVec Ideal (⟨4, ![1, 32, 4, 4]⟩ : Shape) .f32) (b2 : FVec Ideal (⟨1, ![1]⟩ : Shape) .f32)
    (hx : ∀ i, ∃ r : ℝ, x i = r) (hW1 : ∀ j, ∃ r : ℝ, W1 j = r) (hW2 : ∀ j, ∃ r : ℝ, W2 j = r)
    (cv : (⟨3, ![8, 1, d]⟩ : Shape).ShapeCasts ⟨3, ![8, h, h]⟩) (cr : (⟨2, ![8, d]⟩ : Shape).ShapeCasts ⟨4, ![8, 1, h, h]⟩)
    (cw1 : (⟨4, ![32, 1, 4, 4]⟩ : Shape).ShapeCasts (SM 32 16)) (cb1 : (⟨1, ![32]⟩ : Shape).ShapeCasts (SM 32 1))
    (cw2 : (⟨4, ![1, 32, 4, 4]⟩ : Shape).ShapeCasts (SM 32 16)) (cb2 : (⟨1, ![1]⟩ : Shape).ShapeCasts (SM 1 1))
    (cl : (⟨1, ![8]⟩ : Shape).ShapeCasts ⟨3, ![8, 1, 1]⟩) (z : (SM 1 1).Idx) :
    ∑ b : Fin 8, part n (samp (shapeCast ⟨3, ![8, h, h]⟩ (centers x) cv) b) (shapeCast (SM 32 16) W1 cw1) (shapeCast (SM 32 1) b1 cb1)
        (shapeCast (SM 32 16) W2 cw2) (shapeCast (SM 1 1) b2 cb2) (samp (shapeCast ⟨3, ![8, 1, 1]⟩ t cl) b) S U z
      = rdisc g k hp gp n (shapeCast ⟨4, ![8, 1, h, h]⟩ (rclus x) cr) t W1 b1 W2 b2 ix0 :=
  loss_eq (fun b => samp (shapeCast ⟨3, ![8, h, h]⟩ (centers x) cv) b) _ _ _ _ (fun b => samp (shapeCast ⟨3, ![8, 1, 1]⟩ t cl) b) S U _ t W1 b1 W2 b2 n hn hk
    (fun b i j => (rows_apply hd x hx cv b i j).trans (image_apply hd (rclus x) cr b i j).symm)
    (taps1_apply W1 cw1) (bias1_apply b1 cb1) (taps2_apply W2 cw2) (bias2_apply b2 cb2) (label_apply t cl) hS hU
    (fun b i j => by rw [image_apply hd]; exact rclus_real x hx b _) hW1 hW2 z

end

end Cert.Out

end
-- ==== Proof.Out0.lean ====
/- The first map's loss as the run leaves it. -/
module

public import proofs.«01_k».proof.Proof.DLit
public import proofs.«01_k».proof.Proof.KPay
public import proofs.«01_k».proof.Proof.MapEq
public import proofs.«01_k».proof.Proof.Whole.All
public import Idealize.ShloMosaic.Lib.Pipeline.ValueKit

@[expose] public section

set_option maxRecDepth 16384

noncomputable section

namespace Cert.Out

open Idealize.ShloMosaic Idealize.ShloMosaic.TcCoe Cert.KernelIdeal Cert.KernelIdeal.Gen Cert.KM Cert.DM
open scoped BigOperators

section Region0

variable {F : FTy → Type} [FloatOps F] (V : (c : Dev nD) → (b : Ref sig .tc) → Buf (Elt F) ((c : Thread nD τ).loc b)) (c : Dev nD)

theorem at0_0 : ∀ t : Fin cfg0.N, win0_0.index t = ![t.val, 0, 0] := (by decide +kernel : ∀ t : Fin grid0.N, _)
theorem at0_1 : ∀ t : Fin cfg0.N, win0_1.index t = ![t.val, 0, 0] := (by decide +kernel : ∀ t : Fin grid0.N, _)

theorem samp0 (t : Fin cfg0.N) : iblk0 V c 0 t = samp (n := 768) (d := 1024) (V c main_v2) ⟨t.val, lt_of_lt_of_eq t.isLt N_0⟩ := by
  funext j
  blk_simp [iblk0]
  unfold samp
  congr 1
  blk_ext [at0_0]

/-- The array of the picked centers after the clustering. -/
theorem centers0 : (dat0 V c).arrAt 1 cfg0.N = centers (d := 1024) (V c main_v2) := by
  refine (dat0 V c).arrAt_eq_of_covers 1 _ (by decide +kernel) fun t hf y => ?_
  blk_simp
  rw [after0_1, out1024, samp0]
  unfold centers
  have e0 : (win0_1.blk t).view.emb y 0 = (⟨t.val, lt_of_lt_of_eq t.isLt N_0⟩ : Fin 8) := by
    apply Fin.ext
    show win0_1.index t 0 * 1 + 1 * (y 0).val = t.val
    rw [at0_1]
    idx_bounds y
    show t.val * 1 + 1 * (y 0).val = t.val
    omega
  have e2 : ((win0_1.blk t).view.emb y 2).val = (y 2).val := by
    show win0_1.index t 2 * 1024 + 1 * (y 2).val = (y 2).val
    rw [at0_1]
    show 0 * 1024 + 1 * (y 2).val = (y 2).val
    omega
  rw [e0]
  congr 1
  idx_bounds y
  funext a
  apply Fin.ext
  match a with
  | ⟨0, _⟩ => show (y 0).val = 0; omega
  | ⟨1, _⟩ => show (y 1).val = 0; omega
  | ⟨2, _⟩ => exact e2.symm

end Region0

section Region1

variable {F : FTy → Type} [FloatOps F] (V : (c : Dev nD) → (b : Ref sig .tc) → Buf (Elt F) ((c : Thread nD τ).loc b)) (c : Dev nD)

theorem at1_0 : ∀ t : Fin cfg1.N, win1_0.index t = ![t.val, 0, 0] := (by decide +kernel : ∀ t : Fin grid1.N, _)
theorem at1_1 : ∀ t : Fin cfg1.N, win1_1.index t = ![0, 0] := (by decide +kernel : ∀ t : Fin grid1.N, _)
theorem at1_2 : ∀ t : Fin cfg1.N, win1_2.index t = ![0, 0] := (by decide +kernel : ∀ t : Fin grid1.N, _)
theorem at1_3 : ∀ t : Fin cfg1.N, win1_3.index t = ![0, 0] := (by decide +kernel : ∀ t : Fin grid1.N, _)
theorem at1_4 : ∀ t : Fin cfg1.N, win1_4.index t = ![0, 0] := (by decide +kernel : ∀ t : Fin grid1.N, _)
theorem at1_5 : ∀ t : Fin cfg1.N, win1_5.index t = ![t.val, 0, 0] := (by decide +kernel : ∀ t : Fin grid1.N, _)
theorem at1_6 : ∀ t : Fin cfg1.N, win1_6.index t = ![0, 0] := (by decide +kernel : ∀ t : Fin grid1.N, _)
theorem at1_7 : ∀ t : Fin cfg1.N, win1_7.index t = ![0, 0] := (by decide +kernel : ∀ t : Fin grid1.N, _)

theorem blk1_0 (t : Fin cfg1.N) : iblk1 V c 0 t = samp (n := 32) (d := 32) (V c main_v4) ⟨t.val, lt_of_lt_of_eq t.isLt N_1⟩ := by
  funext j; blk_simp [iblk1]; unfold samp; congr 1; blk_ext [at1_0]
theorem blk1_1 (t : Fin cfg1.N) : iblk1 V c 1 t = V c main_v5 := by
  funext j; blk_simp [iblk1]; congr 1; blk_ext [at1_1]
theorem blk1_2 (t : Fin cfg1.N) : iblk1 V c 2 t = V c main_v6 := by
  funext j; blk_simp [iblk1]; congr 1; blk_ext [at1_2]
theorem blk1_3 (t : Fin cfg1.N) : iblk1 V c 3 t = V c main_v7 := by
  funext j; blk_simp [iblk1]; congr 1; blk_ext [at1_3]
theorem blk1_4 (t : Fin cfg1.N) : iblk1 V c 4 t = V c main_v8 := by
  funext j; blk_simp [iblk1]; congr 1; blk_ext [at1_4]
theorem blk1_5 (t : Fin cfg1.N) : iblk1 V c 5 t = samp (n := 1) (d := 1) (V c main_v1) ⟨t.val, lt_of_lt_of_eq t.isLt N_1⟩ := by
  funext j; blk_simp [iblk1]; unfold samp; congr 1; blk_ext [at1_5]
theorem blk1_6 (t : Fin cfg1.N) : iblk1 V c 6 t = V c main_cst := by
  funext j; blk_simp [iblk1]; congr 1; blk_ext [at1_6]
theorem blk1_7 (t : Fin cfg1.N) : iblk1 V c 7 t = V c main_cst_0 := by
  funext j; blk_simp [iblk1]; congr 1; blk_ext [at1_7]

/-- Sample `b`'s contribution. -/
def part1 (b : Fin 8) : FVec F S1x1 .f32 :=
  part (h := 32) (g := 16) 0x42800000#32 (samp (n := 32) (d := 32) (V c main_v4) b) (V c main_v5) (V c main_v6) (V c main_v7) (V c main_v8)
    (samp (n := 1) (d := 1) (V c main_v1) b) (stack 32 16 64 (V c main_cst) rfl) (stack 16 1 4 (V c main_cst_0) rfl)

theorem first1 (hn : 0 < cfg1.N) : outsAt1 V c 0 hn = part1 V c 0 := by
  rw [outsAt1_A V c ⟨0, hn⟩ rfl (by show ¬1 ≤ 0; omega), out1A]
  simp only [blk1_0, blk1_1, blk1_2, blk1_3, blk1_4, blk1_5, blk1_6, blk1_7]
  rfl

theorem later1 (n : ℕ) (hn : n + 1 < 8) (hN : n + 1 < cfg1.N) (hN' : n < cfg1.N) :
    outsAt1 V c (n + 1) hN = addf (outsAt1 V c n hN') (part1 V c ⟨n + 1, hn⟩) := by
  rw [outsAt1_B V c ⟨n + 1, hN⟩ (by show ¬(n + 1) % 8 = 0; omega) (by show 1 ≤ n + 1; omega), out1B]
  simp only [blk1_0, blk1_1, blk1_2, blk1_3, blk1_4, blk1_5, blk1_6, blk1_7]
  rfl

/-- The running value after sample `n`, and the array at the end. -/
theorem total1 (V : (c : Dev nD) → (b : Ref sig .tc) → Buf (Elt Ideal) ((c : Thread nD τ).loc b)) (z : S1x1.Idx) :
    (dat1 V c).arrAt 8 cfg1.N z = ∑ b : Fin 8, part1 V c b z := by
  have e : (dat1 V c).arrAt 8 cfg1.N = outsAt1 V c 7 (by decide) := by
    refine (dat1 V c).arrAt_eq_of_after_last 8 ⟨7, by decide⟩ (by decide +kernel) _ fun j => ?_
    rw [after1_8]
    refine congrArg (outsAt1 V c 7 (by decide)) (funext fun a => Fin.ext ?_)
    match a with
    | ⟨0, _⟩ => rfl
    | ⟨1, _⟩ => rfl
  rw [e, later1 V c 6 (by decide) _ (by decide), later1 V c 5 (by decide) _ (by decide), later1 V c 4 (by decide) _ (by decide), later1 V c 3 (by decide) _ (by decide),
    later1 V c 2 (by decide) _ (by decide), later1 V c 1 (by decide) _ (by decide), later1 V c 0 (by decide) _ (by decide), first1]
  rw [Fin.sum_univ_eight]
  rfl

end Region1

section State

variable {F : FTy → Type} [FloatOps F] (m : (ℓ : Loc nD τ sig) → Buf (Elt F) ℓ) (ρ : Dev nD → PrngReg) (c : Dev nD)

/-- An argument's contents. -/
abbrev arg (r : Ref sig .tc) : Buf (Elt F) ((c : Thread nD τ).loc r) := m ((c : Thread nD τ).loc r)

/-- The feature map as the clustering reads it. -/
theorem rows0 : V1 m ρ c main_v2 = (shapeCast S8x768x1024 (arg m c main_arg0 : FVec F S8x768x32x32 .f32) shapeCasts_S8x768x32x32_S8x768x1024 : FVec F S8x768x1024 .f32) := rfl

/-- The labels as the discriminators read them. -/
theorem labels : W1 m ρ c main_v1 = (shapeCast S8x1x1 (sitofp .f32 (arg m c main_arg5 : IVec S8 32) : FVec F S8 .f32) shapeCasts_S8_S8x1x1 : FVec F S8x1x1 .f32) := rfl

theorem image0 : V3 m ρ c main_v4 = (shapeCast S8x32x32 (centers (d := 1024) (V1 m ρ c main_v2)) shapeCasts_S8x1x1024_S8x32x32 : FVec F S8x32x32 .f32) := by
  rw [← centers0, ← W2_arr m ρ c 1]
  rfl

theorem taps0 : V3 m ρ c main_v5 = (shapeCast S32x16 (arg m c main_arg7 : FVec F S32x1x4x4 .f32) shapeCasts_S32x1x4x4_S32x16 : FVec F S32x16 .f32) := by
  unfold arg; rw [← W2_args m ρ c main_arg7 (by decide)]; rfl
theorem bias0 : V3 m ρ c main_v6 = (shapeCast S32x1 (arg m c main_arg8 : FVec F S32 .f32) shapeCasts_S32_S32x1 : FVec F S32x1 .f32) := by
  unfold arg; rw [← W2_args m ρ c main_arg8 (by decide)]; rfl
theorem taps0' : V3 m ρ c main_v7 = (shapeCast S32x16 (arg m c main_arg9 : FVec F S1x32x4x4 .f32) shapeCasts_S1x32x4x4_S32x16 : FVec F S32x16 .f32) := by
  unfold arg; rw [← W2_args m ρ c main_arg9 (by decide)]; rfl
theorem bias0' : V3 m ρ c main_v8 = (shapeCast S1x1 (arg m c main_arg10 : FVec F S1 .f32) shapeCasts_S1_S1x1 : FVec F S1x1 .f32) := by
  unfold arg; rw [← W2_args m ρ c main_arg10 (by decide)]; rfl

/-- What no host operation and no region writes keeps its contents up to the discriminator. -/
theorem kept0 (r : Ref sig .tc) (h1 : r ∉ hostOps1_W) (h0 : ∀ w : Fin cfg0.W, Pipeline.arrRef spec0 w = r → (cfg0.win w).isOut = false) :
    V3 m ρ c r = W1 m ρ c r := (W3_of m ρ c r h1).trans (W2_of m ρ c r h0)

theorem result0 : W13 m ρ c main_v10 = (shapeCast S_ ((dat1 (V3 m ρ) c).arrAt 8 cfg1.N : FVec F S1x1 .f32) shapeCasts_S1x1_S_ : FVec F S_ .f32) := by
  rw [W13_of m ρ c main_v10 (by decide), W12_of m ρ c main_v10 (by decide), W11_of m ρ c main_v10 (by decide), W10_of m ρ c main_v10 (by decide),
    W9_of m ρ c main_v10 (by decide), W8_of m ρ c main_v10 (by decide), W7_of m ρ c main_v10 (by decide), W6_of m ρ c main_v10 (by decide), ← W4_arr m ρ c 8]
  rfl

end State

section Value

open scoped BigOperators

variable (m : (ℓ : Loc nD τ sig) → Buf (Elt Ideal) ℓ) (ρ : Dev nD → PrngReg) (c : Dev nD)

theorem loss0 [RF 1024] [RD 32 16 8 34 18]
    (hx : ∀ i, ∃ r : ℝ, (arg m c main_arg0 : FVec Ideal S8x768x32x32 .f32) i = (r : EReal)) (hW1 : ∀ i, ∃ r : ℝ, (arg m c main_arg7 : FVec Ideal S32x1x4x4 .f32) i = (r : EReal))
    (hW2 : ∀ i, ∃ r : ℝ, (arg m c main_arg9 : FVec Ideal S1x32x4x4 .f32) i = (r : EReal)) (ca : S8x768x32x32.ShapeCasts S8x768x1024) (cr : (⟨2, ![8, 1024]⟩ : Shape).ShapeCasts ⟨4, ![8, 1, 32, 32]⟩) :
    W13 m ρ c main_v10 = (rdisc (h := 32) 16 8 34 18 0x42800000#32 (shapeCast ⟨4, ![8, 1, 32, 32]⟩ (rclus (shapeCast S8x768x1024 (arg m c main_arg0 : FVec Ideal S8x768x32x32 .f32) ca)) cr)
      (sitofp .f32 (arg m c main_arg5 : IVec S8 32)) (arg m c main_arg7) (arg m c main_arg8) (arg m c main_arg9) (arg m c main_arg10) : FVec Ideal S_ .f32) := by
  rw [result0]
  funext z
  have hz : z = ValueIdx.ix0 := by funext a; exact a.elim0
  subst hz
  refine (shapeCast_apply _ _ _ (ValueIdx.ix2 0 0) (by rw [Shape.rowMajor_val_two]; rfl)).trans ?_
  rw [total1]
  unfold part1
  rw [image0, rows0, taps0, bias0, taps0', bias0', kept0 m ρ c main_v1 (by decide) (by decide), kept0 m ρ c main_cst (by decide) (by decide), kept0 m ρ c main_cst_0 (by decide) (by decide), labels]
  exact map_eq (d := 1024) (h := 32) (g := 16) (k := 8) (hp := 34) (gp := 18) (by decide) (shapeCast S8x768x1024 (arg m c main_arg0 : FVec Ideal S8x768x32x32 .f32) ca) 0x42800000#32
    num64 (by decide) _ _ S32_apply U32_apply (sitofp .f32 (arg m c main_arg5 : IVec S8 32)) _ _ _ _ (fun i => hx _) hW1 hW2 _ cr _ _ _ _ _ _

end Value

end Cert.Out

end
-- ==== Proof.Out1.lean ====
/- The first map's loss as the run leaves it. -/
module

public import proofs.«01_k».proof.Proof.Out0
public import proofs.«01_k».proof.Proof.KPay
public import proofs.«01_k».proof.Proof.MapEq
public import proofs.«01_k».proof.Proof.Whole.All
public import Idealize.ShloMosaic.Lib.Pipeline.ValueKit

@[expose] public section

set_option maxRecDepth 16384

noncomputable section

namespace Cert.Out

open Idealize.ShloMosaic Idealize.ShloMosaic.TcCoe Cert.KernelIdeal Cert.KernelIdeal.Gen Cert.KM Cert.DM
open scoped BigOperators

section Region2

variable {F : FTy → Type} [FloatOps F] (V : (c : Dev nD) → (b : Ref sig .tc) → Buf (Elt F) ((c : Thread nD τ).loc b)) (c : Dev nD)

theorem at2_0 : ∀ t : Fin cfg2.N, win2_0.index t = ![t.val, 0, 0] := (by decide +kernel : ∀ t : Fin grid2.N, _)
theorem at2_1 : ∀ t : Fin cfg2.N, win2_1.index t = ![t.val, 0, 0] := (by decide +kernel : ∀ t : Fin grid2.N, _)

theorem samp2 (t : Fin cfg2.N) : iblk2 V c 0 t = samp (n := 768) (d := 256) (V c main_v11) ⟨t.val, lt_of_lt_of_eq t.isLt N_2⟩ := by
  funext j
  blk_simp [iblk2]
  unfold samp
  congr 1
  blk_ext [at2_0]

/-- The array of the picked centers after the clustering. -/
theorem centers2 : (dat2 V c).arrAt 1 cfg2.N = centers (d := 256) (V c main_v11) := by
  refine (dat2 V c).arrAt_eq_of_covers 1 _ (by decide +kernel) fun t hf y => ?_
  blk_simp
  rw [after2_1, out256, samp2]
  unfold centers
  have e0 : (win2_1.blk t).view.emb y 0 = (⟨t.val, lt_of_lt_of_eq t.isLt N_2⟩ : Fin 8) := by
    apply Fin.ext
    show win2_1.index t 0 * 1 + 1 * (y 0).val = t.val
    rw [at2_1]
    idx_bounds y
    show t.val * 1 + 1 * (y 0).val = t.val
    omega
  have e2 : ((win2_1.blk t).view.emb y 2).val = (y 2).val := by
    show win2_1.index t 2 * 256 + 1 * (y 2).val = (y 2).val
    rw [at2_1]
    show 0 * 256 + 1 * (y 2).val = (y 2).val
    omega
  rw [e0]
  congr 1
  idx_bounds y
  funext a
  apply Fin.ext
  match a with
  | ⟨0, _⟩ => show (y 0).val = 0; omega
  | ⟨1, _⟩ => show (y 1).val = 0; omega
  | ⟨2, _⟩ => exact e2.symm

end Region2

section Region3

variable {F : FTy → Type} [FloatOps F] (V : (c : Dev nD) → (b : Ref sig .tc) → Buf (Elt F) ((c : Thread nD τ).loc b)) (c : Dev nD)

theorem at3_0 : ∀ t : Fin cfg3.N, win3_0.index t = ![t.val, 0, 0] := (by decide +kernel : ∀ t : Fin grid3.N, _)
theorem at3_1 : ∀ t : Fin cfg3.N, win3_1.index t = ![0, 0] := (by decide +kernel : ∀ t : Fin grid3.N, _)
theorem at3_2 : ∀ t : Fin cfg3.N, win3_2.index t = ![0, 0] := (by decide +kernel : ∀ t : Fin grid3.N, _)
theorem at3_3 : ∀ t : Fin cfg3.N, win3_3.index t = ![0, 0] := (by decide +kernel : ∀ t : Fin grid3.N, _)
theorem at3_4 : ∀ t : Fin cfg3.N, win3_4.index t = ![0, 0] := (by decide +kernel : ∀ t : Fin grid3.N, _)
theorem at3_5 : ∀ t : Fin cfg3.N, win3_5.index t = ![t.val, 0, 0] := (by decide +kernel : ∀ t : Fin grid3.N, _)
theorem at3_6 : ∀ t : Fin cfg3.N, win3_6.index t = ![0, 0] := (by decide +kernel : ∀ t : Fin grid3.N, _)
theorem at3_7 : ∀ t : Fin cfg3.N, win3_7.index t = ![0, 0] := (by decide +kernel : ∀ t : Fin grid3.N, _)

theorem blk3_0 (t : Fin cfg3.N) : iblk3 V c 0 t = samp (n := 16) (d := 16) (V c main_v13) ⟨t.val, lt_of_lt_of_eq t.isLt N_3⟩ := by
  funext j; blk_simp [iblk3]; unfold samp; congr 1; blk_ext [at3_0]
theorem blk3_1 (t : Fin cfg3.N) : iblk3 V c 1 t = V c main_v14 := by
  funext j; blk_simp [iblk3]; congr 1; blk_ext [at3_1]
theorem blk3_2 (t : Fin cfg3.N) : iblk3 V c 2 t = V c main_v15 := by
  funext j; blk_simp [iblk3]; congr 1; blk_ext [at3_2]
theorem blk3_3 (t : Fin cfg3.N) : iblk3 V c 3 t = V c main_v16 := by
  funext j; blk_simp [iblk3]; congr 1; blk_ext [at3_3]
theorem blk3_4 (t : Fin cfg3.N) : iblk3 V c 4 t = V c main_v17 := by
  funext j; blk_simp [iblk3]; congr 1; blk_ext [at3_4]
theorem blk3_5 (t : Fin cfg3.N) : iblk3 V c 5 t = samp (n := 1) (d := 1) (V c main_v1) ⟨t.val, lt_of_lt_of_eq t.isLt N_3⟩ := by
  funext j; blk_simp [iblk3]; unfold samp; congr 1; blk_ext [at3_5]
theorem blk3_6 (t : Fin cfg3.N) : iblk3 V c 6 t = V c main_cst_1 := by
  funext j; blk_simp [iblk3]; congr 1; blk_ext [at3_6]
theorem blk3_7 (t : Fin cfg3.N) : iblk3 V c 7 t = V c main_cst_2 := by
  funext j; blk_simp [iblk3]; congr 1; blk_ext [at3_7]

/-- Sample `b`'s contribution. -/
def part3 (b : Fin 8) : FVec F S1x1 .f32 :=
  part (h := 16) (g := 8) 0x41800000#32 (samp (n := 16) (d := 16) (V c main_v13) b) (V c main_v14) (V c main_v15) (V c main_v16) (V c main_v17)
    (samp (n := 1) (d := 1) (V c main_v1) b) (stack 16 8 32 (V c main_cst_1) rfl) (stack 8 1 4 (V c main_cst_2) rfl)

theorem first3 (hn : 0 < cfg3.N) : outsAt3 V c 0 hn = part3 V c 0 := by
  rw [outsAt3_A V c ⟨0, hn⟩ rfl (by show ¬1 ≤ 0; omega), out3A]
  simp only [blk3_0, blk3_1, blk3_2, blk3_3, blk3_4, blk3_5, blk3_6, blk3_7]
  rfl

theorem later3 (n : ℕ) (hn : n + 1 < 8) (hN : n + 1 < cfg3.N) (hN' : n < cfg3.N) :
    outsAt3 V c (n + 1) hN = addf (outsAt3 V c n hN') (part3 V c ⟨n + 1, hn⟩) := by
  rw [outsAt3_B V c ⟨n + 1, hN⟩ (by show ¬(n + 1) % 8 = 0; omega) (by show 1 ≤ n + 1; omega), out3B]
  simp only [blk3_0, blk3_1, blk3_2, blk3_3, blk3_4, blk3_5, blk3_6, blk3_7]
  rfl

/-- The running value after sample `n`, and the array at the end. -/
theorem total3 (V : (c : Dev nD) → (b : Ref sig .tc) → Buf (Elt Ideal) ((c : Thread nD τ).loc b)) (z : S1x1.Idx) :
    (dat3 V c).arrAt 8 cfg3.N z = ∑ b : Fin 8, part3 V c b z := by
  have e : (dat3 V c).arrAt 8 cfg3.N = outsAt3 V c 7 (by decide) := by
    refine (dat3 V c).arrAt_eq_of_after_last 8 ⟨7, by decide⟩ (by decide +kernel) _ fun j => ?_
    rw [after3_8]
    refine congrArg (outsAt3 V c 7 (by decide)) (funext fun a => Fin.ext ?_)
    match a with
    | ⟨0, _⟩ => rfl
    | ⟨1, _⟩ => rfl
  rw [e, later3 V c 6 (by decide) _ (by decide), later3 V c 5 (by decide) _ (by decide), later3 V c 4 (by decide) _ (by decide), later3 V c 3 (by decide) _ (by decide),
    later3 V c 2 (by decide) _ (by decide), later3 V c 1 (by decide) _ (by decide), later3 V c 0 (by decide) _ (by decide), first3]
  rw [Fin.sum_univ_eight]
  rfl

end Region3

section State

variable {F : FTy → Type} [FloatOps F] (m : (ℓ : Loc nD τ sig) → Buf (Elt F) ℓ) (ρ : Dev nD → PrngReg) (c : Dev nD)

/-- The feature map as the clustering reads it. -/
theorem rows1 : V5 m ρ c main_v11 = (shapeCast S8x768x256 (arg m c main_arg1 : FVec F S8x768x16x16 .f32) shapeCasts_S8x768x16x16_S8x768x256 : FVec F S8x768x256 .f32) := by
  unfold arg; rw [← W4_args m ρ c main_arg1 (by decide)]; rfl

theorem image1 : V7 m ρ c main_v13 = (shapeCast S8x16x16 (centers (d := 256) (V5 m ρ c main_v11)) shapeCasts_S8x1x256_S8x16x16 : FVec F S8x16x16 .f32) := by
  rw [← centers2, ← W6_arr m ρ c 1]
  rfl

theorem taps1 : V7 m ρ c main_v14 = (shapeCast S32x16 (arg m c main_arg11 : FVec F S32x1x4x4 .f32) shapeCasts_S32x1x4x4_S32x16 : FVec F S32x16 .f32) := by
  unfold arg; rw [← W6_args m ρ c main_arg11 (by decide)]; rfl
theorem bias1 : V7 m ρ c main_v15 = (shapeCast S32x1 (arg m c main_arg12 : FVec F S32 .f32) shapeCasts_S32_S32x1 : FVec F S32x1 .f32) := by
  unfold arg; rw [← W6_args m ρ c main_arg12 (by decide)]; rfl
theorem taps1' : V7 m ρ c main_v16 = (shapeCast S32x16 (arg m c main_arg13 : FVec F S1x32x4x4 .f32) shapeCasts_S1x32x4x4_S32x16 : FVec F S32x16 .f32) := by
  unfold arg; rw [← W6_args m ρ c main_arg13 (by decide)]; rfl
theorem bias1' : V7 m ρ c main_v17 = (shapeCast S1x1 (arg m c main_arg14 : FVec F S1 .f32) shapeCasts_S1_S1x1 : FVec F S1x1 .f32) := by
  unfold arg; rw [← W6_args m ρ c main_arg14 (by decide)]; rfl

/-- What no host operation and no region writes keeps its contents up to the discriminator. -/
theorem kept1 (r : Ref sig .tc) (h3 : r ∉ hostOps3_W) (r2 : ∀ w : Fin cfg2.W, Pipeline.arrRef spec2 w = r → (cfg2.win w).isOut = false) (h2 : r ∉ hostOps2_W)
    (r1 : ∀ w : Fin cfg1.W, Pipeline.arrRef spec1 w = r → (cfg1.win w).isOut = false) (h1 : r ∉ hostOps1_W) (r0 : ∀ w : Fin cfg0.W, Pipeline.arrRef spec0 w = r → (cfg0.win w).isOut = false) :
    V7 m ρ c r = W1 m ρ c r :=
  (W7_of m ρ c r h3).trans ((W6_of m ρ c r r2).trans ((W5_of m ρ c r h2).trans ((W4_of m ρ c r r1).trans (kept0 m ρ c r h1 r0))))

theorem result1 : W13 m ρ c main_v19 = (shapeCast S_ ((dat3 (V7 m ρ) c).arrAt 8 cfg3.N : FVec F S1x1 .f32) shapeCasts_S1x1_S_ : FVec F S_ .f32) := by
  rw [W13_of m ρ c main_v19 (by decide), W12_of m ρ c main_v19 (by decide), W11_of m ρ c main_v19 (by decide), W10_of m ρ c main_v19 (by decide), ← W8_arr m ρ c 8]
  rfl

end State

section Value

open scoped BigOperators

variable (m : (ℓ : Loc nD τ sig) → Buf (Elt Ideal) ℓ) (ρ : Dev nD → PrngReg) (c : Dev nD)

theorem loss1 [RF 256] [RD 16 8 4 18 10]
    (hx : ∀ i, ∃ r : ℝ, (arg m c main_arg1 : FVec Ideal S8x768x16x16 .f32) i = (r : EReal)) (hW1 : ∀ i, ∃ r : ℝ, (arg m c main_arg11 : FVec Ideal S32x1x4x4 .f32) i = (r : EReal))
    (hW2 : ∀ i, ∃ r : ℝ, (arg m c main_arg13 : FVec Ideal S1x32x4x4 .f32) i = (r : EReal)) (ca : S8x768x16x16.ShapeCasts S8x768x256) (cr : (⟨2, ![8, 256]⟩ : Shape).ShapeCasts ⟨4, ![8, 1, 16, 16]⟩) :
    W13 m ρ c main_v19 = (rdisc (h := 16) 8 4 18 10 0x41800000#32 (shapeCast ⟨4, ![8, 1, 16, 16]⟩ (rclus (shapeCast S8x768x256 (arg m c main_arg1 : FVec Ideal S8x768x16x16 .f32) ca)) cr)
      (sitofp .f32 (arg m c main_arg5 : IVec S8 32)) (arg m c main_arg11) (arg m c main_arg12) (arg m c main_arg13) (arg m c main_arg14) : FVec Ideal S_ .f32) := by
  rw [result1]
  funext z
  have hz : z = ValueIdx.ix0 := by funext a; exact a.elim0
  subst hz
  refine (shapeCast_apply _ _ _ (ValueIdx.ix2 0 0) (by rw [Shape.rowMajor_val_two]; rfl)).trans ?_
  rw [total3]
  unfold part3
  rw [image1, rows1, taps1, bias1, taps1', bias1', kept1 m ρ c main_v1 (by decide) (by decide) (by decide) (by decide) (by decide) (by decide), kept1 m ρ c main_cst_1 (by decide) (by decide) (by decide) (by decide) (by decide) (by decide), kept1 m ρ c main_cst_2 (by decide) (by decide) (by decide) (by decide) (by decide) (by decide), labels]
  exact map_eq (d := 256) (h := 16) (g := 8) (k := 4) (hp := 18) (gp := 10) (by decide) (shapeCast S8x768x256 (arg m c main_arg1 : FVec Ideal S8x768x16x16 .f32) ca) 0x41800000#32
    num16 (by decide) _ _ S16_apply U16_apply (sitofp .f32 (arg m c main_arg5 : IVec S8 32)) _ _ _ _ (fun i => hx _) hW1 hW2 _ cr _ _ _ _ _ _

end Value

end Cert.Out

end
-- ==== Proof.Out2.lean ====
/- The first map's loss as the run leaves it. -/
module

public import proofs.«01_k».proof.Proof.Out1
public import proofs.«01_k».proof.Proof.KPay
public import proofs.«01_k».proof.Proof.MapEq
public import proofs.«01_k».proof.Proof.Whole.All
public import Idealize.ShloMosaic.Lib.Pipeline.ValueKit

@[expose] public section

set_option maxRecDepth 16384

noncomputable section

namespace Cert.Out

open Idealize.ShloMosaic Idealize.ShloMosaic.TcCoe Cert.KernelIdeal Cert.KernelIdeal.Gen Cert.KM Cert.DM
open scoped BigOperators

section Region4

variable {F : FTy → Type} [FloatOps F] (V : (c : Dev nD) → (b : Ref sig .tc) → Buf (Elt F) ((c : Thread nD τ).loc b)) (c : Dev nD)

theorem at4_0 : ∀ t : Fin cfg4.N, win4_0.index t = ![t.val, 0, 0] := (by decide +kernel : ∀ t : Fin grid4.N, _)
theorem at4_1 : ∀ t : Fin cfg4.N, win4_1.index t = ![t.val, 0, 0] := (by decide +kernel : ∀ t : Fin grid4.N, _)

theorem samp4 (t : Fin cfg4.N) : iblk4 V c 0 t = samp (n := 768) (d := 64) (V c main_v20) ⟨t.val, lt_of_lt_of_eq t.isLt N_4⟩ := by
  funext j
  blk_simp [iblk4]
  unfold samp
  congr 1
  blk_ext [at4_0]

/-- The array of the picked centers after the clustering. -/
theorem centers4 : (dat4 V c).arrAt 1 cfg4.N = centers (d := 64) (V c main_v20) := by
  refine (dat4 V c).arrAt_eq_of_covers 1 _ (by decide +kernel) fun t hf y => ?_
  blk_simp
  rw [after4_1, out64, samp4]
  unfold centers
  have e0 : (win4_1.blk t).view.emb y 0 = (⟨t.val, lt_of_lt_of_eq t.isLt N_4⟩ : Fin 8) := by
    apply Fin.ext
    show win4_1.index t 0 * 1 + 1 * (y 0).val = t.val
    rw [at4_1]
    idx_bounds y
    show t.val * 1 + 1 * (y 0).val = t.val
    omega
  have e2 : ((win4_1.blk t).view.emb y 2).val = (y 2).val := by
    show win4_1.index t 2 * 64 + 1 * (y 2).val = (y 2).val
    rw [at4_1]
    show 0 * 64 + 1 * (y 2).val = (y 2).val
    omega
  rw [e0]
  congr 1
  idx_bounds y
  funext a
  apply Fin.ext
  match a with
  | ⟨0, _⟩ => show (y 0).val = 0; omega
  | ⟨1, _⟩ => show (y 1).val = 0; omega
  | ⟨2, _⟩ => exact e2.symm

end Region4

section Region5

variable {F : FTy → Type} [FloatOps F] (V : (c : Dev nD) → (b : Ref sig .tc) → Buf (Elt F) ((c : Thread nD τ).loc b)) (c : Dev nD)

theorem at5_0 : ∀ t : Fin cfg5.N, win5_0.index t = ![t.val, 0, 0] := (by decide +kernel : ∀ t : Fin grid5.N, _)
theorem at5_1 : ∀ t : Fin cfg5.N, win5_1.index t = ![0, 0] := (by decide +kernel : ∀ t : Fin grid5.N, _)
theorem at5_2 : ∀ t : Fin cfg5.N, win5_2.index t = ![0, 0] := (by decide +kernel : ∀ t : Fin grid5.N, _)
theorem at5_3 : ∀ t : Fin cfg5.N, win5_3.index t = ![0, 0] := (by decide +kernel : ∀ t : Fin grid5.N, _)
theorem at5_4 : ∀ t : Fin cfg5.N, win5_4.index t = ![0, 0] := (by decide +kernel : ∀ t : Fin grid5.N, _)
theorem at5_5 : ∀ t : Fin cfg5.N, win5_5.index t = ![t.val, 0, 0] := (by decide +kernel : ∀ t : Fin grid5.N, _)
theorem at5_6 : ∀ t : Fin cfg5.N, win5_6.index t = ![0, 0] := (by decide +kernel : ∀ t : Fin grid5.N, _)
theorem at5_7 : ∀ t : Fin cfg5.N, win5_7.index t = ![0, 0] := (by decide +kernel : ∀ t : Fin grid5.N, _)

theorem blk5_0 (t : Fin cfg5.N) : iblk5 V c 0 t = samp (n := 8) (d := 8) (V c main_v22) ⟨t.val, lt_of_lt_of_eq t.isLt N_5⟩ := by
  funext j; blk_simp [iblk5]; unfold samp; congr 1; blk_ext [at5_0]
theorem blk5_1 (t : Fin cfg5.N) : iblk5 V c 1 t = V c main_v23 := by
  funext j; blk_simp [iblk5]; congr 1; blk_ext [at5_1]
theorem blk5_2 (t : Fin cfg5.N) : iblk5 V c 2 t = V c main_v24 := by
  funext j; blk_simp [iblk5]; congr 1; blk_ext [at5_2]
theorem blk5_3 (t : Fin cfg5.N) : iblk5 V c 3 t = V c main_v25 := by
  funext j; blk_simp [iblk5]; congr 1; blk_ext [at5_3]
theorem blk5_4 (t : Fin cfg5.N) : iblk5 V c 4 t = V c main_v26 := by
  funext j; blk_simp [iblk5]; congr 1; blk_ext [at5_4]
theorem blk5_5 (t : Fin cfg5.N) : iblk5 V c 5 t = samp (n := 1) (d := 1) (V c main_v1) ⟨t.val, lt_of_lt_of_eq t.isLt N_5⟩ := by
  funext j; blk_simp [iblk5]; unfold samp; congr 1; blk_ext [at5_5]
theorem blk5_6 (t : Fin cfg5.N) : iblk5 V c 6 t = V c main_cst_3 := by
  funext j; blk_simp [iblk5]; congr 1; blk_ext [at5_6]
theorem blk5_7 (t : Fin cfg5.N) : iblk5 V c 7 t = V c main_cst_4 := by
  funext j; blk_simp [iblk5]; congr 1; blk_ext [at5_7]

/-- Sample `b`'s contribution. -/
def part5 (b : Fin 8) : FVec F S1x1 .f32 :=
  part (h := 8) (g := 4) 0x40800000#32 (samp (n := 8) (d := 8) (V c main_v22) b) (V c main_v23) (V c main_v24) (V c main_v25) (V c main_v26)
    (samp (n := 1) (d := 1) (V c main_v1) b) (stack 8 4 16 (V c main_cst_3) rfl) (stack 4 1 4 (V c main_cst_4) rfl)

theorem first5 (hn : 0 < cfg5.N) : outsAt5 V c 0 hn = part5 V c 0 := by
  rw [outsAt5_A V c ⟨0, hn⟩ rfl (by show ¬1 ≤ 0; omega), out5A]
  simp only [blk5_0, blk5_1, blk5_2, blk5_3, blk5_4, blk5_5, blk5_6, blk5_7]
  rfl

theorem later5 (n : ℕ) (hn : n + 1 < 8) (hN : n + 1 < cfg5.N) (hN' : n < cfg5.N) :
    outsAt5 V c (n + 1) hN = addf (outsAt5 V c n hN') (part5 V c ⟨n + 1, hn⟩) := by
  rw [outsAt5_B V c ⟨n + 1, hN⟩ (by show ¬(n + 1) % 8 = 0; omega) (by show 1 ≤ n + 1; omega), out5B]
  simp only [blk5_0, blk5_1, blk5_2, blk5_3, blk5_4, blk5_5, blk5_6, blk5_7]
  rfl

/-- The running value after sample `n`, and the array at the end. -/
theorem total5 (V : (c : Dev nD) → (b : Ref sig .tc) → Buf (Elt Ideal) ((c : Thread nD τ).loc b)) (z : S1x1.Idx) :
    (dat5 V c).arrAt 8 cfg5.N z = ∑ b : Fin 8, part5 V c b z := by
  have e : (dat5 V c).arrAt 8 cfg5.N = outsAt5 V c 7 (by decide) := by
    refine (dat5 V c).arrAt_eq_of_after_last 8 ⟨7, by decide⟩ (by decide +kernel) _ fun j => ?_
    rw [after5_8]
    refine congrArg (outsAt5 V c 7 (by decide)) (funext fun a => Fin.ext ?_)
    match a with
    | ⟨0, _⟩ => rfl
    | ⟨1, _⟩ => rfl
  rw [e, later5 V c 6 (by decide) _ (by decide), later5 V c 5 (by decide) _ (by decide), later5 V c 4 (by decide) _ (by decide), later5 V c 3 (by decide) _ (by decide),
    later5 V c 2 (by decide) _ (by decide), later5 V c 1 (by decide) _ (by decide), later5 V c 0 (by decide) _ (by decide), first5]
  rw [Fin.sum_univ_eight]
  rfl

end Region5

section State

variable {F : FTy → Type} [FloatOps F] (m : (ℓ : Loc nD τ sig) → Buf (Elt F) ℓ) (ρ : Dev nD → PrngReg) (c : Dev nD)

/-- The feature map as the clustering reads it. -/
theorem rows2 : V9 m ρ c main_v20 = (shapeCast S8x768x64 (arg m c main_arg2 : FVec F S8x768x8x8 .f32) shapeCasts_S8x768x8x8_S8x768x64 : FVec F S8x768x64 .f32) := by
  unfold arg; rw [← W8_args m ρ c main_arg2 (by decide)]; rfl

theorem image2 : V11 m ρ c main_v22 = (shapeCast S8x8x8 (centers (d := 64) (V9 m ρ c main_v20)) shapeCasts_S8x1x64_S8x8x8 : FVec F S8x8x8 .f32) := by
  rw [← centers4, ← W10_arr m ρ c 1]
  rfl

theorem taps2 : V11 m ρ c main_v23 = (shapeCast S32x16 (arg m c main_arg15 : FVec F S32x1x4x4 .f32) shapeCasts_S32x1x4x4_S32x16 : FVec F S32x16 .f32) := by
  unfold arg; rw [← W10_args m ρ c main_arg15 (by decide)]; rfl
theorem bias2 : V11 m ρ c main_v24 = (shapeCast S32x1 (arg m c main_arg16 : FVec F S32 .f32) shapeCasts_S32_S32x1 : FVec F S32x1 .f32) := by
  unfold arg; rw [← W10_args m ρ c main_arg16 (by decide)]; rfl
theorem taps2' : V11 m ρ c main_v25 = (shapeCast S32x16 (arg m c main_arg17 : FVec F S1x32x4x4 .f32) shapeCasts_S1x32x4x4_S32x16 : FVec F S32x16 .f32) := by
  unfold arg; rw [← W10_args m ρ c main_arg17 (by decide)]; rfl
theorem bias2' : V11 m ρ c main_v26 = (shapeCast S1x1 (arg m c main_arg18 : FVec F S1 .f32) shapeCasts_S1_S1x1 : FVec F S1x1 .f32) := by
  unfold arg; rw [← W10_args m ρ c main_arg18 (by decide)]; rfl

/-- What no host operation and no region writes keeps its contents up to the discriminator. -/
theorem kept2 (r : Ref sig .tc) (h5 : r ∉ hostOps5_W) (r4 : ∀ w : Fin cfg4.W, Pipeline.arrRef spec4 w = r → (cfg4.win w).isOut = false) (h4 : r ∉ hostOps4_W)
    (r3' : ∀ w : Fin cfg3.W, Pipeline.arrRef spec3 w = r → (cfg3.win w).isOut = false) (h3 : r ∉ hostOps3_W) (r2 : ∀ w : Fin cfg2.W, Pipeline.arrRef spec2 w = r → (cfg2.win w).isOut = false) (h2 : r ∉ hostOps2_W)
    (r1 : ∀ w : Fin cfg1.W, Pipeline.arrRef spec1 w = r → (cfg1.win w).isOut = false) (h1 : r ∉ hostOps1_W) (r0 : ∀ w : Fin cfg0.W, Pipeline.arrRef spec0 w = r → (cfg0.win w).isOut = false) :
    V11 m ρ c r = W1 m ρ c r :=
  (W11_of m ρ c r h5).trans ((W10_of m ρ c r r4).trans ((W9_of m ρ c r h4).trans ((W8_of m ρ c r r3').trans (kept1 m ρ c r h3 r2 h2 r1 h1 r0))))

theorem result2 : W13 m ρ c main_v28 = (shapeCast S_ ((dat5 (V11 m ρ) c).arrAt 8 cfg5.N : FVec F S1x1 .f32) shapeCasts_S1x1_S_ : FVec F S_ .f32) := by
  rw [← W12_arr m ρ c 8]
  rfl

end State

section Value

open scoped BigOperators

variable (m : (ℓ : Loc nD τ sig) → Buf (Elt Ideal) ℓ) (ρ : Dev nD → PrngReg) (c : Dev nD)

theorem loss2 [RF 64] [RD 8 4 2 10 6]
    (hx : ∀ i, ∃ r : ℝ, (arg m c main_arg2 : FVec Ideal S8x768x8x8 .f32) i = (r : EReal)) (hW1 : ∀ i, ∃ r : ℝ, (arg m c main_arg15 : FVec Ideal S32x1x4x4 .f32) i = (r : EReal))
    (hW2 : ∀ i, ∃ r : ℝ, (arg m c main_arg17 : FVec Ideal S1x32x4x4 .f32) i = (r : EReal)) (ca : S8x768x8x8.ShapeCasts S8x768x64) (cr : (⟨2, ![8, 64]⟩ : Shape).ShapeCasts ⟨4, ![8, 1, 8, 8]⟩) :
    W13 m ρ c main_v28 = (rdisc (h := 8) 4 2 10 6 0x40800000#32 (shapeCast ⟨4, ![8, 1, 8, 8]⟩ (rclus (shapeCast S8x768x64 (arg m c main_arg2 : FVec Ideal S8x768x8x8 .f32) ca)) cr)
      (sitofp .f32 (arg m c main_arg5 : IVec S8 32)) (arg m c main_arg15) (arg m c main_arg16) (arg m c main_arg17) (arg m c main_arg18) : FVec Ideal S_ .f32) := by
  rw [result2]
  funext z
  have hz : z = ValueIdx.ix0 := by funext a; exact a.elim0
  subst hz
  refine (shapeCast_apply _ _ _ (ValueIdx.ix2 0 0) (by rw [Shape.rowMajor_val_two]; rfl)).trans ?_
  rw [total5]
  unfold part5
  rw [image2, rows2, taps2, bias2, taps2', bias2', kept2 m ρ c main_v1 (by decide) (by decide) (by decide) (by decide) (by decide) (by decide) (by decide) (by decide) (by decide) (by decide), kept2 m ρ c main_cst_3 (by decide) (by decide) (by decide) (by decide) (by decide) (by decide) (by decide) (by decide) (by decide) (by decide), kept2 m ρ c main_cst_4 (by decide) (by decide) (by decide) (by decide) (by decide) (by decide) (by decide) (by decide) (by decide) (by decide), labels]
  exact map_eq (d := 64) (h := 8) (g := 4) (k := 2) (hp := 10) (gp := 6) (by decide) (shapeCast S8x768x64 (arg m c main_arg2 : FVec Ideal S8x768x8x8 .f32) ca) 0x40800000#32
    num4 (by decide) _ _ S8_apply U8_apply (sitofp .f32 (arg m c main_arg5 : IVec S8 32)) _ _ _ _ (fun i => hx _) hW1 hW2 _ cr _ _ _ _ _ _

end Value

end Cert.Out

end
-- ==== Proof.Algebraic.lean ====
/- The value claim: on finite data the kernel and the reference end with the same three losses. -/
module

public import proofs.«01_k».proof.Proof.Frames
public import proofs.«01_k».proof.Proof.Link0
public import proofs.«01_k».proof.Proof.Link1
public import proofs.«01_k».proof.Proof.Link2
public import proofs.«01_k».proof.Proof.Out2

@[expose] public section

set_option maxRecDepth 16384

noncomputable section

namespace Cert.Proof

open Idealize.ShloMosaic Idealize.ShloMosaic.TcCoe Idealize.ShloMosaic.StableHlo Idealize.SL.Sem Cert.KernelIdeal Cert.KernelIdeal.Gen Cert.Out

/-- An array whose entries are all below the bound in absolute value holds real numbers. -/
theorem finite {S : Shape} (x : FVec Ideal S .f32) (bc : (⟨0, ![]⟩ : Shape).BroadcastsInDim S ![])
    (h : cmpf .olt (Host.absf x) (broadcastInDim S ![] bc (constant ⟨0, ![]⟩ .f32 0x7F800000#32)) = fun _ => 1#1) (i : S.Idx) :
    ∃ r : ℝ, x i = (r : EReal) := by
  have e : Ideal.cmp .olt (max (x i) (-(x i))) (Ideal.ofBits .f32 0x7F800000#32) = 1#1 := congrFun h i
  have t : Ideal.ofBits .f32 0x7F800000#32 = (⊤ : EReal) := by simp [Ideal.ofBits, Ideal.ieee]
  rw [t] at e
  have l : max (x i) (-(x i)) < (⊤ : EReal) := by
    by_contra n
    simp [Ideal.cmp, n] at e
  refine ⟨(x i).toReal, (EReal.coe_toReal ?_ ?_).symm⟩
  · exact ((le_max_left _ _).trans_lt l).ne
  · intro b
    have := (le_max_right (x i) (-(x i))).trans_lt l
    rw [b] at this
    exact absurd this (by simp)

/-- The reference's result for the first map is the kernel's. -/
theorem agree0 (m : (ℓ : Loc Cert.KernelIdeal.nD Cert.KernelIdeal.τ Cert.KernelIdeal.sig) → Buf (Elt Ideal) ℓ) (g : Dev Cert.KernelIdeal.nD → PrngReg) (c : Dev Cert.KernelIdeal.nD)
    (hp : Cert.Pre_KernelIdeal_finite_inputs m) :
    Cert.ReferenceIdeal.Read.val_main_v567 (F := Ideal) (arg m c main_arg0) (arg m c main_arg5) (arg m c main_arg7) (arg m c main_arg8) (arg m c main_arg9) (arg m c main_arg10) = W13 m g c main_v10 :=
  (Cert.Link.loss32 _ _ _ _ _ _).trans
    (loss0 m g c (finite _ _ (hp c).1) (finite _ _ (hp c).2.2.2.1) (finite _ _ (hp c).2.2.2.2.1) (by decide) (by decide)).symm

/-- The reference's result for the second map is the kernel's. -/
theorem agree1 (m : (ℓ : Loc Cert.KernelIdeal.nD Cert.KernelIdeal.τ Cert.KernelIdeal.sig) → Buf (Elt Ideal) ℓ) (g : Dev Cert.KernelIdeal.nD → PrngReg) (c : Dev Cert.KernelIdeal.nD)
    (hp : Cert.Pre_KernelIdeal_finite_inputs m) :
    Cert.ReferenceIdeal.Read.val_main_v1134 (F := Ideal) (arg m c main_arg1) (arg m c main_arg5) (arg m c main_arg11) (arg m c main_arg12) (arg m c main_arg13) (arg m c main_arg14) = W13 m g c main_v19 :=
  (Cert.Link.loss16 _ _ _ _ _ _).trans
    (loss1 m g c (finite _ _ (hp c).2.1) (finite _ _ (hp c).2.2.2.2.2.1) (finite _ _ (hp c).2.2.2.2.2.2.1) (by decide) (by decide)).symm

/-- The reference's result for the third map is the kernel's. -/
theorem agree2 (m : (ℓ : Loc Cert.KernelIdeal.nD Cert.KernelIdeal.τ Cert.KernelIdeal.sig) → Buf (Elt Ideal) ℓ) (g : Dev Cert.KernelIdeal.nD → PrngReg) (c : Dev Cert.KernelIdeal.nD)
    (hp : Cert.Pre_KernelIdeal_finite_inputs m) :
    Cert.ReferenceIdeal.Read.val_main_v1701 (F := Ideal) (arg m c main_arg2) (arg m c main_arg5) (arg m c main_arg15) (arg m c main_arg16) (arg m c main_arg17) (arg m c main_arg18) = W13 m g c main_v28 :=
  (Cert.Link.loss8 _ _ _ _ _ _).trans
    (loss2 m g c (finite _ _ (hp c).2.2.1) (finite _ _ (hp c).2.2.2.2.2.2.2.1) (finite _ _ (hp c).2.2.2.2.2.2.2.2) (by decide) (by decide)).symm

set_option maxHeartbeats 1000000 in
/-- The value claim. -/
theorem algebraic : Cert.algebraic_KernelIdeal_ReferenceIdeal_pre_finite_inputs (hKernelIdeal := Cert.KernelIdeal.Gen.facts)
    (hReferenceIdeal := Cert.ReferenceIdeal.Gen.facts) (hPre_finite_inputs := preFacts) := by
  intro m g m' g' hp ha
  have e0 : ∀ c : Dev Cert.KernelIdeal.nD, Cert.ReferenceIdeal.Read.val_main_v567 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = W13 m g c main_v10 := by
    intro c
    rw [(ha c).1, (ha c).2.2.2.2.2.1, (ha c).2.2.2.2.2.2.2.1, (ha c).2.2.2.2.2.2.2.2.1, (ha c).2.2.2.2.2.2.2.2.2.1, (ha c).2.2.2.2.2.2.2.2.2.2.1]
    exact agree0 m g c hp
  have e1 : ∀ c : Dev Cert.KernelIdeal.nD, Cert.ReferenceIdeal.Read.val_main_v1134 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = W13 m g c main_v19 := by
    intro c
    rw [(ha c).2.1, (ha c).2.2.2.2.2.1, (ha c).2.2.2.2.2.2.2.2.2.2.2.1, (ha c).2.2.2.2.2.2.2.2.2.2.2.2.1, (ha c).2.2.2.2.2.2.2.2.2.2.2.2.2.1, (ha c).2.2.2.2.2.2.2.2.2.2.2.2.2.2.1]
    exact agree1 m g c hp
  have e2 : ∀ c : Dev Cert.KernelIdeal.nD, Cert.ReferenceIdeal.Read.val_main_v1701 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = W13 m g c main_v28 := by
    intro c
    rw [(ha c).2.2.1, (ha c).2.2.2.2.2.1, (ha c).2.2.2.2.2.2.2.2.2.2.2.2.2.2.2.1, (ha c).2.2.2.2.2.2.2.2.2.2.2.2.2.2.2.2.1, (ha c).2.2.2.2.2.2.2.2.2.2.2.2.2.2.2.2.2.1, (ha c).2.2.2.2.2.2.2.2.2.2.2.2.2.2.2.2.2.2]
    exact agree2 m g c hp
  refine ⟨fun c => W13 m g c main_v10, fun c => W13 m g c main_v19, fun c => W13 m g c main_v28, ?_, ?_⟩
  · exact (θ_run Cert.KernelIdeal.defs _ _).mono (fun r h c =>
        ⟨h.1 c _ (mem_uc main_v10 (by decide)), h.1 c _ (mem_uc main_v19 (by decide)), h.1 c _ (mem_uc main_v28 (by decide)),
          (h.1 c _ (mem_uc main_arg0 (by decide))).trans (W13_main_arg0 m g c),
          (h.1 c _ (mem_uc main_arg1 (by decide))).trans (W13_main_arg1 m g c),
          (h.1 c _ (mem_uc main_arg2 (by decide))).trans (W13_main_arg2 m g c),
          (h.1 c _ (mem_uc main_arg3 (by decide))).trans (W13_main_arg3 m g c),
          (h.1 c _ (mem_uc main_arg4 (by decide))).trans (W13_main_arg4 m g c),
          (h.1 c _ (mem_uc main_arg5 (by decide))).trans (W13_main_arg5 m g c),
          (h.1 c _ (mem_uc main_arg6 (by decide))).trans (W13_main_arg6 m g c),
          (h.1 c _ (mem_uc main_arg7 (by decide))).trans (W13_main_arg7 m g c),
          (h.1 c _ (mem_uc main_arg8 (by decide))).trans (W13_main_arg8 m g c),
          (h.1 c _ (mem_uc main_arg9 (by decide))).trans (W13_main_arg9 m g c),
          (h.1 c _ (mem_uc main_arg10 (by decide))).trans (W13_main_arg10 m g c),
          (h.1 c _ (mem_uc main_arg11 (by decide))).trans (W13_main_arg11 m g c),
          (h.1 c _ (mem_uc main_arg12 (by decide))).trans (W13_main_arg12 m g c),
          (h.1 c _ (mem_uc main_arg13 (by decide))).trans (W13_main_arg13 m g c),
          (h.1 c _ (mem_uc main_arg14 (by decide))).trans (W13_main_arg14 m g c),
          (h.1 c _ (mem_uc main_arg15 (by decide))).trans (W13_main_arg15 m g c),
          (h.1 c _ (mem_uc main_arg16 (by decide))).trans (W13_main_arg16 m g c),
          (h.1 c _ (mem_uc main_arg17 (by decide))).trans (W13_main_arg17 m g c),
          (h.1 c _ (mem_uc main_arg18 (by decide))).trans (W13_main_arg18 m g c)⟩)
      (Cert.KernelIdeal.Gen.ends m g)
  · exact (θ_run Cert.ReferenceIdeal.defs _ _).mono (fun r h c =>
        ⟨(h c).1.trans ((Cert.ReferenceIdeal.Read.val_main_v567_eq (launchContents m' c)).trans (e0 c)),
        (h c).2.1.trans ((Cert.ReferenceIdeal.Read.val_main_v1134_eq (launchContents m' c)).trans (e1 c)),
        (h c).2.2.1.trans ((Cert.ReferenceIdeal.Read.val_main_v1701_eq (launchContents m' c)).trans (e2 c)), (h c).2.2.2⟩)
      (Cert.ReferenceIdeal.Value.run (F := Ideal) m' g')

end Cert.Proof

end
-- ==== Proof.lean ====
/- The proof of the claims about the kernel. -/
module

public import proofs.«01_k».proof.Defs
public import proofs.«01_k».proof.Proof.Frames
public import proofs.«01_k».proof.Proof.KFrame
public import proofs.«01_k».proof.Proof.Algebraic

@[expose] public section

noncomputable section

namespace Cert.Proof

open Idealize.ShloMosaic

theorem claim : Cert.Claim :=
  ⟨Cert.Kernel.Gen.facts, Cert.KernelIdeal.Gen.facts, Cert.ReferenceIdeal.Gen.facts, preFacts,
    kernel_frame, kernelIdeal_frame, kernelIdeal_frame_pre, reference_frame, reference_frame_pre, trivial, algebraic⟩

end Cert.Proof

end
